-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)) (v4 : (c : Dev Cert.Kernel3Ideal.nD) → Buf (Elt Ideal) ((c.tc : Thread Cert.Kernel3Ideal.nD Cert.Kernel3Ideal.τ).loc Cert.Kernel3Ideal.main_v12_4)) (v5 : (c : Dev Cert.Kernel3Ideal.nD) → Buf (Elt Ideal) ((c.tc : Thread Cert.Kernel3Ideal.nD Cert.Kernel3Ideal.τ).loc Cert.Kernel3Ideal.main_v12_5)) (v6 : (c : Dev Cert.Kernel3Ideal.nD) → Buf (Elt Ideal) ((c.tc : Thread Cert.Kernel3Ideal.nD Cert.Kernel3Ideal.τ).loc Cert.Kernel3Ideal.main_v12_6)) (v7 : (c : Dev Cert.Kernel3Ideal.nD) → Buf (Elt Ideal) ((c.tc : Thread Cert.Kernel3Ideal.nD Cert.Kernel3Ideal.τ).loc Cert.Kernel3Ideal.main_v12_7)) (v8 : (c : Dev Cert.Kernel3Ideal.nD) → Buf (Elt Ideal) ((c.tc : Thread Cert.Kernel3Ideal.nD Cert.Kernel3Ideal.τ).loc Cert.Kernel3Ideal.main_v12_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_v12_4) = v4 c
          ∧ r.2.mem ((c.tc : Thread Cert.Kernel3Ideal.nD Cert.Kernel3Ideal.τ).loc Cert.Kernel3Ideal.main_v12_5) = v5 c
          ∧ r.2.mem ((c.tc : Thread Cert.Kernel3Ideal.nD Cert.Kernel3Ideal.τ).loc Cert.Kernel3Ideal.main_v12_6) = v6 c
          ∧ r.2.mem ((c.tc : Thread Cert.Kernel3Ideal.nD Cert.Kernel3Ideal.τ).loc Cert.Kernel3Ideal.main_v12_7) = v7 c
          ∧ r.2.mem ((c.tc : Thread Cert.Kernel3Ideal.nD Cert.Kernel3Ideal.τ).loc Cert.Kernel3Ideal.main_v12_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_v118) = v1 c
          ∧ r.2.mem ((c.tc : Thread Cert.Reference3Ideal.nD Cert.Reference3Ideal.τ).loc Cert.Reference3Ideal.main_v120) = v2 c
          ∧ r.2.mem ((c.tc : Thread Cert.Reference3Ideal.nD Cert.Reference3Ideal.τ).loc Cert.Reference3Ideal.main_v122) = v3 c
          ∧ r.2.mem ((c.tc : Thread Cert.Reference3Ideal.nD Cert.Reference3Ideal.τ).loc Cert.Reference3Ideal.main_v123) = v4 c
          ∧ r.2.mem ((c.tc : Thread Cert.Reference3Ideal.nD Cert.Reference3Ideal.τ).loc Cert.Reference3Ideal.main_v125) = v5 c
          ∧ r.2.mem ((c.tc : Thread Cert.Reference3Ideal.nD Cert.Reference3Ideal.τ).loc Cert.Reference3Ideal.main_v114) = v6 c
          ∧ r.2.mem ((c.tc : Thread Cert.Reference3Ideal.nD Cert.Reference3Ideal.τ).loc Cert.Reference3Ideal.main_v85) = v7 c
          ∧ r.2.mem ((c.tc : Thread Cert.Reference3Ideal.nD Cert.Reference3Ideal.τ).loc Cert.Reference3Ideal.main_v112) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v11) = v2 c
          ∧ r.2.mem ((c.tc : Thread Cert.Reference4Ideal.nD Cert.Reference4Ideal.τ).loc Cert.Reference4Ideal.main_v3) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v79) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v22_0)) (v1 : (c : Dev Cert.Kernel8Ideal.nD) → Buf (Elt Ideal) ((c.tc : Thread Cert.Kernel8Ideal.nD Cert.Kernel8Ideal.τ).loc Cert.Kernel8Ideal.main_v22_1)) (v2 : (c : Dev Cert.Kernel8Ideal.nD) → Buf (Elt Ideal) ((c.tc : Thread Cert.Kernel8Ideal.nD Cert.Kernel8Ideal.τ).loc Cert.Kernel8Ideal.main_v22_2)) (v3 : (c : Dev Cert.Kernel8Ideal.nD) → Buf (Elt Ideal) ((c.tc : Thread Cert.Kernel8Ideal.nD Cert.Kernel8Ideal.τ).loc Cert.Kernel8Ideal.main_v22_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v22_0) = v0 c
          ∧ r.2.mem ((c.tc : Thread Cert.Kernel8Ideal.nD Cert.Kernel8Ideal.τ).loc Cert.Kernel8Ideal.main_v22_1) = v1 c
          ∧ r.2.mem ((c.tc : Thread Cert.Kernel8Ideal.nD Cert.Kernel8Ideal.τ).loc Cert.Kernel8Ideal.main_v22_2) = v2 c
          ∧ r.2.mem ((c.tc : Thread Cert.Kernel8Ideal.nD Cert.Kernel8Ideal.τ).loc Cert.Kernel8Ideal.main_v22_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v83) = v0 c
          ∧ r.2.mem ((c.tc : Thread Cert.Reference8Ideal.nD Cert.Reference8Ideal.τ).loc Cert.Reference8Ideal.main_v85) = v1 c
          ∧ r.2.mem ((c.tc : Thread Cert.Reference8Ideal.nD Cert.Reference8Ideal.τ).loc Cert.Reference8Ideal.main_v87) = v2 c
          ∧ r.2.mem ((c.tc : Thread Cert.Reference8Ideal.nD Cert.Reference8Ideal.τ).loc Cert.Reference8Ideal.main_v89) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite4 : Cert.Pre_finite4.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite.lean ====
abbrev S4x2048x512 : Shape := ⟨3, ![4, 2048, 512]⟩
abbrev S4x128x128 : Shape := ⟨3, ![4, 128, 128]⟩
abbrev S1x512 : Shape := ⟨2, ![1, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S4x2048x512 1) : IVec S_ 1 :=
  let main_c_5 : IVec S_ 1 := constantI S_ 1 1#1
  let main_v17 : IVec S_ 1 := (fun x v => Host.reduce IntOp.andi x v reducesTo_S4x2048x512_S_d0_1_2 h_S_) main_v16 main_c_5
  let main_v18 : IVec S_ 1 := andi main_v13 main_v17
  main_v18

def fn {F : FTy → Type} [FloatOps F] (main_arg0 : FVec F S4x2048x512 .f32) (main_arg1 : FVec F S4x128x128 .f32) (main_arg2 : FVec F S1x512 .f32) (main_arg3 : FVec F S4x2048x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S4x2048x512 .f32 := Host.absf main_arg3
  let main_cst_4 : FVec F S_ .f32 := constant S_ .f32 0x7F800000#32
  let main_v15 : FVec F S4x2048x512 .f32 := broadcastInDim S4x2048x512 ![] bcast_S_S4x2048x512 main_cst_4
  let main_v16 : IVec S4x2048x512 1 := cmpf .olt main_v14 main_v15
  fn_part1 (F := F) main_v13 main_v16
-- ==== Pre_finite2.lean ====
abbrev S4x2048x1024 : Shape := ⟨3, ![4, 2048, 1024]⟩
abbrev S1x1024 : Shape := ⟨2, ![1, 1024]⟩
abbrev S1024x1280 : Shape := ⟨2, ![1024, 1280]⟩
abbrev S4x2048x1280 : Shape := ⟨3, ![4, 2048, 1280]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1280 : S_.BroadcastsInDim S1024x1280 (![] : Fin 0 → Fin S1024x1280.rank)
  reducesTo_S1024x1280_S_d0_1 : S1024x1280.ReducesTo [0, 1] S_
  bcast_S_S4x2048x1280 : S_.BroadcastsInDim S4x2048x1280 (![] : Fin 0 → Fin S4x2048x1280.rank)
  reducesTo_S4x2048x1280_S_d0_1_2 : S4x2048x1280.ReducesTo [0, 1, 2] S_

variable [Facts]

def fn_part1 {F : FTy → Type} [FloatOps F] (main_arg4 : FVec F S4x2048x1024 .f32) (main_v13 : IVec S_ 1) (main_v16 : IVec S4x2048x1280 1) : IVec S_ 1 :=
  let main_c_5 : IVec S_ 1 := constantI S_ 1 1#1
  let main_v17 : IVec S_ 1 := (fun x v => Host.reduce IntOp.andi x v reducesTo_S4x2048x1280_S_d0_1_2 h_S_) main_v16 main_c_5
  let main_v18 : IVec S_ 1 := andi main_v13 main_v17
  let main_v19 : FVec F S4x2048x1024 .f32 := Host.absf main_arg4
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : IVec S_ 1 := andi main_v18 main_v22
  main_v23

def fn {F : FTy → Type} [FloatOps F] (main_arg0 : FVec F S4x2048x1024 .f32) (main_arg1 : FVec F S1x1024 .f32) (main_arg2 : FVec F S1024x1280 .f32) (main_arg3 : FVec F S4x2048x1280 .f32) (main_arg4 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1280 .f32 := Host.absf main_arg2
  let main_cst_2 : FVec F S_ .f32 := constant S_ .f32 0x7F800000#32
  let main_v10 : FVec F S1024x1280 .f32 := broadcastInDim S1024x1280 ![] bcast_S_S1024x1280 main_cst_2
  let main_v11 : IVec S1024x1280 1 := cmpf .olt main_v9 main_v10
  let main_c_3 : IVec S_ 1 := constantI S_ 1 1#1
  let main_v12 : IVec S_ 1 := (fun x v => Host.reduce IntOp.andi x v reducesTo_S1024x1280_S_d0_1 h_S_) main_v11 main_c_3
  let main_v13 : IVec S_ 1 := andi main_v8 main_v12
  let main_v14 : FVec F S4x2048x1280 .f32 := Host.absf main_arg3
  let main_cst_4 : FVec F S_ .f32 := constant S_ .f32 0x7F800000#32
  let main_v15 : FVec F S4x2048x1280 .f32 := broadcastInDim S4x2048x1280 ![] bcast_S_S4x2048x1280 main_cst_4
  let main_v16 : IVec S4x2048x1280 1 := cmpf .olt main_v14 main_v15
  fn_part1 (F := F) main_arg4 main_v13 main_v16
-- ==== Pre_finite3.lean ====
abbrev S4x2048x1024 : Shape := ⟨3, ![4, 2048, 1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  main_v38

def fn_part1 {F : FTy → Type} [FloatOps F] (main_arg4 : FVec F S1024x4096 .f32) (main_arg5 : FVec F S4096x1024 .f32) (main_arg6 : FVec F S1x1024 .f32) (main_arg7 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024x4096 .f32) (main_arg5 : FVec F S4096x1024 .f32) (main_arg6 : FVec F S1x1024 .f32) (main_arg7 : FVec F S1x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Pre_finite4.lean ====
abbrev S4x2048x512 : Shape := ⟨3, ![4, 2048, 512]⟩
abbrev S1024x1024 : Shape := ⟨2, ![1024, 1024]⟩
abbrev S4x2048x1024 : Shape := ⟨3, ![4, 2048, 1024]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_v13 : IVec S_ 1) (main_v16 : IVec S4x2048x1024 1) : IVec S_ 1 :=
  let main_c_5 : IVec S_ 1 := constantI S_ 1 1#1
  let main_v17 : IVec S_ 1 := (fun x v => Host.reduce IntOp.andi x v reducesTo_S4x2048x1024_S_d0_1_2 h_S_) main_v16 main_c_5
  let main_v18 : IVec S_ 1 := andi main_v13 main_v17
  main_v18

def fn {F : FTy → Type} [FloatOps F] (main_arg0 : FVec F S4x2048x512 .f32) (main_arg1 : FVec F S4x2048x512 .f32) (main_arg2 : FVec F S1024x1024 .f32) (main_arg3 : FVec F S4x2048x1024 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4x2048x1024 .f32 := Host.absf main_arg3
  let main_cst_4 : FVec F S_ .f32 := constant S_ .f32 0x7F800000#32
  let main_v15 : FVec F S4x2048x1024 .f32 := broadcastInDim S4x2048x1024 ![] bcast_S_S4x2048x1024 main_cst_4
  let main_v16 : IVec S4x2048x1024 1 := cmpf .olt main_v14 main_v15
  fn_part1 (F := F) main_v13 main_v16
-- ==== Pre_finite7.lean ====
abbrev S4x2048x512 : Shape := ⟨3, ![4, 2048, 512]⟩
abbrev S4x128x128 : Shape := ⟨3, ![4, 128, 128]⟩
abbrev S1x512 : Shape := ⟨2, ![1, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel

variable [Facts]

def fn {F : FTy → Type} [FloatOps F] (main_arg0 : FVec F S4x2048x512 .f32) (main_arg1 : FVec F S4x128x128 .f32) (main_arg2 : FVec F S1x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  main_v3
-- ==== Kernel.lean ====
abbrev S4x2048x512 : Shape := ⟨3, ![4, 2048, 512]⟩
abbrev S4x128x128 : Shape := ⟨3, ![4, 128, 128]⟩
abbrev S1x512 : Shape := ⟨2, ![1, 512]⟩
abbrev S8192x512 : Shape := ⟨2, ![8192, 512]⟩
abbrev S2048x512 : Shape := ⟨2, ![2048, 512]⟩
abbrev S2048x128 : Shape := ⟨2, ![2048, 128]⟩
abbrev S2048x1 : Shape := ⟨2, ![2048, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x512, .f32⟩
  | .hbm, ⟨1, _⟩ => ⟨S4x128x128, .f32⟩
  | .hbm, ⟨2, _⟩ => ⟨S1x512, .f32⟩
  | .hbm, ⟨3, _⟩ => ⟨S4x2048x512, .f32⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .bf16⟩
  | .hbm, ⟨8, _⟩ => ⟨S8192x512, .bf16⟩
  | .hbm, ⟨9, _⟩ => ⟨S4x128x128, .f32⟩
  | .hbm, ⟨10, _⟩ => ⟨S1x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S4x128x128, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S4x128x128, .f32⟩
  | .local _ .vmem, ⟨9, _⟩ => ⟨S1x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4x2048x512 : Shape := ⟨3, ![4, 2048, 512]⟩
abbrev S4x128x128 : Shape := ⟨3, ![4, 128, 128]⟩
abbrev S1x512 : Shape := ⟨2, ![1, 512]⟩
abbrev S512 : Shape := ⟨1, ![512]⟩
abbrev S4x2048x4x128 : Shape := ⟨4, ![4, 2048, 4, 128]⟩
abbrev S_ : Shape := ⟨0, ![]⟩
abbrev S4x1x4x128 : Shape := ⟨4, ![4, 1, 4, 128]⟩
abbrev S4x2049x4x128 : Shape := ⟨4, ![4, 2049, 4, 128]⟩
abbrev S2048 : Shape := ⟨1, ![2048]⟩
abbrev S4x2049x1x128 : Shape := ⟨4, ![4, 2049, 1, 128]⟩
abbrev S4x2049x128 : Shape := ⟨3, ![4, 2049, 128]⟩
abbrev S4x1x128 : Shape := ⟨3, ![4, 1, 128]⟩
abbrev S4x2047x128 : Shape := ⟨3, ![4, 2047, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2045x128 : Shape := ⟨3, ![4, 2045, 128]⟩
abbrev S4x7x128 : Shape := ⟨3, ![4, 7, 128]⟩
abbrev S4x2041x128 : Shape := ⟨3, ![4, 2041, 128]⟩
abbrev S4x15x128 : Shape := ⟨3, ![4, 15, 128]⟩
abbrev S4x2033x128 : Shape := ⟨3, ![4, 2033, 128]⟩
abbrev S4x2048x1x128 : Shape := ⟨4, ![4, 2048, 1, 128]⟩
abbrev S4x128x4x2048 : Shape := ⟨4, ![4, 128, 4, 2048]⟩
abbrev S1x1x512 : Shape := ⟨3, ![1, 1, 512]⟩
abbrev S4x4x2048x128 : Shape := ⟨4, ![4, 4, 2048, 128]⟩
abbrev S8192x512 : Shape := ⟨2, ![8192, 512]⟩

abbrev nBuf : Space → Nat
  | .hbm => 195
  | .vmem => 0
  | .smem => 0
  | _ => 0

abbrev hbmTy0_0 (i : Nat) : BufTy := match i % 128 with
  | 0 => ⟨S4x2048x512, .f32⟩
  | 1 => ⟨S4x128x128, .f32⟩
  | 2 => ⟨S1x512, .f32⟩
  | 3 => ⟨S4x2048x512, .f32⟩
  | 4 => ⟨S512, .f32⟩
  | 5 => ⟨S4x2048x4x128, .f32⟩
  | 6 => ⟨S_, .f32⟩
  | 7 => ⟨S4x1x4x128, .f32⟩
  | 8 => ⟨S_, .f32⟩
  | 9 => ⟨S_, .f32⟩
  | 10 => ⟨S4x2048x4x128, .f32⟩
  | 11 => ⟨S4x2049x4x128, .f32⟩
  | 12 => ⟨S_, .f32⟩
  | 13 => ⟨S4x1x4x128, .f32⟩
  | 14 => ⟨S2048, .i32⟩
  | 15 => ⟨S4x2049x1x128, .f32⟩
  | 16 => ⟨S4x2049x128, .f32⟩
  | 17 => ⟨S_, .f32⟩
  | 18 => ⟨S4x1x128, .f32⟩
  | 19 => ⟨S4x2047x128, .f32⟩
  | 20 => ⟨S4x2048x128, .f32⟩
  | 21 => ⟨S_, .f32⟩
  | 22 => ⟨S4x1x128, .f32⟩
  | 23 => ⟨S_, .i32⟩
  | 24 => ⟨S2048, .i32⟩
  | 25 => ⟨S2048, .i32⟩
  | 26 => ⟨S_, .i32⟩
  | 27 => ⟨S2048, .i32⟩
  | 28 => ⟨S2048, .i32⟩
  | 29 => ⟨S2048, .f32⟩
  | 30 => ⟨S1x2048x1, .f32⟩
  | 31 => ⟨S4x2048x128, .f32⟩
  | 32 => ⟨S4x2048x128, .f32⟩
  | 33 => ⟨S4x2048x128, .f32⟩
  | 34 => ⟨S4x2048x128, .f32⟩
  | 35 => ⟨S4x2049x1x128, .f32⟩
  | 36 => ⟨S4x2049x128, .f32⟩
  | 37 => ⟨S_, .f32⟩
  | 38 => ⟨S4x3x128, .f32⟩
  | 39 => ⟨S4x2045x128, .f32⟩
  | 40 => ⟨S4x2048x128, .f32⟩
  | 41 => ⟨S_, .f32⟩
  | 42 => ⟨S4x3x128, .f32⟩
  | 43 => ⟨S_, .i32⟩
  | 44 => ⟨S2048, .i32⟩
  | 45 => ⟨S2048, .i32⟩
  | 46 => ⟨S_, .i32⟩
  | 47 => ⟨S2048, .i32⟩
  | 48 => ⟨S2048, .i32⟩
  | 49 => ⟨S2048, .f32⟩
  | 50 => ⟨S1x2048x1, .f32⟩
  | 51 => ⟨S4x2048x128, .f32⟩
  | 52 => ⟨S4x2048x128, .f32⟩
  | 53 => ⟨S4x2048x128, .f32⟩
  | 54 => ⟨S4x2048x128, .f32⟩
  | 55 => ⟨S4x2049x1x128, .f32⟩
  | 56 => ⟨S4x2049x128, .f32⟩
  | 57 => ⟨S_, .f32⟩
  | 58 => ⟨S4x7x128, .f32⟩
  | 59 => ⟨S4x2041x128, .f32⟩
  | 60 => ⟨S4x2048x128, .f32⟩
  | 61 => ⟨S_, .f32⟩
  | 62 => ⟨S4x7x128, .f32⟩
  | 63 => ⟨S_, .i32⟩
  | 64 => ⟨S2048, .i32⟩
  | 65 => ⟨S2048, .i32⟩
  | 66 => ⟨S_, .i32⟩
  | 67 => ⟨S2048, .i32⟩
  | 68 => ⟨S2048, .i32⟩
  | 69 => ⟨S2048, .f32⟩
  | 70 => ⟨S1x2048x1, .f32⟩
  | 71 => ⟨S4x2048x128, .f32⟩
  | 72 => ⟨S4x2048x128, .f32⟩
  | 73 => ⟨S4x2048x128, .f32⟩
  | 74 => ⟨S4x2048x128, .f32⟩
  | 75 => ⟨S4x2049x1x128, .f32⟩
  | 76 => ⟨S4x2049x128, .f32⟩
  | 77 => ⟨S_, .f32⟩
  | 78 => ⟨S4x15x128, .f32⟩
  | 79 => ⟨S4x2033x128, .f32⟩
  | 80 => ⟨S4x2048x128, .f32⟩
  | 81 => ⟨S_, .f32⟩
  | 82 => ⟨S4x15x128, .f32⟩
  | 83 => ⟨S_, .i32⟩
  | 84 => ⟨S2048, .i32⟩
  | 85 => ⟨S2048, .i32⟩
  | 86 => ⟨S_, .i32⟩
  | 87 => ⟨S2048, .i32⟩
  | 88 => ⟨S2048, .i32⟩
  | 89 => ⟨S2048, .f32⟩
  | 90 => ⟨S1x2048x1, .f32⟩
  | 91 => ⟨S4x2048x128, .f32⟩
  | 92 => ⟨S4x2048x128, .f32⟩
  | 93 => ⟨S4x2048x128, .f32⟩
  | 94 => ⟨S4x2048x128, .f32⟩
  | 95 => ⟨S4x2048x1x128, .f32⟩
  | 96 => ⟨S4x2048x1x128, .f32⟩
  | 97 => ⟨S4x2048x1x128, .f32⟩
  | 98 => ⟨S4x2048x1x128, .f32⟩
  | 99 => ⟨S4x2048x4x128, .f32⟩
  | 100 => ⟨S4x2048x4x128, .f32⟩
  | 101 => ⟨S4x128x4x2048, .f32⟩
  | 102 => ⟨S4x2048x4x128, .f32⟩
  | 103 => ⟨S4x2048x512, .f32⟩
  | 104 => ⟨S1x1x512, .f32⟩
  | 105 => ⟨S4x2048x512, .f32⟩
  | 106 => ⟨S4x2048x512, .f32⟩
  | 107 => ⟨S4x2048x512, .f32⟩
  | 108 => ⟨S_, .f32⟩
  | 109 => ⟨S512, .f32⟩
  | 110 => ⟨S1x1x512, .f32⟩
  | 111 => ⟨S4x2048x512, .f32⟩
  | 112 => ⟨S4x2048x512, .f32⟩
  | 113 => ⟨S_, .f32⟩
  | 114 => ⟨S512, .f32⟩
  | 115 => ⟨S4x2048x4x128, .f32⟩
  | 116 => ⟨S4x128x4x2048, .f32⟩
  | 117 => ⟨S4x4x2048x128, .f32⟩
  | 118 => ⟨S4x2048x4x128, .f32⟩
  | 119 => ⟨S4x128x128, .f32⟩
  | 120 => ⟨S4x128x128, .f32⟩
  | 121 => ⟨S4x2048x4x128, .f32⟩
  | 122 => ⟨S4x2048x1x128, .f32⟩
  | 123 => ⟨S4x2048x128, .f32⟩
  | 124 => ⟨S4x2048x1x128, .f32⟩
  | 125 => ⟨S4x2048x128, .f32⟩
  | 126 => ⟨S4x2048x1x128, .f32⟩
  | 127 => ⟨S4x2048x128, .f32⟩
  | _ => ⟨S4x2048x512, .f32⟩

abbrev hbmTy0_1 (i : Nat) : BufTy := match i % 128 with
  | 0 => ⟨S4x2048x1x128, .f32⟩
  | 1 => ⟨S4x2048x128, .f32⟩
  | 2 => ⟨S4x2048x128, .f32⟩
  | 3 => ⟨S4x2048x128, .f32⟩
  | 4 => ⟨S4x2048x128, .f32⟩
  | 5 => ⟨S_, .f32⟩
  | 6 => ⟨S4x2049x128, .f32⟩
  | 7 => ⟨S4x15x128, .f32⟩
  | 8 => ⟨S4x2033x128, .f32⟩
  | 9 => ⟨S_, .f32⟩
  | 10 => ⟨S4x2049x128, .f32⟩
  | 11 => ⟨S4x2049x128, .f32⟩
  | 12 => ⟨S4x2049x1x128, .f32⟩
  | 13 => ⟨S_, .f32⟩
  | 14 => ⟨S4x2049x4x128, .f32⟩
  | 15 => ⟨S4x2048x128, .f32⟩
  | 16 => ⟨S4x2048x128, .f32⟩
  | 17 => ⟨S4x2048x128, .f32⟩
  | 18 => ⟨S_, .f32⟩
  | 19 => ⟨S4x2049x128, .f32⟩
  | 20 => ⟨S4x7x128, .f32⟩
  | 21 => ⟨S4x2041x128, .f32⟩
  | 22 => ⟨S_, .f32⟩
  | 23 => ⟨S4x2049x128, .f32⟩
  | 24 => ⟨S4x2049x128, .f32⟩
  | 25 => ⟨S4x2049x1x128, .f32⟩
  | 26 => ⟨S_, .f32⟩
  | 27 => ⟨S4x2049x4x128, .f32⟩
  | 28 => ⟨S4x2049x4x128, .f32⟩
  | 29 => ⟨S4x2048x128, .f32⟩
  | 30 => ⟨S4x2048x128, .f32⟩
  | 31 => ⟨S4x2048x128, .f32⟩
  | 32 => ⟨S_, .f32⟩
  | 33 => ⟨S4x2049x128, .f32⟩
  | 34 => ⟨S4x3x128, .f32⟩
  | 35 => ⟨S4x2045x128, .f32⟩
  | 36 => ⟨S_, .f32⟩
  | 37 => ⟨S4x2049x128, .f32⟩
  | 38 => ⟨S4x2049x128, .f32⟩
  | 39 => ⟨S4x2049x1x128, .f32⟩
  | 40 => ⟨S_, .f32⟩
  | 41 => ⟨S4x2049x4x128, .f32⟩
  | 42 => ⟨S4x2049x4x128, .f32⟩
  | 43 => ⟨S4x2048x128, .f32⟩
  | 44 => ⟨S4x2048x128, .f32⟩
  | 45 => ⟨S4x2048x128, .f32⟩
  | 46 => ⟨S_, .f32⟩
  | 47 => ⟨S4x2049x128, .f32⟩
  | 48 => ⟨S4x1x128, .f32⟩
  | 49 => ⟨S4x2047x128, .f32⟩
  | 50 => ⟨S_, .f32⟩
  | 51 => ⟨S4x2049x128, .f32⟩
  | 52 => ⟨S4x2049x128, .f32⟩
  | 53 => ⟨S4x2049x1x128, .f32⟩
  | 54 => ⟨S_, .f32⟩
  | 55 => ⟨S4x2049x4x128, .f32⟩
  | 56 => ⟨S4x2049x4x128, .f32⟩
  | 57 => ⟨S4x1x4x128, .f32⟩
  | 58 => ⟨S4x2048x4x128, .f32⟩
  | 59 => ⟨S_, .f32⟩
  | 60 => ⟨S_, .f32⟩
  | 61 => ⟨S4x2048x4x128, .f32⟩
  | 62 => ⟨S4x2048x4x128, .f32⟩
  | 63 => ⟨S4x2048x512, .f32⟩
  | 64 => ⟨S1x512, .f32⟩
  | 65 => ⟨S8192x512, .f32⟩
  | 66 => ⟨S8192x512, .bf16⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_c_14 : Ref sig .tc := ⟨.hbm, 83, rfl⟩
abbrev main_v61 : Ref sig .tc := ⟨.hbm, 84, rfl⟩
abbrev main_v62 : Ref sig .tc := ⟨.hbm, 85, rfl⟩
abbrev main_c_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_17 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_18 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_19 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_20 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_21 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_22 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_23 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_24 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_25 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_26 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_27 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_28 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_29 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_call1_call0_cst : Ref sig .tc := ⟨.hbm, 187, rfl⟩
abbrev main_call1_call0_v0 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩

abbrev nD : Nat := 1
abbrev τ : Topo := Topo.v7x

variable {F : FTy → Type} [FloatOps F]
-- ==== Kernel2.lean ====
abbrev S4x2048x1024 : Shape := ⟨3, ![4, 2048, 1024]⟩
abbrev S1x1024 : Shape := ⟨2, ![1, 1024]⟩
abbrev S1024x1280 : Shape := ⟨2, ![1024, 1280]⟩
abbrev S4x2048x1280 : Shape := ⟨3, ![4, 2048, 1280]⟩
abbrev S8192x1280 : Shape := ⟨2, ![8192, 1280]⟩
abbrev S8192x768 : Shape := ⟨2, ![8192, 768]⟩
abbrev S8192x512 : Shape := ⟨2, ![8192, 512]⟩
abbrev S8192x1024 : Shape := ⟨2, ![8192, 1024]⟩
abbrev S1280x1024 : Shape := ⟨2, ![1280, 1024]⟩
abbrev S1024x768 : Shape := ⟨2, ![1024, 768]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S768x1024 : Shape := ⟨2, ![768, 1024]⟩
abbrev S512x1024 : Shape := ⟨2, ![512, 1024]⟩

abbrev nBuf : Space → Nat
  | .hbm => 16
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x1280, .f32⟩
  | .hbm, ⟨3, _⟩ => ⟨S4x2048x1280, .f32⟩
  | .hbm, ⟨4, _⟩ => ⟨S4x2048x1024, .f32⟩
  | .hbm, ⟨5, _⟩ => ⟨S8192x1280, .f32⟩
  | .hbm, ⟨6, _⟩ => ⟨S8192x1280, .bf16⟩
  | .hbm, ⟨7, _⟩ => ⟨S8192x768, .bf16⟩
  | .hbm, ⟨8, _⟩ => ⟨S8192x512, .bf16⟩
  | .hbm, ⟨9, _⟩ => ⟨S8192x1024, .f32⟩
  | .hbm, ⟨10, _⟩ => ⟨S8192x1024, .f32⟩
  | .hbm, ⟨11, _⟩ => ⟨S1280x1024, .f32⟩
  | .hbm, ⟨12, _⟩ => ⟨S1280x1024, .bf16⟩
  | .hbm, ⟨13, _⟩ => ⟨S8192x1024, .f32⟩
  | .hbm, ⟨14, _⟩ => ⟨S1280x1024, .f32⟩
  | .hbm, ⟨15, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1280x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1280x1024, .f32⟩
  | .local _ .vmem, ⟨13, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1280x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4x2048x1024 : Shape := ⟨3, ![4, 2048, 1024]⟩
abbrev S1x1024 : Shape := ⟨2, ![1, 1024]⟩
abbrev S1024x1280 : Shape := ⟨2, ![1024, 1280]⟩
abbrev S4x2048x1280 : Shape := ⟨3, ![4, 2048, 1280]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1280x1024 : Shape := ⟨2, ![1280, 1024]⟩
abbrev S8192x1024 : Shape := ⟨2, ![8192, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x1280, .f32⟩
  | .hbm, ⟨3, _⟩ => ⟨S4x2048x1280, .f32⟩
  | .hbm, ⟨4, _⟩ => ⟨S4x2048x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x1280, .f32⟩
  | .hbm, ⟨27, _⟩ => ⟨S1280x1024, .f32⟩
  | .hbm, ⟨28, _⟩ => ⟨S1024x1280, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S1024, .f32⟩
  | .hbm, ⟨38, _⟩ => ⟨S4x2048x1024, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S1x1024, .f32⟩
  | .hbm, ⟨57, _⟩ => ⟨S8192x1024, .f32⟩
  | .hbm, ⟨58, _⟩ => ⟨S1280x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel3.lean ====
abbrev S4x2048x1024 : Shape := ⟨3, ![4, 2048, 1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S8192x1024 : Shape := ⟨2, ![8192, 1024]⟩
abbrev S1024x4x1024 : Shape := ⟨3, ![1024, 4, 1024]⟩
abbrev S4x1024x1024 : Shape := ⟨3, ![4, 1024, 1024]⟩
abbrev S8192x512 : Shape := ⟨2, ![8192, 512]⟩
abbrev S8192x4096 : Shape := ⟨2, ![8192, 4096]⟩
abbrev S8x128 : Shape := ⟨2, ![8, 128]⟩
abbrev S256x1024 : Shape := ⟨2, ![256, 1024]⟩
abbrev S256x512 : Shape := ⟨2, ![256, 512]⟩
abbrev S256x4096 : Shape := ⟨2, ![256, 4096]⟩
abbrev S512x1024 : Shape := ⟨2, ![512, 1024]⟩
abbrev S256 : Shape := ⟨1, ![256]⟩
abbrev S256x1 : Shape := ⟨2, ![256, 1]⟩
abbrev S1x1024x1024 : Shape := ⟨3, ![1, 1024, 1024]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 29
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S4x1024x1024, .f32⟩
  | .hbm, ⟨14, _⟩ => ⟨S4x1024x1024, .bf16⟩
  | .hbm, ⟨15, _⟩ => ⟨S8192x1024, .f32⟩
  | .hbm, ⟨16, _⟩ => ⟨S8192x512, .bf16⟩
  | .hbm, ⟨17, _⟩ => ⟨S8192x512, .bf16⟩
  | .hbm, ⟨18, _⟩ => ⟨S8192x1024, .f32⟩
  | .hbm, ⟨19, _⟩ => ⟨S1024x1024, .bf16⟩
  | .hbm, ⟨20, _⟩ => ⟨S8192x1024, .bf16⟩
  | .hbm, ⟨21, _⟩ => ⟨S8192x4096, .bf16⟩
  | .hbm, ⟨22, _⟩ => ⟨S8192x4096, .bf16⟩
  | .hbm, ⟨23, _⟩ => ⟨S8192x1024, .bf16⟩
  | .hbm, ⟨24, _⟩ => ⟨S8192x1024, .f32⟩
  | .hbm, ⟨25, _⟩ => ⟨S8192x1024, .bf16⟩
  | .hbm, ⟨26, _⟩ => ⟨S8x128, .f32⟩
  | .hbm, ⟨27, _⟩ => ⟨S1x1024, .f32⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S4x1024x1024, .bf16⟩
  | .local _ .vmem, ⟨10, _⟩ => ⟨S4x1024x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S8x128, .f32⟩
  | .local _ .vmem, ⟨26, _⟩ => ⟨S1x1024, .f32⟩
  | .local _ .vmem, ⟨27, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev main_v12_7 : Ref sig .tc := ⟨.hbm, 27, rfl⟩
abbrev main_v12_8 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S4x2048x1024 : Shape := ⟨3, ![4, 2048, 1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4x2048x4096 : Shape := ⟨3, ![4, 2048, 4096]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S1x1 : Shape := ⟨2, ![1, 1]⟩
abbrev S8x128 : Shape := ⟨2, ![8, 128]⟩
abbrev S8192x1024 : Shape := ⟨2, ![8192, 1024]⟩
abbrev S8192x4096 : Shape := ⟨2, ![8192, 4096]⟩

abbrev nBuf : Space → Nat
  | .hbm => 170
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S1024x1024, .f32⟩
  | 4 => ⟨S1024x4096, .f32⟩
  | 5 => ⟨S4096x1024, .f32⟩
  | 6 => ⟨S1x1024, .f32⟩
  | 7 => ⟨S1x1024, .f32⟩
  | 8 => ⟨S4x2048x1024, .f32⟩
  | 9 => ⟨S4x2048x1024, .f32⟩
  | 10 => ⟨S_, .f32⟩
  | 11 => ⟨S4x2048x4096, .f32⟩
  | 12 => ⟨S_, .f32⟩
  | 13 => ⟨S4x2048x1024, .f32⟩
  | 14 => ⟨S1024, .f32⟩
  | 15 => ⟨S4x2048x1024, .f32⟩
  | 16 => ⟨S_, .f32⟩
  | 17 => ⟨S4x2048, .f32⟩
  | 18 => ⟨S4x2048x1, .f32⟩
  | 19 => ⟨S_, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1, .f32⟩
  | 26 => ⟨S4x2048x1, .f32⟩
  | 27 => ⟨S_, .f32⟩
  | 28 => ⟨S4x2048x1, .f32⟩
  | 29 => ⟨S4x2048x1, .f32⟩
  | 30 => ⟨S4x2048x1024, .f32⟩
  | 31 => ⟨S4x2048x1024, .f32⟩
  | 32 => ⟨S1x1x1024, .f32⟩
  | 33 => ⟨S4x2048x1024, .f32⟩
  | 34 => ⟨S4x2048x1024, .f32⟩
  | 35 => ⟨S4x2048x4096, .f32⟩
  | 36 => ⟨S4x2048x4096, .f32⟩
  | 37 => ⟨S_, .f32⟩
  | 38 => ⟨S4x2048x4096, .f32⟩
  | 39 => ⟨S4x2048x4096, .f32⟩
  | 40 => ⟨S_, .f32⟩
  | 41 => ⟨S4x2048x4096, .f32⟩
  | 42 => ⟨S4x2048x4096, .i1⟩
  | 43 => ⟨S_, .f32⟩
  | 44 => ⟨S4x2048x4096, .f32⟩
  | 45 => ⟨S4x2048x4096, .f32⟩
  | 46 => ⟨S_, .f32⟩
  | 47 => ⟨S4x2048x4096, .f32⟩
  | 48 => ⟨S4x2048x4096, .f32⟩
  | 49 => ⟨S4x2048x1024, .f32⟩
  | 50 => ⟨S4x2048x1024, .f32⟩
  | 51 => ⟨S4x2048x1024, .f32⟩
  | 52 => ⟨S1024, .f32⟩
  | 53 => ⟨S4x2048x1024, .f32⟩
  | 54 => ⟨S_, .f32⟩
  | 55 => ⟨S4x2048, .f32⟩
  | 56 => ⟨S4x2048x1, .f32⟩
  | 57 => ⟨S_, .f32⟩
  | 58 => ⟨S4x2048x1, .f32⟩
  | 59 => ⟨S4x2048x1, .f32⟩
  | 60 => ⟨S_, .f32⟩
  | 61 => ⟨S4x2048x1, .f32⟩
  | 62 => ⟨S4x2048x1, .f32⟩
  | 63 => ⟨S4x2048x1, .f32⟩
  | 64 => ⟨S4x2048x1, .f32⟩
  | 65 => ⟨S_, .f32⟩
  | 66 => ⟨S4x2048x1, .f32⟩
  | 67 => ⟨S4x2048x1, .f32⟩
  | 68 => ⟨S4x2048x1024, .f32⟩
  | 69 => ⟨S4x2048x1024, .f32⟩
  | 70 => ⟨S1x1x1024, .f32⟩
  | 71 => ⟨S4x2048x1024, .f32⟩
  | 72 => ⟨S4x2048x1024, .f32⟩
  | 73 => ⟨S4x2048x1024, .f32⟩
  | 74 => ⟨S4x2048x1024, .f32⟩
  | 75 => ⟨S_, .f32⟩
  | 76 => ⟨S4x2048x1024, .f32⟩
  | 77 => ⟨S4x2048x1024, .f32⟩
  | 78 => ⟨S_, .f32⟩
  | 79 => ⟨S4x2048, .f32⟩
  | 80 => ⟨S_, .f32⟩
  | 81 => ⟨S4x2048, .f32⟩
  | 82 => ⟨S4x2048, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S4x2048, .f32⟩
  | 91 => ⟨S_, .f32⟩
  | 92 => ⟨S4x2048, .f32⟩
  | 93 => ⟨S4x2048, .f32⟩
  | 94 => ⟨S4x2048x1024, .f32⟩
  | 95 => ⟨S4x2048x1024, .f32⟩
  | 96 => ⟨S4x2048x1024, .f32⟩
  | 97 => ⟨S_, .f32⟩
  | 98 => ⟨S1024, .f32⟩
  | 99 => ⟨S1x1x1024, .f32⟩
  | 100 => ⟨S4x2048x1024, .f32⟩
  | 101 => ⟨S4x2048x1024, .f32⟩
  | 102 => ⟨S_, .f32⟩
  | 103 => ⟨S1024, .f32⟩
  | 104 => ⟨S4x2048x1024, .f32⟩
  | 105 => ⟨S_, .f32⟩
  | 106 => ⟨S4x2048, .f32⟩
  | 107 => ⟨S4x2048x1, .f32⟩
  | 108 => ⟨S4x2048x1024, .f32⟩
  | 109 => ⟨S4x2048x1024, .f32⟩
  | 110 => ⟨S4x2048x1, .f32⟩
  | 111 => ⟨S_, .f32⟩
  | 112 => ⟨S4x2048x1, .f32⟩
  | 113 => ⟨S4x2048x1, .f32⟩
  | 114 => ⟨S_, .f32⟩
  | 115 => ⟨S4x2048, .f32⟩
  | 116 => ⟨S4x2048x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S1x1024, .f32⟩
  | 122 => ⟨S4x2048x4096, .f32⟩
  | 123 => ⟨S4x2048x4096, .f32⟩
  | 124 => ⟨S_, .f32⟩
  | 125 => ⟨S4x2048x4096, .f32⟩
  | 126 => ⟨S4x2048x4096, .f32⟩
  | 127 => ⟨S4x2048x1024, .f32⟩
  | _ => ⟨S4x2048x1024, .f32⟩

abbrev hbmTy0_1 (i : Nat) : BufTy := match i % 128 with
  | 0 => ⟨S4x2048x1024, .f32⟩
  | 1 => ⟨S_, .f32⟩
  | 2 => ⟨S1024, .f32⟩
  | 3 => ⟨S1x1x1024, .f32⟩
  | 4 => ⟨S4x2048x1024, .f32⟩
  | 5 => ⟨S4x2048x1024, .f32⟩
  | 6 => ⟨S_, .f32⟩
  | 7 => ⟨S1024, .f32⟩
  | 8 => ⟨S4x2048x1024, .f32⟩
  | 9 => ⟨S_, .f32⟩
  | 10 => ⟨S4x2048, .f32⟩
  | 11 => ⟨S4x2048x1, .f32⟩
  | 12 => ⟨S4x2048x1024, .f32⟩
  | 13 => ⟨S4x2048x1024, .f32⟩
  | 14 => ⟨S4x2048x1024, .f32⟩
  | 15 => ⟨S4x2048x1, .f32⟩
  | 16 => ⟨S_, .f32⟩
  | 17 => ⟨S4x2048x1, .f32⟩
  | 18 => ⟨S4x2048x1, .f32⟩
  | 19 => ⟨S_, .f32⟩
  | 20 => ⟨S4x2048, .f32⟩
  | 21 => ⟨S4x2048x1024, .f32⟩
  | 22 => ⟨S4x2048x1024, .f32⟩
  | 23 => ⟨S4x2048x1024, .f32⟩
  | 24 => ⟨S4x2048x1024, .f32⟩
  | 25 => ⟨S4x2048x1024, .f32⟩
  | 26 => ⟨S1x1024, .f32⟩
  | 27 => ⟨S1x1, .f32⟩
  | 28 => ⟨S_, .i32⟩
  | 29 => ⟨S_, .f32⟩
  | 30 => ⟨S8x128, .f32⟩
  | 31 => ⟨S8192x1024, .f32⟩
  | 32 => ⟨S8192x1024, .bf16⟩
  | 33 => ⟨S8192x4096, .f32⟩
  | 34 => ⟨S8192x4096, .bf16⟩
  | 35 => ⟨S8192x4096, .f32⟩
  | 36 => ⟨S8192x4096, .bf16⟩
  | 37 => ⟨S8192x1024, .f32⟩
  | 38 => ⟨S8192x1024, .bf16⟩
  | 39 => ⟨S8192x1024, .f32⟩
  | 40 => ⟨S8192x1024, .f32⟩
  | 41 => ⟨S8192x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_cst_17 : Ref sig .tc := ⟨.hbm, 87, rfl⟩
abbrev main_cst_18 : Ref sig .tc := ⟨.hbm, 88, rfl⟩
abbrev main_v59 : Ref sig .tc := ⟨.hbm, 89, rfl⟩
abbrev main_v60 : Ref sig .tc := ⟨.hbm, 90, rfl⟩
abbrev main_cst_19 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_21 : Ref sig .tc := ⟨.hbm, 102, rfl⟩
abbrev main_v70 : Ref sig .tc := ⟨.hbm, 103, rfl⟩
abbrev main_v71 : Ref sig .tc := ⟨.hbm, 104, rfl⟩
abbrev main_cst_22 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_23 : Ref sig .tc := ⟨.hbm, 111, rfl⟩
abbrev main_v77 : Ref sig .tc := ⟨.hbm, 112, rfl⟩
abbrev main_v78 : Ref sig .tc := ⟨.hbm, 113, rfl⟩
abbrev main_cst_24 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_25 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_26 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_27 : Ref sig .tc := ⟨.hbm, 134, rfl⟩
abbrev main_v96 : Ref sig .tc := ⟨.hbm, 135, rfl⟩
abbrev main_v97 : Ref sig .tc := ⟨.hbm, 136, rfl⟩
abbrev main_cst_28 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_29 : Ref sig .tc := ⟨.hbm, 144, rfl⟩
abbrev main_v104 : Ref sig .tc := ⟨.hbm, 145, rfl⟩
abbrev main_v105 : Ref sig .tc := ⟨.hbm, 146, rfl⟩
abbrev main_cst_30 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c : Ref sig .tc := ⟨.hbm, 156, rfl⟩
abbrev main_call1_v0 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]
-- ==== Kernel4.lean ====
abbrev S4x2048x512 : Shape := ⟨3, ![4, 2048, 512]⟩
abbrev S1024x1024 : Shape := ⟨2, ![1024, 1024]⟩
abbrev S4x2048x1024 : Shape := ⟨3, ![4, 2048, 1024]⟩
abbrev S8192x1024 : Shape := ⟨2, ![8192, 1024]⟩
abbrev S8192x512 : Shape := ⟨2, ![8192, 512]⟩
abbrev S512x128 : Shape := ⟨2, ![512, 128]⟩
abbrev S_ : Shape := ⟨0, ![]⟩
abbrev S8x8192 : Shape := ⟨2, ![8, 8192]⟩
abbrev S1024x512 : Shape := ⟨2, ![1024, 512]⟩
abbrev S8x1024 : Shape := ⟨2, ![8, 1024]⟩
abbrev S512x1024 : Shape := ⟨2, ![512, 1024]⟩
abbrev S1024x128 : Shape := ⟨2, ![1024, 128]⟩
abbrev S128x1024 : Shape := ⟨2, ![128, 1024]⟩

abbrev nBuf : Space → Nat
  | .hbm => 37
  | .vmem => 15
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1024x1024, .f32⟩
  | .hbm, ⟨3, _⟩ => ⟨S4x2048x1024, .f32⟩
  | .hbm, ⟨4, _⟩ => ⟨S8192x1024, .f32⟩
  | .hbm, ⟨5, _⟩ => ⟨S8192x1024, .bf16⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S8192x512, .bf16⟩
  | .hbm, ⟨10, _⟩ => ⟨S1024x1024, .bf16⟩
  | .hbm, ⟨11, _⟩ => ⟨S512x128, .i32⟩
  | .hbm, ⟨12, _⟩ => ⟨S512x128, .i32⟩
  | .hbm, ⟨13, _⟩ => ⟨S_, .i32⟩
  | .hbm, ⟨14, _⟩ => ⟨S_, .i32⟩
  | .hbm, ⟨15, _⟩ => ⟨S512x128, .i32⟩
  | .hbm, ⟨16, _⟩ => ⟨S512x128, .i32⟩
  | .hbm, ⟨17, _⟩ => ⟨S512x128, .i32⟩
  | .hbm, ⟨18, _⟩ => ⟨S_, .i32⟩
  | .hbm, ⟨19, _⟩ => ⟨S512x128, .i32⟩
  | .hbm, ⟨20, _⟩ => ⟨S512x128, .i1⟩
  | .hbm, ⟨21, _⟩ => ⟨S512x128, .i32⟩
  | .hbm, ⟨22, _⟩ => ⟨S512x128, .i32⟩
  | .hbm, ⟨23, _⟩ => ⟨S_, .i32⟩
  | .hbm, ⟨24, _⟩ => ⟨S512x128, .i32⟩
  | .hbm, ⟨25, _⟩ => ⟨S512x128, .i1⟩
  | .hbm, ⟨26, _⟩ => ⟨S512x128, .i1⟩
  | .hbm, ⟨27, _⟩ => ⟨S_, .i32⟩
  | .hbm, ⟨28, _⟩ => ⟨S512x128, .i32⟩
  | .hbm, ⟨29, _⟩ => ⟨S512x128, .i32⟩
  | .hbm, ⟨30, _⟩ => ⟨S512x128, .i32⟩
  | .hbm, ⟨31, _⟩ => ⟨S512x128, .i1⟩
  | .hbm, ⟨32, _⟩ => ⟨S512x128, .bf16⟩
  | .hbm, ⟨33, _⟩ => ⟨S8192x512, .bf16⟩
  | .hbm, ⟨34, _⟩ => ⟨S8192x512, .bf16⟩
  | .hbm, ⟨35, _⟩ => ⟨S8x8192, .f32⟩
  | .hbm, ⟨36, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S512x128, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8x1024, .f32⟩
  | .local _ .vmem, ⟨13, _⟩ => ⟨S8x1024, .f32⟩
  | .local _ .vmem, ⟨14, _⟩ => ⟨S1024x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v12_2 : Ref sig .tc := ⟨.hbm, 35, rfl⟩
abbrev main_v12_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4x2048x512 : Shape := ⟨3, ![4, 2048, 512]⟩
abbrev S1024x1024 : Shape := ⟨2, ![1024, 1024]⟩
abbrev S4x2048x1024 : Shape := ⟨3, ![4, 2048, 1024]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8x8192 : Shape := ⟨2, ![8, 8192]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1024x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S1024x1024, .f32⟩
  | .hbm, ⟨7, _⟩ => ⟨S1024x1024, .f32⟩
  | .hbm, ⟨8, _⟩ => ⟨S4x2048x1024, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S8192x512, .f32⟩
  | .hbm, ⟨13, _⟩ => ⟨S8192x8x64, .f32⟩
  | .hbm, ⟨14, _⟩ => ⟨S_, .f32⟩
  | .hbm, ⟨15, _⟩ => ⟨S8192x8, .f32⟩
  | .hbm, ⟨16, _⟩ => ⟨S8x8192, .f32⟩
  | .hbm, ⟨17, _⟩ => ⟨S8192x512, .f32⟩
  | .hbm, ⟨18, _⟩ => ⟨S8192x512, .bf16⟩
  | .hbm, ⟨19, _⟩ => ⟨S8192x512, .f32⟩
  | .hbm, ⟨20, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S4x2048x1024 : Shape := ⟨3, ![4, 2048, 1024]⟩
abbrev S1024x4096 : Shape := ⟨2, ![1024, 4096]⟩
abbrev S4096x1024 : Shape := ⟨2, ![4096, 1024]⟩
abbrev S4x2048x4096 : Shape := ⟨3, ![4, 2048, 4096]⟩
abbrev S_ : Shape := ⟨0, ![]⟩
abbrev S8192x1024 : Shape := ⟨2, ![8192, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 33
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096x1024, .f32⟩
  | .hbm, ⟨3, _⟩ => ⟨S4x2048x1024, .f32⟩
  | .hbm, ⟨4, _⟩ => ⟨S4x2048x4096, .f32⟩
  | .hbm, ⟨5, _⟩ => ⟨S_, .f32⟩
  | .hbm, ⟨6, _⟩ => ⟨S4x2048x4096, .f32⟩
  | .hbm, ⟨7, _⟩ => ⟨S4x2048x4096, .f32⟩
  | .hbm, ⟨8, _⟩ => ⟨S_, .f32⟩
  | .hbm, ⟨9, _⟩ => ⟨S4x2048x4096, .f32⟩
  | .hbm, ⟨10, _⟩ => ⟨S4x2048x4096, .i1⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048x4096, .f32⟩
  | .hbm, ⟨16, _⟩ => ⟨S4x2048x4096, .f32⟩
  | .hbm, ⟨17, _⟩ => ⟨S4x2048x1024, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S8192x1024, .f32⟩
  | .hbm, ⟨24, _⟩ => ⟨S8192x1024, .bf16⟩
  | .hbm, ⟨25, _⟩ => ⟨S8192x4096, .f32⟩
  | .hbm, ⟨26, _⟩ => ⟨S8192x4096, .bf16⟩
  | .hbm, ⟨27, _⟩ => ⟨S8192x4096, .f32⟩
  | .hbm, ⟨28, _⟩ => ⟨S8192x4096, .bf16⟩
  | .hbm, ⟨29, _⟩ => ⟨S8192x1024, .f32⟩
  | .hbm, ⟨30, _⟩ => ⟨S8192x1024, .bf16⟩
  | .hbm, ⟨31, _⟩ => ⟨S4x1024x1024, .f32⟩
  | .hbm, ⟨32, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S4x2048x1024 : Shape := ⟨3, ![4, 2048, 1024]⟩
abbrev S1024x4096 : Shape := ⟨2, ![1024, 4096]⟩
abbrev S4096x1024 : Shape := ⟨2, ![4096, 1024]⟩
abbrev S4x2048x4096 : Shape := ⟨3, ![4, 2048, 4096]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096x1024, .f32⟩
  | .hbm, ⟨3, _⟩ => ⟨S4x2048x1024, .f32⟩
  | .hbm, ⟨4, _⟩ => ⟨S4x2048x4096, .f32⟩
  | .hbm, ⟨5, _⟩ => ⟨S_, .f32⟩
  | .hbm, ⟨6, _⟩ => ⟨S4x2048x4096, .f32⟩
  | .hbm, ⟨7, _⟩ => ⟨S4x2048x4096, .f32⟩
  | .hbm, ⟨8, _⟩ => ⟨S_, .f32⟩
  | .hbm, ⟨9, _⟩ => ⟨S4x2048x4096, .f32⟩
  | .hbm, ⟨10, _⟩ => ⟨S4x2048x4096, .i1⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048x4096, .f32⟩
  | .hbm, ⟨16, _⟩ => ⟨S4x2048x4096, .f32⟩
  | .hbm, ⟨17, _⟩ => ⟨S4x2048x1024, .f32⟩
  | .hbm, ⟨18, _⟩ => ⟨S1024x4096, .f32⟩
  | .hbm, ⟨19, _⟩ => ⟨S4096x1024, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S4096x1024, .f32⟩
  | .hbm, ⟨26, _⟩ => ⟨S1024x4096, .f32⟩
  | .hbm, ⟨27, _⟩ => ⟨S1024x4x1024, .f32⟩
  | .hbm, ⟨28, _⟩ => ⟨S4x1024x1024, .f32⟩
  | .hbm, ⟨29, _⟩ => ⟨S4x1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel6.lean ====
abbrev S4x2048x8x64 : Shape := ⟨4, ![4, 2048, 8, 64]⟩
abbrev S4x2048x2x64 : Shape := ⟨4, ![4, 2048, 2, 64]⟩
abbrev S1x8 : Shape := ⟨2, ![1, 8]⟩
abbrev S4x2048x512 : Shape := ⟨3, ![4, 2048, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x2048x1x32 : Shape := ⟨4, ![1, 2048, 1, 32]⟩
abbrev S4x2048x8x32 : Shape := ⟨4, ![4, 2048, 8, 32]⟩
abbrev S8192x512 : Shape := ⟨2, ![8192, 512]⟩
abbrev S4x2048x2x32 : Shape := ⟨4, ![4, 2048, 2, 32]⟩
abbrev S8192x128 : Shape := ⟨2, ![8192, 128]⟩
abbrev S2x4 : Shape := ⟨2, ![2, 4]⟩
abbrev S2x4x128 : Shape := ⟨3, ![2, 4, 128]⟩
abbrev S2x512 : Shape := ⟨2, ![2, 512]⟩
abbrev S2x1x512 : Shape := ⟨3, ![2, 1, 512]⟩
abbrev S256x128 : Shape := ⟨2, ![256, 128]⟩
abbrev S1x256x128 : Shape := ⟨3, ![1, 256, 128]⟩
abbrev S2x256x128 : Shape := ⟨3, ![2, 256, 128]⟩
abbrev S8 : Shape := ⟨1, ![8]⟩
abbrev S4x16x128x2x4x64 : Shape := ⟨6, ![4, 16, 128, 2, 4, 64]⟩
abbrev S4x16x128x2x64 : Shape := ⟨5, ![4, 16, 128, 2, 64]⟩
abbrev S4x1x128x2x64 : Shape := ⟨5, ![4, 1, 128, 2, 64]⟩
abbrev S4x15x128x2x64 : Shape := ⟨5, ![4, 15, 128, 2, 64]⟩
abbrev S4x16x256x2x64 : Shape := ⟨5, ![4, 16, 256, 2, 64]⟩
abbrev S4x16x2x256x128x4 : Shape := ⟨6, ![4, 16, 2, 256, 128, 4]⟩
abbrev S4x16x2x4x128x256 : Shape := ⟨6, ![4, 16, 2, 4, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x2x4x1x1 : Shape := ⟨6, ![1, 1, 2, 4, 1, 1]⟩
abbrev S4x16x2x4x128 : Shape := ⟨5, ![4, 16, 2, 4, 128]⟩
abbrev S4x16x2x4x128x1 : Shape := ⟨6, ![4, 16, 2, 4, 128, 1]⟩
abbrev S4x16x2x64x4x128 : Shape := ⟨6, ![4, 16, 2, 64, 4, 128]⟩
abbrev S4x16x8x128 : Shape := ⟨4, ![4, 16, 8, 128]⟩
abbrev S8x4x16x128 : Shape := ⟨4, ![8, 4, 16, 128]⟩
abbrev S8x8192 : Shape := ⟨2, ![8, 8192]⟩
abbrev S8192x8x64 : Shape := ⟨3, ![8192, 8, 64]⟩
abbrev S8192x8 : Shape := ⟨2, ![8192, 8]⟩
abbrev S8192x768 : Shape := ⟨2, ![8192, 768]⟩
abbrev S8x128 : Shape := ⟨2, ![8, 128]⟩
abbrev S2048x512 : Shape := ⟨2, ![2048, 512]⟩
abbrev S8x2048 : Shape := ⟨2, ![8, 2048]⟩
abbrev S2048x768 : Shape := ⟨2, ![2048, 768]⟩
abbrev S2x2048x64 : Shape := ⟨3, ![2, 2048, 64]⟩
abbrev S1x512 : Shape := ⟨2, ![1, 512]⟩
abbrev S128x64 : Shape := ⟨2, ![128, 64]⟩
abbrev S256x64 : Shape := ⟨2, ![256, 64]⟩
abbrev S512x64 : Shape := ⟨2, ![512, 64]⟩
abbrev S256x512 : Shape := ⟨2, ![256, 512]⟩
abbrev S1x128 : Shape := ⟨2, ![1, 128]⟩
abbrev S1x1x512 : Shape := ⟨3, ![1, 1, 512]⟩
abbrev S64x512 : Shape := ⟨2, ![64, 512]⟩
abbrev S128x128 : Shape := ⟨2, ![128, 128]⟩
abbrev S64x128 : Shape := ⟨2, ![64, 128]⟩
abbrev S1x128x64 : Shape := ⟨3, ![1, 128, 64]⟩
abbrev S1x1x128 : Shape := ⟨3, ![1, 1, 128]⟩
abbrev S1 : Shape := ⟨1, ![1]⟩
abbrev S1x1x1 : Shape := ⟨3, ![1, 1, 1]⟩
abbrev S1x2048x64 : Shape := ⟨3, ![1, 2048, 64]⟩
abbrev S2048x64 : Shape := ⟨2, ![2048, 64]⟩

abbrev nBuf : Space → Nat
  | .hbm => 291
  | .vmem => 21
  | .smem => 0
  | _ => 0

abbrev hbmTy0_0 (i : Nat) : BufTy := match i % 128 with
  | 0 => ⟨S4x2048x8x64, .f32⟩
  | 1 => ⟨S4x2048x2x64, .f32⟩
  | 2 => ⟨S4x2048x2x64, .f32⟩
  | 3 => ⟨S1x8, .f32⟩
  | 4 => ⟨S4x2048x512, .f32⟩
  | 5 => ⟨S2048, .i32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S2048, .i32⟩
  | 15 => ⟨S2048, .f32⟩
  | 16 => ⟨S2048x1, .f32⟩
  | 17 => ⟨S1x32, .f32⟩
  | 18 => ⟨S2048x32, .f32⟩
  | 19 => ⟨S2048x32, .f32⟩
  | 20 => ⟨S2048x32, .f32⟩
  | 21 => ⟨S2048x32, .f32⟩
  | 22 => ⟨S2048x32, .f32⟩
  | 23 => ⟨S2048x128, .f32⟩
  | 24 => ⟨S2048x32, .f32⟩
  | 25 => ⟨S2048x32, .f32⟩
  | 26 => ⟨S2048x128, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S2048, .f32⟩
  | 36 => ⟨S2048x1, .f32⟩
  | 37 => ⟨S1x32, .f32⟩
  | 38 => ⟨S2048x32, .f32⟩
  | 39 => ⟨S2048x32, .f32⟩
  | 40 => ⟨S2048x32, .f32⟩
  | 41 => ⟨S2048x32, .f32⟩
  | 42 => ⟨S1x2048x1x32, .f32⟩
  | 43 => ⟨S2048x32, .f32⟩
  | 44 => ⟨S1x2048x1x32, .f32⟩
  | 45 => ⟨S4x2048x8x32, .f32⟩
  | 46 => ⟨S4x2048x8x32, .f32⟩
  | 47 => ⟨S4x2048x8x32, .f32⟩
  | 48 => ⟨S4x2048x8x32, .f32⟩
  | 49 => ⟨S4x2048x8x32, .f32⟩
  | 50 => ⟨S4x2048x8x32, .f32⟩
  | 51 => ⟨S4x2048x8x32, .f32⟩
  | 52 => ⟨S4x2048x8x32, .f32⟩
  | 53 => ⟨S4x2048x8x32, .f32⟩
  | 54 => ⟨S4x2048x8x32, .f32⟩
  | 55 => ⟨S4x2048x8x32, .f32⟩
  | 56 => ⟨S4x2048x8x32, .f32⟩
  | 57 => ⟨S4x2048x8x64, .f32⟩
  | 58 => ⟨S_, .f32⟩
  | 59 => ⟨S4x2048x8x64, .f32⟩
  | 60 => ⟨S4x2048x8x64, .f32⟩
  | 61 => ⟨S8192x512, .f32⟩
  | 62 => ⟨S8192x512, .bf16⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S2048, .f32⟩
  | 72 => ⟨S2048x1, .f32⟩
  | 73 => ⟨S1x32, .f32⟩
  | 74 => ⟨S2048x32, .f32⟩
  | 75 => ⟨S2048x32, .f32⟩
  | 76 => ⟨S2048x32, .f32⟩
  | 77 => ⟨S2048x32, .f32⟩
  | 78 => ⟨S1x2048x1x32, .f32⟩
  | 79 => ⟨S2048x32, .f32⟩
  | 80 => ⟨S1x2048x1x32, .f32⟩
  | 81 => ⟨S4x2048x2x32, .f32⟩
  | 82 => ⟨S4x2048x2x32, .f32⟩
  | 83 => ⟨S4x2048x2x32, .f32⟩
  | 84 => ⟨S4x2048x2x32, .f32⟩
  | 85 => ⟨S4x2048x2x32, .f32⟩
  | 86 => ⟨S4x2048x2x32, .f32⟩
  | 87 => ⟨S4x2048x2x32, .f32⟩
  | 88 => ⟨S4x2048x2x32, .f32⟩
  | 89 => ⟨S4x2048x2x32, .f32⟩
  | 90 => ⟨S4x2048x2x32, .f32⟩
  | 91 => ⟨S4x2048x2x32, .f32⟩
  | 92 => ⟨S4x2048x2x32, .f32⟩
  | 93 => ⟨S4x2048x2x64, .f32⟩
  | 94 => ⟨S8192x128, .f32⟩
  | 95 => ⟨S8192x128, .bf16⟩
  | 96 => ⟨S8192x128, .f32⟩
  | 97 => ⟨S8192x128, .bf16⟩
  | 98 => ⟨S2x4, .f32⟩
  | 99 => ⟨S2x4x128, .f32⟩
  | 100 => ⟨S2x512, .f32⟩
  | 101 => ⟨S2x1x512, .f32⟩
  | 102 => ⟨S256x128, .i32⟩
  | 103 => ⟨S256x128, .i32⟩
  | 104 => ⟨S_, .i32⟩
  | 105 => ⟨S256x128, .i32⟩
  | 106 => ⟨S256x128, .i1⟩
  | 107 => ⟨S_, .i32⟩
  | 108 => ⟨S256x128, .i32⟩
  | 109 => ⟨S256x128, .i32⟩
  | 110 => ⟨S256x128, .i1⟩
  | 111 => ⟨S256x128, .i1⟩
  | 112 => ⟨S_, .i32⟩
  | 113 => ⟨S256x128, .i32⟩
  | 114 => ⟨S256x128, .i1⟩
  | 115 => ⟨S256x128, .i1⟩
  | 116 => ⟨S256x128, .i1⟩
  | 117 => ⟨S_, .f32⟩
  | 118 => ⟨S_, .f32⟩
  | 119 => ⟨S256x128, .f32⟩
  | 120 => ⟨S256x128, .f32⟩
  | 121 => ⟨S256x128, .f32⟩
  | 122 => ⟨S256x128, .i1⟩
  | 123 => ⟨S_, .f32⟩
  | 124 => ⟨S_, .f32⟩
  | 125 => ⟨S256x128, .f32⟩
  | 126 => ⟨S256x128, .f32⟩
  | 127 => ⟨S256x128, .f32⟩
  | _ => ⟨S4x2048x8x64, .f32⟩

abbrev hbmTy0_1 (i : Nat) : BufTy := match i % 128 with
  | 0 => ⟨S1x256x128, .f32⟩
  | 1 => ⟨S1x256x128, .f32⟩
  | 2 => ⟨S2x256x128, .f32⟩
  | 3 => ⟨S2x256x128, .f32⟩
  | 4 => ⟨S8192x512, .f32⟩
  | 5 => ⟨S8192x512, .bf16⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S2048, .f32⟩
  | 15 => ⟨S2048x1, .f32⟩
  | 16 => ⟨S1x32, .f32⟩
  | 17 => ⟨S2048x32, .f32⟩
  | 18 => ⟨S2048x32, .f32⟩
  | 19 => ⟨S2048x32, .f32⟩
  | 20 => ⟨S2048x32, .f32⟩
  | 21 => ⟨S1x2048x1x32, .f32⟩
  | 22 => ⟨S2048x32, .f32⟩
  | 23 => ⟨S1x2048x1x32, .f32⟩
  | 24 => ⟨S4x2048x8x32, .f32⟩
  | 25 => ⟨S4x2048x8x32, .f32⟩
  | 26 => ⟨S4x2048x8x32, .f32⟩
  | 27 => ⟨S4x2048x8x32, .f32⟩
  | 28 => ⟨S4x2048x8x32, .f32⟩
  | 29 => ⟨S4x2048x8x32, .f32⟩
  | 30 => ⟨S4x2048x8x32, .f32⟩
  | 31 => ⟨S4x2048x8x32, .f32⟩
  | 32 => ⟨S4x2048x8x32, .f32⟩
  | 33 => ⟨S4x2048x8x32, .f32⟩
  | 34 => ⟨S4x2048x8x32, .f32⟩
  | 35 => ⟨S4x2048x8x32, .f32⟩
  | 36 => ⟨S4x2048x8x64, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S2048, .f32⟩
  | 46 => ⟨S2048x1, .f32⟩
  | 47 => ⟨S1x32, .f32⟩
  | 48 => ⟨S2048x32, .f32⟩
  | 49 => ⟨S2048x32, .f32⟩
  | 50 => ⟨S2048x32, .f32⟩
  | 51 => ⟨S2048x32, .f32⟩
  | 52 => ⟨S1x2048x1x32, .f32⟩
  | 53 => ⟨S2048x32, .f32⟩
  | 54 => ⟨S1x2048x1x32, .f32⟩
  | 55 => ⟨S4x2048x2x32, .f32⟩
  | 56 => ⟨S4x2048x2x32, .f32⟩
  | 57 => ⟨S4x2048x2x32, .f32⟩
  | 58 => ⟨S4x2048x2x32, .f32⟩
  | 59 => ⟨S4x2048x2x32, .f32⟩
  | 60 => ⟨S4x2048x2x32, .f32⟩
  | 61 => ⟨S4x2048x2x32, .f32⟩
  | 62 => ⟨S4x2048x2x32, .f32⟩
  | 63 => ⟨S4x2048x2x32, .f32⟩
  | 64 => ⟨S4x2048x2x32, .f32⟩
  | 65 => ⟨S4x2048x2x32, .f32⟩
  | 66 => ⟨S4x2048x2x32, .f32⟩
  | 67 => ⟨S4x2048x2x64, .f32⟩
  | 68 => ⟨S8, .f32⟩
  | 69 => ⟨S4x16x128x2x4x64, .f32⟩
  | 70 => ⟨S4x16x128x2x64, .f32⟩
  | 71 => ⟨S4x16x128x2x64, .f32⟩
  | 72 => ⟨S4x1x128x2x64, .f32⟩
  | 73 => ⟨S_, .f32⟩
  | 74 => ⟨S4x1x128x2x64, .f32⟩
  | 75 => ⟨S4x15x128x2x64, .f32⟩
  | 76 => ⟨S4x16x128x2x64, .f32⟩
  | 77 => ⟨S4x16x256x2x64, .f32⟩
  | 78 => ⟨S4x1x128x2x64, .f32⟩
  | 79 => ⟨S_, .f32⟩
  | 80 => ⟨S4x1x128x2x64, .f32⟩
  | 81 => ⟨S4x15x128x2x64, .f32⟩
  | 82 => ⟨S4x16x128x2x64, .f32⟩
  | 83 => ⟨S4x16x256x2x64, .f32⟩
  | 84 => ⟨S4x16x2x256x128x4, .f32⟩
  | 85 => ⟨S4x16x2x4x128x256, .f32⟩
  | 86 => ⟨S_, .f32⟩
  | 87 => ⟨S4x16x2x4x128x256, .f32⟩
  | 88 => ⟨S4x16x2x4x128x256, .f32⟩
  | 89 => ⟨S16, .i32⟩
  | 90 => ⟨S16x1x1, .i32⟩
  | 91 => ⟨S128, .i32⟩
  | 92 => ⟨S1x128x1, .i32⟩
  | 93 => ⟨S256, .i32⟩
  | 94 => ⟨S1x1x256, .i32⟩
  | 95 => ⟨S_, .i32⟩
  | 96 => ⟨S1x128x1, .i32⟩
  | 97 => ⟨S1x128x1, .i32⟩
  | 98 => ⟨S1x128x256, .i32⟩
  | 99 => ⟨S1x128x256, .i32⟩
  | 100 => ⟨S1x128x256, .i32⟩
  | 101 => ⟨S_, .i32⟩
  | 102 => ⟨S16x1x1, .i32⟩
  | 103 => ⟨S16x1x1, .i32⟩
  | 104 => ⟨S_, .i32⟩
  | 105 => ⟨S16x1x1, .i32⟩
  | 106 => ⟨S16x1x1, .i32⟩
  | 107 => ⟨S16x1x256, .i32⟩
  | 108 => ⟨S16x1x256, .i32⟩
  | 109 => ⟨S16x1x256, .i32⟩
  | 110 => ⟨S_, .i32⟩
  | 111 => ⟨S1x128x256, .i32⟩
  | 112 => ⟨S1x128x256, .i1⟩
  | 113 => ⟨S_, .i32⟩
  | 114 => ⟨S1x128x256, .i32⟩
  | 115 => ⟨S1x128x256, .i1⟩
  | 116 => ⟨S1x128x256, .i1⟩
  | 117 => ⟨S_, .i32⟩
  | 118 => ⟨S16x1x256, .i32⟩
  | 119 => ⟨S16x1x256, .i1⟩
  | 120 => ⟨S16x128x256, .i1⟩
  | 121 => ⟨S16x128x256, .i1⟩
  | 122 => ⟨S16x128x256, .i1⟩
  | 123 => ⟨S1x16x1x1x128x256, .i1⟩
  | 124 => ⟨S_, .f32⟩
  | 125 => ⟨S_, .f32⟩
  | 126 => ⟨S4x16x2x4x128x256, .i1⟩
  | 127 => ⟨S4x16x2x4x128x256, .f32⟩
  | _ => ⟨S4x2048x8x64, .f32⟩

abbrev hbmTy0_2 (i : Nat) : BufTy := match i % 128 with
  | 0 => ⟨S4x16x2x4x128x256, .f32⟩
  | 1 => ⟨S2x4, .f32⟩
  | 2 => ⟨S1x1x2x4x1x1, .f32⟩
  | 3 => ⟨S_, .f32⟩
  | 4 => ⟨S4x16x2x4x128, .f32⟩
  | 5 => ⟨S4x16x2x4x128x1, .f32⟩
  | 6 => ⟨S4x16x2x4x128x1, .f32⟩
  | 7 => ⟨S4x16x2x4x128x1, .f32⟩
  | 8 => ⟨S4x16x2x4x128x256, .f32⟩
  | 9 => ⟨S4x16x2x4x128x256, .f32⟩
  | 10 => ⟨S4x16x2x4x128x256, .f32⟩
  | 11 => ⟨S_, .f32⟩
  | 12 => ⟨S4x16x2x4x128, .f32⟩
  | 13 => ⟨S4x16x2x4x128x1, .f32⟩
  | 14 => ⟨S4x16x2x4x128x1, .f32⟩
  | 15 => ⟨S4x16x2x4x128x1, .f32⟩
  | 16 => ⟨S4x16x2x4x128x1, .f32⟩
  | 17 => ⟨S4x16x2x4x128x1, .f32⟩
  | 18 => ⟨S4x16x2x4x128x256, .f32⟩
  | 19 => ⟨S4x16x2x4x128x256, .f32⟩
  | 20 => ⟨S4x16x2x64x4x128, .f32⟩
  | 21 => ⟨S4x16x128x2x4x64, .f32⟩
  | 22 => ⟨S4x2048x512, .f32⟩
  | 23 => ⟨S4x16x2x4x128x1, .f32⟩
  | 24 => ⟨S4x16x2x4x128x1, .f32⟩
  | 25 => ⟨S4x16x8x128, .f32⟩
  | 26 => ⟨S8x4x16x128, .f32⟩
  | 27 => ⟨S8x8192, .f32⟩
  | 28 => ⟨S4x2048x512, .f32⟩
  | 29 => ⟨S8192x8x64, .f32⟩
  | 30 => ⟨S_, .f32⟩
  | 31 => ⟨S8192x8, .f32⟩
  | 32 => ⟨S8x8192, .f32⟩
  | 33 => ⟨S8192x768, .bf16⟩
  | 34 => ⟨S8x128, .f32⟩
  | _ => ⟨S4x2048x8x64, .f32⟩

abbrev hbmTy (i : Nat) : BufTy := match i / 128 with
  | 0 => hbmTy0_0 i
  | 1 => hbmTy0_1 i
  | 2 => hbmTy0_2 i
  | _ => ⟨S4x2048x8x64, .f32⟩

abbrev bufTy : (tb : Table) → Fin (tcTables nBuf tb) → BufTy
  | .hbm, ⟨i, _⟩ => hbmTy i
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x512, .bf16⟩
  | .local _ .vmem, ⟨7, _⟩ => ⟨S2048x512, .bf16⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S2x1x512, .f32⟩
  | .local _ .vmem, ⟨13, _⟩ => ⟨S2x256x128, .f32⟩
  | .local _ .vmem, ⟨14, _⟩ => ⟨S2048x128, .f32⟩
  | .local _ .vmem, ⟨15, _⟩ => ⟨S2048x128, .f32⟩
  | .local _ .vmem, ⟨16, _⟩ => ⟨S2048x768, .bf16⟩
  | .local _ .vmem, ⟨17, _⟩ => ⟨S2048x768, .bf16⟩
  | .local _ .vmem, ⟨18, _⟩ => ⟨S8x128, .f32⟩
  | .local _ .vmem, ⟨19, _⟩ => ⟨S2x2048x64, .f32⟩
  | .local _ .vmem, ⟨20, _⟩ => ⟨S2x2048x64, .f32⟩
  | _, _ => ⟨S4x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_3 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_c : Ref sig .tc := ⟨.hbm, 104, rfl⟩
abbrev main_v92 : Ref sig .tc := ⟨.hbm, 105, rfl⟩
abbrev main_v93 : Ref sig .tc := ⟨.hbm, 106, rfl⟩
abbrev main_c_6 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_c_7 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_8 : Ref sig .tc := ⟨.hbm, 117, rfl⟩
abbrev main_cst_9 : Ref sig .tc := ⟨.hbm, 118, rfl⟩
abbrev main_call0_v0 : Ref sig .tc := ⟨.hbm, 119, rfl⟩
abbrev main_call0_v1 : Ref sig .tc := ⟨.hbm, 120, rfl⟩
abbrev main_v102 : Ref sig .tc := ⟨.hbm, 121, rfl⟩
abbrev main_v103 : Ref sig .tc := ⟨.hbm, 122, rfl⟩
abbrev main_cst_10 : Ref sig .tc := ⟨.hbm, 123, rfl⟩
abbrev main_cst_11 : Ref sig .tc := ⟨.hbm, 124, rfl⟩
abbrev main_call1_v0 : Ref sig .tc := ⟨.hbm, 125, rfl⟩
abbrev main_call1_v1 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_12 : Ref sig .tc := ⟨.hbm, 136, rfl⟩
abbrev main_v113 : Ref sig .tc := ⟨.hbm, 137, rfl⟩
abbrev main_v114 : Ref sig .tc := ⟨.hbm, 138, rfl⟩
abbrev main_cst_13 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_cst_14 : Ref sig .tc := ⟨.hbm, 167, rfl⟩
abbrev main_v142 : Ref sig .tc := ⟨.hbm, 168, rfl⟩
abbrev main_v143 : Ref sig .tc := ⟨.hbm, 169, rfl⟩
abbrev main_cst_15 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_cst_16 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_cst_17 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_cst_18 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_c_19 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_c_20 : Ref sig .tc := ⟨.hbm, 229, rfl⟩
abbrev main_v198 : Ref sig .tc := ⟨.hbm, 230, rfl⟩
abbrev main_v199 : Ref sig .tc := ⟨.hbm, 231, rfl⟩
abbrev main_c_21 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_c_22 : Ref sig .tc := ⟨.hbm, 238, rfl⟩
abbrev main_v205 : Ref sig .tc := ⟨.hbm, 239, rfl⟩
abbrev main_v206 : Ref sig .tc := ⟨.hbm, 240, rfl⟩
abbrev main_c_23 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_c_24 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_cst_25 : Ref sig .tc := ⟨.hbm, 252, rfl⟩
abbrev main_call2_v0 : Ref sig .tc := ⟨.hbm, 253, rfl⟩
abbrev main_call2_v1 : Ref sig .tc := ⟨.hbm, 254, rfl⟩
abbrev main_call2_v2 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_cst_26 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_cst_27 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_cst_28 : Ref sig .tc := ⟨.hbm, 286, rfl⟩
abbrev main_v244 : Ref sig .tc := ⟨.hbm, 287, rfl⟩
abbrev main_v245 : Ref sig .tc := ⟨.hbm, 288, rfl⟩
abbrev main_v246_0 : Ref sig .tc := ⟨.hbm, 289, rfl⟩
abbrev main_v246_1 : Ref sig .tc := ⟨.hbm, 290, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_8 : BitVec 32 := 0#32
  let c4_i32 : BitVec 32 := 4#32
  let v12 : BitVec 32 := Scalar.addi c0_i32_8 c4_i32
  let c1_i32 : BitVec 32 := 1#32
  ⟨c0_i32_8, v12, c1_i32⟩
def k0_mult1 (k0_t1 : Fin k0_t1_loop.trips) : BitVec 32 :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let c0_i32_61 : BitVec 32 := 0#32
  let v163 : BitVec 32 := Scalar.addi v162 c0_i32_61
  let c128_i32 : BitVec 32 := 128#32
  let v164 : BitVec 32 := Scalar.muli v163 c128_i32
  v164
def k0_mult2 (k0_t1 : Fin k0_t1_loop.trips) : BitVec 32 :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let c0_i32_61 : BitVec 32 := 0#32
  let v163 : BitVec 32 := Scalar.addi v162 c0_i32_61
  let c1_i32_62 : BitVec 32 := 1#32
  let v166 : BitVec 32 := Scalar.subi v163 c1_i32_62
  let c0_i32_63 : BitVec 32 := 0#32
  let v167 : BitVec 32 := Scalar.maxsi v166 c0_i32_63
  let c128_i32_64 : BitVec 32 := 128#32
  let v168 : BitVec 32 := Scalar.muli v167 c128_i32_64
  v168
def k0_off1 (k0_t1 : Fin k0_t1_loop.trips) (c0_i32_61 : BitVec 32) : Fin 3 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c1_i32_65 : BitVec 32 := 1#32
  let v170 : BitVec 32 := Scalar.minsi v163 c1_i32_65
  let v171 : Index := Scalar.indexCast v170
  let c0_66 : Index := 0#32
  let c0_67 : Index := 0#32
  ![v171.toNat, 0, 0]
def k0_mult3 (k0_t1 : Fin k0_t1_loop.trips) : BitVec 32 :=
  let c4_i32_71 : BitVec 32 := 4#32
  let c0_i32_8 : BitVec 32 := 0#32
  let c1_i32 : BitVec 32 := 1#32
  let arg15 : BitVec 32 := Scf.iv c0_i32_8 c1_i32 k0_t1
  let v178 : BitVec 32 := Scalar.muli c4_i32_71 arg15
  let c1_i32_72 : BitVec 32 := 1#32
  let v179 : BitVec 32 := Scalar.addi v178 c1_i32_72
  let c128_i32_73 : BitVec 32 := 128#32
  let v180 : BitVec 32 := Scalar.muli v179 c128_i32_73
  v180
def k0_mult4 (k0_t1 : Fin k0_t1_loop.trips) : BitVec 32 :=
  let c4_i32_71 : BitVec 32 := 4#32
  let c0_i32_8 : BitVec 32 := 0#32
  let c1_i32 : BitVec 32 := 1#32
  let arg15 : BitVec 32 := Scf.iv c0_i32_8 c1_i32 k0_t1
  let v178 : BitVec 32 := Scalar.muli c4_i32_71 arg15
  let c1_i32_72 : BitVec 32 := 1#32
  let v179 : BitVec 32 := Scalar.addi v178 c1_i32_72
  let c1_i32_74 : BitVec 32 := 1#32
  let v182 : BitVec 32 := Scalar.subi v179 c1_i32_74
  let c0_i32_75 : BitVec 32 := 0#32
  let v183 : BitVec 32 := Scalar.maxsi v182 c0_i32_75
  let c128_i32_76 : BitVec 32 := 128#32
  let v184 : BitVec 32 := Scalar.muli v183 c128_i32_76
  v184
def k0_mult5 (k0_t1 : Fin k0_t1_loop.trips) : BitVec 32 :=
  let c4_i32_83 : BitVec 32 := 4#32
  let c0_i32_8 : BitVec 32 := 0#32
  let c1_i32 : BitVec 32 := 1#32
  let arg15 : BitVec 32 := Scf.iv c0_i32_8 c1_i32 k0_t1
  let v194 : BitVec 32 := Scalar.muli c4_i32_83 arg15
  let c2_i32_84 : BitVec 32 := 2#32
  let v195 : BitVec 32 := Scalar.addi v194 c2_i32_84
  let c128_i32_85 : BitVec 32 := 128#32
  let v196 : BitVec 32 := Scalar.muli v195 c128_i32_85
  v196
def k0_mult6 (k0_t1 : Fin k0_t1_loop.trips) : BitVec 32 :=
  let c4_i32_83 : BitVec 32 := 4#32
  let c0_i32_8 : BitVec 32 := 0#32
  let c1_i32 : BitVec 32 := 1#32
  let arg15 : BitVec 32 := Scf.iv c0_i32_8 c1_i32 k0_t1
  let v194 : BitVec 32 := Scalar.muli c4_i32_83 arg15
  let c2_i32_84 : BitVec 32 := 2#32
  let v195 : BitVec 32 := Scalar.addi v194 c2_i32_84
  let c1_i32_86 : BitVec 32 := 1#32
  let v198 : BitVec 32 := Scalar.subi v195 c1_i32_86
  let c0_i32_87 : BitVec 32 := 0#32
  let v199 : BitVec 32 := Scalar.maxsi v198 c0_i32_87
  let c128_i32_88 : BitVec 32 := 128#32
  let v200 : BitVec 32 := Scalar.muli v199 c128_i32_88
  v200
def k0_mult7 (k0_t1 : Fin k0_t1_loop.trips) : BitVec 32 :=
  let c4_i32_95 : BitVec 32 := 4#32
  let c0_i32_8 : BitVec 32 := 0#32
  let c1_i32 : BitVec 32 := 1#32
  let arg15 : BitVec 32 := Scf.iv c0_i32_8 c1_i32 k0_t1
  let v210 : BitVec 32 := Scalar.muli c4_i32_95 arg15
  let c3_i32_96 : BitVec 32 := 3#32
  let v211 : BitVec 32 := Scalar.addi v210 c3_i32_96
  let c128_i32_97 : BitVec 32 := 128#32
  let v212 : BitVec 32 := Scalar.muli v211 c128_i32_97
  v212
def k0_mult8 (k0_t1 : Fin k0_t1_loop.trips) : BitVec 32 :=
  let c4_i32_95 : BitVec 32 := 4#32
  let c0_i32_8 : BitVec 32 := 0#32
  let c1_i32 : BitVec 32 := 1#32
  let arg15 : BitVec 32 := Scf.iv c0_i32_8 c1_i32 k0_t1
  let v210 : BitVec 32 := Scalar.muli c4_i32_95 arg15
  let c3_i32_96 : BitVec 32 := 3#32
  let v211 : BitVec 32 := Scalar.addi v210 c3_i32_96
  let c1_i32_98 : BitVec 32 := 1#32
  let v214 : BitVec 32 := Scalar.subi v211 c1_i32_98
  let c0_i32_99 : BitVec 32 := 0#32
  let v215 : BitVec 32 := Scalar.maxsi v214 c0_i32_99
  let c128_i32_100 : BitVec 32 := 128#32
  let v216 : BitVec 32 := Scalar.muli v215 c128_i32_100
  v216
def k0_off2 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c1_i32_62 : BitVec 32 := 1#32
  let v166 : BitVec 32 := Scalar.subi v163 c1_i32_62
  let c0_i32_63 : BitVec 32 := 0#32
  let v167 : BitVec 32 := Scalar.maxsi v166 c0_i32_63
  let c128_i32_64 : BitVec 32 := 128#32
  let v168 : BitVec 32 := Scalar.muli v167 c128_i32_64
  let v169 : BitVec 32 := v168
  let v226 : Index := Scalar.indexCast v169
  let c0_107 : Index := 0#32
  ![v226.toNat, 0]
def k0_off3 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v229 : Index := Scalar.indexCast v165
  let c0_108 : Index := 0#32
  ![v229.toNat, 0]
def k0_off4 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v233 : Index := Scalar.indexCast v165
  let c0_109 : Index := 0#32
  ![v233.toNat, 0]
def k0_off5 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v236 : Index := Scalar.indexCast v165
  let c64 : Index := 64#32
  ![v236.toNat, 64]
def k0_off6 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v239 : Index := Scalar.indexCast v165
  let c128 : Index := 128#32
  ![v239.toNat, 128]
def k0_off7 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v242 : Index := Scalar.indexCast v165
  let c192 : Index := 192#32
  ![v242.toNat, 192]
def k0_off8 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c1_i32_62 : BitVec 32 := 1#32
  let v166 : BitVec 32 := Scalar.subi v163 c1_i32_62
  let c0_i32_63 : BitVec 32 := 0#32
  let v167 : BitVec 32 := Scalar.maxsi v166 c0_i32_63
  let c128_i32_64 : BitVec 32 := 128#32
  let v168 : BitVec 32 := Scalar.muli v167 c128_i32_64
  let v169 : BitVec 32 := v168
  let v249 : Index := Scalar.indexCast v169
  let c64_111 : Index := 64#32
  ![v249.toNat, 64]
def k0_off9 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v252 : Index := Scalar.indexCast v165
  let c64_112 : Index := 64#32
  ![v252.toNat, 64]
def k0_off10 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v256 : Index := Scalar.indexCast v165
  let c256 : Index := 256#32
  ![v256.toNat, 256]
def k0_off11 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v259 : Index := Scalar.indexCast v165
  let c320 : Index := 320#32
  ![v259.toNat, 320]
def k0_off12 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v262 : Index := Scalar.indexCast v165
  let c384 : Index := 384#32
  ![v262.toNat, 384]
def k0_off13 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v265 : Index := Scalar.indexCast v165
  let c448 : Index := 448#32
  ![v265.toNat, 448]
def k0_off14 (k0_t1 : Fin k0_t1_loop.trips) (c0_i32_61 : BitVec 32) : Fin 2 → Nat :=
  let c0_212 : Index := 0#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v578 : Index := Scalar.indexCast v165
  ![0, v578.toNat]
def k0_off15 (k0_t1 : Fin k0_t1_loop.trips) (c0_i32_61 : BitVec 32) : Fin 2 → Nat :=
  let c1_213 : Index := 1#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v581 : Index := Scalar.indexCast v165
  ![1, v581.toNat]
def k0_off16 (k0_t1 : Fin k0_t1_loop.trips) (c0_i32_61 : BitVec 32) : Fin 2 → Nat :=
  let c2 : Index := 2#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v584 : Index := Scalar.indexCast v165
  ![2, v584.toNat]
def k0_off17 (k0_t1 : Fin k0_t1_loop.trips) (c0_i32_61 : BitVec 32) : Fin 2 → Nat :=
  let c3 : Index := 3#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v587 : Index := Scalar.indexCast v165
  ![3, v587.toNat]
def k0_off18 (k0_t1 : Fin k0_t1_loop.trips) (c0_i32_61 : BitVec 32) : Fin 2 → Nat :=
  let c4 : Index := 4#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v591 : Index := Scalar.indexCast v165
  ![4, v591.toNat]
def k0_off19 (k0_t1 : Fin k0_t1_loop.trips) (c0_i32_61 : BitVec 32) : Fin 2 → Nat :=
  let c5 : Index := 5#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v594 : Index := Scalar.indexCast v165
  ![5, v594.toNat]
def k0_off20 (k0_t1 : Fin k0_t1_loop.trips) (c0_i32_61 : BitVec 32) : Fin 2 → Nat :=
  let c6 : Index := 6#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v597 : Index := Scalar.indexCast v165
  ![6, v597.toNat]
def k0_off21 (k0_t1 : Fin k0_t1_loop.trips) (c0_i32_61 : BitVec 32) : Fin 2 → Nat :=
  let c7 : Index := 7#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v600 : Index := Scalar.indexCast v165
  ![7, v600.toNat]
def k0_off22 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v946 : Index := Scalar.indexCast v165
  let c0_326 : Index := 0#32
  ![v946.toNat, 0]
def k0_off23 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v972 : Index := Scalar.indexCast v165
  let c0_332 : Index := 0#32
  ![v972.toNat, 0]
def k0_off24 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v986 : Index := Scalar.indexCast v165
  let c128_337 : Index := 128#32
  ![v986.toNat, 128]
def k0_off25 (k0_t1 : Fin k0_t1_loop.trips) (c0_i32_61 : BitVec 32) : Fin 3 → Nat :=
  let c0_338 : Index := 0#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c1_i32_62 : BitVec 32 := 1#32
  let v166 : BitVec 32 := Scalar.subi v163 c1_i32_62
  let c0_i32_63 : BitVec 32 := 0#32
  let v167 : BitVec 32 := Scalar.maxsi v166 c0_i32_63
  let c128_i32_64 : BitVec 32 := 128#32
  let v168 : BitVec 32 := Scalar.muli v167 c128_i32_64
  let v169 : BitVec 32 := v168
  let v988 : Index := Scalar.indexCast v169
  let c0_339 : Index := 0#32
  ![0, v988.toNat, 0]
def k0_off26 (k0_t1 : Fin k0_t1_loop.trips) (c0_i32_61 : BitVec 32) : Fin 3 → Nat :=
  let c0_342 : Index := 0#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v997 : Index := Scalar.indexCast v165
  let c0_343 : Index := 0#32
  ![0, v997.toNat, 0]
def k0_off27 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v1050 : Index := Scalar.indexCast v165
  let c256_360 : Index := 256#32
  ![v1050.toNat, 256]
def k0_off28 (k0_t1 : Fin k0_t1_loop.trips) (c0_i32_61 : BitVec 32) : Fin 2 → Nat :=
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v1064 : Index := Scalar.indexCast v165
  let c384_365 : Index := 384#32
  ![v1064.toNat, 384]
def k0_off29 (k0_t1 : Fin k0_t1_loop.trips) (c0_i32_61 : BitVec 32) : Fin 3 → Nat :=
  let c1_366 : Index := 1#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c1_i32_62 : BitVec 32 := 1#32
  let v166 : BitVec 32 := Scalar.subi v163 c1_i32_62
  let c0_i32_63 : BitVec 32 := 0#32
  let v167 : BitVec 32 := Scalar.maxsi v166 c0_i32_63
  let c128_i32_64 : BitVec 32 := 128#32
  let v168 : BitVec 32 := Scalar.muli v167 c128_i32_64
  let v169 : BitVec 32 := v168
  let v1066 : Index := Scalar.indexCast v169
  let c0_367 : Index := 0#32
  ![1, v1066.toNat, 0]
def k0_off30 (k0_t1 : Fin k0_t1_loop.trips) (c0_i32_61 : BitVec 32) : Fin 3 → Nat :=
  let c1_370 : Index := 1#32
  let c4_i32_60 : BitVec 32 := 4#32
  let c0_i32_8 : BitVec 32 := 0#32
  let c1_i32 : BitVec 32 := 1#32
  let arg15 : BitVec 32 := Scf.iv c0_i32_8 c1_i32 k0_t1
  let v162 : BitVec 32 := Scalar.muli c4_i32_60 arg15
  let v163 : BitVec 32 := Scalar.addi v162 c0_i32_61
  let c128_i32 : BitVec 32 := 128#32
  let v164 : BitVec 32 := Scalar.muli v163 c128_i32
  let v165 : BitVec 32 := v164
  let v1075 : Index := Scalar.indexCast v165
  let c0_371 : Index := 0#32
  ![1, v1075.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S4x2048x8x64 : Shape := ⟨4, ![4, 2048, 8, 64]⟩
abbrev S4x2048x2x64 : Shape := ⟨4, ![4, 2048, 2, 64]⟩
abbrev S1x8 : Shape := ⟨2, ![1, 8]⟩
abbrev S4x2048x512 : Shape := ⟨3, ![4, 2048, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x8x32 : Shape := ⟨4, ![4, 2048, 8, 32]⟩
abbrev S4x2048x2x32 : Shape := ⟨4, ![4, 2048, 2, 32]⟩
abbrev S8 : Shape := ⟨1, ![8]⟩
abbrev S4x16x128x2x4x64 : Shape := ⟨6, ![4, 16, 128, 2, 4, 64]⟩
abbrev S4x16x128x2x64 : Shape := ⟨5, ![4, 16, 128, 2, 64]⟩
abbrev S4x1x128x2x64 : Shape := ⟨5, ![4, 1, 128, 2, 64]⟩
abbrev S4x15x128x2x64 : Shape := ⟨5, ![4, 15, 128, 2, 64]⟩
abbrev S4x16x256x2x64 : Shape := ⟨5, ![4, 16, 256, 2, 64]⟩
abbrev S4x16x2x256x128x4 : Shape := ⟨6, ![4, 16, 2, 256, 128, 4]⟩
abbrev S4x16x2x4x128x256 : Shape := ⟨6, ![4, 16, 2, 4, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S4x16x2x4x128 : Shape := ⟨5, ![4, 16, 2, 4, 128]⟩
abbrev S4x16x2x4x128x1 : Shape := ⟨6, ![4, 16, 2, 4, 128, 1]⟩
abbrev S4x16x2x64x4x128 : Shape := ⟨6, ![4, 16, 2, 64, 4, 128]⟩
abbrev S4x16x2x64x256 : Shape := ⟨5, ![4, 16, 2, 64, 256]⟩
abbrev S2x4x1 : Shape := ⟨3, ![2, 4, 1]⟩
abbrev S4x16x2x128x4x64 : Shape := ⟨6, ![4, 16, 2, 128, 4, 64]⟩
abbrev S4x16x2x256x64 : Shape := ⟨5, ![4, 16, 2, 256, 64]⟩
abbrev S8192x512 : Shape := ⟨2, ![8192, 512]⟩
abbrev S8192x128 : Shape := ⟨2, ![8192, 128]⟩
abbrev S8192x768 : Shape := ⟨2, ![8192, 768]⟩
abbrev S8x128 : Shape := ⟨2, ![8, 128]⟩

abbrev nBuf : Space → Nat
  | .hbm => 310
  | .vmem => 0
  | .smem => 0
  | _ => 0

abbrev hbmTy0_0 (i : Nat) : BufTy := match i % 128 with
  | 0 => ⟨S4x2048x8x64, .f32⟩
  | 1 => ⟨S4x2048x2x64, .f32⟩
  | 2 => ⟨S4x2048x2x64, .f32⟩
  | 3 => ⟨S1x8, .f32⟩
  | 4 => ⟨S4x2048x512, .f32⟩
  | 5 => ⟨S2048, .i32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S2048, .f32⟩
  | 15 => ⟨S2048x1, .f32⟩
  | 16 => ⟨S1x32, .f32⟩
  | 17 => ⟨S2048x32, .f32⟩
  | 18 => ⟨S2048x32, .f32⟩
  | 19 => ⟨S2048x32, .f32⟩
  | 20 => ⟨S2048x32, .f32⟩
  | 21 => ⟨S1x2048x1x32, .f32⟩
  | 22 => ⟨S2048x32, .f32⟩
  | 23 => ⟨S1x2048x1x32, .f32⟩
  | 24 => ⟨S4x2048x8x32, .f32⟩
  | 25 => ⟨S4x2048x8x32, .f32⟩
  | 26 => ⟨S4x2048x8x32, .f32⟩
  | 27 => ⟨S4x2048x8x32, .f32⟩
  | 28 => ⟨S4x2048x8x32, .f32⟩
  | 29 => ⟨S4x2048x8x32, .f32⟩
  | 30 => ⟨S4x2048x8x32, .f32⟩
  | 31 => ⟨S4x2048x8x32, .f32⟩
  | 32 => ⟨S4x2048x8x32, .f32⟩
  | 33 => ⟨S4x2048x8x32, .f32⟩
  | 34 => ⟨S4x2048x8x32, .f32⟩
  | 35 => ⟨S4x2048x8x32, .f32⟩
  | 36 => ⟨S4x2048x8x64, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S2048, .f32⟩
  | 46 => ⟨S2048x1, .f32⟩
  | 47 => ⟨S1x32, .f32⟩
  | 48 => ⟨S2048x32, .f32⟩
  | 49 => ⟨S2048x32, .f32⟩
  | 50 => ⟨S2048x32, .f32⟩
  | 51 => ⟨S2048x32, .f32⟩
  | 52 => ⟨S1x2048x1x32, .f32⟩
  | 53 => ⟨S2048x32, .f32⟩
  | 54 => ⟨S1x2048x1x32, .f32⟩
  | 55 => ⟨S4x2048x2x32, .f32⟩
  | 56 => ⟨S4x2048x2x32, .f32⟩
  | 57 => ⟨S4x2048x2x32, .f32⟩
  | 58 => ⟨S4x2048x2x32, .f32⟩
  | 59 => ⟨S4x2048x2x32, .f32⟩
  | 60 => ⟨S4x2048x2x32, .f32⟩
  | 61 => ⟨S4x2048x2x32, .f32⟩
  | 62 => ⟨S4x2048x2x32, .f32⟩
  | 63 => ⟨S4x2048x2x32, .f32⟩
  | 64 => ⟨S4x2048x2x32, .f32⟩
  | 65 => ⟨S4x2048x2x32, .f32⟩
  | 66 => ⟨S4x2048x2x32, .f32⟩
  | 67 => ⟨S4x2048x2x64, .f32⟩
  | 68 => ⟨S8, .f32⟩
  | 69 => ⟨S4x16x128x2x4x64, .f32⟩
  | 70 => ⟨S4x16x128x2x64, .f32⟩
  | 71 => ⟨S4x16x128x2x64, .f32⟩
  | 72 => ⟨S4x1x128x2x64, .f32⟩
  | 73 => ⟨S_, .f32⟩
  | 74 => ⟨S4x1x128x2x64, .f32⟩
  | 75 => ⟨S4x15x128x2x64, .f32⟩
  | 76 => ⟨S4x16x128x2x64, .f32⟩
  | 77 => ⟨S_, .f32⟩
  | 78 => ⟨S4x1x128x2x64, .f32⟩
  | 79 => ⟨S4x16x256x2x64, .f32⟩
  | 80 => ⟨S4x1x128x2x64, .f32⟩
  | 81 => ⟨S_, .f32⟩
  | 82 => ⟨S4x1x128x2x64, .f32⟩
  | 83 => ⟨S4x15x128x2x64, .f32⟩
  | 84 => ⟨S4x16x128x2x64, .f32⟩
  | 85 => ⟨S_, .f32⟩
  | 86 => ⟨S4x1x128x2x64, .f32⟩
  | 87 => ⟨S4x16x256x2x64, .f32⟩
  | 88 => ⟨S4x16x2x256x128x4, .f32⟩
  | 89 => ⟨S4x16x2x4x128x256, .f32⟩
  | 90 => ⟨S_, .f32⟩
  | 91 => ⟨S4x16x2x4x128x256, .f32⟩
  | 92 => ⟨S4x16x2x4x128x256, .f32⟩
  | 93 => ⟨S16, .i32⟩
  | 94 => ⟨S16x1x1, .i32⟩
  | 95 => ⟨S128, .i32⟩
  | 96 => ⟨S1x128x1, .i32⟩
  | 97 => ⟨S256, .i32⟩
  | 98 => ⟨S1x1x256, .i32⟩
  | 99 => ⟨S_, .i32⟩
  | 100 => ⟨S1x128x1, .i32⟩
  | 101 => ⟨S1x128x1, .i32⟩
  | 102 => ⟨S1x128x256, .i32⟩
  | 103 => ⟨S1x128x256, .i32⟩
  | 104 => ⟨S1x128x256, .i32⟩
  | 105 => ⟨S_, .i32⟩
  | 106 => ⟨S16x1x1, .i32⟩
  | 107 => ⟨S16x1x1, .i32⟩
  | 108 => ⟨S_, .i32⟩
  | 109 => ⟨S16x1x1, .i32⟩
  | 110 => ⟨S16x1x1, .i32⟩
  | 111 => ⟨S16x1x256, .i32⟩
  | 112 => ⟨S16x1x256, .i32⟩
  | 113 => ⟨S16x1x256, .i32⟩
  | 114 => ⟨S_, .i32⟩
  | 115 => ⟨S1x128x256, .i32⟩
  | 116 => ⟨S1x128x256, .i1⟩
  | 117 => ⟨S_, .i32⟩
  | 118 => ⟨S1x128x256, .i32⟩
  | 119 => ⟨S1x128x256, .i1⟩
  | 120 => ⟨S1x128x256, .i1⟩
  | 121 => ⟨S_, .i32⟩
  | 122 => ⟨S16x1x256, .i32⟩
  | 123 => ⟨S16x1x256, .i1⟩
  | 124 => ⟨S16x128x256, .i1⟩
  | 125 => ⟨S16x128x256, .i1⟩
  | 126 => ⟨S16x128x256, .i1⟩
  | 127 => ⟨S1x16x1x1x128x256, .i1⟩
  | _ => ⟨S4x2048x8x64, .f32⟩

abbrev hbmTy0_1 (i : Nat) : BufTy := match i % 128 with
  | 0 => ⟨S_, .f32⟩
  | 1 => ⟨S_, .f32⟩
  | 2 => ⟨S4x16x2x4x128x256, .i1⟩
  | 3 => ⟨S4x16x2x4x128x256, .f32⟩
  | 4 => ⟨S4x16x2x4x128x256, .f32⟩
  | 5 => ⟨S_, .f32⟩
  | 6 => ⟨S4x16x2x4x128x256, .f32⟩
  | 7 => ⟨S2x4, .f32⟩
  | 8 => ⟨S1x1x2x4x1x1, .f32⟩
  | 9 => ⟨S_, .f32⟩
  | 10 => ⟨S4x16x2x4x128, .f32⟩
  | 11 => ⟨S4x16x2x4x128x1, .f32⟩
  | 12 => ⟨S4x16x2x4x128x256, .f32⟩
  | 13 => ⟨S4x16x2x4x128x256, .i1⟩
  | 14 => ⟨S4x16x2x4x128x256, .f32⟩
  | 15 => ⟨S_, .f32⟩
  | 16 => ⟨S4x16x2x4x128, .f32⟩
  | 17 => ⟨S4x16x2x4x128x1, .f32⟩
  | 18 => ⟨S4x16x2x4x128x1, .f32⟩
  | 19 => ⟨S4x16x2x4x128x1, .f32⟩
  | 20 => ⟨S4x16x2x4x128x1, .f32⟩
  | 21 => ⟨S4x16x2x4x128x1, .i1⟩
  | 22 => ⟨S4x16x2x4x128x1, .f32⟩
  | 23 => ⟨S4x16x2x4x128x1, .i1⟩
  | 24 => ⟨S_, .f32⟩
  | 25 => ⟨S4x16x2x4x128x1, .f32⟩
  | 26 => ⟨S_, .f32⟩
  | 27 => ⟨S4x16x2x4x128x1, .f32⟩
  | 28 => ⟨S_, .f32⟩
  | 29 => ⟨S4x16x2x4x128x1, .f32⟩
  | 30 => ⟨S4x16x2x4x128x1, .f32⟩
  | 31 => ⟨S4x16x2x4x128x1, .f32⟩
  | 32 => ⟨S4x16x2x4x128x1, .f32⟩
  | 33 => ⟨S4x16x2x4x128x1, .i1⟩
  | 34 => ⟨S4x16x2x4x128x1, .f32⟩
  | 35 => ⟨S4x16x2x4x128x1, .i1⟩
  | 36 => ⟨S_, .f32⟩
  | 37 => ⟨S4x16x2x4x128x1, .f32⟩
  | 38 => ⟨S_, .f32⟩
  | 39 => ⟨S4x16x2x4x128x1, .f32⟩
  | 40 => ⟨S_, .f32⟩
  | 41 => ⟨S4x16x2x4x128x1, .f32⟩
  | 42 => ⟨S4x16x2x4x128x1, .f32⟩
  | 43 => ⟨S4x16x2x4x128x1, .f32⟩
  | 44 => ⟨S4x16x2x4x128x256, .f32⟩
  | 45 => ⟨S4x16x2x4x128x256, .f32⟩
  | 46 => ⟨S4x16x2x4x128x256, .f32⟩
  | 47 => ⟨S_, .f32⟩
  | 48 => ⟨S4x16x2x4x128, .f32⟩
  | 49 => ⟨S4x16x2x4x128x1, .f32⟩
  | 50 => ⟨S4x16x2x4x128x1, .f32⟩
  | 51 => ⟨S4x16x2x4x128x1, .f32⟩
  | 52 => ⟨S4x16x2x4x128x1, .f32⟩
  | 53 => ⟨S4x16x2x4x128x1, .f32⟩
  | 54 => ⟨S4x16x2x4x128x256, .f32⟩
  | 55 => ⟨S4x16x2x4x128x256, .f32⟩
  | 56 => ⟨S4x16x2x4x128x1, .f32⟩
  | 57 => ⟨S_, .f32⟩
  | 58 => ⟨S4x16x2x4x128x1, .f32⟩
  | 59 => ⟨S4x16x2x4x128x1, .f32⟩
  | 60 => ⟨S4x16x2x64x4x128, .f32⟩
  | 61 => ⟨S4x16x128x2x4x64, .f32⟩
  | 62 => ⟨S4x2048x512, .f32⟩
  | 63 => ⟨S4x16x2x4x128x1, .f32⟩
  | 64 => ⟨S4x16x2x4x128x1, .f32⟩
  | 65 => ⟨S4x16x128x2x4x64, .f32⟩
  | 66 => ⟨S4x16x2x64x4x128, .f32⟩
  | 67 => ⟨S4x16x2x4x128x256, .f32⟩
  | 68 => ⟨S4x16x2x64x256, .f32⟩
  | 69 => ⟨S4x16x256x2x64, .f32⟩
  | 70 => ⟨S4x16x2x4x128x256, .f32⟩
  | 71 => ⟨S4x16x2x4x128x256, .f32⟩
  | 72 => ⟨S4x16x2x4x128x256, .f32⟩
  | 73 => ⟨S_, .f32⟩
  | 74 => ⟨S4x16x2x4x128, .f32⟩
  | 75 => ⟨S4x16x2x4x128x1, .f32⟩
  | 76 => ⟨S4x16x2x4x128x1, .f32⟩
  | 77 => ⟨S4x16x2x4x128x256, .f32⟩
  | 78 => ⟨S4x16x2x4x128x256, .f32⟩
  | 79 => ⟨S4x16x2x4x128x1, .f32⟩
  | 80 => ⟨S_, .f32⟩
  | 81 => ⟨S2x4x1, .f32⟩
  | 82 => ⟨S1x1x2x4x1x1, .f32⟩
  | 83 => ⟨S4x16x2x4x128x1, .f32⟩
  | 84 => ⟨S_, .f32⟩
  | 85 => ⟨S4x16x2x4x128, .f32⟩
  | 86 => ⟨S4x16x2x4x128x256, .f32⟩
  | 87 => ⟨S4x16x2x4x128x256, .f32⟩
  | 88 => ⟨S4x16x2x4x128x256, .f32⟩
  | 89 => ⟨S4x16x2x4x128x256, .f32⟩
  | 90 => ⟨S_, .f32⟩
  | 91 => ⟨S4x16x2x4x128, .f32⟩
  | 92 => ⟨S4x16x2x4x128x1, .f32⟩
  | 93 => ⟨S4x16x2x4x128x1, .f32⟩
  | 94 => ⟨S4x16x2x4x128x1, .f32⟩
  | 95 => ⟨S_, .f32⟩
  | 96 => ⟨S2x4x1, .f32⟩
  | 97 => ⟨S1x1x2x4x1x1, .f32⟩
  | 98 => ⟨S1x1x2x4x1x1, .f32⟩
  | 99 => ⟨S4x16x2x4x128x1, .f32⟩
  | 100 => ⟨S_, .f32⟩
  | 101 => ⟨S4x16x2x4x128, .f32⟩
  | 102 => ⟨S4x16x2x4x128, .f32⟩
  | 103 => ⟨S4x16x2x4x128x256, .f32⟩
  | 104 => ⟨S4x16x2x4x128x256, .f32⟩
  | 105 => ⟨S4x16x2x4x128x256, .f32⟩
  | 106 => ⟨S_, .f32⟩
  | 107 => ⟨S2x4, .f32⟩
  | 108 => ⟨S8, .f32⟩
  | 109 => ⟨S_, .f32⟩
  | 110 => ⟨S4x16x2x4x128x256, .f32⟩
  | 111 => ⟨S4x16x2x4x128x256, .f32⟩
  | 112 => ⟨S_, .f32⟩
  | 113 => ⟨S4x16x2x4x128x256, .f32⟩
  | 114 => ⟨S4x16x2x4x128x256, .f32⟩
  | 115 => ⟨S4x16x2x256x128x4, .f32⟩
  | 116 => ⟨S4x16x2x128x4x64, .f32⟩
  | 117 => ⟨S4x16x128x2x4x64, .f32⟩
  | 118 => ⟨S4x16x2x256x64, .f32⟩
  | 119 => ⟨S4x16x256x2x64, .f32⟩
  | 120 => ⟨S4x16x128x2x64, .f32⟩
  | 121 => ⟨S4x16x128x2x64, .f32⟩
  | 122 => ⟨S4x1x128x2x64, .f32⟩
  | 123 => ⟨S4x15x128x2x64, .f32⟩
  | 124 => ⟨S_, .f32⟩
  | 125 => ⟨S4x16x128x2x64, .f32⟩
  | 126 => ⟨S4x16x128x2x64, .f32⟩
  | 127 => ⟨S4x16x128x2x64, .f32⟩
  | _ => ⟨S4x2048x8x64, .f32⟩

abbrev hbmTy0_2 (i : Nat) : BufTy := match i % 128 with
  | 0 => ⟨S4x16x128x2x64, .f32⟩
  | 1 => ⟨S4x1x128x2x64, .f32⟩
  | 2 => ⟨S4x15x128x2x64, .f32⟩
  | 3 => ⟨S_, .f32⟩
  | 4 => ⟨S4x16x128x2x64, .f32⟩
  | 5 => ⟨S4x16x128x2x64, .f32⟩
  | 6 => ⟨S4x2048x2x64, .f32⟩
  | 7 => ⟨S4x2048x2x64, .f32⟩
  | 8 => ⟨S4x2048x8x64, .f32⟩
  | 9 => ⟨S1x8, .f32⟩
  | 10 => ⟨S4x2048x2x32, .f32⟩
  | 11 => ⟨S4x2048x2x32, .f32⟩
  | 12 => ⟨S4x2048x2x32, .f32⟩
  | 13 => ⟨S4x2048x2x32, .f32⟩
  | 14 => ⟨S4x2048x2x32, .f32⟩
  | 15 => ⟨S4x2048x2x32, .f32⟩
  | 16 => ⟨S4x2048x2x32, .f32⟩
  | 17 => ⟨S4x2048x2x32, .f32⟩
  | 18 => ⟨S4x2048x2x32, .f32⟩
  | 19 => ⟨S4x2048x2x32, .f32⟩
  | 20 => ⟨S4x2048x2x32, .f32⟩
  | 21 => ⟨S4x2048x2x32, .f32⟩
  | 22 => ⟨S4x2048x2x32, .f32⟩
  | 23 => ⟨S_, .f32⟩
  | 24 => ⟨S4x2048x2x64, .f32⟩
  | 25 => ⟨S_, .f32⟩
  | 26 => ⟨S4x2048x2x64, .f32⟩
  | 27 => ⟨S4x2048x2x64, .f32⟩
  | 28 => ⟨S4x2048x8x32, .f32⟩
  | 29 => ⟨S4x2048x8x32, .f32⟩
  | 30 => ⟨S4x2048x8x32, .f32⟩
  | 31 => ⟨S4x2048x8x32, .f32⟩
  | 32 => ⟨S4x2048x8x32, .f32⟩
  | 33 => ⟨S4x2048x8x32, .f32⟩
  | 34 => ⟨S4x2048x8x32, .f32⟩
  | 35 => ⟨S4x2048x8x32, .f32⟩
  | 36 => ⟨S4x2048x8x32, .f32⟩
  | 37 => ⟨S4x2048x8x32, .f32⟩
  | 38 => ⟨S4x2048x8x32, .f32⟩
  | 39 => ⟨S4x2048x8x32, .f32⟩
  | 40 => ⟨S4x2048x8x32, .f32⟩
  | 41 => ⟨S_, .f32⟩
  | 42 => ⟨S4x2048x8x64, .f32⟩
  | 43 => ⟨S_, .f32⟩
  | 44 => ⟨S4x2048x8x64, .f32⟩
  | 45 => ⟨S4x2048x8x64, .f32⟩
  | 46 => ⟨S8192x512, .f32⟩
  | 47 => ⟨S8192x128, .f32⟩
  | 48 => ⟨S8192x128, .f32⟩
  | 49 => ⟨S8192x768, .f32⟩
  | 50 => ⟨S8192x768, .bf16⟩
  | 51 => ⟨S_, .i32⟩
  | 52 => ⟨S_, .f32⟩
  | 53 => ⟨S8x128, .f32⟩
  | _ => ⟨S4x2048x8x64, .f32⟩

abbrev hbmTy (i : Nat) : BufTy := match i / 128 with
  | 0 => hbmTy0_0 i
  | 1 => hbmTy0_1 i
  | 2 => hbmTy0_2 i
  | _ => ⟨S4x2048x8x64, .f32⟩

abbrev bufTy : (tb : Table) → Fin (tcTables nBuf tb) → BufTy
  | .hbm, ⟨i, _⟩ => hbmTy i
  | _, _ => ⟨S4x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_3 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_4 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_5 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_7 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_c : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_c_8 : Ref sig .tc := ⟨.hbm, 105, rfl⟩
abbrev main_v90 : Ref sig .tc := ⟨.hbm, 106, rfl⟩
abbrev main_v91 : Ref sig .tc := ⟨.hbm, 107, rfl⟩
abbrev main_c_9 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_c_10 : Ref sig .tc := ⟨.hbm, 114, rfl⟩
abbrev main_v97 : Ref sig .tc := ⟨.hbm, 115, rfl⟩
abbrev main_v98 : Ref sig .tc := ⟨.hbm, 116, rfl⟩
abbrev main_c_11 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_c_12 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_13 : Ref sig .tc := ⟨.hbm, 128, rfl⟩
abbrev main_call0_v0 : Ref sig .tc := ⟨.hbm, 129, rfl⟩
abbrev main_v108_1 : Ref sig .tc := ⟨.hbm, 130, rfl⟩
abbrev main_call0_v2 : Ref sig .tc := ⟨.hbm, 131, rfl⟩
abbrev main_v108_0 : Ref sig .tc := ⟨.hbm, 132, rfl⟩
abbrev main_call0_cst : Ref sig .tc := ⟨.hbm, 133, rfl⟩
abbrev main_v108_2 : Ref sig .tc := ⟨.hbm, 134, rfl⟩
abbrev main_v109 : Ref sig .tc := ⟨.hbm, 135, rfl⟩
abbrev main_v110 : Ref sig .tc := ⟨.hbm, 136, rfl⟩
abbrev main_cst_14 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_15 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_16 : Ref sig .tc := ⟨.hbm, 152, rfl⟩
abbrev main_v124 : Ref sig .tc := ⟨.hbm, 153, rfl⟩
abbrev main_cst_17 : Ref sig .tc := ⟨.hbm, 154, rfl⟩
abbrev main_v125 : Ref sig .tc := ⟨.hbm, 155, rfl⟩
abbrev main_cst_18 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_19 : Ref sig .tc := ⟨.hbm, 164, rfl⟩
abbrev main_v133 : Ref sig .tc := ⟨.hbm, 165, rfl⟩
abbrev main_cst_20 : Ref sig .tc := ⟨.hbm, 166, rfl⟩
abbrev main_v134 : Ref sig .tc := ⟨.hbm, 167, rfl⟩
abbrev main_cst_21 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_22 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_23 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_24 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_cst_25 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_cst_26 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_cst_27 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_cst_28 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_29 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_cst_30 : Ref sig .tc := ⟨.hbm, 234, rfl⟩
abbrev main_v192 : Ref sig .tc := ⟨.hbm, 235, rfl⟩
abbrev main_v193 : Ref sig .tc := ⟨.hbm, 236, rfl⟩
abbrev main_call1_cst : Ref sig .tc := ⟨.hbm, 237, rfl⟩
abbrev main_call1_v0 : Ref sig .tc := ⟨.hbm, 238, rfl⟩
abbrev main_v194 : Ref sig .tc := ⟨.hbm, 239, rfl⟩
abbrev main_cst_31 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_cst_32 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_cst_33 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_cst_34 : Ref sig .tc := ⟨.hbm, 279, rfl⟩
abbrev main_v231 : Ref sig .tc := ⟨.hbm, 280, rfl⟩
abbrev main_cst_35 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_cst_36 : Ref sig .tc := ⟨.hbm, 297, rfl⟩
abbrev main_v247 : Ref sig .tc := ⟨.hbm, 298, rfl⟩
abbrev main_cst_37 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_c_38 : Ref sig .tc := ⟨.hbm, 307, rfl⟩
abbrev main_call2_v0 : Ref sig .tc := ⟨.hbm, 308, rfl⟩
abbrev main_v255 : Ref sig .tc := ⟨.hbm, 309, rfl⟩

abbrev nD : Nat := 1
abbrev τ : Topo := Topo.v7x

variable {F : FTy → Type} [FloatOps F]
-- ==== Kernel7.lean ====
abbrev S4x2048x512 : Shape := ⟨3, ![4, 2048, 512]⟩
abbrev S4x128x128 : Shape := ⟨3, ![4, 128, 128]⟩
abbrev S1x512 : Shape := ⟨2, ![1, 512]⟩
abbrev S8192x512 : Shape := ⟨2, ![8192, 512]⟩
abbrev S2048x512 : Shape := ⟨2, ![2048, 512]⟩
abbrev S2048x128 : Shape := ⟨2, ![2048, 128]⟩
abbrev S2048x1 : Shape := ⟨2, ![2048, 1]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S4x128x128, .f32⟩
  | .hbm, ⟨2, _⟩ => ⟨S1x512, .f32⟩
  | .hbm, ⟨3, _⟩ => ⟨S8192x512, .f32⟩
  | .hbm, ⟨4, _⟩ => ⟨S8192x512, .bf16⟩
  | .hbm, ⟨5, _⟩ => ⟨S8192x512, .bf16⟩
  | .local _ .vmem, ⟨0, _⟩ => ⟨S2048x512, .bf16⟩
  | .local _ .vmem, ⟨1, _⟩ => ⟨S2048x512, .bf16⟩
  | .local _ .vmem, ⟨2, _⟩ => ⟨S4x128x128, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x2048x512 : Shape := ⟨3, ![4, 2048, 512]⟩
abbrev S4x128x128 : Shape := ⟨3, ![4, 128, 128]⟩
abbrev S1x512 : Shape := ⟨2, ![1, 512]⟩
abbrev S512 : Shape := ⟨1, ![512]⟩
abbrev S4x2048x4x128 : Shape := ⟨4, ![4, 2048, 4, 128]⟩
abbrev S_ : Shape := ⟨0, ![]⟩
abbrev S4x1x4x128 : Shape := ⟨4, ![4, 1, 4, 128]⟩
abbrev S4x2049x4x128 : Shape := ⟨4, ![4, 2049, 4, 128]⟩
abbrev S2048 : Shape := ⟨1, ![2048]⟩
abbrev S4x2049x1x128 : Shape := ⟨4, ![4, 2049, 1, 128]⟩
abbrev S4x2049x128 : Shape := ⟨3, ![4, 2049, 128]⟩
abbrev S4x1x128 : Shape := ⟨3, ![4, 1, 128]⟩
abbrev S4x2047x128 : Shape := ⟨3, ![4, 2047, 128]⟩
abbrev S4x2048x128 : Shape := ⟨3, ![4, 2048, 128]⟩
abbrev S1x2048x1 : Shape := ⟨3, ![1, 2048, 1]⟩
abbrev S4x3x128 : Shape := ⟨3, ![4, 3, 128]⟩
abbrev S4x2045x128 : Shape := ⟨3, ![4, 2045, 128]⟩
abbrev S4x7x128 : Shape := ⟨3, ![4, 7, 128]⟩
abbrev S4x2041x128 : Shape := ⟨3, ![4, 2041, 128]⟩
abbrev S4x15x128 : Shape := ⟨3, ![4, 15, 128]⟩
abbrev S4x2033x128 : Shape := ⟨3, ![4, 2033, 128]⟩
abbrev S4x2048x1x128 : Shape := ⟨4, ![4, 2048, 1, 128]⟩
abbrev S4x128x4x2048 : Shape := ⟨4, ![4, 128, 4, 2048]⟩
abbrev S1x1x512 : Shape := ⟨3, ![1, 1, 512]⟩
abbrev S8192x512 : Shape := ⟨2, ![8192, 512]⟩

abbrev nBuf : Space → Nat
  | .hbm => 98
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x128x128, .f32⟩
  | .hbm, ⟨2, _⟩ => ⟨S1x512, .f32⟩
  | .hbm, ⟨3, _⟩ => ⟨S512, .f32⟩
  | .hbm, ⟨4, _⟩ => ⟨S4x2048x4x128, .f32⟩
  | .hbm, ⟨5, _⟩ => ⟨S_, .f32⟩
  | .hbm, ⟨6, _⟩ => ⟨S4x1x4x128, .f32⟩
  | .hbm, ⟨7, _⟩ => ⟨S_, .f32⟩
  | .hbm, ⟨8, _⟩ => ⟨S_, .f32⟩
  | .hbm, ⟨9, _⟩ => ⟨S4x2048x4x128, .f32⟩
  | .hbm, ⟨10, _⟩ => ⟨S4x2049x4x128, .f32⟩
  | .hbm, ⟨11, _⟩ => ⟨S2048, .i32⟩
  | .hbm, ⟨12, _⟩ => ⟨S4x2049x1x128, .f32⟩
  | .hbm, ⟨13, _⟩ => ⟨S4x2049x128, .f32⟩
  | .hbm, ⟨14, _⟩ => ⟨S_, .f32⟩
  | .hbm, ⟨15, _⟩ => ⟨S4x1x128, .f32⟩
  | .hbm, ⟨16, _⟩ => ⟨S4x2047x128, .f32⟩
  | .hbm, ⟨17, _⟩ => ⟨S4x2048x128, .f32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .f32⟩
  | .hbm, ⟨25, _⟩ => ⟨S1x2048x1, .f32⟩
  | .hbm, ⟨26, _⟩ => ⟨S4x2048x128, .f32⟩
  | .hbm, ⟨27, _⟩ => ⟨S4x2048x128, .f32⟩
  | .hbm, ⟨28, _⟩ => ⟨S4x2048x128, .f32⟩
  | .hbm, ⟨29, _⟩ => ⟨S4x2048x128, .f32⟩
  | .hbm, ⟨30, _⟩ => ⟨S4x2049x1x128, .f32⟩
  | .hbm, ⟨31, _⟩ => ⟨S4x2049x128, .f32⟩
  | .hbm, ⟨32, _⟩ => ⟨S_, .f32⟩
  | .hbm, ⟨33, _⟩ => ⟨S4x3x128, .f32⟩
  | .hbm, ⟨34, _⟩ => ⟨S4x2045x128, .f32⟩
  | .hbm, ⟨35, _⟩ => ⟨S4x2048x128, .f32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .f32⟩
  | .hbm, ⟨43, _⟩ => ⟨S1x2048x1, .f32⟩
  | .hbm, ⟨44, _⟩ => ⟨S4x2048x128, .f32⟩
  | .hbm, ⟨45, _⟩ => ⟨S4x2048x128, .f32⟩
  | .hbm, ⟨46, _⟩ => ⟨S4x2048x128, .f32⟩
  | .hbm, ⟨47, _⟩ => ⟨S4x2048x128, .f32⟩
  | .hbm, ⟨48, _⟩ => ⟨S4x2049x1x128, .f32⟩
  | .hbm, ⟨49, _⟩ => ⟨S4x2049x128, .f32⟩
  | .hbm, ⟨50, _⟩ => ⟨S_, .f32⟩
  | .hbm, ⟨51, _⟩ => ⟨S4x7x128, .f32⟩
  | .hbm, ⟨52, _⟩ => ⟨S4x2041x128, .f32⟩
  | .hbm, ⟨53, _⟩ => ⟨S4x2048x128, .f32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .f32⟩
  | .hbm, ⟨61, _⟩ => ⟨S1x2048x1, .f32⟩
  | .hbm, ⟨62, _⟩ => ⟨S4x2048x128, .f32⟩
  | .hbm, ⟨63, _⟩ => ⟨S4x2048x128, .f32⟩
  | .hbm, ⟨64, _⟩ => ⟨S4x2048x128, .f32⟩
  | .hbm, ⟨65, _⟩ => ⟨S4x2048x128, .f32⟩
  | .hbm, ⟨66, _⟩ => ⟨S4x2049x1x128, .f32⟩
  | .hbm, ⟨67, _⟩ => ⟨S4x2049x128, .f32⟩
  | .hbm, ⟨68, _⟩ => ⟨S_, .f32⟩
  | .hbm, ⟨69, _⟩ => ⟨S4x15x128, .f32⟩
  | .hbm, ⟨70, _⟩ => ⟨S4x2033x128, .f32⟩
  | .hbm, ⟨71, _⟩ => ⟨S4x2048x128, .f32⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S2048, .f32⟩
  | .hbm, ⟨79, _⟩ => ⟨S1x2048x1, .f32⟩
  | .hbm, ⟨80, _⟩ => ⟨S4x2048x128, .f32⟩
  | .hbm, ⟨81, _⟩ => ⟨S4x2048x128, .f32⟩
  | .hbm, ⟨82, _⟩ => ⟨S4x2048x128, .f32⟩
  | .hbm, ⟨83, _⟩ => ⟨S4x2048x128, .f32⟩
  | .hbm, ⟨84, _⟩ => ⟨S4x2048x1x128, .f32⟩
  | .hbm, ⟨85, _⟩ => ⟨S4x2048x1x128, .f32⟩
  | .hbm, ⟨86, _⟩ => ⟨S4x2048x1x128, .f32⟩
  | .hbm, ⟨87, _⟩ => ⟨S4x2048x1x128, .f32⟩
  | .hbm, ⟨88, _⟩ => ⟨S4x2048x4x128, .f32⟩
  | .hbm, ⟨89, _⟩ => ⟨S4x2048x4x128, .f32⟩
  | .hbm, ⟨90, _⟩ => ⟨S4x128x4x2048, .f32⟩
  | .hbm, ⟨91, _⟩ => ⟨S4x2048x4x128, .f32⟩
  | .hbm, ⟨92, _⟩ => ⟨S4x2048x512, .f32⟩
  | .hbm, ⟨93, _⟩ => ⟨S1x1x512, .f32⟩
  | .hbm, ⟨94, _⟩ => ⟨S4x2048x512, .f32⟩
  | .hbm, ⟨95, _⟩ => ⟨S4x2048x512, .f32⟩
  | .hbm, ⟨96, _⟩ => ⟨S8192x512, .f32⟩
  | .hbm, ⟨97, _⟩ => ⟨S8192x512, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_6 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_9 : Ref sig .tc := ⟨.hbm, 72, rfl⟩
abbrev main_v56 : Ref sig .tc := ⟨.hbm, 73, rfl⟩
abbrev main_v57 : Ref sig .tc := ⟨.hbm, 74, rfl⟩
abbrev main_c_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== Kernel8.lean ====
abbrev S4x2048x1024 : Shape := ⟨3, ![4, 2048, 1024]⟩
abbrev S1x1024 : Shape := ⟨2, ![1, 1024]⟩
abbrev S1024x1280 : Shape := ⟨2, ![1024, 1280]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8192x1024 : Shape := ⟨2, ![8192, 1024]⟩
abbrev S1280x1024 : Shape := ⟨2, ![1280, 1024]⟩
abbrev S8192x512 : Shape := ⟨2, ![8192, 512]⟩
abbrev S8192x128 : Shape := ⟨2, ![8192, 128]⟩
abbrev S1024x1024 : Shape := ⟨2, ![1024, 1024]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 31
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x1280, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2048, .i32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S8192x1024, .f32⟩
  | .hbm, ⟨25, _⟩ => ⟨S1280x1024, .f32⟩
  | .hbm, ⟨26, _⟩ => ⟨S1280x1024, .bf16⟩
  | .hbm, ⟨27, _⟩ => ⟨S8192x512, .bf16⟩
  | .hbm, ⟨28, _⟩ => ⟨S8192x128, .bf16⟩
  | .hbm, ⟨29, _⟩ => ⟨S8192x128, .bf16⟩
  | .hbm, ⟨30, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1280x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x512, .bf16⟩
  | .local _ .vmem, ⟨15, _⟩ => ⟨S1024x512, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev main_v22_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4x2048x1024 : Shape := ⟨3, ![4, 2048, 1024]⟩
abbrev S1x1024 : Shape := ⟨2, ![1, 1024]⟩
abbrev S1024x1280 : Shape := ⟨2, ![1024, 1280]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x1280 : Shape := ⟨3, ![4, 2048, 1280]⟩
abbrev S4x2048x512 : Shape := ⟨3, ![4, 2048, 512]⟩
abbrev S4x2048x8x64 : Shape := ⟨4, ![4, 2048, 8, 64]⟩
abbrev S4x2048x128 : Shape := ⟨3, ![4, 2048, 128]⟩
abbrev S4x2048x2x64 : Shape := ⟨4, ![4, 2048, 2, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x8x32 : Shape := ⟨4, ![4, 2048, 8, 32]⟩
abbrev S4x2048x2x32 : Shape := ⟨4, ![4, 2048, 2, 32]⟩
abbrev S8192x512 : Shape := ⟨2, ![8192, 512]⟩
abbrev S8192x128 : Shape := ⟨2, ![8192, 128]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x1280, .f32⟩
  | .hbm, ⟨3, _⟩ => ⟨S1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x1280, .f32⟩
  | .hbm, ⟨21, _⟩ => ⟨S4x2048x512, .f32⟩
  | .hbm, ⟨22, _⟩ => ⟨S4x2048x8x64, .f32⟩
  | .hbm, ⟨23, _⟩ => ⟨S4x2048x128, .f32⟩
  | .hbm, ⟨24, _⟩ => ⟨S4x2048x2x64, .f32⟩
  | .hbm, ⟨25, _⟩ => ⟨S4x2048x128, .f32⟩
  | .hbm, ⟨26, _⟩ => ⟨S4x2048x512, .f32⟩
  | .hbm, ⟨27, _⟩ => ⟨S2048, .i32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S2048, .f32⟩
  | .hbm, ⟨37, _⟩ => ⟨S2048x1, .f32⟩
  | .hbm, ⟨38, _⟩ => ⟨S1x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S1x2048x1x32, .f32⟩
  | .hbm, ⟨44, _⟩ => ⟨S2048x32, .f32⟩
  | .hbm, ⟨45, _⟩ => ⟨S1x2048x1x32, .f32⟩
  | .hbm, ⟨46, _⟩ => ⟨S4x2048x8x32, .f32⟩
  | .hbm, ⟨47, _⟩ => ⟨S4x2048x8x32, .f32⟩
  | .hbm, ⟨48, _⟩ => ⟨S4x2048x8x32, .f32⟩
  | .hbm, ⟨49, _⟩ => ⟨S4x2048x8x32, .f32⟩
  | .hbm, ⟨50, _⟩ => ⟨S4x2048x8x32, .f32⟩
  | .hbm, ⟨51, _⟩ => ⟨S4x2048x8x32, .f32⟩
  | .hbm, ⟨52, _⟩ => ⟨S4x2048x8x32, .f32⟩
  | .hbm, ⟨53, _⟩ => ⟨S4x2048x8x32, .f32⟩
  | .hbm, ⟨54, _⟩ => ⟨S4x2048x8x32, .f32⟩
  | .hbm, ⟨55, _⟩ => ⟨S4x2048x8x32, .f32⟩
  | .hbm, ⟨56, _⟩ => ⟨S4x2048x8x32, .f32⟩
  | .hbm, ⟨57, _⟩ => ⟨S4x2048x8x32, .f32⟩
  | .hbm, ⟨58, _⟩ => ⟨S4x2048x8x64, .f32⟩
  | .hbm, ⟨59, _⟩ => ⟨S_, .f32⟩
  | .hbm, ⟨60, _⟩ => ⟨S4x2048x8x64, .f32⟩
  | .hbm, ⟨61, _⟩ => ⟨S4x2048x8x64, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S2048, .f32⟩
  | .hbm, ⟨71, _⟩ => ⟨S2048x1, .f32⟩
  | .hbm, ⟨72, _⟩ => ⟨S1x32, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S1x2048x1x32, .f32⟩
  | .hbm, ⟨78, _⟩ => ⟨S2048x32, .f32⟩
  | .hbm, ⟨79, _⟩ => ⟨S1x2048x1x32, .f32⟩
  | .hbm, ⟨80, _⟩ => ⟨S4x2048x2x32, .f32⟩
  | .hbm, ⟨81, _⟩ => ⟨S4x2048x2x32, .f32⟩
  | .hbm, ⟨82, _⟩ => ⟨S4x2048x2x32, .f32⟩
  | .hbm, ⟨83, _⟩ => ⟨S4x2048x2x32, .f32⟩
  | .hbm, ⟨84, _⟩ => ⟨S4x2048x2x32, .f32⟩
  | .hbm, ⟨85, _⟩ => ⟨S4x2048x2x32, .f32⟩
  | .hbm, ⟨86, _⟩ => ⟨S4x2048x2x32, .f32⟩
  | .hbm, ⟨87, _⟩ => ⟨S4x2048x2x32, .f32⟩
  | .hbm, ⟨88, _⟩ => ⟨S4x2048x2x32, .f32⟩
  | .hbm, ⟨89, _⟩ => ⟨S4x2048x2x32, .f32⟩
  | .hbm, ⟨90, _⟩ => ⟨S4x2048x2x32, .f32⟩
  | .hbm, ⟨91, _⟩ => ⟨S4x2048x2x32, .f32⟩
  | .hbm, ⟨92, _⟩ => ⟨S4x2048x2x64, .f32⟩
  | .hbm, ⟨93, _⟩ => ⟨S8192x512, .f32⟩
  | .hbm, ⟨94, _⟩ => ⟨S8192x512, .bf16⟩
  | .hbm, ⟨95, _⟩ => ⟨S8192x128, .f32⟩
  | .hbm, ⟨96, _⟩ => ⟨S8192x128, .bf16⟩
  | .hbm, ⟨97, _⟩ => ⟨S8192x128, .f32⟩
  | .hbm, ⟨98, _⟩ => ⟨S8192x128, .bf16⟩
  | .hbm, ⟨99, _⟩ => ⟨S8192x512, .f32⟩
  | .hbm, ⟨100, _⟩ => ⟨S8192x512, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩

abbrev nD : Nat := 1
abbrev τ : Topo := Topo.v7x

variable {F : FTy → Type} [FloatOps F]
-- ==== Proof.Window.lean ====
/-
  Sums over a sliding window, over the reals: the running sum's differences the reference takes, and the doubling by
  shifts the kernel takes, are the same window sum; and both are read forward in time for the gradient.
-/
module

public import Mathlib.Data.EReal.Operations
public import Mathlib.Algebra.BigOperators.Intervals
public import Mathlib.Algebra.BigOperators.Fin
public import Mathlib.Tactic.Ring
public import Mathlib.Tactic.Linarith

@[expose] public section

noncomputable section

namespace Cert.Proof

open Finset

/-- The sum of the first `n` values. -/
def pre (f : ℕ → ℝ) (n : ℕ) : ℝ := ∑ s ∈ range n, f s

/-- The sum of the `w` values ending at `t` (fewer near the start). -/
def win (w : ℕ) (f : ℕ → ℝ) (t : ℕ) : ℝ := ∑ j ∈ range w, if j ≤ t then f (t - j) else 0

/-- The sum of the `w` values starting at `t`. -/
def fwin (w : ℕ) (f : ℕ → ℝ) (t : ℕ) : ℝ := ∑ j ∈ range w, f (t + j)

theorem win_one (f : ℕ → ℝ) (t : ℕ) : win 1 f t = f t := by simp [win]

theorem fwin_one (f : ℕ → ℝ) (t : ℕ) : fwin 1 f t = f t := by simp [fwin]

/-- A window of twice the width is the window and the same window shifted. -/
theorem win_double (k : ℕ) (f : ℕ → ℝ) (t : ℕ) :
    win (k + k) f t = win k f t + if k ≤ t then win k f (t - k) else 0 := by
  unfold win
  rw [sum_range_add]
  congr 1
  split_ifs with h
  · refine sum_congr rfl fun j _ => ?_
    by_cases hj : k + j ≤ t
    · rw [if_pos hj, if_pos (by omega), Nat.sub_sub]
    · rw [if_neg hj, if_neg (by omega)]
  · exact sum_eq_zero fun j _ => if_neg (by omega)

theorem fwin_double (k : ℕ) (f : ℕ → ℝ) (t : ℕ) : fwin (k + k) f t = fwin k f t + fwin k f (t + k) := by
  unfold fwin
  rw [sum_range_add]
  congr 1
  exact sum_congr rfl fun j _ => by rw [Nat.add_assoc]

/-- The window sum as a difference of running sums. -/
theorem win_eq_pre (w : ℕ) (f : ℕ → ℝ) (t : ℕ) : win w f t = pre f (t + 1) - pre f (t + 1 - w) := by
  induction w with
  | zero => simp [win]
  | succ w ih =>
    have e : win (w + 1) f t = win w f t + if w ≤ t then f (t - w) else 0 := by unfold win; rw [sum_range_succ]
    rw [e, ih]
    by_cases h : w ≤ t
    · rw [if_pos h, show t + 1 - w = (t - w) + 1 by omega, show t + 1 - (w + 1) = t - w by omega]
      unfold pre
      rw [sum_range_succ (fun s => f s) (t - w)]
      ring
    · rw [if_neg h, show t + 1 - w = 0 by omega, show t + 1 - (w + 1) = 0 by omega]
      ring

/-- Summing `f s - f (s + w)` forward from `t` leaves the window starting at `t`, when `f` vanishes from `S` on. -/
theorem fwin_eq_tail (w S : ℕ) (f : ℕ → ℝ) (hf : ∀ s, S ≤ s → f s = 0) (t : ℕ) :
    ∑ n ∈ range S, (f (t + n) - f (t + n + w)) = fwin w f t := by
  have h1 := sum_range_add (fun n => f (t + n)) S w
  have h2 := sum_range_add (fun n => f (t + n)) w S
  have h3 : ∑ j ∈ range w, f (t + (S + j)) = 0 := sum_eq_zero fun j _ => hf _ (by omega)
  have h4 : ∑ n ∈ range S, f (t + (w + n)) = ∑ n ∈ range S, f (t + n + w) :=
    sum_congr rfl fun n _ => by rw [show t + (w + n) = t + n + w by omega]
  rw [Nat.add_comm S w] at h1
  rw [sum_sub_distrib, ← h4]
  unfold fwin
  linarith

/-- A finite sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

end Cert.Proof

end
-- ==== Proof.RunningSum.lean ====
/-
  The reference's running sums over time, forward and backward, of an array of real numbers.
-/
module

public import proofs.«01_k».proof.Proof.Window
public import proofs.«01_k».proof.Proof.Gen.ReferenceIdeal.Read
public import Idealize.ShloMosaic.Lib.Pointwise

@[expose] public section

set_option maxRecDepth 16384

noncomputable section

namespace Cert.Proof

open Idealize.ShloMosaic Idealize.ShloMosaic.TcCoe Cert.ReferenceIdeal Cert.ReferenceIdeal.Gen Idealize.SL.Sem

/-- A fold of additions is the sum. -/
theorem foldl_add_eq {N : ℕ} (g : Fin N → EReal) (v : EReal) :
    (List.finRange N).foldl (fun r n => r + g n) v = v + ∑ n : Fin N, g n := by
  rw [← List.sum_ofFn, List.ofFn_eq_map]
  generalize List.finRange N = l
  induction l generalizing v with
  | nil => simp
  | cons a l ih => rw [List.foldl_cons, ih, List.map_cons, List.sum_cons, add_assoc]

/-- A window's position is the place in time. -/
def winEquiv : (⟨4, ![1, 2048, 1, 1]⟩ : Shape).Idx ≃ Fin 2048 where
  toFun i := i 1
  invFun k := ix4 (0 : Fin 1) k (0 : Fin 1) (0 : Fin 1)
  left_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv k := rfl

theorem winEquiv_at (k : Fin 2048) :
    (winEquiv.symm k 0).val = 0 ∧ (winEquiv.symm k 1).val = k.val ∧ (winEquiv.symm k 2).val = 0 ∧ (winEquiv.symm k 3).val = 0 :=
  ⟨rfl, rfl, rfl, rfl⟩

/-- A window sum over time as a sum over the window's places, `lo` of them before the first time. -/
theorem window_at (lo hi : ℕ) (x : FVec Ideal S4x2048x4x128 .f32) (f : Fin 4 → ℕ → Fin 4 → Fin 128 → ℝ)
    (hx : ∀ b (t : Fin 2048) g c, x (ix4 b t g c) = ((f b t.val g c : ℝ) : EReal))
    (h : S4x2048x4x128.ReduceWindows (![1, 2048, 1, 1] : Fin 4 → ℕ) ![1, 1, 1, 1] ![0, lo, 0, 0] ![0, hi, 0, 0] S4x2048x4x128)
    (b : Fin 4) (t : Fin 2048) (g : Fin 4) (c : Fin 128) :
    Ideal.hostReduceWindowAdd ![1, 2048, 1, 1] ![1, 1, 1, 1] ![0, lo, 0, 0] ![0, hi, 0, 0] h x 0 (ix4 b t g c)
      = ((∑ n ∈ Finset.range 2048, (if lo ≤ t.val + n ∧ t.val + n - lo < 2048 then f b (t.val + n - lo) g c else 0) : ℝ) : EReal) := by
  unfold Ideal.hostReduceWindowAdd Host.reduceWindow
  dsimp only
  rw [foldl_add_eq, zero_add]
  have e := Equiv.sum_comp ((⟨4, ![1, 2048, 1, 1]⟩ : Shape).rowMajor.symm.trans winEquiv)
    (fun n : Fin 2048 => ((if lo ≤ t.val + n.val ∧ t.val + n.val - lo < 2048 then f b (t.val + n.val - lo) g c else 0 : ℝ) : EReal))
  rw [← Fin.sum_univ_eq_sum_range (fun n => (if lo ≤ t.val + n ∧ t.val + n - lo < 2048 then f b (t.val + n - lo) g c else 0 : ℝ)) 2048,
    coe_sum, ← e]
  refine Finset.sum_congr rfl fun n _ => ?_
  have hk := (winEquiv_at (winEquiv ((⟨4, ![1, 2048, 1, 1]⟩ : Shape).rowMajor.symm n)))
  rw [Equiv.symm_apply_apply] at hk
  obtain ⟨h0, h1, h2, h3⟩ := hk
  rw [Equiv.trans_apply]
  generalize (winEquiv ((⟨4, ![1, 2048, 1, 1]⟩ : Shape).rowMajor.symm n)) = k at h1 ⊢
  split
  · next hin =>
    have ht := hin 1
    change lo ≤ t.val * 1 + ((⟨4, ![1, 2048, 1, 1]⟩ : Shape).rowMajor.symm n 1).val ∧ t.val * 1 + ((⟨4, ![1, 2048, 1, 1]⟩ : Shape).rowMajor.symm n 1).val - lo < 2048 at ht
    rw [h1, Nat.mul_one] at ht
    rw [if_pos ht, ← hx b ⟨t.val + k.val - lo, ht.2⟩ g c]
    refine congrArg x (funext fun a => Fin.ext ?_)
    match a with
    | ⟨0, _⟩ => show b.val * 1 + ((⟨4, ![1, 2048, 1, 1]⟩ : Shape).rowMajor.symm n 0).val - 0 = b.val; omega
    | ⟨1, _⟩ => show t.val * 1 + ((⟨4, ![1, 2048, 1, 1]⟩ : Shape).rowMajor.symm n 1).val - lo = t.val + k.val - lo; omega
    | ⟨2, _⟩ => show g.val * 1 + ((⟨4, ![1, 2048, 1, 1]⟩ : Shape).rowMajor.symm n 2).val - 0 = g.val; omega
    | ⟨3, _⟩ => show c.val * 1 + ((⟨4, ![1, 2048, 1, 1]⟩ : Shape).rowMajor.symm n 3).val - 0 = c.val; omega
  · next hin =>
    rw [if_neg fun hle => hin fun a => by
      match a with
      | ⟨0, _⟩ => show 0 ≤ b.val * 1 + ((⟨4, ![1, 2048, 1, 1]⟩ : Shape).rowMajor.symm n 0).val ∧ b.val * 1 + ((⟨4, ![1, 2048, 1, 1]⟩ : Shape).rowMajor.symm n 0).val - 0 < 4; omega
      | ⟨1, _⟩ => show lo ≤ t.val * 1 + ((⟨4, ![1, 2048, 1, 1]⟩ : Shape).rowMajor.symm n 1).val ∧ t.val * 1 + ((⟨4, ![1, 2048, 1, 1]⟩ : Shape).rowMajor.symm n 1).val - lo < 2048; omega
      | ⟨2, _⟩ => show 0 ≤ g.val * 1 + ((⟨4, ![1, 2048, 1, 1]⟩ : Shape).rowMajor.symm n 2).val ∧ g.val * 1 + ((⟨4, ![1, 2048, 1, 1]⟩ : Shape).rowMajor.symm n 2).val - 0 < 4; omega
      | ⟨3, _⟩ => show 0 ≤ c.val * 1 + ((⟨4, ![1, 2048, 1, 1]⟩ : Shape).rowMajor.symm n 3).val ∧ c.val * 1 + ((⟨4, ![1, 2048, 1, 1]⟩ : Shape).rowMajor.symm n 3).val - 0 < 128; omega]
    rfl

/-- The same of the program's operation, from an initial value zero. -/
theorem window_host (lo hi : ℕ) (x : FVec Ideal S4x2048x4x128 .f32) (init : FVec Ideal S_ .f32) (hinit : ∀ i, init i = 0)
    (f : Fin 4 → ℕ → Fin 4 → Fin 128 → ℝ) (hx : ∀ b (t : Fin 2048) g c, x (ix4 b t g c) = ((f b t.val g c : ℝ) : EReal))
    (h : S4x2048x4x128.ReduceWindows (![1, 2048, 1, 1] : Fin 4 → ℕ) ![1, 1, 1, 1] ![0, lo, 0, 0] ![0, hi, 0, 0] S4x2048x4x128)
    (hu : 0 < S_.numel) (b : Fin 4) (t : Fin 2048) (g : Fin 4) (c : Fin 128) :
    Host.reduceWindowAdd ![1, 2048, 1, 1] ![1, 1, 1, 1] ![0, lo, 0, 0] ![0, hi, 0, 0] x init h hu (ix4 b t g c)
      = ((∑ n ∈ Finset.range 2048, (if lo ≤ t.val + n ∧ t.val + n - lo < 2048 then f b (t.val + n - lo) g c else 0) : ℝ) : EReal) := by
  rw [← window_at lo hi x f hx h b t g c]
  unfold Host.reduceWindowAdd
  rw [hinit]
  rfl

/-- The places of a window ending at `t`, summed, are the values up to `t`. -/
theorem window_forward (f : ℕ → ℝ) (t : ℕ) (ht : t < 2048) :
    ∑ n ∈ Finset.range 2048, (if 2047 ≤ t + n ∧ t + n - 2047 < 2048 then f (t + n - 2047) else 0) = pre f (t + 1) := by
  unfold pre
  rw [show 2048 = (2047 - t) + (t + 1) by omega, Finset.sum_range_add, Finset.sum_eq_zero, zero_add]
  · refine Finset.sum_congr rfl fun n hn => ?_
    rw [Finset.mem_range] at hn
    rw [if_pos ⟨by omega, by omega⟩]
    congr 1
    omega
  · intro n hn
    rw [Finset.mem_range] at hn
    exact if_neg (by omega)

end Cert.Proof
-- ==== Proof.Pool.lean ====
/-
  One group of channels of the pooling kernel, on one sequence: the kernel's shifted adds are window sums, its counts
  are `min (t + 1) w`, and the products built on them are the products of real numbers the gradient consists of.
-/
module

public import proofs.«01_k».proof.Proof.Window
public import proofs.«01_k».proof.Proof.Gen.KernelIdeal.Skeleton
public import Idealize.ShloMosaic.Lib.Pointwise
public import Idealize.ShloMosaic.Lib.KernelVsHost
public import Idealize.ShloMosaic.Lib.WordCmp

@[expose] public section

set_option maxRecDepth 16384

noncomputable section

namespace Cert.Proof

open Idealize.ShloMosaic Idealize.ShloMosaic.TcCoe Cert.KernelIdeal Cert.KernelIdeal.Gen Idealize.SL.Sem

/-- A sequence of rows holds the real numbers `f`. -/
def Holds {n : ℕ} (x : (⟨2, ![2048, n]⟩ : Shape).Idx → EReal) (f : ℕ → ℕ → ℝ) : Prop :=
  ∀ (t : Fin 2048) (c : Fin n), x (ix2 t c) = ((f t.val c.val : ℝ) : EReal)

/-- How many values the window of width `w` holds at time `t`. -/
def cnt (w t : ℕ) : ℝ := ((min (t + 1) w : ℕ) : ℝ)

theorem cnt_ne {w : ℕ} (hw : 0 < w) (t : ℕ) : cnt w t ≠ 0 := by
  unfold cnt; exact Nat.cast_ne_zero.mpr (by omega)

/-- `x` plus `x` shifted `k` later in time. -/
def lag (k : BitVec 32) (x : FVec Ideal S2048x128 .f32) : FVec Ideal S2048x128 .f32 :=
  addf x (select (cmpi .sge (iota .tc S2048x128 32 [0] iota_S2048x128_d0_w32) (broadcast S2048x128 k))
    (dynamicRotate 0 k none x rotates_S2048x128_d0) (broadcast S2048x128 (Scalar.ofBits .f32 0x00000000#32)))

/-- `x` plus `x` shifted `2048 - k` earlier in time. -/
def lead (k : BitVec 32) (x : FVec Ideal S2048x128 .f32) : FVec Ideal S2048x128 .f32 :=
  addf x (select (cmpi .slt (iota .tc S2048x128 32 [0] iota_S2048x128_d0_w32) (broadcast S2048x128 k))
    (dynamicRotate 0 k none x rotates_S2048x128_d0) (broadcast S2048x128 (Scalar.ofBits .f32 0x00000000#32)))

/-- One over the number of values in the window. -/
def inv (w : BitVec 32) : FVec Ideal S2048x1 .f32 :=
  divf (broadcast S2048x1 (Scalar.ofBits .f32 0x3F800000#32))
    (sitofp .f32 (minsi (addi (iota .tc S2048x1 32 [0] iota_S2048x1_d0_w32) (broadcast S2048x1 1#32)) (broadcast S2048x1 w)))

/-- The window's mean minus the value. -/
def pooled (ks : List (BitVec 32)) (w : BitVec 32) (x : FVec Ideal S2048x128 .f32) : FVec Ideal S2048x128 .f32 :=
  subf (mulf (ks.foldl (fun y k => lag k y) x) (broadcastTo S2048x128 (inv w) broadcasts_S2048x1_S2048x128)) x

/-- The gradient of `pooled`: the same with time reversed. -/
def unpooled (ks : List (BitVec 32)) (w : BitVec 32) (x : FVec Ideal S2048x128 .f32) : FVec Ideal S2048x128 .f32 :=
  subf (ks.foldl (fun y k => lead k y) (mulf x (broadcastTo S2048x128 (inv w) broadcasts_S2048x1_S2048x128))) x

theorem select_sge (t k : ℕ) (ht : t < 2048) (hk : k < 2048) {α : Type} (a b : α) :
    Scalar.select (IntOp.cmpi .sge (BitVec.ofNat 32 t) (BitVec.ofNat 32 k)) a b = if k ≤ t then a else b := by
  unfold Scalar.select
  rw [WordCmp.cmpi_sge_ofNat (by omega) (by omega)]
  by_cases h : k ≤ t <;> simp [h]

theorem select_slt (t k : ℕ) (ht : t < 2048) (hk : k < 2048) {α : Type} (a b : α) :
    Scalar.select (IntOp.cmpi .slt (BitVec.ofNat 32 t) (BitVec.ofNat 32 k)) a b = if t < k then a else b := by
  unfold Scalar.select
  rw [WordCmp.cmpi_slt_ofNat (by omega) (by omega)]
  by_cases h : t < k <;> simp [h]

theorem rotate_at (k : ℕ) (hk : k < 2048) (x : FVec Ideal S2048x128 .f32) (t : Fin 2048) (c : Fin 128) (h) :
    dynamicRotate 0 (BitVec.ofNat 32 k) none x h (ix2 t c)
      = x (ix2 ⟨(t.val + 2048 - k) % 2048, Nat.mod_lt _ (by decide)⟩ c) := by
  refine dynamicRotate_apply 0 _ x h _ _ fun b => ?_
  match b with
  | ⟨0, _⟩ =>
    show (t.val + 2048 - k) % 2048 = (t.val + 2048 - (BitVec.ofNat 32 k).toNat % 2048) % 2048
    rw [WordCmp.toNat_ofNat_of_lt (by omega), Nat.mod_eq_of_lt hk]
  | ⟨1, _⟩ => rfl

theorem lag_holds {x : FVec Ideal S2048x128 .f32} {f : ℕ → ℕ → ℝ} (hx : Holds x f) (k : ℕ) (hk : k < 2048) :
    Holds (lag (BitVec.ofNat 32 k) x) fun t c => f t c + if k ≤ t then f (t - k) c else 0 := by
  intro t c
  have e : lag (BitVec.ofNat 32 k) x (ix2 t c) = x (ix2 t c)
      + Scalar.select (IntOp.cmpi .sge (BitVec.ofNat 32 t.val) (BitVec.ofNat 32 k))
          (dynamicRotate 0 (BitVec.ofNat 32 k) none x rotates_S2048x128_d0 (ix2 t c)) (0 : EReal) := by
    pointwise [lag]
  rw [e, select_sge _ _ t.isLt hk, rotate_at k hk, hx]
  dsimp only
  by_cases h : k ≤ t.val
  · rw [if_pos h, if_pos h, hx, EReal.coe_add]
    show _ + ((f ((t.val + 2048 - k) % 2048) c.val : ℝ) : EReal) = _
    rw [show (t.val + 2048 - k) % 2048 = t.val - k by have := t.isLt; omega]
  · rw [if_neg h, if_neg h, add_zero, add_zero]

/-- Shifting `k` earlier is a rotation by `2048 - k`; `f` is zero past the end. -/
theorem lead_holds {x : FVec Ideal S2048x128 .f32} {f : ℕ → ℕ → ℝ} (hx : Holds x f)
    (h0 : ∀ t c, 2048 ≤ t → f t c = 0) (k : ℕ) (hk : 0 < k) (hk' : k < 2048) :
    Holds (lead (BitVec.ofNat 32 (2048 - k)) x) fun t c => f t c + f (t + k) c := by
  intro t c
  have e : lead (BitVec.ofNat 32 (2048 - k)) x (ix2 t c) = x (ix2 t c)
      + Scalar.select (IntOp.cmpi .slt (BitVec.ofNat 32 t.val) (BitVec.ofNat 32 (2048 - k)))
          (dynamicRotate 0 (BitVec.ofNat 32 (2048 - k)) none x rotates_S2048x128_d0 (ix2 t c)) (0 : EReal) := by
    pointwise [lead]
  rw [e, select_slt _ _ t.isLt (by omega), rotate_at (2048 - k) (by omega), hx]
  dsimp only
  by_cases h : t.val < 2048 - k
  · rw [if_pos h, hx, EReal.coe_add]
    show _ + ((f ((t.val + 2048 - (2048 - k)) % 2048) c.val : ℝ) : EReal) = _
    rw [show (t.val + 2048 - (2048 - k)) % 2048 = t.val + k by have := t.isLt; omega]
  · rw [if_neg h, h0 _ _ (by omega : 2048 ≤ t.val + k), add_zero, add_zero]

theorem inv_at (w : ℕ) (hw : 0 < w) (hw' : w < 2048) (t : Fin 2048) (z : Fin 1) :
    inv (BitVec.ofNat 32 w) (ix2 t z) = ((1 / cnt w t.val : ℝ) : EReal) := by
  have ht := t.isLt
  have hm : IntOp.minsi (IntOp.addi (BitVec.ofNat 32 t.val) 1#32) (BitVec.ofNat 32 w)
      = BitVec.ofNat 32 (min (t.val + 1) w) := by
    have e1 : IntOp.addi (BitVec.ofNat 32 t.val) 1#32 = BitVec.ofNat 32 (t.val + 1) := by
      show BitVec.ofNat 32 t.val + 1#32 = _
      rw [← BitVec.ofNat_add]
    rw [e1]
    unfold IntOp.minsi
    have : (BitVec.ofNat 32 (t.val + 1)).slt (BitVec.ofNat 32 w) = decide (t.val + 1 < w) := by
      rw [BitVec.slt, WordCmp.toInt_ofNat_of_lt (by omega), WordCmp.toInt_ofNat_of_lt (by omega)]
      simp only [Nat.cast_lt]
    rw [this]
    by_cases h : t.val + 1 < w
    · rw [if_pos (by simpa using h), min_eq_left (by omega)]
    · rw [if_neg (by simpa using h), min_eq_right (by omega)]
  have e : inv (BitVec.ofNat 32 w) (ix2 t z) = Ideal.div (1 : EReal)
      ((((IntOp.minsi (IntOp.addi (BitVec.ofNat 32 t.val) 1#32) (BitVec.ofNat 32 w)).toInt : ℝ)) : EReal) := by
    pointwise [inv]
    rfl
  rw [e, hm, WordCmp.toInt_ofNat_of_lt (by omega)]
  rw [show (((min (t.val + 1) w : ℕ) : ℤ) : ℝ) = cnt w t.val by unfold cnt; norm_cast]
  rw [Ideal.div_coe (cnt_ne hw _), one_mul]

/-- A list of powers of two from 1: each shifted add doubles the window. -/
theorem lags_holds {x : FVec Ideal S2048x128 .f32} {f : ℕ → ℕ → ℝ} (hx : Holds x f) (n : ℕ) (hn : n ≤ 4) :
    Holds ((List.range n).foldl (fun y k => lag (BitVec.ofNat 32 (2 ^ k)) y) x)
      fun t c => win (2 ^ n) (fun s => f s c) t := by
  induction n with
  | zero => intro t c; simpa [win_one] using hx t c
  | succ n ih =>
    rw [List.range_succ, List.foldl_append]
    intro t c
    have hp : 2 ^ n < 2048 := lt_of_le_of_lt (Nat.pow_le_pow_right (by omega) (by omega : n ≤ 4)) (by omega)
    have := lag_holds (ih (by omega)) (2 ^ n) hp t c
    simp only [List.foldl_cons, List.foldl_nil]
    rw [this, pow_succ, mul_two, win_double]

theorem leads_holds {x : FVec Ideal S2048x128 .f32} {f : ℕ → ℕ → ℝ} (hx : Holds x f)
    (h0 : ∀ t c, 2048 ≤ t → f t c = 0) (n : ℕ) (hn : n ≤ 4) :
    Holds ((List.range n).foldl (fun y k => lead (BitVec.ofNat 32 (2048 - 2 ^ k)) y) x)
      fun t c => fwin (2 ^ n) (fun s => f s c) t := by
  induction n with
  | zero => intro t c; simpa [fwin_one] using hx t c
  | succ n ih =>
    rw [List.range_succ, List.foldl_append]
    intro t c
    have hp : 2 ^ n < 2048 := lt_of_le_of_lt (Nat.pow_le_pow_right (by omega) (by omega : n ≤ 4)) (by omega)
    have := lead_holds (ih (by omega)) (fun t c ht => by
      unfold fwin; exact Finset.sum_eq_zero fun i _ => h0 _ _ (by omega)) (2 ^ n) (by positivity) hp t c
    simp only [List.foldl_cons, List.foldl_nil]
    rw [this, pow_succ, mul_two, fwin_double]

/-! ### The real functions of one group -/

/-- The pooled value minus the value. -/
def dR (w : ℕ) (f : ℕ → ℕ → ℝ) (t c : ℕ) : ℝ := win w (fun s => f s c) t * (1 / cnt w t) - f t c

/-- The product with the group's weights. -/
def yR (d W : ℕ → ℕ → ℝ) (t e : ℕ) : ℝ := ∑ c : Fin 128, d t c.val * W c.val e

/-- The product with the weights transposed. -/
def ddR (dy W : ℕ → ℕ → ℝ) (t c : ℕ) : ℝ := ∑ e : Fin 128, dy t e.val * W c e.val

/-- The gradient of the weights, over one sequence. -/
def dwR (d dy : ℕ → ℕ → ℝ) (c e : ℕ) : ℝ := ∑ t : Fin 2048, d t.val c * dy t.val e

/-- The gradient of the scale, over one sequence. -/
def dscR (y ct : ℕ → ℕ → ℝ) (e : ℕ) : ℝ := ∑ t : Fin 2048, y t.val e * ct t.val e

/-- The mean's gradient, zero past the end. -/
def mR (w : ℕ) (dd : ℕ → ℕ → ℝ) (t c : ℕ) : ℝ := if t < 2048 then dd t c * (1 / cnt w t) else 0

/-- The gradient of the group's values. -/
def duR (w : ℕ) (dd : ℕ → ℕ → ℝ) (t c : ℕ) : ℝ := fwin w (fun s => mR w dd s c) t - dd t c

theorem pooled_holds {x : FVec Ideal S2048x128 .f32} {f : ℕ → ℕ → ℝ} (hx : Holds x f) (n : ℕ) (hn : n ≤ 4) :
    Holds (pooled ((List.range n).map fun k => BitVec.ofNat 32 (2 ^ k)) (BitVec.ofNat 32 (2 ^ n)) x) (dR (2 ^ n) f) := by
  have hp : 2 ^ n < 2048 := lt_of_le_of_lt (Nat.pow_le_pow_right (by omega) (by omega : n ≤ 4)) (by omega)
  intro t c
  have e : pooled ((List.range n).map fun k => BitVec.ofNat 32 (2 ^ k)) (BitVec.ofNat 32 (2 ^ n)) x (ix2 t c)
      = (List.range n).foldl (fun y k => lag (BitVec.ofNat 32 (2 ^ k)) y) x (ix2 t c)
        * inv (BitVec.ofNat 32 (2 ^ n)) (ix2 t 0) - x (ix2 t c) := by
    unfold pooled
    rw [List.foldl_map]
    pointwise
  rw [e, lags_holds hx n hn t c, inv_at _ (by positivity) hp, hx t c, ← EReal.coe_mul, ← EReal.coe_sub]
  rfl

theorem unpooled_holds {x : FVec Ideal S2048x128 .f32} {f : ℕ → ℕ → ℝ} (hx : Holds x f) (n : ℕ) (hn : n ≤ 4) :
    Holds (unpooled ((List.range n).map fun k => BitVec.ofNat 32 (2048 - 2 ^ k)) (BitVec.ofNat 32 (2 ^ n)) x)
      (duR (2 ^ n) f) := by
  have hp : 2 ^ n < 2048 := lt_of_le_of_lt (Nat.pow_le_pow_right (by omega) (by omega : n ≤ 4)) (by omega)
  intro t c
  have hm : Holds (mulf x (broadcastTo S2048x128 (inv (BitVec.ofNat 32 (2 ^ n))) broadcasts_S2048x1_S2048x128))
      (mR (2 ^ n) f) := by
    intro t c
    have e : mulf x (broadcastTo S2048x128 (inv (BitVec.ofNat 32 (2 ^ n))) broadcasts_S2048x1_S2048x128) (ix2 t c)
        = x (ix2 t c) * inv (BitVec.ofNat 32 (2 ^ n)) (ix2 t 0) := by pointwise
    rw [e, inv_at _ (by positivity) hp, hx t c, ← EReal.coe_mul]
    unfold mR
    rw [if_pos t.isLt]
  have e : unpooled ((List.range n).map fun k => BitVec.ofNat 32 (2048 - 2 ^ k)) (BitVec.ofNat 32 (2 ^ n)) x (ix2 t c)
      = (List.range n).foldl (fun y k => lead (BitVec.ofNat 32 (2048 - 2 ^ k)) y)
          (mulf x (broadcastTo S2048x128 (inv (BitVec.ofNat 32 (2 ^ n))) broadcasts_S2048x1_S2048x128)) (ix2 t c)
        - x (ix2 t c) := by
    unfold unpooled
    rw [List.foldl_map]
    rfl
  rw [e, leads_holds hm (fun t c ht => if_neg (by omega)) n hn t c, hx t c, ← EReal.coe_sub]
  rfl

/-! ### The products of one group -/

/-- One group's weights hold `W`. -/
def HoldsW (wp : FVec Ideal S1x128x128 .f32) (W : ℕ → ℕ → ℝ) : Prop :=
  ∀ (c e : Fin 128), wp (ix3 0 c e) = ((W c.val e.val : ℝ) : EReal)

/-- One group's scale holds `s`. -/
def HoldsS (sc : FVec Ideal S1x128 .f32) (s : ℕ → ℝ) : Prop := ∀ e : Fin 128, sc (ix2 0 e) = ((s e.val : ℝ) : EReal)

/-- The scale's running gradient plus this sequence's. -/
def gDsc (d ct : FVec Ideal S2048x128 .f32) (wp : FVec Ideal S1x128x128 .f32) (acc : FVec Ideal S1x128 .f32) :
    FVec Ideal S1x128 .f32 :=
  addf acc (shapeCast S1x128 (multiReduction .add [0] S128
    (mulf (matmul dot_S2048x128_S128x128_S2048x128_1_0_0_1_n_n none (truncf .bf16 d bitsLt_bf16_f32)
      (truncf .bf16 (shapeCast S128x128 wp shapeCasts_S1x128x128_S128x128) bitsLt_bf16_f32)
      (constant S2048x128 .f32 0x00000000#32)) ct)
    0x00000000#32 reduces_S2048x128_S128 (.inl rfl) rfl) shapeCasts_S128_S1x128)

/-- The gradient of the product: the incoming gradient times the scale. -/
def gDy (ct : FVec Ideal S2048x128 .f32) (sc : FVec Ideal S1x128 .f32) : FVec Ideal S2048x128 .f32 :=
  mulf ct (broadcastTo S2048x128 sc broadcasts_S1x128_S2048x128)

/-- The weights' running gradient plus this sequence's. -/
def gDw (d dy : FVec Ideal S2048x128 .f32) (acc : FVec Ideal S1x128x128 .f32) : FVec Ideal S1x128x128 .f32 :=
  shapeCast S1x128x128 (addf (shapeCast S128x128 acc shapeCasts_S1x128x128_S128x128)
    (matmul dot_S2048x128_S2048x128_S128x128_0_0_1_1_n_n none (truncf .bf16 d bitsLt_bf16_f32)
      (truncf .bf16 dy bitsLt_bf16_f32) (constant S128x128 .f32 0x00000000#32))) shapeCasts_S128x128_S1x128x128

/-- The pooled difference's gradient. -/
def gDd (dy : FVec Ideal S2048x128 .f32) (wp : FVec Ideal S1x128x128 .f32) : FVec Ideal S2048x128 .f32 :=
  matmul dot_S2048x128_S128x128_S2048x128_1_1_0_0_n_n none (truncf .bf16 dy bitsLt_bf16_f32)
    (truncf .bf16 (shapeCast S128x128 wp shapeCasts_S1x128x128_S128x128) bitsLt_bf16_f32)
    (constant S2048x128 .f32 0x00000000#32)

theorem gDsc_at {d ct : FVec Ideal S2048x128 .f32} {wp : FVec Ideal S1x128x128 .f32} (acc : FVec Ideal S1x128 .f32)
    {fd fc W : ℕ → ℕ → ℝ} (hd : Holds d fd) (hc : Holds ct fc) (hw : HoldsW wp W) (e : Fin 128) :
    gDsc d ct wp acc (ix2 0 e) = acc (ix2 0 e) + ((dscR (yR fd W) fc e.val : ℝ) : EReal) := by
  have h : gDsc d ct wp acc (ix2 0 e)
      = acc (ix2 0 e) + ∑ t : Fin 2048, (∑ c : Fin 128, d (ix2 t c) * wp (ix3 0 c e)) * ct (ix2 t e) := by
    pointwise [gDsc]
  rw [h]
  congr 1
  unfold dscR yR
  simp only [coe_sum, EReal.coe_mul, hd _ _, hc _ _, hw _ _]

theorem gDy_holds {ct : FVec Ideal S2048x128 .f32} {sc : FVec Ideal S1x128 .f32} {fc : ℕ → ℕ → ℝ} {s : ℕ → ℝ}
    (hc : Holds ct fc) (hs : HoldsS sc s) : Holds (gDy ct sc) fun t e => fc t e * s e := by
  intro t e
  have h : gDy ct sc (ix2 t e) = ct (ix2 t e) * sc (ix2 0 e) := by pointwise [gDy]
  rw [h, hc t e, hs e, ← EReal.coe_mul]

theorem gDw_at {d dy : FVec Ideal S2048x128 .f32} (acc : FVec Ideal S1x128x128 .f32) {fd fy : ℕ → ℕ → ℝ}
    (hd : Holds d fd) (hy : Holds dy fy) (z : Fin 1) (c e : Fin 128) :
    gDw d dy acc (ix3 z c e) = acc (ix3 0 c e) + ((dwR fd fy c.val e.val : ℝ) : EReal) := by
  have h : gDw d dy acc (ix3 z c e) = acc (ix3 0 c e) + ∑ t : Fin 2048, d (ix2 t c) * dy (ix2 t e) := by
    pointwise [gDw]
  rw [h]
  congr 1
  unfold dwR
  simp only [coe_sum, EReal.coe_mul, hd _ _, hy _ _]

theorem gDd_holds {dy : FVec Ideal S2048x128 .f32} {wp : FVec Ideal S1x128x128 .f32} {fy W : ℕ → ℕ → ℝ}
    (hy : Holds dy fy) (hw : HoldsW wp W) : Holds (gDd dy wp) (ddR fy W) := by
  intro t c
  have h : gDd dy wp (ix2 t c) = ∑ e : Fin 128, dy (ix2 t e) * wp (ix3 0 c e) := by pointwise [gDd]
  rw [h]
  unfold ddR
  simp only [coe_sum, EReal.coe_mul, hy _ _, hw _ _]

end Cert.Proof
end
-- ==== Proof.Payload.lean ====
/-
  What the kernel stores for each of the four groups of channels is the same arithmetic, with the group's window.
-/
module

public import proofs.«01_k».proof.Proof.Pool

@[expose] public section

set_option maxRecDepth 16384

noncomputable section

namespace Cert.Proof

open Idealize.ShloMosaic Idealize.ShloMosaic.TcCoe Cert.KernelIdeal Cert.KernelIdeal.Gen Idealize.SL.Sem

/-- The pooled difference with the window `2 ^ n`. -/
abbrev P (n : ℕ) (x : FVec Ideal S2048x128 .f32) : FVec Ideal S2048x128 .f32 :=
  pooled ((List.range n).map fun k => BitVec.ofNat 32 (2 ^ k)) (BitVec.ofNat 32 (2 ^ n)) x

/-- Its gradient. -/
abbrev Q (n : ℕ) (x : FVec Ideal S2048x128 .f32) : FVec Ideal S2048x128 .f32 :=
  unpooled ((List.range n).map fun k => BitVec.ofNat 32 (2048 - 2 ^ k)) (BitVec.ofNat 32 (2 ^ n)) x

variable (u ct : FVec Ideal S2048x128 .f32) (wp acc : FVec Ideal S1x128x128 .f32) (sc ac : FVec Ideal S1x128 .f32)

theorem dsc0 : k0_pay7 (F := Ideal) u wp ct ac = gDsc (P 1 u) ct wp ac := by
  unfold k0_pay7 k0_pay6 k0_pay5 k0_pay4; simp only [shapeCast_self]; rfl

theorem dsc1 : k0_pay16 (F := Ideal) (k0_pay11 u) k0_pay12 4#32 wp ct ac = gDsc (P 2 u) ct wp ac := by
  unfold k0_pay16 k0_pay15 k0_pay14 k0_pay13 k0_pay12 k0_pay11; simp only [shapeCast_self]; rfl

theorem dsc2 : k0_pay27 (F := Ideal) (k0_pay24 (k0_pay21 u) (iota .tc S2048x1 32 [0] iota_S2048x1_d0_w32) 1#32 wp)
    (k0_pay25 ct) (k0_pay26 ac) = gDsc (P 3 u) ct wp ac := by
  unfold k0_pay27 k0_pay24 k0_pay23 k0_pay22 k0_pay21 k0_pay25 k0_pay26; simp only [shapeCast_self]; rfl

theorem dsc3 : k0_pay41 (F := Ideal) (k0_pay33 u) k0_pay34 (k0_pay35 u) k0_pay36 (k0_pay37 u) k0_pay38 wp ct ac
    = gDsc (P 4 u) ct wp ac := by
  unfold k0_pay41 k0_pay40 k0_pay39 k0_pay38 k0_pay37 k0_pay36 k0_pay35 k0_pay34 k0_pay33
  simp only [shapeCast_self]; rfl

theorem dw0 : k0_pay9 (F := Ideal) (k0_pay5 u) (k0_pay6 ct) sc acc = gDw (P 1 u) (gDy ct sc) acc := by
  unfold k0_pay9 k0_pay8 k0_pay6 k0_pay5 k0_pay4; simp only [shapeCast_self]; rfl

theorem dw1 : k0_pay19 (F := Ideal) (k0_pay14 (k0_pay11 u) k0_pay12 4#32) (k0_pay15 ct) (k0_pay17 sc) acc
    = gDw (P 2 u) (gDy ct sc) acc := by
  unfold k0_pay19 k0_pay18 k0_pay17 k0_pay15 k0_pay14 k0_pay13 k0_pay12 k0_pay11; simp only [shapeCast_self]; rfl

theorem dw2 : k0_pay29 (F := Ideal) (k0_pay23 (k0_pay21 u) (iota .tc S2048x1 32 [0] iota_S2048x1_d0_w32) 1#32)
    (k0_pay25 ct) sc acc = gDw (P 3 u) (gDy ct sc) acc := by
  unfold k0_pay29 k0_pay28 k0_pay25 k0_pay23 k0_pay22 k0_pay21; simp only [shapeCast_self]; rfl

theorem dw3 : k0_pay44 (F := Ideal) (k0_pay43 (k0_pay33 u) k0_pay34 (k0_pay35 u) k0_pay36 (k0_pay37 u) k0_pay38 ct sc acc)
    = gDw (P 4 u) (gDy ct sc) acc := by
  unfold k0_pay44 k0_pay43 k0_pay42 k0_pay40 k0_pay39 k0_pay38 k0_pay37 k0_pay36 k0_pay35 k0_pay34 k0_pay33
  simp only [shapeCast_self]; rfl

theorem du0 : k0_pay10 (F := Ideal) k0_pay4 (k0_pay6 ct) sc wp = Q 1 (gDd (gDy ct sc) wp) := by
  unfold k0_pay10 k0_pay8 k0_pay6 k0_pay4; simp only [shapeCast_self]; rfl

theorem du1 : k0_pay20 (F := Ideal) (k0_pay13 k0_pay12 4#32) (k0_pay15 ct) (k0_pay17 sc) wp
    = Q 2 (gDd (gDy ct sc) wp) := by
  unfold k0_pay20 k0_pay18 k0_pay17 k0_pay15 k0_pay13 k0_pay12; simp only [shapeCast_self]; rfl

theorem du2 : k0_pay32 (F := Ideal) (k0_pay30 (k0_pay25 ct) sc wp)
    (k0_pay31 (k0_pay22 (iota .tc S2048x1 32 [0] iota_S2048x1_d0_w32) 1#32) (k0_pay25 ct) sc wp)
    = Q 3 (gDd (gDy ct sc) wp) := by
  unfold k0_pay32 k0_pay31 k0_pay30 k0_pay28 k0_pay25 k0_pay22; simp only [shapeCast_self]; rfl

theorem du3 : k0_pay1 (F := Ideal) (k0_pay45 (k0_pay42 ct sc) wp) (k0_pay46 k0_pay34 (k0_pay42 ct sc) wp)
    (k0_pay47 k0_pay34 (k0_pay42 ct sc) wp) = Q 4 (gDd (gDy ct sc) wp) := by
  unfold k0_pay1 k0_pay45 k0_pay46 k0_pay47 k0_pay42 k0_pay40 k0_pay34; simp only [shapeCast_self]; rfl

end Cert.Proof
end
-- ==== Proof.Stores.lean ====
/-
  Four stores side by side, read back: columns of 128 in a block of 512, and slabs in a stack of four.
-/
module

public import Idealize.ShloMosaic.Lib.Pointwise
public import Idealize.ShloMosaic.Lib.Pipeline.ValueKit
public import Idealize.ShloMosaic.Lib.Pipeline.ReadBack

@[expose] public section

noncomputable section

namespace Cert.Proof

open Idealize.ShloMosaic

variable {Val : EltTy → Type} [∀ e, Nonempty (Val e)] {e : EltTy}

/-- The position of channel `k` of group `g`. -/
def chan (g : Fin 4) (k : Fin 128) : Fin 512 := ⟨128 * g.val + k.val, by have := g.isLt; have := k.isLt; omega⟩

theorem chan_eta (k : Fin 512) : chan ⟨k.val / 128, by have := k.isLt; omega⟩ ⟨k.val % 128, by omega⟩ = k :=
  Fin.ext (by show 128 * (k.val / 128) + k.val % 128 = k.val; omega)

/-- A store to other columns is passed over. -/
theorem canon_col_miss {a : ℕ} (g : Fin 4) (o : ℕ) (inb) (w : (⟨2, ![a, 128]⟩ : Shape).Idx → Val e)
    (L : List (View.Piece Val (⟨2, ![a, 512]⟩ : Shape) e)) (x : Fin a) (k : Fin 128)
    (h : 128 * g.val + 128 ≤ o ∨ o + 128 ≤ 128 * g.val) :
    View.canon (⟨Rect.unit (s := (⟨2, ![a, 512]⟩ : Shape)) ![0, o] ![a, 128] inb, w⟩ :: L) (ix2 x (chan g k))
      = View.canon L (ix2 x (chan g k)) :=
  View.canon_cons_of_not_mem _ L (Rect.not_mem_set_of_axis _ _ 1 o 128 rfl rfl rfl (by
    have := k.isLt
    show 128 * g.val + k.val < o ∨ o + 128 ≤ 128 * g.val + k.val
    omega))

/-- A store to these columns is read. -/
theorem canon_col_hit {a : ℕ} (g : Fin 4) (o : ℕ) (inb) (w : (⟨2, ![a, 128]⟩ : Shape).Idx → Val e)
    (L : List (View.Piece Val (⟨2, ![a, 512]⟩ : Shape) e)) (x : Fin a) (k : Fin 128) (h : o = 128 * g.val) :
    View.canon (⟨Rect.unit (s := (⟨2, ![a, 512]⟩ : Shape)) ![0, o] ![a, 128] inb, w⟩ :: L) (ix2 x (chan g k))
      = w (ix2 x k) := by
  subst h
  have he : (Rect.unit (s := (⟨2, ![a, 512]⟩ : Shape)) ![0, 128 * g.val] ![a, 128] inb).emb (ix2 x k) = ix2 x (chan g k) :=
    Rect.emb_eq_of_coords _ _ _ fun b => by
      match b with
      | ⟨0, _⟩ => show x.val = 0 + 1 * x.val; omega
      | ⟨1, _⟩ => show 128 * g.val + k.val = 128 * g.val + 1 * k.val; omega
  rw [← he]
  exact View.canon_cons_emb _ _ _ _

/-- Four column stores read back: the group's own. -/
theorem canon_cols {a : ℕ} (i3 i2 i1 i0) (w : Fin 4 → (⟨2, ![a, 128]⟩ : Shape).Idx → Val e)
    (w3 w2 w1 w0 : (⟨2, ![a, 128]⟩ : Shape).Idx → Val e)
    (L : List (View.Piece Val (⟨2, ![a, 512]⟩ : Shape) e)) (g : Fin 4) (x : Fin a) (k : Fin 128)
    (h3 : w3 = w 3) (h2 : w2 = w 2) (h1 : w1 = w 1) (h0 : w0 = w 0) :
    View.canon (⟨Rect.unit (s := (⟨2, ![a, 512]⟩ : Shape)) ![0, 384] ![a, 128] i3, w3⟩
      :: ⟨Rect.unit (s := (⟨2, ![a, 512]⟩ : Shape)) ![0, 256] ![a, 128] i2, w2⟩
      :: ⟨Rect.unit (s := (⟨2, ![a, 512]⟩ : Shape)) ![0, 128] ![a, 128] i1, w1⟩
      :: ⟨Rect.unit (s := (⟨2, ![a, 512]⟩ : Shape)) ![0, 0] ![a, 128] i0, w0⟩ :: L) (ix2 x (chan g k))
      = w g (ix2 x k) := by
  subst h3 h2 h1 h0
  match g with
  | ⟨3, _⟩ => rw [canon_col_hit _ _ _ _ _ _ _ (by rfl)]; rfl
  | ⟨2, _⟩ =>
    rw [canon_col_miss _ _ _ _ _ _ _ (Or.inl (by simp)), canon_col_hit _ _ _ _ _ _ _ (by rfl)]; rfl
  | ⟨1, _⟩ =>
    rw [canon_col_miss _ _ _ _ _ _ _ (Or.inl (by simp)), canon_col_miss _ _ _ _ _ _ _ (Or.inl (by simp)),
      canon_col_hit _ _ _ _ _ _ _ (by rfl)]; rfl
  | ⟨0, _⟩ =>
    rw [canon_col_miss _ _ _ _ _ _ _ (Or.inl (by simp)), canon_col_miss _ _ _ _ _ _ _ (Or.inl (by simp)),
      canon_col_miss _ _ _ _ _ _ _ (Or.inl (by simp)), canon_col_hit _ _ _ _ _ _ _ (by rfl)]; rfl

theorem canon_slab_miss (g : Fin 4) (o : ℕ) (inb) (w : (⟨3, ![1, 128, 128]⟩ : Shape).Idx → Val e)
    (L : List (View.Piece Val (⟨3, ![4, 128, 128]⟩ : Shape) e)) (x k : Fin 128) (h : g.val ≠ o) :
    View.canon (⟨Rect.unit (s := (⟨3, ![4, 128, 128]⟩ : Shape)) ![o, 0, 0] ![1, 128, 128] inb, w⟩ :: L) (ix3 g x k)
      = View.canon L (ix3 g x k) :=
  View.canon_cons_of_not_mem _ L (Rect.not_mem_set_of_axis _ _ 0 o 1 rfl rfl rfl (by
    show g.val < o ∨ o + 1 ≤ g.val
    omega))

theorem canon_slab_hit (g : Fin 4) (o : ℕ) (inb) (w : (⟨3, ![1, 128, 128]⟩ : Shape).Idx → Val e)
    (L : List (View.Piece Val (⟨3, ![4, 128, 128]⟩ : Shape) e)) (x k : Fin 128) (h : o = g.val) :
    View.canon (⟨Rect.unit (s := (⟨3, ![4, 128, 128]⟩ : Shape)) ![o, 0, 0] ![1, 128, 128] inb, w⟩ :: L) (ix3 g x k)
      = w (ix3 0 x k) := by
  subst h
  have he : (Rect.unit (s := (⟨3, ![4, 128, 128]⟩ : Shape)) ![g.val, 0, 0] ![1, 128, 128] inb).emb (ix3 0 x k) = ix3 g x k :=
    Rect.emb_eq_of_coords _ _ _ fun b => by
      match b with
      | ⟨0, _⟩ => show g.val = g.val + 1 * 0; omega
      | ⟨1, _⟩ => show x.val = 0 + 1 * x.val; omega
      | ⟨2, _⟩ => show k.val = 0 + 1 * k.val; omega
  rw [← he]
  exact View.canon_cons_emb _ _ _ _

/-- Four slab stores read back: the group's own. -/
theorem canon_slabs (i3 i2 i1 i0) (w : Fin 4 → (⟨3, ![1, 128, 128]⟩ : Shape).Idx → Val e)
    (w3 w2 w1 w0 : (⟨3, ![1, 128, 128]⟩ : Shape).Idx → Val e)
    (L : List (View.Piece Val (⟨3, ![4, 128, 128]⟩ : Shape) e)) (g : Fin 4) (x k : Fin 128)
    (h3 : w3 = w 3) (h2 : w2 = w 2) (h1 : w1 = w 1) (h0 : w0 = w 0) :
    View.canon (⟨Rect.unit (s := (⟨3, ![4, 128, 128]⟩ : Shape)) ![3, 0, 0] ![1, 128, 128] i3, w3⟩
      :: ⟨Rect.unit (s := (⟨3, ![4, 128, 128]⟩ : Shape)) ![2, 0, 0] ![1, 128, 128] i2, w2⟩
      :: ⟨Rect.unit (s := (⟨3, ![4, 128, 128]⟩ : Shape)) ![1, 0, 0] ![1, 128, 128] i1, w1⟩
      :: ⟨Rect.unit (s := (⟨3, ![4, 128, 128]⟩ : Shape)) ![0, 0, 0] ![1, 128, 128] i0, w0⟩ :: L) (ix3 g x k)
      = w g (ix3 0 x k) := by
  subst h3 h2 h1 h0
  match g with
  | ⟨3, _⟩ => rw [canon_slab_hit _ _ _ _ _ _ _ (by rfl)]; rfl
  | ⟨2, _⟩ => rw [canon_slab_miss _ _ _ _ _ _ _ (by simp), canon_slab_hit _ _ _ _ _ _ _ (by rfl)]; rfl
  | ⟨1, _⟩ =>
    rw [canon_slab_miss _ _ _ _ _ _ _ (by simp), canon_slab_miss _ _ _ _ _ _ _ (by simp),
      canon_slab_hit _ _ _ _ _ _ _ (by rfl)]; rfl
  | ⟨0, _⟩ =>
    rw [canon_slab_miss _ _ _ _ _ _ _ (by simp), canon_slab_miss _ _ _ _ _ _ _ (by simp),
      canon_slab_miss _ _ _ _ _ _ _ (by simp), canon_slab_hit _ _ _ _ _ _ _ (by rfl)]; rfl

/-- A load of a group's columns. -/
theorem ld_col {a : ℕ} (X : (⟨2, ![a, 512]⟩ : Shape).Idx → Val e) (g : Fin 4) (o : ℕ) (inb) (ho : o = 128 * g.val)
    (x : Fin a) (k : Fin 128) :
    View.ld X (Rect.unit (s := (⟨2, ![a, 512]⟩ : Shape)) ![0, o] ![a, 128] inb) (ix2 x k) = X (ix2 x (chan g k)) :=
  View.ld_unit_apply_of X _ _ inb _ _ fun b => by
    match b with
    | ⟨0, _⟩ => show x.val = 0 + x.val; omega
    | ⟨1, _⟩ => show 128 * g.val + k.val = o + k.val; omega

/-- A load of a group's slab. -/
theorem ld_slab (X : (⟨3, ![4, 128, 128]⟩ : Shape).Idx → Val e) (g : Fin 4) (o : ℕ) (inb) (ho : o = g.val)
    (z : Fin 1) (x k : Fin 128) :
    View.ld X (Rect.unit (s := (⟨3, ![4, 128, 128]⟩ : Shape)) ![o, 0, 0] ![1, 128, 128] inb) (ix3 z x k) = X (ix3 g x k) :=
  View.ld_unit_apply_of X _ _ inb _ _ fun b => by
    match b with
    | ⟨0, _⟩ => show g.val = o + z.val; omega
    | ⟨1, _⟩ => show x.val = 0 + x.val; omega
    | ⟨2, _⟩ => show k.val = 0 + k.val; omega

end Cert.Proof
end
-- ==== Proof.Blocks.lean ====
/-
  What the kernel leaves in its three blocks at one grid point: with the point's sequence held by real numbers, the
  gradient of the values, and the gradients of weights and scale added to what the point before left.
-/
module

public import proofs.«01_k».proof.Proof.Payload
public import proofs.«01_k».proof.Proof.Stores
public import proofs.«01_k».proof.Proof.Gen.KernelIdeal.Value

@[expose] public section

set_option maxRecDepth 16384

noncomputable section

namespace Cert.Proof

open Idealize.ShloMosaic Idealize.ShloMosaic.TcCoe Cert.KernelIdeal Cert.KernelIdeal.Gen Idealize.SL.Sem

/-- One group's channels. -/
def sl (g : ℕ) (f : ℕ → ℕ → ℝ) (t k : ℕ) : ℝ := f t (128 * g + k)

/-- The pooled difference of group `g`. -/
def gd (U : ℕ → ℕ → ℝ) (g : ℕ) : ℕ → ℕ → ℝ := dR (2 ^ (g + 1)) (sl g U)

/-- The gradient reaching group `g`'s product. -/
def gy (C : ℕ → ℕ → ℝ) (S : ℕ → ℝ) (g t e : ℕ) : ℝ := sl g C t e * S (128 * g + e)

/-- The gradient of group `g`'s values. -/
def rDu (C : ℕ → ℕ → ℝ) (W : ℕ → ℕ → ℕ → ℝ) (S : ℕ → ℝ) (g : ℕ) : ℕ → ℕ → ℝ :=
  duR (2 ^ (g + 1)) (ddR (gy C S g) (W g))

/-- One sequence's part of the gradient of group `g`'s weights. -/
def rDw (U C : ℕ → ℕ → ℝ) (S : ℕ → ℝ) (g : ℕ) : ℕ → ℕ → ℝ := dwR (gd U g) (gy C S g)

/-- One sequence's part of the gradient of group `g`'s scale. -/
def rDsc (U C : ℕ → ℕ → ℝ) (W : ℕ → ℕ → ℕ → ℝ) (g : ℕ) : ℕ → ℝ := dscR (yR (gd U g) (W g)) (sl g C)

variable (m : (ℓ : Loc nD τ sig) → Buf (Elt Ideal) ℓ)

/-- The point's blocks hold these real numbers. -/
structure Reals (c : Dev nD) (t : Fin cfg0.N) (U C : ℕ → ℕ → ℝ) (W : ℕ → ℕ → ℕ → ℝ) (S : ℕ → ℝ) : Prop where
  hu : ∀ (s : Fin 2048) (k : Fin 512), (iblk m c 0 t : FVec Ideal S2048x512 .f32) (ix2 s k) = ((U s.val k.val : ℝ) : EReal)
  hc : ∀ (s : Fin 2048) (k : Fin 512), (iblk m c 1 t : FVec Ideal S2048x512 .f32) (ix2 s k) = ((C s.val k.val : ℝ) : EReal)
  hw : ∀ (g : Fin 4) (x e : Fin 128),
    (iblk m c 2 t : FVec Ideal S4x128x128 .f32) (ix3 g x e) = ((W g.val x.val e.val : ℝ) : EReal)
  hs : ∀ k : Fin 512, (iblk m c 3 t : FVec Ideal S1x512 .f32) (ix2 0 k) = ((S k.val : ℝ) : EReal)

theorem ld_holds {X : FVec Ideal S2048x512 .f32} {f : ℕ → ℕ → ℝ}
    (hX : ∀ (s : Fin 2048) (k : Fin 512), X (ix2 s k) = ((f s.val k.val : ℝ) : EReal)) (g : Fin 4) (o : ℕ) (inb)
    (ho : o = 128 * g.val) :
    Holds (View.ld (Val := Elt Ideal) (e' := .f32) X (Rect.unit (s := S2048x512) ![0, o] ![2048, 128] inb)) (sl g.val f) := by
  intro s k
  exact (ld_col (Val := Elt Ideal) (e := .f32) X g o inb ho s k).trans (hX s (chan g k))

theorem ld_holdsS {X : FVec Ideal S1x512 .f32} {f : ℕ → ℝ}
    (hX : ∀ k : Fin 512, X (ix2 0 k) = ((f k.val : ℝ) : EReal)) (g : Fin 4) (o : ℕ) (inb) (ho : o = 128 * g.val) :
    HoldsS (View.ld (Val := Elt Ideal) (e' := .f32) X (Rect.unit (s := S1x512) ![0, o] ![1, 128] inb))
      (fun e => f (128 * g.val + e)) := by
  intro k
  exact (ld_col (Val := Elt Ideal) (e := .f32) X g o inb ho 0 k).trans (hX (chan g k))

theorem ld_holdsW {X : FVec Ideal S4x128x128 .f32} {f : ℕ → ℕ → ℕ → ℝ}
    (hX : ∀ (g : Fin 4) (x e : Fin 128), X (ix3 g x e) = ((f g.val x.val e.val : ℝ) : EReal)) (g : Fin 4) (o : ℕ) (inb)
    (ho : o = g.val) :
    HoldsW (View.ld (Val := Elt Ideal) (e' := .f32) X (Rect.unit (s := S4x128x128) ![o, 0, 0] ![1, 128, 128] inb))
      (f g.val) := by
  intro x e
  exact (ld_slab (Val := Elt Ideal) (e := .f32) X g o inb ho 0 x e).trans (hX g x e)

theorem inbC (a : ℕ) (g : Fin 4) : ∀ b : Fin 2, (![0, 128 * g.val] : Fin 2 → ℕ) b + (![a, 128] : Fin 2 → ℕ) b
    ≤ (⟨2, ![a, 512]⟩ : Shape).size b := by
  have := g.isLt
  intro b
  match b with
  | ⟨0, _⟩ => show 0 + a ≤ a; omega
  | ⟨1, _⟩ => show 128 * g.val + 128 ≤ 512; omega

theorem inbW (g : Fin 4) : ∀ b : Fin 3, (![g.val, 0, 0] : Fin 3 → ℕ) b + (![1, 128, 128] : Fin 3 → ℕ) b
    ≤ (⟨3, ![4, 128, 128]⟩ : Shape).size b := by
  have := g.isLt
  intro b
  match b with
  | ⟨0, _⟩ => show g.val + 1 ≤ 4; omega
  | ⟨1, _⟩ => show 0 + 128 ≤ 128; omega
  | ⟨2, _⟩ => show 0 + 128 ≤ 128; omega

/-- Group `g`'s columns of a block of rows. -/
abbrev colU (X : FVec Ideal S2048x512 .f32) (g : Fin 4) : FVec Ideal S2048x128 .f32 :=
  View.ld (Val := Elt Ideal) (e' := .f32) X (Rect.unit (s := S2048x512) ![0, 128 * g.val] ![2048, 128] (inbC 2048 g))

/-- Group `g`'s columns of a row. -/
abbrev colS (X : FVec Ideal S1x512 .f32) (g : Fin 4) : FVec Ideal S1x128 .f32 :=
  View.ld (Val := Elt Ideal) (e' := .f32) X (Rect.unit (s := S1x512) ![0, 128 * g.val] ![1, 128] (inbC 1 g))

/-- Group `g`'s slab. -/
abbrev slabW (X : FVec Ideal S4x128x128 .f32) (g : Fin 4) : FVec Ideal S1x128x128 .f32 :=
  View.ld (Val := Elt Ideal) (e' := .f32) X (Rect.unit (s := S4x128x128) ![g.val, 0, 0] ![1, 128, 128] (inbW g))

variable {m}
variable {c : Dev nD} {t : Fin cfg0.N} {U C : ℕ → ℕ → ℝ} {W : ℕ → ℕ → ℕ → ℝ} {S : ℕ → ℝ}

theorem store_dsc (H : Reals m c t U C W S) (prev : FVec Ideal S1x512 .f32) (g : Fin 4) (e : Fin 128) :
    gDsc (P (g.val + 1) (colU (iblk m c 0 t) g)) (colU (iblk m c 1 t) g) (slabW (iblk m c 2 t) g) (colS prev g) (ix2 0 e)
      = prev (ix2 0 (chan g e)) + ((rDsc U C W g.val e.val : ℝ) : EReal) := by
  rw [gDsc_at _ (pooled_holds (ld_holds H.hu g _ _ rfl) _ (by omega)) (ld_holds H.hc g _ _ rfl) (ld_holdsW H.hw g _ _ rfl)]
  congr 1
  exact ld_col (Val := Elt Ideal) (e := .f32) prev g _ _ rfl 0 e

theorem dy_holds (H : Reals m c t U C W S) (g : Fin 4) :
    Holds (gDy (colU (iblk m c 1 t) g) (colS (iblk m c 3 t) g)) (gy C S g.val) :=
  gDy_holds (ld_holds H.hc g _ _ rfl) (ld_holdsS H.hs g _ _ rfl)

theorem store_dw (H : Reals m c t U C W S) (prev : FVec Ideal S4x128x128 .f32) (g : Fin 4) (x e : Fin 128) :
    gDw (P (g.val + 1) (colU (iblk m c 0 t) g)) (gDy (colU (iblk m c 1 t) g) (colS (iblk m c 3 t) g)) (slabW prev g)
        (ix3 0 x e)
      = prev (ix3 g x e) + ((rDw U C S g.val x.val e.val : ℝ) : EReal) := by
  rw [gDw_at _ (pooled_holds (ld_holds H.hu g _ _ rfl) _ (by omega)) (dy_holds H g)]
  congr 1
  exact ld_slab (Val := Elt Ideal) (e := .f32) prev g _ _ rfl 0 x e

theorem store_du (H : Reals m c t U C W S) (g : Fin 4) (s : Fin 2048) (k : Fin 128) :
    Q (g.val + 1) (gDd (gDy (colU (iblk m c 1 t) g) (colS (iblk m c 3 t) g)) (slabW (iblk m c 2 t) g)) (ix2 s k)
      = ((rDu C W S g.val s.val k.val : ℝ) : EReal) :=
  unpooled_holds (gDd_holds (dy_holds H g) (ld_holdsW H.hw g _ _ rfl)) _ (by omega) s k

theorem outs_du (H : Reals m c t U C W S) (g : Fin 4) (s : Fin 2048) (k : Fin 128) :
    (outsAt0 m c t.val t.isLt).1 (ix2 s (chan g k)) = ((rDu C W S g.val s.val k.val : ℝ) : EReal) := by
  rw [← store_du H g s k]
  by_cases h : t.val % 4 = 0
  · rw [outsAt0_A m c t h]; frame_out
    refine canon_cols (Val := Elt Ideal) (e := .bf16) _ _ _ _ (fun g => Q (g.val + 1)
      (gDd (gDy (colU (iblk m c 1 t) g) (colS (iblk m c 3 t) g)) (slabW (iblk m c 2 t) g))) _ _ _ _ _ g s k ?_ ?_ ?_ ?_
    exacts [du3 _ _ _, du2 _ _ _, du1 _ _ _, du0 _ _ _]
  · rw [outsAt0_B m c t h]; frame_out
    refine canon_cols (Val := Elt Ideal) (e := .bf16) _ _ _ _ (fun g => Q (g.val + 1)
      (gDd (gDy (colU (iblk m c 1 t) g) (colS (iblk m c 3 t) g)) (slabW (iblk m c 2 t) g))) _ _ _ _ _ g s k ?_ ?_ ?_ ?_
    exacts [du3 _ _ _, du2 _ _ _, du1 _ _ _, du0 _ _ _]

theorem outs_dsc_B (H : Reals m c t U C W S) (h : ¬t.val % 4 = 0) (g : Fin 4) (e : Fin 128) :
    (outsAt0 m c t.val t.isLt).2.2 (ix2 0 (chan g e))
      = (outsAt0 m c (t.val - 1) (Nat.lt_of_le_of_lt (Nat.sub_le _ _) t.isLt)).2.2 (ix2 0 (chan g e))
        + ((rDsc U C W g.val e.val : ℝ) : EReal) := by
  rw [← store_dsc H _ g e, outsAt0_B m c t h]; frame_out
  refine canon_cols (Val := Elt Ideal) (e := .f32) _ _ _ _ (fun g => gDsc (P (g.val + 1) (colU (iblk m c 0 t) g)) (colU (iblk m c 1 t) g)
    (slabW (iblk m c 2 t) g) (colS (outsAt0 m c (t.val - 1) _).2.2 g)) _ _ _ _ _ g 0 e ?_ ?_ ?_ ?_
  exacts [dsc3 _ _ _ _, dsc2 _ _ _ _, dsc1 _ _ _ _, dsc0 _ _ _ _]

theorem outs_dsc_A (H : Reals m c t U C W S) (h : t.val % 4 = 0) (g : Fin 4) (e : Fin 128) :
    (outsAt0 m c t.val t.isLt).2.2 (ix2 0 (chan g e)) = 0 + ((rDsc U C W g.val e.val : ℝ) : EReal) := by
  have hz : (k0_pay3 (F := Ideal)) (ix2 0 (chan g e)) = 0 := by pointwise [k0_pay3]
  rw [← hz, ← store_dsc H _ g e, outsAt0_A m c t h]; frame_out
  simp (discharger := decide) only [↓View.readCov_skip, View.readCov_fill]
  refine canon_cols (Val := Elt Ideal) (e := .f32) _ _ _ _ (fun g => gDsc (P (g.val + 1) (colU (iblk m c 0 t) g)) (colU (iblk m c 1 t) g)
    (slabW (iblk m c 2 t) g) (colS k0_pay3 g)) _ _ _ _ _ g 0 e ?_ ?_ ?_ ?_
  exacts [dsc3 _ _ _ _, dsc2 _ _ _ _, dsc1 _ _ _ _, dsc0 _ _ _ _]

theorem outs_dw_B (H : Reals m c t U C W S) (h : ¬t.val % 4 = 0) (g : Fin 4) (x e : Fin 128) :
    (outsAt0 m c t.val t.isLt).2.1 (ix3 g x e)
      = (outsAt0 m c (t.val - 1) (Nat.lt_of_le_of_lt (Nat.sub_le _ _) t.isLt)).2.1 (ix3 g x e)
        + ((rDw U C S g.val x.val e.val : ℝ) : EReal) := by
  rw [← store_dw H _ g x e, outsAt0_B m c t h]; frame_out
  refine canon_slabs (Val := Elt Ideal) (e := .f32) _ _ _ _ (fun g => gDw (P (g.val + 1) (colU (iblk m c 0 t) g))
    (gDy (colU (iblk m c 1 t) g) (colS (iblk m c 3 t) g)) (slabW (outsAt0 m c (t.val - 1) _).2.1 g)) _ _ _ _ _ g x e ?_ ?_ ?_ ?_
  exacts [dw3 _ _ _ _, dw2 _ _ _ _, dw1 _ _ _ _, dw0 _ _ _ _]

theorem outs_dw_A (H : Reals m c t U C W S) (h : t.val % 4 = 0) (g : Fin 4) (x e : Fin 128) :
    (outsAt0 m c t.val t.isLt).2.1 (ix3 g x e) = 0 + ((rDw U C S g.val x.val e.val : ℝ) : EReal) := by
  have hz : (k0_pay2 (F := Ideal)) (ix3 g x e) = 0 := by pointwise [k0_pay2]
  rw [← hz, ← store_dw H _ g x e, outsAt0_A m c t h]; frame_out
  simp (discharger := decide) only [↓View.readCov_skip, View.readCov_fill]
  refine canon_slabs (Val := Elt Ideal) (e := .f32) _ _ _ _ (fun g => gDw (P (g.val + 1) (colU (iblk m c 0 t) g))
    (gDy (colU (iblk m c 1 t) g) (colS (iblk m c 3 t) g)) (slabW k0_pay2 g)) _ _ _ _ _ g x e ?_ ?_ ?_ ?_
  exacts [dw3 _ _ _ _, dw2 _ _ _ _, dw1 _ _ _ _, dw0 _ _ _ _]

end Cert.Proof
end
-- ==== Proof.RefForward.lean ====
/-
  The reference's forward lines read at an index: running sums, their differences over each window, the means, and the
  values `d` each group's product takes.
-/
module

public import proofs.«01_k».proof.Proof.RunningSum
public import proofs.«01_k».proof.Proof.Blocks

@[expose] public section

set_option maxRecDepth 16384

noncomputable section

namespace Cert.Proof

open Idealize.ShloMosaic Idealize.ShloMosaic.TcCoe Cert.ReferenceIdeal Cert.ReferenceIdeal.Gen Cert.ReferenceIdeal.Read Idealize.SL.Sem

variable {x0 : FVec Ideal S4x2048x512 .f32} {U : ℕ → ℕ → ℕ → ℝ}

theorem ref_v1 (hu : ∀ b (s : Fin 2048) (k : Fin 512), x0 (ix3 b s k) = ((U b.val s.val k.val : ℝ) : EReal))
    (b : Fin 4) (t : Fin 2048) (g : Fin 4) (c : Fin 128) :
    val_main_v1 (F := Ideal) x0 (ix4 b t g c) = ((sl g (U b.val) t.val c.val : ℝ) : EReal) := by
  have hb := b.isLt; have ht := t.isLt; have hg := g.isLt; have hc := c.isLt
  have hk : 128 * g.val + c.val < 512 := by omega
  rw [val_main_v1_apply]
  refine Eq.trans ?_ (hu b t ⟨128 * g.val + c.val, hk⟩)
  refine congrArg x0 (funext fun a => Fin.ext ?_)
  match a with
  | ⟨0, _⟩ => show (((b.val * 2048 + t.val) * 4 + g.val) * 128 + c.val) / 1048576 = b.val; omega
  | ⟨1, _⟩ => show (((b.val * 2048 + t.val) * 4 + g.val) * 128 + c.val) / 512 % 2048 = t.val; omega
  | ⟨2, _⟩ => show (((b.val * 2048 + t.val) * 4 + g.val) * 128 + c.val) % 512 = 128 * g.val + c.val; omega

theorem zero_init (i : S_.Idx) : val_main_call0_call0_v0 (F := Ideal) i = 0 := by
  pointwise [val_main_call0_call0_v0, val_main_call0_call0_cst]

theorem ref_v3 (hu : ∀ b (s : Fin 2048) (k : Fin 512), x0 (ix3 b s k) = ((U b.val s.val k.val : ℝ) : EReal))
    (b : Fin 4) (t : Fin 2048) (g : Fin 4) (c : Fin 128) :
    val_main_v3 (F := Ideal) x0 (ix4 b t g c) = ((pre (fun s => sl g (U b.val) s c.val) (t.val + 1) : ℝ) : EReal) := by
  unfold val_main_v3
  rw [← window_forward _ _ t.isLt]
  exact window_host 2047 0 (val_main_v1 (F := Ideal) x0) _ zero_init (fun b t g c => sl g.val (U b.val) t c.val)
    (fun b t g c => ref_v1 hu b t g c) _ _ b t g c

theorem pre_zero (f : ℕ → ℝ) : pre f 0 = 0 := Finset.sum_range_zero _

theorem ref_v4 (hu : ∀ b (s : Fin 2048) (k : Fin 512), x0 (ix3 b s k) = ((U b.val s.val k.val : ℝ) : EReal))
    (b : Fin 4) (n : Fin 2049) (g : Fin 4) (c : Fin 128) :
    val_main_v4 (F := Ideal) x0 (ix4 b n g c) = ((pre (fun s => sl g (U b.val) s c.val) n.val : ℝ) : EReal) := by
  have h3 := ref_v3 hu
  unfold val_main_v4
  generalize val_main_v3 (F := Ideal) x0 = y at h3 ⊢
  pointwise [val_main_v2, val_main_cst]
  have hn := n.isLt
  by_cases h : n.val < 1
  · rw [dif_pos h, show n.val = 0 by omega, pre_zero, EReal.coe_zero]
  · rw [dif_neg h]
    refine (h3 _ _ _ _).trans ?_
    dsimp only
    rw [show n.val - 1 + 1 = n.val by omega]

/-- The count the reference computes in words. -/
theorem cnt_word (w : ℕ) (hw' : w < 2048) (t : Fin 2048) :
    (FloatOps.sitofp (F := Ideal) .f32 (IntOp.minsi (IntOp.addi (BitVec.ofNat 32 t.val) 1#32) (BitVec.ofNat 32 w)) : EReal)
      = ((cnt w t.val : ℝ) : EReal) := by
  have ht := t.isLt
  have e1 : IntOp.addi (BitVec.ofNat 32 t.val) 1#32 = BitVec.ofNat 32 (t.val + 1) := by
    show BitVec.ofNat 32 t.val + 1#32 = _
    rw [← BitVec.ofNat_add]
  have hm : IntOp.minsi (BitVec.ofNat 32 (t.val + 1)) (BitVec.ofNat 32 w) = BitVec.ofNat 32 (min (t.val + 1) w) := by
    unfold IntOp.minsi
    have : (BitVec.ofNat 32 (t.val + 1)).slt (BitVec.ofNat 32 w) = decide (t.val + 1 < w) := by
      rw [BitVec.slt, WordCmp.toInt_ofNat_of_lt (by omega), WordCmp.toInt_ofNat_of_lt (by omega)]
      simp only [Nat.cast_lt]
    rw [this]
    by_cases h : t.val + 1 < w
    · rw [if_pos (by simpa using h), min_eq_left (by omega)]
    · rw [if_neg (by simpa using h), min_eq_right (by omega)]
  rw [e1, hm]
  show (((BitVec.ofNat 32 (min (t.val + 1) w)).toInt : ℝ) : EReal) = _
  rw [WordCmp.toInt_ofNat_of_lt (by omega)]
  unfold cnt
  norm_cast

/-- A difference of running sums over the count is the window's mean. -/
theorem mean_real (f : ℕ → ℝ) (w t : ℕ) (hw : 0 < w) (a z : EReal) (ha : a = ((pre f (t + 1) : ℝ) : EReal))
    (hz : z = ((pre f (t + 1 - w) : ℝ) : EReal)) :
    Ideal.div (a - z) ((cnt w t : ℝ) : EReal) = ((win w f t * (1 / cnt w t) : ℝ) : EReal) := by
  rw [ha, hz, Ideal.div_coe (cnt_ne hw t), ← EReal.coe_sub, ← EReal.coe_mul, win_eq_pre]

theorem ref_run0 (hu : ∀ b (s : Fin 2048) (k : Fin 512), x0 (ix3 b s k) = ((U b.val s.val k.val : ℝ) : EReal))
    (b : Fin 4) (n : Fin 2049) (c : Fin 128) :
    val_main_v8 (F := Ideal) x0 (ix3 b n c) = ((pre (fun s => sl 0 (U b.val) s c.val) n.val : ℝ) : EReal) := by
  have hb := b.isLt; have hn := n.isLt; have hc := c.isLt
  rw [val_main_v8_apply, val_main_v7_apply]
  refine Eq.trans (congrArg _ (funext fun a => Fin.ext ?_)) (ref_v4 hu b n 0 c)
  match a with
  | ⟨0, _⟩ => show ((b.val * 2049 + n.val) * 128 + c.val) / 262272 = b.val; omega
  | ⟨1, _⟩ => show ((b.val * 2049 + n.val) * 128 + c.val) / 128 % 2049 = n.val; omega
  | ⟨2, _⟩ => rfl
  | ⟨3, _⟩ => show ((b.val * 2049 + n.val) * 128 + c.val) % 128 = c.val; omega

theorem ref_lag0 (hu : ∀ b (s : Fin 2048) (k : Fin 512), x0 (ix3 b s k) = ((U b.val s.val k.val : ℝ) : EReal))
    (b : Fin 4) (t : Fin 2048) (c : Fin 128) :
    val_main_v11 (F := Ideal) x0 (ix3 b t c) = ((pre (fun s => sl 0 (U b.val) s c.val) (t.val + 1 - 2) : ℝ) : EReal) := by
  have ht := t.isLt
  have h10 : ∀ b (n : Fin 2047) (c : Fin 128), val_main_v10 (F := Ideal) x0 (ix3 b n c)
      = ((pre (fun s => sl 0 (U b.val) s c.val) n.val : ℝ) : EReal) := fun b n c => by
    rw [val_main_v10_apply]
    exact ref_run0 hu b ⟨n.val, by have := n.isLt; omega⟩ c
  unfold val_main_v11
  generalize val_main_v10 (F := Ideal) x0 = y at h10 ⊢
  pointwise [val_main_v9, val_main_cst_1]
  by_cases h : t.val < 1
  · rw [dif_pos h, show t.val + 1 - 2 = 0 by omega, pre_zero, EReal.coe_zero]
  · rw [dif_neg h]
    refine (h10 _ _ _).trans ?_
    dsimp only
    rw [show t.val - 1 = t.val + 1 - 2 by omega]

theorem ref_cnt0 (b : Fin 4) (t : Fin 2048) (c : Fin 128) :
    val_main_v21 (F := Ideal) (ix3 b t c) = ((cnt 2 t.val : ℝ) : EReal) := by
  pointwise [val_main_v21, val_main_v18, val_main_v17, val_main_v16, val_main_v14, val_main_v6, val_main_v13, val_main_c, val_main_v15, val_main_c_3]
  exact cnt_word 2 (by omega) t

theorem ref_mean0 (hu : ∀ b (s : Fin 2048) (k : Fin 512), x0 (ix3 b s k) = ((U b.val s.val k.val : ℝ) : EReal))
    (b : Fin 4) (t : Fin 2048) (c : Fin 128) :
    val_main_v22 (F := Ideal) x0 (ix3 b t c)
      = ((win 2 (fun s => sl 0 (U b.val) s c.val) t.val * (1 / cnt 2 t.val) : ℝ) : EReal) := by
  have ht := t.isLt
  rw [val_main_v22_apply, val_main_v20_apply, val_main_v19_apply, ref_cnt0, ref_lag0 hu]
  refine mean_real _ 2 _ (by omega) _ _ ((ref_run0 hu b ⟨1 + t.val, by omega⟩ c).trans ?_) rfl
  dsimp only
  rw [Nat.add_comm 1]

theorem ref_run1 (hu : ∀ b (s : Fin 2048) (k : Fin 512), x0 (ix3 b s k) = ((U b.val s.val k.val : ℝ) : EReal))
    (b : Fin 4) (n : Fin 2049) (c : Fin 128) :
    val_main_v24 (F := Ideal) x0 (ix3 b n c) = ((pre (fun s => sl 1 (U b.val) s c.val) n.val : ℝ) : EReal) := by
  have hb := b.isLt; have hn := n.isLt; have hc := c.isLt
  rw [val_main_v24_apply, val_main_v23_apply]
  refine Eq.trans (congrArg _ (funext fun a => Fin.ext ?_)) (ref_v4 hu b n 1 c)
  match a with
  | ⟨0, _⟩ => show ((b.val * 2049 + n.val) * 128 + c.val) / 262272 = b.val; omega
  | ⟨1, _⟩ => show ((b.val * 2049 + n.val) * 128 + c.val) / 128 % 2049 = n.val; omega
  | ⟨2, _⟩ => show 1 + 0 = 1; rfl
  | ⟨3, _⟩ => show ((b.val * 2049 + n.val) * 128 + c.val) % 128 = c.val; omega

theorem ref_lag1 (hu : ∀ b (s : Fin 2048) (k : Fin 512), x0 (ix3 b s k) = ((U b.val s.val k.val : ℝ) : EReal))
    (b : Fin 4) (t : Fin 2048) (c : Fin 128) :
    val_main_v27 (F := Ideal) x0 (ix3 b t c) = ((pre (fun s => sl 1 (U b.val) s c.val) (t.val + 1 - 4) : ℝ) : EReal) := by
  have ht := t.isLt
  have h10 : ∀ b (n : Fin 2045) (c : Fin 128), val_main_v26 (F := Ideal) x0 (ix3 b n c)
      = ((pre (fun s => sl 1 (U b.val) s c.val) n.val : ℝ) : EReal) := fun b n c => by
    rw [val_main_v26_apply]
    exact ref_run1 hu b ⟨n.val, by have := n.isLt; omega⟩ c
  unfold val_main_v27
  generalize val_main_v26 (F := Ideal) x0 = y at h10 ⊢
  pointwise [val_main_v25, val_main_cst_4]
  by_cases h : t.val < 3
  · rw [dif_pos h, show t.val + 1 - 4 = 0 by omega, pre_zero, EReal.coe_zero]
  · rw [dif_neg h]
    refine (h10 _ _ _).trans ?_
    dsimp only
    rw [show t.val - 3 = t.val + 1 - 4 by omega]

theorem ref_cnt1 (b : Fin 4) (t : Fin 2048) (c : Fin 128) :
    val_main_v37 (F := Ideal) (ix3 b t c) = ((cnt 4 t.val : ℝ) : EReal) := by
  pointwise [val_main_v37, val_main_v34, val_main_v33, val_main_v32, val_main_v30, val_main_v6, val_main_v29, val_main_c_6, val_main_v31, val_main_c_7]
  exact cnt_word 4 (by omega) t

theorem ref_mean1 (hu : ∀ b (s : Fin 2048) (k : Fin 512), x0 (ix3 b s k) = ((U b.val s.val k.val : ℝ) : EReal))
    (b : Fin 4) (t : Fin 2048) (c : Fin 128) :
    val_main_v38 (F := Ideal) x0 (ix3 b t c)
      = ((win 4 (fun s => sl 1 (U b.val) s c.val) t.val * (1 / cnt 4 t.val) : ℝ) : EReal) := by
  have ht := t.isLt
  rw [val_main_v38_apply, val_main_v36_apply, val_main_v35_apply, ref_cnt1, ref_lag1 hu]
  refine mean_real _ 4 _ (by omega) _ _ ((ref_run1 hu b ⟨1 + t.val, by omega⟩ c).trans ?_) rfl
  dsimp only
  rw [Nat.add_comm 1]

theorem ref_run2 (hu : ∀ b (s : Fin 2048) (k : Fin 512), x0 (ix3 b s k) = ((U b.val s.val k.val : ℝ) : EReal))
    (b : Fin 4) (n : Fin 2049) (c : Fin 128) :
    val_main_v40 (F := Ideal) x0 (ix3 b n c) = ((pre (fun s => sl 2 (U b.val) s c.val) n.val : ℝ) : EReal) := by
  have hb := b.isLt; have hn := n.isLt; have hc := c.isLt
  rw [val_main_v40_apply, val_main_v39_apply]
  refine Eq.trans (congrArg _ (funext fun a => Fin.ext ?_)) (ref_v4 hu b n 2 c)
  match a with
  | ⟨0, _⟩ => show ((b.val * 2049 + n.val) * 128 + c.val) / 262272 = b.val; omega
  | ⟨1, _⟩ => show ((b.val * 2049 + n.val) * 128 + c.val) / 128 % 2049 = n.val; omega
  | ⟨2, _⟩ => show 2 + 0 = 2; rfl
  | ⟨3, _⟩ => show ((b.val * 2049 + n.val) * 128 + c.val) % 128 = c.val; omega

theorem ref_lag2 (hu : ∀ b (s : Fin 2048) (k : Fin 512), x0 (ix3 b s k) = ((U b.val s.val k.val : ℝ) : EReal))
    (b : Fin 4) (t : Fin 2048) (c : Fin 128) :
    val_main_v43 (F := Ideal) x0 (ix3 b t c) = ((pre (fun s => sl 2 (U b.val) s c.val) (t.val + 1 - 8) : ℝ) : EReal) := by
  have ht := t.isLt
  have h10 : ∀ b (n : Fin 2041) (c : Fin 128), val_main_v42 (F := Ideal) x0 (ix3 b n c)
      = ((pre (fun s => sl 2 (U b.val) s c.val) n.val : ℝ) : EReal) := fun b n c => by
    rw [val_main_v42_apply]
    exact ref_run2 hu b ⟨n.val, by have := n.isLt; omega⟩ c
  unfold val_main_v43
  generalize val_main_v42 (F := Ideal) x0 = y at h10 ⊢
  pointwise [val_main_v41, val_main_cst_8]
  by_cases h : t.val < 7
  · rw [dif_pos h, show t.val + 1 - 8 = 0 by omega, pre_zero, EReal.coe_zero]
  · rw [dif_neg h]
    refine (h10 _ _ _).trans ?_
    dsimp only
    rw [show t.val - 7 = t.val + 1 - 8 by omega]

theorem ref_cnt2 (b : Fin 4) (t : Fin 2048) (c : Fin 128) :
    val_main_v53 (F := Ideal) (ix3 b t c) = ((cnt 8 t.val : ℝ) : EReal) := by
  pointwise [val_main_v53, val_main_v50, val_main_v49, val_main_v48, val_main_v46, val_main_v6, val_main_v45, val_main_c_10, val_main_v47, val_main_c_11]
  exact cnt_word 8 (by omega) t

theorem ref_mean2 (hu : ∀ b (s : Fin 2048) (k : Fin 512), x0 (ix3 b s k) = ((U b.val s.val k.val : ℝ) : EReal))
    (b : Fin 4) (t : Fin 2048) (c : Fin 128) :
    val_main_v54 (F := Ideal) x0 (ix3 b t c)
      = ((win 8 (fun s => sl 2 (U b.val) s c.val) t.val * (1 / cnt 8 t.val) : ℝ) : EReal) := by
  have ht := t.isLt
  rw [val_main_v54_apply, val_main_v52_apply, val_main_v51_apply, ref_cnt2, ref_lag2 hu]
  refine mean_real _ 8 _ (by omega) _ _ ((ref_run2 hu b ⟨1 + t.val, by omega⟩ c).trans ?_) rfl
  dsimp only
  rw [Nat.add_comm 1]

theorem ref_run3 (hu : ∀ b (s : Fin 2048) (k : Fin 512), x0 (ix3 b s k) = ((U b.val s.val k.val : ℝ) : EReal))
    (b : Fin 4) (n : Fin 2049) (c : Fin 128) :
    val_main_v56 (F := Ideal) x0 (ix3 b n c) = ((pre (fun s => sl 3 (U b.val) s c.val) n.val : ℝ) : EReal) := by
  have hb := b.isLt; have hn := n.isLt; have hc := c.isLt
  rw [val_main_v56_apply, val_main_v55_apply]
  refine Eq.trans (congrArg _ (funext fun a => Fin.ext ?_)) (ref_v4 hu b n 3 c)
  match a with
  | ⟨0, _⟩ => show ((b.val * 2049 + n.val) * 128 + c.val) / 262272 = b.val; omega
  | ⟨1, _⟩ => show ((b.val * 2049 + n.val) * 128 + c.val) / 128 % 2049 = n.val; omega
  | ⟨2, _⟩ => show 3 + 0 = 3; rfl
  | ⟨3, _⟩ => show ((b.val * 2049 + n.val) * 128 + c.val) % 128 = c.val; omega

theorem ref_lag3 (hu : ∀ b (s : Fin 2048) (k : Fin 512), x0 (ix3 b s k) = ((U b.val s.val k.val : ℝ) : EReal))
    (b : Fin 4) (t : Fin 2048) (c : Fin 128) :
    val_main_v59 (F := Ideal) x0 (ix3 b t c) = ((pre (fun s => sl 3 (U b.val) s c.val) (t.val + 1 - 16) : ℝ) : EReal) := by
  have ht := t.isLt
  have h10 : ∀ b (n : Fin 2033) (c : Fin 128), val_main_v58 (F := Ideal) x0 (ix3 b n c)
      = ((pre (fun s => sl 3 (U b.val) s c.val) n.val : ℝ) : EReal) := fun b n c => by
    rw [val_main_v58_apply]
    exact ref_run3 hu b ⟨n.val, by have := n.isLt; omega⟩ c
  unfold val_main_v59
  generalize val_main_v58 (F := Ideal) x0 = y at h10 ⊢
  pointwise [val_main_v57, val_main_cst_12]
  by_cases h : t.val < 15
  · rw [dif_pos h, show t.val + 1 - 16 = 0 by omega, pre_zero, EReal.coe_zero]
  · rw [dif_neg h]
    refine (h10 _ _ _).trans ?_
    dsimp only
    rw [show t.val - 15 = t.val + 1 - 16 by omega]

theorem ref_cnt3 (b : Fin 4) (t : Fin 2048) (c : Fin 128) :
    val_main_v69 (F := Ideal) (ix3 b t c) = ((cnt 16 t.val : ℝ) : EReal) := by
  pointwise [val_main_v69, val_main_v66, val_main_v65, val_main_v64, val_main_v62, val_main_v6, val_main_v61, val_main_c_14, val_main_v63, val_main_c_15]
  exact cnt_word 16 (by omega) t

theorem ref_mean3 (hu : ∀ b (s : Fin 2048) (k : Fin 512), x0 (ix3 b s k) = ((U b.val s.val k.val : ℝ) : EReal))
    (b : Fin 4) (t : Fin 2048) (c : Fin 128) :
    val_main_v70 (F := Ideal) x0 (ix3 b t c)
      = ((win 16 (fun s => sl 3 (U b.val) s c.val) t.val * (1 / cnt 16 t.val) : ℝ) : EReal) := by
  have ht := t.isLt
  rw [val_main_v70_apply, val_main_v68_apply, val_main_v67_apply, ref_cnt3, ref_lag3 hu]
  refine mean_real _ 16 _ (by omega) _ _ ((ref_run3 hu b ⟨1 + t.val, by omega⟩ c).trans ?_) rfl
  dsimp only
  rw [Nat.add_comm 1]

/-- The values each group's product takes. -/
theorem ref_v76 (hu : ∀ b (s : Fin 2048) (k : Fin 512), x0 (ix3 b s k) = ((U b.val s.val k.val : ℝ) : EReal))
    (b : Fin 4) (t : Fin 2048) (g : Fin 4) (c : Fin 128) :
    val_main_v76 (F := Ideal) x0 (ix4 b t g c) = ((gd (U b.val) g.val t.val c.val : ℝ) : EReal) := by
  have h0 := ref_mean0 hu
  have h1 := ref_mean1 hu
  have h2 := ref_mean2 hu
  have h3 := ref_mean3 hu
  have e : val_main_v75 (F := Ideal) x0 (ix4 b t g c)
      = ((win (2 ^ (g.val + 1)) (fun s => sl g.val (U b.val) s c.val) t.val * (1 / cnt (2 ^ (g.val + 1)) t.val) : ℝ) : EReal) := by
    unfold val_main_v75 val_main_v74 val_main_v73 val_main_v72 val_main_v71
    generalize val_main_v22 (F := Ideal) x0 = y0 at h0 ⊢
    generalize val_main_v38 (F := Ideal) x0 = y1 at h1 ⊢
    generalize val_main_v54 (F := Ideal) x0 = y2 at h2 ⊢
    generalize val_main_v70 (F := Ideal) x0 = y3 at h3 ⊢
    pointwise
    have hg := g.isLt
    rcases (by omega : g.val = 0 ∨ g.val = 1 ∨ g.val = 2 ∨ g.val = 3) with e | e | e | e
    · rw [dif_pos (by omega), e]
      exact h0 b t c
    · rw [dif_neg (by omega), dif_pos (by omega), e]
      exact h1 b t c
    · rw [dif_neg (by omega), dif_neg (by omega), dif_pos (by omega), e]
      exact h2 b t c
    · rw [dif_neg (by omega), dif_neg (by omega), dif_neg (by omega), e]
      exact h3 b t c
  rw [val_main_v76_apply, e, ref_v1 hu]
  exact (EReal.coe_sub _ _).symm

end Cert.Proof
-- ==== Proof.KernelValue.lean ====
/-
  The kernel's three result arrays, as real numbers: the gradient of the values row by row, the gradients of weights and
  scale summed over the four sequences.
-/
module

public import proofs.«01_k».proof.Proof.Blocks
public import Idealize.ShloMosaic.Lib.Claim

@[expose] public section

set_option maxRecDepth 16384

noncomputable section

namespace Cert.Proof

open Idealize.ShloMosaic Idealize.ShloMosaic.TcCoe Cert.KernelIdeal Cert.KernelIdeal.Gen Idealize.SL.Sem
open Idealize.ShloMosaic.Pipeline (Dat)

/-- The arguments hold these real numbers. -/
structure ArgReals (a0 : FVec Ideal S4x2048x512 .f32) (a1 : FVec Ideal S4x128x128 .f32) (a2 : FVec Ideal S1x512 .f32)
    (a3 : FVec Ideal S4x2048x512 .f32) (U C : ℕ → ℕ → ℕ → ℝ) (W : ℕ → ℕ → ℕ → ℝ) (S : ℕ → ℝ) : Prop where
  hu : ∀ (b : Fin 4) (s : Fin 2048) (k : Fin 512), a0 (ix3 b s k) = ((U b.val s.val k.val : ℝ) : EReal)
  hw : ∀ (g : Fin 4) (x e : Fin 128), a1 (ix3 g x e) = ((W g.val x.val e.val : ℝ) : EReal)
  hs : ∀ k : Fin 512, a2 (ix2 0 k) = ((S k.val : ℝ) : EReal)
  hc : ∀ (b : Fin 4) (s : Fin 2048) (k : Fin 512), a3 (ix3 b s k) = ((C b.val s.val k.val : ℝ) : EReal)

variable {m : (ℓ : Loc nD τ sig) → Buf (Elt Ideal) ℓ} {c : Dev nD}
variable {U C : ℕ → ℕ → ℕ → ℝ} {W : ℕ → ℕ → ℕ → ℝ} {S : ℕ → ℝ}

theorem pt (t : Fin cfg0.N) : t.val < 4 := lt_of_lt_of_eq t.isLt N_0

theorem idx0 (t : Fin cfg0.N) : win0_0.index t = ![t.val, 0] :=
  (by decide +kernel : ∀ t : Fin grid0.N, win0_0.index t = ![t.val, 0]) t

theorem idx1 (t : Fin cfg0.N) : win0_1.index t = ![t.val, 0] :=
  (by decide +kernel : ∀ t : Fin grid0.N, win0_1.index t = ![t.val, 0]) t

theorem idx2 (t : Fin cfg0.N) : win0_2.index t = ![0, 0, 0] :=
  (by decide +kernel : ∀ t : Fin grid0.N, win0_2.index t = ![0, 0, 0]) t

theorem idx3 (t : Fin cfg0.N) : win0_3.index t = ![0, 0] :=
  (by decide +kernel : ∀ t : Fin grid0.N, win0_3.index t = ![0, 0]) t

theorem idx4 (t : Fin cfg0.N) : win0_4.index t = ![t.val, 0] :=
  (by decide +kernel : ∀ t : Fin grid0.N, win0_4.index t = ![t.val, 0]) t

theorem block_reals (H : ArgReals (m ((c : Thread nD τ).loc main_arg0)) (m ((c : Thread nD τ).loc main_arg1))
    (m ((c : Thread nD τ).loc main_arg2)) (m ((c : Thread nD τ).loc main_arg3)) U C W S) (t : Fin cfg0.N) :
    Reals m c t (U t.val) (C t.val) W S where
  hu s k := by
    have ht := pt t
    have hs := s.isLt
    have h1 : (iblk m c 0 t : FVec Ideal S2048x512 .f32) (ix2 s k) = (V m c main_v1 : FVec Ideal S8192x512 .f32)
        (ix2 (⟨2048 * t.val + s.val, by omega⟩ : Fin 8192) k) := by
      blk_point [iblk, idx0 t]
    rw [h1, ← H.hu ⟨t.val, ht⟩ s k]
    entry_read
    pointwise
    refine congrArg (m (c, Proc.tc.devRef main_arg0)) ?_
    exact (ix3_inj _ _ _ _ _ _).mpr ⟨Fin.ext (by show (2048 * t.val + s.val) / 2048 = t.val; omega),
      Fin.ext (by show (2048 * t.val + s.val) % 2048 = s.val; omega), rfl⟩
  hc s k := by
    have ht := pt t
    have hs := s.isLt
    have h1 : (iblk m c 1 t : FVec Ideal S2048x512 .f32) (ix2 s k) = (V m c main_v3 : FVec Ideal S8192x512 .f32)
        (ix2 (⟨2048 * t.val + s.val, by omega⟩ : Fin 8192) k) := by
      blk_point [iblk, idx1 t]
    rw [h1, ← H.hc ⟨t.val, ht⟩ s k]
    entry_read
    pointwise
    refine congrArg (m (c, Proc.tc.devRef main_arg3)) ?_
    exact (ix3_inj _ _ _ _ _ _).mpr ⟨Fin.ext (by show (2048 * t.val + s.val) / 2048 = t.val; omega),
      Fin.ext (by show (2048 * t.val + s.val) % 2048 = s.val; omega), rfl⟩
  hw g x e := by
    rw [← H.hw g x e]
    have h1 : (iblk m c 2 t : FVec Ideal S4x128x128 .f32) (ix3 g x e) = (V m c main_arg1 : FVec Ideal S4x128x128 .f32)
        (ix3 g x e) := by
      blk_point [iblk, idx2 t]
    rw [h1]
    entry_read
    rfl
  hs k := by
    rw [← H.hs k]
    have h1 : (iblk m c 3 t : FVec Ideal S1x512 .f32) (ix2 0 k) = (V m c main_arg2 : FVec Ideal S1x512 .f32)
        (ix2 0 k) := by
      blk_point [iblk, idx3 t]
    rw [h1]
    entry_read
    rfl

/-- The gradient of the values, as one array. -/
def outDu (C : ℕ → ℕ → ℕ → ℝ) (W : ℕ → ℕ → ℕ → ℝ) (S : ℕ → ℝ) (r k : ℕ) : ℝ :=
  rDu (C (r / 2048)) W S (k / 128) (r % 2048) (k % 128)

/-- The gradient of the weights, summed over the sequences. -/
def outDw (U C : ℕ → ℕ → ℕ → ℝ) (S : ℕ → ℝ) (g x e : ℕ) : ℝ := ∑ b : Fin 4, rDw (U b.val) (C b.val) S g x e

/-- The gradient of the scale, summed over the sequences. -/
def outDsc (U C : ℕ → ℕ → ℕ → ℝ) (W : ℕ → ℕ → ℕ → ℝ) (k : ℕ) : ℝ :=
  ∑ b : Fin 4, rDsc (U b.val) (C b.val) W (k / 128) (k % 128)

theorem idx_col {n : ℕ} (y : (⟨2, ![n, 512]⟩ : Shape).Idx) :
    y = ix2 (y 0) (chan ⟨(y 1).val / 128, by have : (y 1).val < 512 := (y 1).isLt; omega⟩
      ⟨(y 1).val % 128, Nat.mod_lt _ (by decide)⟩) := by
  exact (eq_ix2 y).trans (congrArg (ix2 (y 0)) (chan_eta (y 1)).symm)

theorem block_du {t : Fin cfg0.N} {U C : ℕ → ℕ → ℝ} (H : Reals m c t U C W S) (y : S2048x512.Idx) :
    (outsAt0 m c t.val t.isLt).1 y
      = ((rDu C W S ((y 1).val / 128) (y 0).val ((y 1).val % 128) : ℝ) : EReal) :=
  (congrArg _ (idx_col y)).trans (outs_du H _ _ _)

theorem final_du (H : ArgReals (m ((c : Thread nD τ).loc main_arg0)) (m ((c : Thread nD τ).loc main_arg1))
    (m ((c : Thread nD τ).loc main_arg2)) (m ((c : Thread nD τ).loc main_arg3)) U C W S) :
    (dats m 0 c).arrAt 4 cfg0.N
      = ((fun i => ((outDu C W S (i 0).val (i 1).val : ℝ) : EReal)) : FVec Ideal S8192x512 .bf16) := by
  refine (dats m 0 c).arrAt_eq_of_covers 4 _ (by decide +kernel) fun t hf y => ?_
  blk_simp
  rw [after0_4]
  refine (block_du (block_reals H t) y).trans ?_
  have h0 : (y 0).val < 2048 := (y 0).isLt
  rw [idx4 t]
  unfold outDu
  show _ = ((rDu (C ((t.val * 2048 + (y 0).val) / 2048)) W S ((0 * 512 + (y 1).val) / 128)
    ((t.val * 2048 + (y 0).val) % 2048) ((0 * 512 + (y 1).val) % 128) : ℝ) : EReal)
  rw [Nat.zero_mul, Nat.zero_add, show (t.val * 2048 + (y 0).val) / 2048 = t.val by omega,
    show (t.val * 2048 + (y 0).val) % 2048 = (y 0).val by omega]

theorem sum_points (f : ℕ → ℝ) : ∑ p : Fin cfg0.N, ((f p.val : ℝ) : EReal) = ((∑ b : Fin 4, f b.val : ℝ) : EReal) := by
  rw [coe_sum]
  exact Fin.sum_congr' (fun b : Fin 4 => ((f b.val : ℝ) : EReal)) N_0

theorem final_dw (H : ArgReals (m ((c : Thread nD τ).loc main_arg0)) (m ((c : Thread nD τ).loc main_arg1))
    (m ((c : Thread nD τ).loc main_arg2)) (m ((c : Thread nD τ).loc main_arg3)) U C W S) :
    (dats m 0 c).arrAt 5 cfg0.N
      = ((fun i => ((outDw U C S (i 0).val (i 1).val (i 2).val : ℝ) : EReal)) : FVec Ideal S4x128x128 .f32) := by
  refine (dats m 0 c).arrAt_eq_of_after_last 5 t0_3 (by decide +kernel) _ fun j => ?_
  blk_simp
  rw [after0_5, eq_ix3 j]
  rw [Pipeline.eq_sum_fin_of_reset_step_apply_last
    (fun n h (j : Fin 4 × Fin 128 × Fin 128) => (outsAt0 m c n h).2.1 (ix3 j.1 j.2.1 j.2.2)) 4 (fun _ => 0)
    (fun t j => ((rDw (U t.val) (C t.val) S j.1.val j.2.1.val j.2.2.val : ℝ) : EReal))
    (fun t h j => outs_dw_A (block_reals H t) h j.1 j.2.1 j.2.2)
    (fun t h j => outs_dw_B (block_reals H t) h j.1 j.2.1 j.2.2) (le_of_eq N_0) t0_3 rfl (j 0, j 1, j 2), zero_add]
  exact sum_points fun b => rDw (U b) (C b) S (j 0).val (j 1).val (j 2).val

theorem final_dsc (H : ArgReals (m ((c : Thread nD τ).loc main_arg0)) (m ((c : Thread nD τ).loc main_arg1))
    (m ((c : Thread nD τ).loc main_arg2)) (m ((c : Thread nD τ).loc main_arg3)) U C W S) :
    (dats m 0 c).arrAt 6 cfg0.N
      = ((fun i => ((outDsc U C W (i 1).val : ℝ) : EReal)) : FVec Ideal S1x512 .f32) := by
  refine (dats m 0 c).arrAt_eq_of_after_last 6 t0_3 (by decide +kernel) _ fun j => ?_
  blk_simp
  rw [after0_6]
  have e : j = ix2 0 (chan ⟨(j 1).val / 128, by have : (j 1).val < 512 := (j 1).isLt; omega⟩
      ⟨(j 1).val % 128, Nat.mod_lt _ (by decide)⟩) :=
    (idx_col j).trans (congrArg (fun z : Fin 1 => ix2 z _) (Subsingleton.elim (α := Fin 1) _ _))
  have h := Pipeline.eq_sum_fin_of_reset_step_apply_last
    (fun n h (j : Fin 4 × Fin 128) => (outsAt0 m c n h).2.2 (ix2 0 (chan j.1 j.2))) 4 (fun _ => 0)
    (fun t j => ((rDsc (U t.val) (C t.val) W j.1.val j.2.val : ℝ) : EReal))
    (fun t h j => outs_dsc_A (block_reals H t) h j.1 j.2)
    (fun t h j => outs_dsc_B (block_reals H t) h j.1 j.2) (le_of_eq N_0) t0_3 rfl
    (⟨(j 1).val / 128, by have : (j 1).val < 512 := (j 1).isLt; omega⟩, ⟨(j 1).val % 128, Nat.mod_lt _ (by decide)⟩)
  refine (congrArg _ e).trans (h.trans ?_)
  rw [zero_add]
  exact sum_points fun b => rDsc (U b) (C b) W ((j 1).val / 128) ((j 1).val % 128)

end Cert.Proof
end
-- ==== Proof.HostSum.lean ====
/-
  The reference's sum over two axes at once, read at an index.
-/
module

public import Idealize.ShloMosaic.Lib.Pointwise

@[expose] public section

noncomputable section

namespace Cert.Proof

open Idealize.ShloMosaic

/-- A sum over the first two of three axes. -/
theorem sum_two_axes {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  unfold Ideal.hostReduceAdd
  congr 1
  rw [Finset.sum_filter_eq_sum_of_fiber _ (fun p : Fin n0 × Fin n1 => ix3 p.1 p.2 k)
    (fun _ _ e => Prod.ext (congrFun e 0) (congrFun e 1)) (fun i => ?_) v]
  · simp only [Fintype.sum_prod_type]
  · constructor
    · intro e
      refine ⟨(i 0, i 1), funext fun a => Fin.ext ?_⟩
      match a with
      | ⟨0, _⟩ => rfl
      | ⟨1, _⟩ => rfl
      | ⟨2, _⟩ => exact (congrArg Fin.val (congrFun e 0)).symm
    · rintro ⟨p, rfl⟩
      refine funext fun a => Fin.ext ?_
      match a with
      | ⟨0, _⟩ => rfl

end Cert.Proof
end
-- ==== Proof.RefBack.lean ====
/-
  The reference's backward lines read at an index: the gradients of the scale and of the weights, the gradient reaching
  each group's values, and what the running sum's gradient makes of it.
-/
module

public import proofs.«01_k».proof.Proof.RefForward
public import proofs.«01_k».proof.Proof.KernelValue
public import proofs.«01_k».proof.Proof.HostSum

@[expose] public section

set_option maxRecDepth 16384

noncomputable section

namespace Cert.Proof

open Idealize.ShloMosaic Idealize.ShloMosaic.TcCoe Cert.ReferenceIdeal Cert.ReferenceIdeal.Gen Cert.ReferenceIdeal.Read
open Idealize.SL.Sem

variable {x0 : FVec Ideal S4x2048x512 .f32} {x1 : FVec Ideal S4x128x128 .f32} {x2 : FVec Ideal S1x512 .f32}
variable {x3 : FVec Ideal S4x2048x512 .f32} {U C : ℕ → ℕ → ℕ → ℝ} {W : ℕ → ℕ → ℕ → ℝ} {S : ℕ → ℝ}

/-- The groups' products. -/
theorem ref_v78 (H : ArgReals x0 x1 x2 x3 U C W S) (b : Fin 4) (t : Fin 2048) (g : Fin 4) (e : Fin 128) :
    val_main_v78 (F := Ideal) x0 x1 (ix4 b t g e) = ((yR (gd (U b.val) g.val) (W g.val) t.val e.val : ℝ) : EReal) := by
  rw [val_main_v78_apply, val_main_v77_apply]
  unfold yR
  rw [coe_sum]
  refine Finset.sum_congr rfl fun c _ => ?_
  rw [EReal.coe_mul, mul_comm]
  refine congrArg₂ (· * ·) (Eq.trans (congrArg _ (funext fun a => ?_)) (ref_v76 H.hu b t g c))
    (Eq.trans (congrArg x1 (funext fun a => ?_)) (H.hw g c e))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem ref_v79 (H : ArgReals x0 x1 x2 x3 U C W S) (b : Fin 4) (t : Fin 2048) (k : Fin 512) :
    val_main_v79 (F := Ideal) x0 x1 (ix3 b t k)
      = ((yR (gd (U b.val) (k.val / 128)) (W (k.val / 128)) t.val (k.val % 128) : ℝ) : EReal) := by
  have hb := b.isLt; have ht := t.isLt; have hk := k.isLt
  rw [val_main_v79_apply]
  refine Eq.trans (congrArg _ (funext fun a => Fin.ext ?_)) (ref_v78 H b t ⟨k.val / 128, by omega⟩ ⟨k.val % 128, by omega⟩)
  match a with
  | ⟨0, _⟩ => show ((b.val * 2048 + t.val) * 512 + k.val) / 1048576 = b.val; omega
  | ⟨1, _⟩ => show ((b.val * 2048 + t.val) * 512 + k.val) / 512 % 2048 = t.val; omega
  | ⟨2, _⟩ => show ((b.val * 2048 + t.val) * 512 + k.val) / 128 % 4 = k.val / 128; omega
  | ⟨3, _⟩ => show ((b.val * 2048 + t.val) * 512 + k.val) % 128 = k.val % 128; omega

/-- The gradient of the scale. -/
theorem ref_v84 (H : ArgReals x0 x1 x2 x3 U C W S) (k : Fin 512) :
    val_main_v84 (F := Ideal) x0 x1 x3 (ix1 k) = ((outDsc U C W k.val : ℝ) : EReal) := by
  have h79 := ref_v79 H
  unfold val_main_v84 val_main_v83
  generalize val_main_v79 (F := Ideal) x0 x1 = y at h79 ⊢
  pointwise [val_main_cst_16]
  have hk := k.isLt
  rw [sum_two_axes, zero_add]
  unfold outDsc rDsc dscR
  rw [coe_sum]
  refine Finset.sum_congr rfl fun b _ => ?_
  rw [coe_sum]
  refine Finset.sum_congr rfl fun t _ => ?_
  rw [EReal.coe_mul]
  refine congrArg₂ (· * ·) (h79 b t k) ((H.hc b t k).trans ?_)
  unfold sl
  rw [show 128 * (k.val / 128) + k.val % 128 = k.val by omega]

theorem ref_v152 (H : ArgReals x0 x1 x2 x3 U C W S) (z : Fin 1) (k : Fin 512) :
    val_main_v152 (F := Ideal) x0 x1 x3 (ix2 z k) = ((outDsc U C W k.val : ℝ) : EReal) := by
  have h84 := ref_v84 H
  unfold val_main_v152 val_main_v88 val_main_v85
  generalize val_main_v84 (F := Ideal) x0 x1 x3 = y at h84 ⊢
  pointwise [val_main_cst_17]
  rw [sum_two_axes, zero_add]
  simp only [Fin.sum_univ_one]
  pointwise
  exact h84 k

theorem ref_v87 (H : ArgReals x0 x1 x2 x3 U C W S) (b : Fin 4) (t : Fin 2048) (k : Fin 512) :
    val_main_v87 (F := Ideal) x2 x3 (ix3 b t k) = ((C b.val t.val k.val * S k.val : ℝ) : EReal) := by
  have e : val_main_v86 (F := Ideal) x2 (ix3 b t k) = ((S k.val : ℝ) : EReal) := by
    have hk := k.isLt
    rw [val_main_v86_apply, val_main_v80_apply, val_main_v0_apply]
    refine Eq.trans (congrArg _ (funext fun a => Fin.ext ?_)) (H.hs k)
    match a with
    | ⟨0, _⟩ => rfl
    | ⟨1, _⟩ => show k.val % 512 = k.val; omega
  rw [val_main_v87_apply, e, H.hc, EReal.coe_mul]
  rfl

theorem ref_v89 (H : ArgReals x0 x1 x2 x3 U C W S) (b : Fin 4) (t : Fin 2048) (g : Fin 4) (e : Fin 128) :
    val_main_v89 (F := Ideal) x2 x3 (ix4 b t g e) = ((gy (C b.val) S g.val t.val e.val : ℝ) : EReal) := by
  have hb := b.isLt; have ht := t.isLt; have hg := g.isLt; have hc := e.isLt
  rw [val_main_v89_apply]
  refine Eq.trans (congrArg _ (funext fun a => Fin.ext ?_)) (ref_v87 H b t ⟨128 * g.val + e.val, by omega⟩)
  match a with
  | ⟨0, _⟩ => show (((b.val * 2048 + t.val) * 4 + g.val) * 128 + e.val) / 1048576 = b.val; omega
  | ⟨1, _⟩ => show (((b.val * 2048 + t.val) * 4 + g.val) * 128 + e.val) / 512 % 2048 = t.val; omega
  | ⟨2, _⟩ => show (((b.val * 2048 + t.val) * 4 + g.val) * 128 + e.val) % 512 = 128 * g.val + e.val; omega

/-- The gradient reaching each group's values. -/
theorem ref_v92 (H : ArgReals x0 x1 x2 x3 U C W S) (b : Fin 4) (t : Fin 2048) (g : Fin 4) (c : Fin 128) :
    val_main_v92 (F := Ideal) x1 x2 x3 (ix4 b t g c)
      = ((ddR (gy (C b.val) S g.val) (W g.val) t.val c.val : ℝ) : EReal) := by
  rw [val_main_v92_apply, val_main_v91_apply]
  unfold ddR
  rw [coe_sum]
  refine Finset.sum_congr rfl fun e _ => ?_
  rw [EReal.coe_mul, val_main_v90_apply]
  refine congrArg₂ (· * ·) (Eq.trans (congrArg _ (funext fun a => ?_)) (ref_v89 H b t g e))
    (Eq.trans (congrArg x1 (funext fun a => ?_)) (H.hw g c e))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The gradient of the weights. -/
theorem ref_v94 (H : ArgReals x0 x1 x2 x3 U C W S) (g : Fin 4) (c e : Fin 128) :
    val_main_v94 (F := Ideal) x0 x2 x3 (ix3 g c e) = ((outDw U C S g.val c.val e.val : ℝ) : EReal) := by
  have h89 := ref_v89 H
  have h76 := ref_v76 H.hu
  unfold val_main_v94 val_main_v93 val_main_v90
  generalize val_main_v89 (F := Ideal) x2 x3 = y at h89 ⊢
  generalize val_main_v76 (F := Ideal) x0 = d at h76 ⊢
  pointwise
  unfold outDw rDw dwR
  rw [coe_sum]
  refine Finset.sum_congr rfl fun b _ => ?_
  rw [coe_sum]
  refine Finset.sum_congr rfl fun t _ => ?_
  rw [EReal.coe_mul, mul_comm]
  exact congrArg₂ (· * ·) (h76 b t g c) (h89 b t g e)

theorem ref_m0 (H : ArgReals x0 x1 x2 x3 U C W S) (b : Fin 4) (t : Fin 2048) (c : Fin 128) :
    val_main_v137 (F := Ideal) x1 x2 x3 (ix3 b t c)
      = ((mR 2 (ddR (gy (C b.val) S 0) (W 0)) t.val c.val : ℝ) : EReal) := by
  have hb := b.isLt; have ht := t.isLt; have hc := c.isLt
  have e : val_main_v97 (F := Ideal) x1 x2 x3 (ix3 b t c) = ((ddR (gy (C b.val) S 0) (W 0) t.val c.val : ℝ) : EReal) := by
    rw [val_main_v97_apply, val_main_v96_apply]
    refine Eq.trans (congrArg _ (funext fun a => Fin.ext ?_)) (ref_v92 H b t 0 c)
    match a with
    | ⟨0, _⟩ => show ((b.val * 2048 + t.val) * 128 + c.val) / 262144 = b.val; omega
    | ⟨1, _⟩ => show ((b.val * 2048 + t.val) * 128 + c.val) / 128 % 2048 = t.val; omega
    | ⟨2, _⟩ => rfl
    | ⟨3, _⟩ => show ((b.val * 2048 + t.val) * 128 + c.val) % 128 = c.val; omega
  have n : val_main_v136 (F := Ideal) (ix3 b t c) = ((cnt 2 t.val : ℝ) : EReal) := ref_cnt0 b t c
  rw [val_main_v137_apply, e, n]
  unfold mR
  rw [if_pos ht, EReal.coe_mul]
  exact Ideal.div_coe (cnt_ne (by omega) _) _

theorem ref_m1 (H : ArgReals x0 x1 x2 x3 U C W S) (b : Fin 4) (t : Fin 2048) (c : Fin 128) :
    val_main_v126 (F := Ideal) x1 x2 x3 (ix3 b t c)
      = ((mR 4 (ddR (gy (C b.val) S 1) (W 1)) t.val c.val : ℝ) : EReal) := by
  have hb := b.isLt; have ht := t.isLt; have hc := c.isLt
  have e : val_main_v99 (F := Ideal) x1 x2 x3 (ix3 b t c) = ((ddR (gy (C b.val) S 1) (W 1) t.val c.val : ℝ) : EReal) := by
    rw [val_main_v99_apply, val_main_v98_apply]
    refine Eq.trans (congrArg _ (funext fun a => Fin.ext ?_)) (ref_v92 H b t 1 c)
    match a with
    | ⟨0, _⟩ => show ((b.val * 2048 + t.val) * 128 + c.val) / 262144 = b.val; omega
    | ⟨1, _⟩ => show ((b.val * 2048 + t.val) * 128 + c.val) / 128 % 2048 = t.val; omega
    | ⟨2, _⟩ => rfl
    | ⟨3, _⟩ => show ((b.val * 2048 + t.val) * 128 + c.val) % 128 = c.val; omega
  have n : val_main_v125 (F := Ideal) (ix3 b t c) = ((cnt 4 t.val : ℝ) : EReal) := ref_cnt1 b t c
  rw [val_main_v126_apply, e, n]
  unfold mR
  rw [if_pos ht, EReal.coe_mul]
  exact Ideal.div_coe (cnt_ne (by omega) _) _

theorem ref_m2 (H : ArgReals x0 x1 x2 x3 U C W S) (b : Fin 4) (t : Fin 2048) (c : Fin 128) :
    val_main_v115 (F := Ideal) x1 x2 x3 (ix3 b t c)
      = ((mR 8 (ddR (gy (C b.val) S 2) (W 2)) t.val c.val : ℝ) : EReal) := by
  have hb := b.isLt; have ht := t.isLt; have hc := c.isLt
  have e : val_main_v101 (F := Ideal) x1 x2 x3 (ix3 b t c) = ((ddR (gy (C b.val) S 2) (W 2) t.val c.val : ℝ) : EReal) := by
    rw [val_main_v101_apply, val_main_v100_apply]
    refine Eq.trans (congrArg _ (funext fun a => Fin.ext ?_)) (ref_v92 H b t 2 c)
    match a with
    | ⟨0, _⟩ => show ((b.val * 2048 + t.val) * 128 + c.val) / 262144 = b.val; omega
    | ⟨1, _⟩ => show ((b.val * 2048 + t.val) * 128 + c.val) / 128 % 2048 = t.val; omega
    | ⟨2, _⟩ => rfl
    | ⟨3, _⟩ => show ((b.val * 2048 + t.val) * 128 + c.val) % 128 = c.val; omega
  have n : val_main_v114 (F := Ideal) (ix3 b t c) = ((cnt 8 t.val : ℝ) : EReal) := ref_cnt2 b t c
  rw [val_main_v115_apply, e, n]
  unfold mR
  rw [if_pos ht, EReal.coe_mul]
  exact Ideal.div_coe (cnt_ne (by omega) _) _

theorem ref_m3 (H : ArgReals x0 x1 x2 x3 U C W S) (b : Fin 4) (t : Fin 2048) (c : Fin 128) :
    val_main_v105 (F := Ideal) x1 x2 x3 (ix3 b t c)
      = ((mR 16 (ddR (gy (C b.val) S 3) (W 3)) t.val c.val : ℝ) : EReal) := by
  have hb := b.isLt; have ht := t.isLt; have hc := c.isLt
  have e : val_main_v103 (F := Ideal) x1 x2 x3 (ix3 b t c) = ((ddR (gy (C b.val) S 3) (W 3) t.val c.val : ℝ) : EReal) := by
    rw [val_main_v103_apply, val_main_v102_apply]
    refine Eq.trans (congrArg _ (funext fun a => Fin.ext ?_)) (ref_v92 H b t 3 c)
    match a with
    | ⟨0, _⟩ => show ((b.val * 2048 + t.val) * 128 + c.val) / 262144 = b.val; omega
    | ⟨1, _⟩ => show ((b.val * 2048 + t.val) * 128 + c.val) / 128 % 2048 = t.val; omega
    | ⟨2, _⟩ => rfl
    | ⟨3, _⟩ => show ((b.val * 2048 + t.val) * 128 + c.val) % 128 = c.val; omega
  have n : val_main_v104 (F := Ideal) (ix3 b t c) = ((cnt 16 t.val : ℝ) : EReal) := ref_cnt3 b t c
  rw [val_main_v105_apply, e, n]
  unfold mR
  rw [if_pos ht, EReal.coe_mul]
  exact Ideal.div_coe (cnt_ne (by omega) _) _

end Cert.Proof
-- ==== Proof.RefDu.lean ====
/-
  The last of the reference's backward lines: the running sum's gradient, a sum over later times of each mean's gradient
  less the same a window later, is the window sum forward in time.
-/
module

public import proofs.«01_k».proof.Proof.RefBack

@[expose] public section

set_option maxRecDepth 16384

noncomputable section

namespace Cert.Proof

open Idealize.ShloMosaic Idealize.ShloMosaic.TcCoe Cert.ReferenceIdeal Cert.ReferenceIdeal.Gen Cert.ReferenceIdeal.Read
open Idealize.SL.Sem

variable {x0 : FVec Ideal S4x2048x512 .f32} {x1 : FVec Ideal S4x128x128 .f32} {x2 : FVec Ideal S1x512 .f32}
variable {x3 : FVec Ideal S4x2048x512 .f32} {U C : ℕ → ℕ → ℕ → ℝ} {W : ℕ → ℕ → ℕ → ℝ} {S : ℕ → ℝ}

/-- What a window of width `w` sends to the running sum at `n`. -/
def tapR (w : ℕ) (f : ℕ → ℝ) (n : ℕ) : ℝ := (if n = 0 then 0 else f (n - 1)) - f (n + w - 1)

theorem mR_end (w : ℕ) (dd : ℕ → ℕ → ℝ) (t c : ℕ) (h : 2048 ≤ t) : mR w dd t c = 0 := if_neg (by omega)

theorem ref_tap0 (H : ArgReals x0 x1 x2 x3 U C W S) (b : Fin 4) (n : Fin 2049) (c : Fin 128) :
    val_main_v143 (F := Ideal) x1 x2 x3 (ix3 b n c)
      = ((tapR 2 (fun s => mR 2 (ddR (gy (C b.val) S 0) (W 0)) s c.val) n.val : ℝ) : EReal) := by
  have hn := n.isLt
  have hm := ref_m0 H
  have hs : ∀ b (t : Fin 2047) (c : Fin 128), val_main_v141 (F := Ideal) x1 x2 x3 (ix3 b t c)
      = ((-mR 2 (ddR (gy (C b.val) S 0) (W 0)) (t.val + 1) c.val : ℝ) : EReal) := fun b t c => by
    have ht := t.isLt
    rw [val_main_v141_apply, val_main_v138_apply, EReal.coe_neg, Nat.add_comm t.val]
    exact congrArg Neg.neg (hm b ⟨1 + t.val, by omega⟩ c)
  rw [val_main_v143_apply]
  unfold val_main_v139 val_main_v142
  generalize val_main_v137 (F := Ideal) x1 x2 x3 = y at hm ⊢
  generalize val_main_v141 (F := Ideal) x1 x2 x3 = z at hs ⊢
  pointwise [val_main_cst_27, val_main_cst_28]
  unfold tapR
  rw [sub_eq_add_neg, EReal.coe_add]
  refine congrArg₂ (· + ·) ?_ ?_
  · by_cases h : n.val = 0
    · rw [dif_neg (by omega), if_pos h, EReal.coe_zero]
    · rw [dif_pos (by omega), if_neg h]
      exact hm _ _ _
  · by_cases h : n.val < 2047
    · rw [dif_pos h]
      exact hs _ _ _
    · rw [dif_neg h]
      dsimp only
      rw [mR_end _ _ _ _ (by omega), neg_zero, EReal.coe_zero]

theorem ref_tap1 (H : ArgReals x0 x1 x2 x3 U C W S) (b : Fin 4) (n : Fin 2049) (c : Fin 128) :
    val_main_v132 (F := Ideal) x1 x2 x3 (ix3 b n c)
      = ((tapR 4 (fun s => mR 4 (ddR (gy (C b.val) S 1) (W 1)) s c.val) n.val : ℝ) : EReal) := by
  have hn := n.isLt
  have hm := ref_m1 H
  have hs : ∀ b (t : Fin 2045) (c : Fin 128), val_main_v130 (F := Ideal) x1 x2 x3 (ix3 b t c)
      = ((-mR 4 (ddR (gy (C b.val) S 1) (W 1)) (t.val + 3) c.val : ℝ) : EReal) := fun b t c => by
    have ht := t.isLt
    rw [val_main_v130_apply, val_main_v127_apply, EReal.coe_neg, Nat.add_comm t.val]
    exact congrArg Neg.neg (hm b ⟨3 + t.val, by omega⟩ c)
  rw [val_main_v132_apply]
  unfold val_main_v128 val_main_v131
  generalize val_main_v126 (F := Ideal) x1 x2 x3 = y at hm ⊢
  generalize val_main_v130 (F := Ideal) x1 x2 x3 = z at hs ⊢
  pointwise [val_main_cst_24, val_main_cst_25]
  unfold tapR
  rw [sub_eq_add_neg, EReal.coe_add]
  refine congrArg₂ (· + ·) ?_ ?_
  · by_cases h : n.val = 0
    · rw [dif_neg (by omega), if_pos h, EReal.coe_zero]
    · rw [dif_pos (by omega), if_neg h]
      exact hm _ _ _
  · by_cases h : n.val < 2045
    · rw [dif_pos h]
      exact hs _ _ _
    · rw [dif_neg h]
      dsimp only
      rw [mR_end _ _ _ _ (by omega), neg_zero, EReal.coe_zero]

theorem ref_tap2 (H : ArgReals x0 x1 x2 x3 U C W S) (b : Fin 4) (n : Fin 2049) (c : Fin 128) :
    val_main_v121 (F := Ideal) x1 x2 x3 (ix3 b n c)
      = ((tapR 8 (fun s => mR 8 (ddR (gy (C b.val) S 2) (W 2)) s c.val) n.val : ℝ) : EReal) := by
  have hn := n.isLt
  have hm := ref_m2 H
  have hs : ∀ b (t : Fin 2041) (c : Fin 128), val_main_v119 (F := Ideal) x1 x2 x3 (ix3 b t c)
      = ((-mR 8 (ddR (gy (C b.val) S 2) (W 2)) (t.val + 7) c.val : ℝ) : EReal) := fun b t c => by
    have ht := t.isLt
    rw [val_main_v119_apply, val_main_v116_apply, EReal.coe_neg, Nat.add_comm t.val]
    exact congrArg Neg.neg (hm b ⟨7 + t.val, by omega⟩ c)
  rw [val_main_v121_apply]
  unfold val_main_v117 val_main_v120
  generalize val_main_v115 (F := Ideal) x1 x2 x3 = y at hm ⊢
  generalize val_main_v119 (F := Ideal) x1 x2 x3 = z at hs ⊢
  pointwise [val_main_cst_21, val_main_cst_22]
  unfold tapR
  rw [sub_eq_add_neg, EReal.coe_add]
  refine congrArg₂ (· + ·) ?_ ?_
  · by_cases h : n.val = 0
    · rw [dif_neg (by omega), if_pos h, EReal.coe_zero]
    · rw [dif_pos (by omega), if_neg h]
      exact hm _ _ _
  · by_cases h : n.val < 2041
    · rw [dif_pos h]
      exact hs _ _ _
    · rw [dif_neg h]
      dsimp only
      rw [mR_end _ _ _ _ (by omega), neg_zero, EReal.coe_zero]

theorem ref_tap3 (H : ArgReals x0 x1 x2 x3 U C W S) (b : Fin 4) (n : Fin 2049) (c : Fin 128) :
    val_main_v111 (F := Ideal) x1 x2 x3 (ix3 b n c)
      = ((tapR 16 (fun s => mR 16 (ddR (gy (C b.val) S 3) (W 3)) s c.val) n.val : ℝ) : EReal) := by
  have hn := n.isLt
  have hm := ref_m3 H
  have hs : ∀ b (t : Fin 2033) (c : Fin 128), val_main_v109 (F := Ideal) x1 x2 x3 (ix3 b t c)
      = ((-mR 16 (ddR (gy (C b.val) S 3) (W 3)) (t.val + 15) c.val : ℝ) : EReal) := fun b t c => by
    have ht := t.isLt
    rw [val_main_v109_apply, val_main_v106_apply, EReal.coe_neg, Nat.add_comm t.val]
    exact congrArg Neg.neg (hm b ⟨15 + t.val, by omega⟩ c)
  rw [val_main_v111_apply]
  unfold val_main_v107 val_main_v110
  generalize val_main_v105 (F := Ideal) x1 x2 x3 = y at hm ⊢
  generalize val_main_v109 (F := Ideal) x1 x2 x3 = z at hs ⊢
  pointwise [val_main_cst_18, val_main_cst_19]
  unfold tapR
  rw [sub_eq_add_neg, EReal.coe_add]
  refine congrArg₂ (· + ·) ?_ ?_
  · by_cases h : n.val = 0
    · rw [dif_neg (by omega), if_pos h, EReal.coe_zero]
    · rw [dif_pos (by omega), if_neg h]
      exact hm _ _ _
  · by_cases h : n.val < 2033
    · rw [dif_pos h]
      exact hs _ _ _
    · rw [dif_neg h]
      dsimp only
      rw [mR_end _ _ _ _ (by omega), neg_zero, EReal.coe_zero]

/-- The gradient of the running sum with its leading zero. -/
theorem ref_v146 (H : ArgReals x0 x1 x2 x3 U C W S) (b : Fin 4) (n : Fin 2049) (g : Fin 4) (c : Fin 128) :
    val_main_v146 (F := Ideal) x1 x2 x3 (ix4 b n g c)
      = ((tapR (2 ^ (g.val + 1)) (fun s => mR (2 ^ (g.val + 1)) (ddR (gy (C b.val) S g.val) (W g.val)) s c.val) n.val : ℝ) : EReal) := by
  have h0 := ref_tap0 H
  have h1 := ref_tap1 H
  have h2 := ref_tap2 H
  have h3 := ref_tap3 H
  unfold val_main_v146 val_main_v145 val_main_v144 val_main_v135 val_main_v134 val_main_v133 val_main_v124 val_main_v123
    val_main_v122 val_main_v113 val_main_v112
  generalize val_main_v143 (F := Ideal) x1 x2 x3 = y0 at h0 ⊢
  generalize val_main_v132 (F := Ideal) x1 x2 x3 = y1 at h1 ⊢
  generalize val_main_v121 (F := Ideal) x1 x2 x3 = y2 at h2 ⊢
  generalize val_main_v111 (F := Ideal) x1 x2 x3 = y3 at h3 ⊢
  pointwise [val_main_cst_29, val_main_cst_26, val_main_cst_23, val_main_cst_20]
  match g with
  | ⟨0, _⟩ =>
    rw [dif_neg (by simp), dif_neg (by simp), dif_neg (by simp), dif_pos (by simp), zero_add, zero_add, zero_add]
    exact h0 b n c
  | ⟨1, _⟩ =>
    rw [dif_neg (by simp), dif_neg (by simp), dif_pos (by simp), dif_neg (by simp), zero_add, zero_add, add_zero]
    exact h1 b n c
  | ⟨2, _⟩ =>
    rw [dif_neg (by simp), dif_pos (by simp), dif_neg (by simp), dif_neg (by simp), zero_add, add_zero, add_zero]
    exact h2 b n c
  | ⟨3, _⟩ =>
    rw [dif_pos (by simp), dif_neg (by simp), dif_neg (by simp), dif_neg (by simp), add_zero, add_zero, add_zero]
    exact h3 b n c

/-- The gradient of each group's values. -/
theorem ref_v150 (H : ArgReals x0 x1 x2 x3 U C W S) (b : Fin 4) (t : Fin 2048) (g : Fin 4) (c : Fin 128) :
    val_main_v150 (F := Ideal) x1 x2 x3 (ix4 b t g c) = ((rDu (C b.val) W S g.val t.val c.val : ℝ) : EReal) := by
  have zi : ∀ i, val_main_call1_call0_v0 (F := Ideal) i = 0 := fun i => by
    pointwise [val_main_call1_call0_v0, val_main_call1_call0_cst]
  have h148 : ∀ (b : Fin 4) (t : Fin 2048) (g : Fin 4) (c : Fin 128), val_main_v148 (F := Ideal) x1 x2 x3 (ix4 b t g c)
      = (((fun (b : Fin 4) (t : ℕ) (g : Fin 4) (c : Fin 128) => tapR (2 ^ (g.val + 1))
        (fun s => mR (2 ^ (g.val + 1)) (ddR (gy (C b.val) S g.val) (W g.val)) s c.val) (1 + t)) b t.val g c : ℝ) : EReal) :=
    fun b t g c => by
      have ht := t.isLt
      rw [val_main_v148_apply]
      refine Eq.trans (congrArg (val_main_v146 (F := Ideal) x1 x2 x3) (funext fun a => ?_))
        (ref_v146 H b ⟨1 + t.val, by omega⟩ g c)
      match a with
      | ⟨0, _⟩ => rfl
      | ⟨1, _⟩ => rfl
      | ⟨2, _⟩ => rfl
      | ⟨3, _⟩ => rfl
  have h149 := window_host 0 2047 (val_main_v148 (F := Ideal) x1 x2 x3) _ zi
    (fun (b : Fin 4) (t : ℕ) (g : Fin 4) (c : Fin 128) => tapR (2 ^ (g.val + 1))
        (fun s => mR (2 ^ (g.val + 1)) (ddR (gy (C b.val) S g.val) (W g.val)) s c.val) (1 + t)) h148
    reduceWindows_S4x2048x4x128_S4x2048x4x128_w1s1p0_0_w2048s1p0_2047_w1s1p0_0_w1s1p0_0 h_S_ b t g c
  rw [val_main_v150_apply, val_main_v95_apply]
  unfold val_main_v149
  refine Eq.trans (congrArg₂ (· + ·) (congrArg Neg.neg (ref_v92 H b t g c)) (h149.trans (congrArg Real.toEReal
    ((Finset.sum_congr rfl fun n _ => ?_).trans (fwin_eq_tail (2 ^ (g.val + 1)) 2048
      (fun s => mR (2 ^ (g.val + 1)) (ddR (gy (C b.val) S g.val) (W g.val)) s c.val)
      (fun s hs => mR_end _ _ _ _ hs) t.val))))) ?_
  swap
  · unfold rDu duR
    rw [sub_eq_add_neg, EReal.coe_add, EReal.coe_neg]
    exact add_comm _ _
  unfold tapR
  dsimp only
  generalize 2 ^ (g.val + 1) = w
  by_cases h1 : t.val + n < 2048
  · rw [if_pos ⟨by omega, by omega⟩, if_neg (by omega), show 1 + (t.val + n - 0) - 1 = t.val + n by omega,
      show 1 + (t.val + n - 0) + w - 1 = t.val + n + w by omega]
  · rw [if_neg (by omega), mR_end _ _ (t.val + n) _ (by omega), mR_end _ _ (t.val + n + w) _ (by omega), sub_zero]

/-- The gradient of the values, as the program returns it. -/
theorem ref_v154 (H : ArgReals x0 x1 x2 x3 U C W S) (r : Fin 8192) (k : Fin 512) :
    val_main_v154 (F := Ideal) x1 x2 x3 (ix2 r k) = ((outDu C W S r.val k.val : ℝ) : EReal) := by
  have hr := r.isLt; have hk := k.isLt
  rw [val_main_v154_apply, val_main_v153_apply, val_main_v151_apply]
  refine Eq.trans ?_ (ref_v150 H ⟨r.val / 2048, by omega⟩ ⟨r.val % 2048, by omega⟩ ⟨k.val / 128, by omega⟩ ⟨k.val % 128, by omega⟩)
  refine congrArg (val_main_v150 (F := Ideal) x1 x2 x3) (funext fun a => Fin.ext ?_)
  match a with
  | ⟨0, _⟩ =>
    show (((r.val * 512 + k.val) / 1048576 * 2048 + (r.val * 512 + k.val) / 512 % 2048) * 512
      + (r.val * 512 + k.val) % 512) / 1048576 = r.val / 2048
    omega
  | ⟨1, _⟩ =>
    show (((r.val * 512 + k.val) / 1048576 * 2048 + (r.val * 512 + k.val) / 512 % 2048) * 512
      + (r.val * 512 + k.val) % 512) / 512 % 2048 = r.val % 2048
    omega
  | ⟨2, _⟩ =>
    show (((r.val * 512 + k.val) / 1048576 * 2048 + (r.val * 512 + k.val) / 512 % 2048) * 512
      + (r.val * 512 + k.val) % 512) / 128 % 4 = k.val / 128
    omega
  | ⟨3, _⟩ =>
    show (((r.val * 512 + k.val) / 1048576 * 2048 + (r.val * 512 + k.val) / 512 % 2048) * 512
      + (r.val * 512 + k.val) % 512) % 128 = k.val % 128
    omega

end Cert.Proof
-- ==== Proof.Finite.lean ====
/-
  The precondition read back: it says that every entry of every argument is a real number.
-/
module

public import proofs.«01_k».proof.Defs
public import proofs.«01_k».proof.Proof.KernelValue
public import Idealize.ShloMosaic.Lib.ReduceAll

@[expose] public section

noncomputable section

namespace Cert.Proof

open Idealize.ShloMosaic Idealize.SL.Sem

/-- The side conditions the precondition's operations take. -/
theorem preFacts : Cert.Pre_finite.Facts where
  bcast_S_S4x2048x512 := by decide
  reducesTo_S4x2048x512_S_d0_1_2 := by decide
  h_S_ := by decide
  bcast_S_S4x128x128 := by decide
  reducesTo_S4x128x128_S_d0_1_2 := by decide
  bcast_S_S1x512 := by decide
  reducesTo_S1x512_S_d0_1 := by decide

/-- A value whose absolute value is below +∞ is a real number. -/
theorem real_of_abs_lt {x : Ideal .f32}
    (h : FloatOps.cmpf .olt (FloatOps.hostAbsf x) (FloatOps.ofBits (F := Ideal) .f32 0x7F800000#32) = 1#1) :
    x = ((EReal.toReal x : ℝ) : EReal) := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  have hlt : max (x : EReal) (-(x : EReal)) < ⊤ := by
    by_contra hn
    simp [hn] at h'
  refine (EReal.coe_toReal (fun e => ?_) fun e => ?_).symm
  · subst e; simp at hlt
  · subst e; simp at hlt

instance : Subsingleton (Cert.Pre_finite.S_).Idx := ⟨fun _ _ => funext fun a => Fin.elim0 a⟩

attribute [local instance] preFacts

/-- Arguments the precondition accepts hold real numbers. -/
theorem argReals_of_finite (a0 : FVec Ideal Cert.KernelIdeal.S4x2048x512 .f32) (a1 : FVec Ideal Cert.KernelIdeal.S4x128x128 .f32)
    (a2 : FVec Ideal Cert.KernelIdeal.S1x512 .f32) (a3 : FVec Ideal Cert.KernelIdeal.S4x2048x512 .f32)
    (h : Cert.Pre_finite.fn (F := Ideal) a0 a1 a2 a3 = fun _ => 1#1) :
    ∃ U C W S, ArgReals a0 a1 a2 a3 U C W S := by
  have hj := congrFun h (fun a : Fin 0 => Fin.elim0 a)
  obtain ⟨h012, h3⟩ := IntOp.andi_eq_one.1 hj
  obtain ⟨h01, h2⟩ := IntOp.andi_eq_one.1 h012
  obtain ⟨h0, h1⟩ := IntOp.andi_eq_one.1 h01
  refine ⟨fun b s k => EReal.toReal (a0 (ix3 (Fin.ofNat 4 b) (Fin.ofNat 2048 s) (Fin.ofNat 512 k))),
    fun b s k => EReal.toReal (a3 (ix3 (Fin.ofNat 4 b) (Fin.ofNat 2048 s) (Fin.ofNat 512 k))),
    fun g x e => EReal.toReal (a1 (ix3 (Fin.ofNat 4 g) (Fin.ofNat 128 x) (Fin.ofNat 128 e))),
    fun k => EReal.toReal (a2 (ix2 0 (Fin.ofNat 512 k))), ?_, ?_, ?_, ?_⟩
  · intro b s k
    have e := real_of_abs_lt (Host.reduce_andi_all _ _ _ _ _ h0 (ix3 b s k))
    simpa using e
  · intro g x e
    have e := real_of_abs_lt (Host.reduce_andi_all _ _ _ _ _ h1 (ix3 g x e))
    simpa using e
  · intro k
    have e := real_of_abs_lt (Host.reduce_andi_all _ _ _ _ _ h2 (ix2 0 k))
    simpa using e
  · intro b s k
    have e := real_of_abs_lt (Host.reduce_andi_all _ _ _ _ _ h3 (ix3 b s k))
    simpa using e

end Cert.Proof
-- ==== Proof.NormReal.lean ====
/-
  The normalisation of a row by its root mean square, in real numbers: the functions the gradients of the first
  projection consist of, and the law that joins the two ways of writing the gradient of the row.
-/
module

public import proofs.«01_k».proof.Proof.Window
public import Idealize.ShloMosaic.PureOps.Ideal
public import Idealize.ShloMosaic.Lib.Pointwise

@[expose] public section

noncomputable section

namespace Cert.NormProof

open Idealize.ShloMosaic

/-- The small number under the root. -/
def eps : ℝ := (Ideal.ofBits .f32 0x358637BD#32).toReal

theorem eps_coe : Ideal.ofBits .f32 0x358637BD#32 = ((eps : ℝ) : EReal) := by
  unfold eps
  simp [Ideal.ofBits, Ideal.ieee, -EReal.coe_mul]

theorem eps_pos : 0 < eps := by
  unfold eps
  simp [Ideal.ofBits, Ideal.ieee, -EReal.coe_mul]

theorem width_coe : Ideal.ofBits .f32 0x44800000#32 = ((1024 : ℝ) : EReal) := by
  simp [Ideal.ofBits, Ideal.ieee, -EReal.coe_mul]
  norm_num

theorem minus_half_coe : Ideal.ofBits .f32 0xBF000000#32 = ((-(1/2) : ℝ) : EReal) := by
  simp [Ideal.ofBits, Ideal.ieee, -EReal.coe_mul]
  norm_num

/-- The mean of the squares, and the small number. -/
def ms (x : ℕ → ℝ) : ℝ := (∑ k : Fin 1024, x k.val * x k.val) * (1 / 1024) + eps

theorem ms_pos (x : ℕ → ℝ) : 0 < ms x := by
  have h : 0 ≤ ∑ k : Fin 1024, x k.val * x k.val := Finset.sum_nonneg fun k _ => mul_self_nonneg _
  have := eps_pos
  unfold ms
  positivity

/-- One over the root. -/
def rs (x : ℕ → ℝ) : ℝ := (Real.sqrt (ms x))⁻¹

theorem rs_sq (x : ℕ → ℝ) : rs x * rs x = 1 / ms x := by
  unfold rs
  rw [← mul_inv, Real.mul_self_sqrt (ms_pos x).le, one_div]

theorem rsqrt_ms (x : ℕ → ℝ) : Ideal.rsqrt ((ms x : ℝ) : EReal) = ((rs x : ℝ) : EReal) := by
  have h := ms_pos x
  rw [Ideal.rsqrt_coe, if_neg (not_lt.mpr h.le), if_neg h.ne']
  rfl

/-- The row over its root mean square. -/
def xn (x : ℕ → ℝ) (k : ℕ) : ℝ := x k * rs x

/-- The gradient reaching the normalised row: the incoming gradient times the weights. -/
def dh (d : ℕ → ℝ) (w : ℕ → ℕ → ℝ) (k : ℕ) : ℝ := ∑ j : Fin 1280, d j.val * w k j.val

/-- The gradient of the row, as the kernel writes it. -/
def gx (d x r g : ℕ → ℝ) (w : ℕ → ℕ → ℝ) (k : ℕ) : ℝ :=
  r k + rs x * (dh d w k * g k - xn x k * ((∑ i : Fin 1024, dh d w i.val * g i.val * xn x i.val) * (1 / 1024)))

/-- The gradient of the row, as differentiating the normalisation writes it. -/
theorem gx_eq (d x r g : ℕ → ℝ) (w : ℕ → ℕ → ℝ) (k : ℕ) :
    gx d x r g w k = r k + dh d w k * g k * rs x
      + x k * ((∑ i : Fin 1024, x i.val * (dh d w i.val * g i.val)) * (-(1 / 2) * (rs x * (1 / ms x))) * (1 / 1024))
      + (∑ i : Fin 1024, x i.val * (dh d w i.val * g i.val)) * (-(1 / 2) * (rs x * (1 / ms x))) * (1 / 1024) * x k := by
  have e : ∑ i : Fin 1024, dh d w i.val * g i.val * xn x i.val
      = (∑ i : Fin 1024, x i.val * (dh d w i.val * g i.val)) * rs x := by
    rw [Finset.sum_mul]
    exact Finset.sum_congr rfl fun i _ => by unfold xn; ring
  unfold gx
  rw [e, ← rs_sq]
  unfold xn
  ring

end Cert.NormProof
end
-- ==== Proof.NormPayload.lean ====
/-
  What one step of the first projection's gradient kernel computes, with its block of rows held by real numbers.
-/
module

public import proofs.«01_k».proof.Proof.NormReal
public import proofs.«01_k».proof.Proof.Gen.Kernel2Ideal.Skeleton
public import Idealize.ShloMosaic.Lib.Pointwise
public import Idealize.ShloMosaic.Lib.KernelVsHost

@[expose] public section

set_option maxRecDepth 16384

noncomputable section

namespace Cert.NormProof

open Idealize.ShloMosaic Idealize.ShloMosaic.TcCoe Cert.Kernel2Ideal Cert.Kernel2Ideal.Gen Idealize.SL.Sem
open Cert.Proof (coe_sum)

/-- The matrix holds the real numbers `f`. -/
def Holds {a n : ℕ} (x : (⟨2, ![a, n]⟩ : Shape).Idx → EReal) (f : ℕ → ℕ → ℝ) : Prop :=
  ∀ (t : Fin a) (c : Fin n), x (ix2 t c) = ((f t.val c.val : ℝ) : EReal)

variable {x : FVec Ideal S1024x1024 .f32} {X : ℕ → ℕ → ℝ}

theorem rs_holds (hx : Holds x X) : Holds (k0_pay10 (F := Ideal) x) fun t _ => rs (X t) := by
  intro t z
  have h : k0_pay10 (F := Ideal) x (ix2 t z)
      = Ideal.rsqrt (Ideal.div (∑ k : Fin 1024, x (ix2 t k) * x (ix2 t k)) (Ideal.ofBits .f32 0x44800000#32)
        + Ideal.ofBits .f32 0x358637BD#32) := by pointwise [k0_pay10, k0_pay9]
  rw [h, width_coe, eps_coe, Ideal.div_coe (by norm_num), ← rsqrt_ms]
  unfold ms
  simp only [coe_sum, EReal.coe_mul, EReal.coe_add, hx _ _]

theorem xn_holds (hx : Holds x X) : Holds (k0_pay11 (F := Ideal) x) fun t k => xn (X t) k := by
  intro t k
  have h : k0_pay11 (F := Ideal) x (ix2 t k) = x (ix2 t k) * k0_pay10 (F := Ideal) x (ix2 t 0) := by
    pointwise [k0_pay11, k0_pay9]
  rw [h, rs_holds hx t 0, hx t k, ← EReal.coe_mul]
  rfl

variable {q : FVec Ideal S1024x768 .bf16} {u : FVec Ideal S1024x512 .bf16} {wq : FVec Ideal S768x1024 .bf16}
  {wu : FVec Ideal S512x1024 .bf16} {D W : ℕ → ℕ → ℝ}

theorem dh_holds (hq : Holds q D) (hu : Holds u fun t j => D t (768 + j)) (hwq : Holds wq fun j k => W k j)
    (hwu : Holds wu fun j k => W k (768 + j)) :
    Holds (k0_pay12 (F := Ideal) q u wq wu) fun t k => dh (D t) W k := by
  intro t k
  have h : k0_pay12 (F := Ideal) q u wq wu (ix2 t k)
      = (∑ j : Fin 768, q (ix2 t j) * wq (ix2 j k)) + ∑ j : Fin 512, u (ix2 t j) * wu (ix2 j k) := by
    pointwise [k0_pay12, k0_pay7, k0_pay8]
  have e : dh (D t) W k = (∑ j : Fin 768, D t j.val * W k j.val) + ∑ j : Fin 512, D t (768 + j.val) * W k (768 + j.val) :=
    Fin.sum_univ_add (a := 768) (b := 512) fun j => D t j.val * W k j.val
  show _ = ((dh (D t) W k : ℝ) : EReal)
  rw [h, e]
  simp only [coe_sum, EReal.coe_mul, EReal.coe_add, hq _ _, hu _ _, hwq _ _, hwu _ _]

theorem dg_at (hx : Holds x X) (hq : Holds q D) (hu : Holds u fun t j => D t (768 + j))
    (hwq : Holds wq fun j k => W k j) (hwu : Holds wu fun j k => W k (768 + j)) (acc : FVec Ideal S1x1024 .f32) (k : Fin 1024) :
    k0_pay13 (F := Ideal) q u x wq wu acc (ix2 0 k)
      = acc (ix2 0 k) + ((∑ t : Fin 1024, dh (D t.val) W k.val * xn (X t.val) k.val : ℝ) : EReal) := by
  have h : k0_pay13 (F := Ideal) q u x wq wu acc (ix2 0 k)
      = acc (ix2 0 k) + ∑ t : Fin 1024, k0_pay12 (F := Ideal) q u wq wu (ix2 t k) * k0_pay11 (F := Ideal) x (ix2 t k) := by
    pointwise [k0_pay13]
  rw [h]
  simp only [coe_sum, EReal.coe_mul, dh_holds hq hu hwq hwu _ _, xn_holds hx _ _]

variable {g : FVec Ideal S1x1024 .f32} {G : ℕ → ℝ}

theorem gx_holds {r : FVec Ideal S1024x1 .f32} {y h1 : FVec Ideal S1024x1024 .f32} {d : FVec Ideal S1024x1024 .f32}
    {R : ℕ → ℕ → ℝ} (hr : Holds r fun t _ => rs (X t)) (hy : Holds y fun t k => xn (X t) k)
    (hg : ∀ k : Fin 1024, g (ix2 0 k) = ((G k.val : ℝ) : EReal)) (hh : Holds h1 fun t k => dh (D t) W k) (hd : Holds d R) :
    Holds (k0_pay1 (F := Ideal) r y g h1 d) fun t k => gx (D t) (X t) (R t) G W k := by
  intro t k
  have h : k0_pay1 (F := Ideal) r y g h1 d (ix2 t k)
      = d (ix2 t k) + r (ix2 t 0) * (h1 (ix2 t k) * g (ix2 0 k) - y (ix2 t k)
        * Ideal.div (∑ i : Fin 1024, h1 (ix2 t i) * g (ix2 0 i) * y (ix2 t i)) (Ideal.ofBits .f32 0x44800000#32)) := by
    pointwise [k0_pay1]
  rw [h, width_coe, Ideal.div_coe (by norm_num)]
  unfold gx
  simp only [coe_sum, EReal.coe_mul, EReal.coe_add, EReal.coe_sub, hr _ _, hy _ _, hg _, hh _ _, hd _ _]

theorem gwq_at {y : FVec Ideal S1024x1024 .f32} (hq : Holds q D) (hy : Holds y fun t k => xn (X t) k)
    (hg : ∀ k : Fin 1024, g (ix2 0 k) = ((G k.val : ℝ) : EReal)) (acc : FVec Ideal S768x1024 .f32) (j : Fin 768) (k : Fin 1024) :
    k0_pay3 (F := Ideal) q y g acc (ix2 j k)
      = acc (ix2 j k) + ((∑ t : Fin 1024, D t.val j.val * (xn (X t.val) k.val * G k.val) : ℝ) : EReal) := by
  have h : k0_pay3 (F := Ideal) q y g acc (ix2 j k)
      = acc (ix2 j k) + ∑ t : Fin 1024, q (ix2 t j) * (y (ix2 t k) * g (ix2 0 k)) := by pointwise [k0_pay3, k0_pay2]
  rw [h]
  simp only [coe_sum, EReal.coe_mul, hq _ _, hy _ _, hg _]

theorem gwu_at {y : FVec Ideal S1024x1024 .f32} (hu : Holds u D) (hy : Holds y fun t k => xn (X t) k)
    (hg : ∀ k : Fin 1024, g (ix2 0 k) = ((G k.val : ℝ) : EReal)) (acc : FVec Ideal S512x1024 .f32) (j : Fin 512) (k : Fin 1024) :
    k0_pay4 (F := Ideal) u y g acc (ix2 j k)
      = acc (ix2 j k) + ((∑ t : Fin 1024, D t.val j.val * (xn (X t.val) k.val * G k.val) : ℝ) : EReal) := by
  have h : k0_pay4 (F := Ideal) u y g acc (ix2 j k)
      = acc (ix2 j k) + ∑ t : Fin 1024, u (ix2 t j) * (y (ix2 t k) * g (ix2 0 k)) := by pointwise [k0_pay4, k0_pay2]
  rw [h]
  simp only [coe_sum, EReal.coe_mul, hu _ _, hy _ _, hg _]

end Cert.NormProof
end
-- ==== Proof.NormBlocks.lean ====
/-
  What the first projection's gradient kernel leaves in its three blocks at one grid point: the gradient of its rows, and
  the gradients of weights and scale added to what the point before left.
-/
module

public import proofs.«01_k».proof.Proof.NormPayload
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.NormProof

open Idealize.ShloMosaic Idealize.ShloMosaic.TcCoe Cert.Kernel2Ideal Cert.Kernel2Ideal.Gen Idealize.SL.Sem
open Cert.Proof (coe_sum)

section Rows

variable {Val : EltTy → Type} [∀ e, Nonempty (Val e)] {e : EltTy} {a b n : ℕ}

/-- A store to rows that do not hold this one is passed over. -/
theorem canon_row_miss (o : ℕ) (inb) (w : (⟨2, ![b, n]⟩ : Shape).Idx → Val e)
    (L : List (View.Piece Val (⟨2, ![a, n]⟩ : Shape) e)) (x : Fin a) (k : Fin n) (h : x.val < o ∨ o + b ≤ x.val) :
    View.canon (⟨Rect.unit (s := (⟨2, ![a, n]⟩ : Shape)) ![o, 0] ![b, n] inb, w⟩ :: L) (ix2 x k) = View.canon L (ix2 x k) :=
  View.canon_cons_of_not_mem _ L (Rect.not_mem_set_of_axis _ _ 0 o b rfl rfl rfl h)

/-- A store to rows that hold this one is read. -/
theorem canon_row_hit (o : ℕ) (inb) (w : (⟨2, ![b, n]⟩ : Shape).Idx → Val e)
    (L : List (View.Piece Val (⟨2, ![a, n]⟩ : Shape) e)) (x : Fin a) (y : Fin b) (k : Fin n) (h : x.val = o + y.val) :
    View.canon (⟨Rect.unit (s := (⟨2, ![a, n]⟩ : Shape)) ![o, 0] ![b, n] inb, w⟩ :: L) (ix2 x k) = w (ix2 y k) := by
  have he : (Rect.unit (s := (⟨2, ![a, n]⟩ : Shape)) ![o, 0] ![b, n] inb).emb (ix2 y k) = ix2 x k :=
    Rect.emb_eq_of_coords _ _ _ fun i => by
      match i with
      | ⟨0, _⟩ => show x.val = o + 1 * y.val; omega
      | ⟨1, _⟩ => show k.val = 0 + 1 * k.val; omega
  rw [← he]
  exact View.canon_cons_emb _ _ _ _

/-- A load of some rows. -/
theorem ld_row (X : (⟨2, ![a, n]⟩ : Shape).Idx → Val e) (o : ℕ) (inb) (x : Fin a) (y : Fin b) (k : Fin n)
    (h : x.val = o + y.val) :
    View.ld X (Rect.unit (s := (⟨2, ![a, n]⟩ : Shape)) ![o, 0] ![b, n] inb) (ix2 y k) = X (ix2 x k) :=
  View.ld_unit_apply_of X _ _ inb _ _ fun i => by
    match i with
    | ⟨0, _⟩ => exact h
    | ⟨1, _⟩ => show k.val = 0 + k.val; omega

end Rows

variable (m : (ℓ : Loc nD τ sig) → Buf (Elt Ideal) ℓ)

/-- The point's blocks hold these real numbers. -/
structure Reals (c : Dev nD) (t : Fin cfg0.N) (D X R W : ℕ → ℕ → ℝ) (G : ℕ → ℝ) : Prop where
  hq : Holds (iblk m c 0 t : FVec Ideal S1024x768 .bf16) D
  hu : Holds (iblk m c 1 t : FVec Ideal S1024x512 .bf16) fun s j => D s (768 + j)
  hx : Holds (iblk m c 2 t : FVec Ideal S1024x1024 .f32) X
  hr : Holds (iblk m c 3 t : FVec Ideal S1024x1024 .f32) R
  hw : Holds (iblk m c 4 t : FVec Ideal S1280x1024 .bf16) fun j k => W k j
  hg : ∀ k : Fin 1024, (iblk m c 5 t : FVec Ideal S1x1024 .f32) (ix2 0 k) = ((G k.val : ℝ) : EReal)

/-- One block's part of the gradient of the weights. -/
def gwR (D X : ℕ → ℕ → ℝ) (G : ℕ → ℝ) (j k : ℕ) : ℝ := ∑ t : Fin 1024, D t.val j * (xn (X t.val) k * G k)

/-- One block's part of the gradient of the scale. -/
def dgR (D X W : ℕ → ℕ → ℝ) (k : ℕ) : ℝ := ∑ t : Fin 1024, dh (D t.val) W k * xn (X t.val) k

variable {m}
variable {c : Dev nD} {t : Fin cfg0.N} {D X R W : ℕ → ℕ → ℝ} {G : ℕ → ℝ}

theorem ld_lo {w : FVec Ideal S1280x1024 .bf16} (hw : Holds w fun j k => W k j) (inb) :
    Holds (View.ld (Val := Elt Ideal) (e' := .bf16) w (Rect.unit (s := S1280x1024) ![0, 0] ![768, 1024] inb))
      fun j k => W k j := fun j k =>
  (ld_row (Val := Elt Ideal) (e := .bf16) w 0 inb ⟨j.val, by omega⟩ j k (Nat.zero_add _).symm).trans (hw _ _)

theorem ld_hi {w : FVec Ideal S1280x1024 .bf16} (hw : Holds w fun j k => W k j) (inb) :
    Holds (View.ld (Val := Elt Ideal) (e' := .bf16) w (Rect.unit (s := S1280x1024) ![768, 0] ![512, 1024] inb))
      fun j k => W k (768 + j) := fun j k =>
  (ld_row (Val := Elt Ideal) (e := .bf16) w 768 inb ⟨768 + j.val, by omega⟩ j k rfl).trans (hw _ _)

theorem outs_gx (H : Reals m c t D X R W G) (s k : Fin 1024) :
    (outsAt0 m c t.val t.isLt).1 (ix2 s k) = ((gx (D s.val) (X s.val) (R s.val) G W k.val : ℝ) : EReal) := by
  have h := gx_holds (rs_holds H.hx) (xn_holds H.hx) H.hg (dh_holds H.hq H.hu (ld_lo H.hw (by decide)) (ld_hi H.hw (by decide))) H.hr s k
  rw [← h]
  by_cases h : t.val % 8 = 0
  · rw [outsAt0_A m c t h]; frame_out
  · rw [outsAt0_B m c t h]; frame_out

theorem outs_dg_B (H : Reals m c t D X R W G) (h : ¬t.val % 8 = 0) (k : Fin 1024) :
    (outsAt0 m c t.val t.isLt).2.2 (ix2 0 k)
      = (outsAt0 m c (t.val - 1) (Nat.lt_of_le_of_lt (Nat.sub_le _ _) t.isLt)).2.2 (ix2 0 k)
        + ((dgR D X W k.val : ℝ) : EReal) := by
  rw [dgR, ← dg_at H.hx H.hq H.hu (ld_lo H.hw (by decide)) (ld_hi H.hw (by decide)) _ k, outsAt0_B m c t h]; frame_out

theorem outs_dg_A (H : Reals m c t D X R W G) (h : t.val % 8 = 0) (k : Fin 1024) :
    (outsAt0 m c t.val t.isLt).2.2 (ix2 0 k) = 0 + ((dgR D X W k.val : ℝ) : EReal) := by
  have hz : (k0_pay6 (F := Ideal)) (ix2 0 k) = 0 := by pointwise [k0_pay6]
  rw [← hz, dgR, ← dg_at H.hx H.hq H.hu (ld_lo H.hw (by decide)) (ld_hi H.hw (by decide)) _ k, outsAt0_A m c t h]; frame_out

/-- The two stores of the weights' gradient, read back. -/
theorem gw_rows (H : Reals m c t D X R W G) (prev : FVec Ideal S1280x1024 .f32) (i1 i0 l1 l0)
    (L : List (View.Piece (Elt Ideal) S1280x1024 .f32)) (j : Fin 1280) (k : Fin 1024) :
    View.canon (⟨Rect.unit (s := S1280x1024) ![768, 0] ![512, 1024] i1,
        k0_pay4 (F := Ideal) (k0_pay8 (iblk m c 1 t)) (k0_pay11 (iblk m c 2 t)) (iblk m c 5 t)
          (View.ld (Val := Elt Ideal) (e' := .f32) prev (Rect.unit (s := S1280x1024) ![768, 0] ![512, 1024] l1))⟩
      :: ⟨Rect.unit (s := S1280x1024) ![0, 0] ![768, 1024] i0,
        k0_pay3 (F := Ideal) (k0_pay7 (iblk m c 0 t)) (k0_pay11 (iblk m c 2 t)) (iblk m c 5 t)
          (View.ld (Val := Elt Ideal) (e' := .f32) prev (Rect.unit (s := S1280x1024) ![0, 0] ![768, 1024] l0))⟩ :: L) (ix2 j k)
      = prev (ix2 j k) + ((gwR D X G j.val k.val : ℝ) : EReal) := by
  have hq : Holds (k0_pay7 (F := Ideal) (iblk m c 0 t)) D := fun s j => by
    rw [← H.hq s j]
    pointwise [k0_pay7]
  have hu : Holds (k0_pay8 (F := Ideal) (iblk m c 1 t)) fun s j => D s (768 + j) := fun s j => by
    rw [← H.hu s j]
    pointwise [k0_pay8]
  by_cases hj : j.val < 768
  · rw [canon_row_miss (Val := Elt Ideal) 768 _ _ _ _ _ (Or.inl hj),
      canon_row_hit (Val := Elt Ideal) 0 _ _ _ j ⟨j.val, hj⟩ k (Nat.zero_add _).symm,
      gwq_at hq (xn_holds H.hx) H.hg]
    exact congrArg (· + _) (ld_row (Val := Elt Ideal) (e := .f32) prev 0 _ j ⟨j.val, hj⟩ k (Nat.zero_add _).symm)
  · have hl := j.isLt
    have e : j.val = 768 + (j.val - 768) := by omega
    rw [canon_row_hit (Val := Elt Ideal) 768 _ _ _ j ⟨j.val - 768, by omega⟩ k e, gwu_at hu (xn_holds H.hx) H.hg]
    refine congrArg₂ (· + ·) (ld_row (Val := Elt Ideal) (e := .f32) prev 768 _ j ⟨j.val - 768, by omega⟩ k e) ?_
    unfold gwR
    rw [← e]

theorem outs_gw_B (H : Reals m c t D X R W G) (h : ¬t.val % 8 = 0) (j : Fin 1280) (k : Fin 1024) :
    (outsAt0 m c t.val t.isLt).2.1 (ix2 j k)
      = (outsAt0 m c (t.val - 1) (Nat.lt_of_le_of_lt (Nat.sub_le _ _) t.isLt)).2.1 (ix2 j k)
        + ((gwR D X G j.val k.val : ℝ) : EReal) := by
  rw [outsAt0_B m c t h]; frame_out
  exact gw_rows H _ _ _ _ _ _ j k

theorem outs_gw_A (H : Reals m c t D X R W G) (h : t.val % 8 = 0) (j : Fin 1280) (k : Fin 1024) :
    (outsAt0 m c t.val t.isLt).2.1 (ix2 j k) = 0 + ((gwR D X G j.val k.val : ℝ) : EReal) := by
  have hz : (k0_pay5 (F := Ideal)) (ix2 j k) = 0 := by pointwise [k0_pay5]
  rw [outsAt0_A m c t h, ← hz]; frame_out
  simp (discharger := decide) only [↓View.readCov_skip, View.readCov_fill]
  exact gw_rows H _ _ _ _ _ _ j k

end Cert.NormProof
end
-- ==== Proof.NormValue.lean ====
/-
  The three result arrays of the first projection's gradient kernel, as real numbers: the gradient of the rows, and the
  gradients of weights and scale summed over all rows.
-/
module

public import proofs.«01_k».proof.Proof.NormBlocks
public import Idealize.ShloMosaic.Lib.Claim

@[expose] public section

set_option maxRecDepth 16384

noncomputable section

namespace Cert.NormProof

open Idealize.ShloMosaic Idealize.ShloMosaic.TcCoe Cert.Kernel2Ideal Cert.Kernel2Ideal.Gen Idealize.SL.Sem
open Idealize.ShloMosaic.Pipeline (Dat)
open Cert.Proof (coe_sum)

/-- The arguments hold these real numbers; the rows of all sequences are counted through. -/
structure ArgReals (a0 : FVec Ideal S4x2048x1024 .f32) (a1 : FVec Ideal S1x1024 .f32) (a2 : FVec Ideal S1024x1280 .f32)
    (a3 : FVec Ideal S4x2048x1280 .f32) (a4 : FVec Ideal S4x2048x1024 .f32) (D X R W : ℕ → ℕ → ℝ) (G : ℕ → ℝ) : Prop where
  hx : ∀ (b : Fin 4) (s : Fin 2048) (k : Fin 1024), a0 (ix3 b s k) = ((X (2048 * b.val + s.val) k.val : ℝ) : EReal)
  hg : ∀ k : Fin 1024, a1 (ix2 0 k) = ((G k.val : ℝ) : EReal)
  hw : Holds a2 W
  hd : ∀ (b : Fin 4) (s : Fin 2048) (j : Fin 1280), a3 (ix3 b s j) = ((D (2048 * b.val + s.val) j.val : ℝ) : EReal)
  hr : ∀ (b : Fin 4) (s : Fin 2048) (k : Fin 1024), a4 (ix3 b s k) = ((R (2048 * b.val + s.val) k.val : ℝ) : EReal)

variable {m : (ℓ : Loc nD τ sig) → Buf (Elt Ideal) ℓ} {c : Dev nD} {D X R W : ℕ → ℕ → ℝ} {G : ℕ → ℝ}

theorem pt (t : Fin cfg0.N) : t.val < 8 := lt_of_lt_of_eq t.isLt N_0

theorem idx0 (t : Fin cfg0.N) : win0_0.index t = ![t.val, 0] :=
  (by decide +kernel : ∀ t : Fin grid0.N, win0_0.index t = ![t.val, 0]) t

theorem idx1 (t : Fin cfg0.N) : win0_1.index t = ![t.val, 0] :=
  (by decide +kernel : ∀ t : Fin grid0.N, win0_1.index t = ![t.val, 0]) t

theorem idx2 (t : Fin cfg0.N) : win0_2.index t = ![t.val, 0] :=
  (by decide +kernel : ∀ t : Fin grid0.N, win0_2.index t = ![t.val, 0]) t

theorem idx3 (t : Fin cfg0.N) : win0_3.index t = ![t.val, 0] :=
  (by decide +kernel : ∀ t : Fin grid0.N, win0_3.index t = ![t.val, 0]) t

theorem idx4 (t : Fin cfg0.N) : win0_4.index t = ![0, 0] :=
  (by decide +kernel : ∀ t : Fin grid0.N, win0_4.index t = ![0, 0]) t

theorem idx5 (t : Fin cfg0.N) : win0_5.index t = ![0, 0] :=
  (by decide +kernel : ∀ t : Fin grid0.N, win0_5.index t = ![0, 0]) t

theorem idx6 (t : Fin cfg0.N) : win0_6.index t = ![t.val, 0] :=
  (by decide +kernel : ∀ t : Fin grid0.N, win0_6.index t = ![t.val, 0]) t

/-- A row counted through all sequences, in its sequence. -/
theorem at_row {n : ℕ} {a : (⟨3, ![4, 2048, n]⟩ : Shape).Idx → EReal} {f : ℕ → ℕ → ℝ}
    (h : ∀ (b : Fin 4) (s : Fin 2048) (k : Fin n), a (ix3 b s k) = ((f (2048 * b.val + s.val) k.val : ℝ) : EReal))
    (r : ℕ) (i : (⟨3, ![4, 2048, n]⟩ : Shape).Idx) (k : ℕ) (h0 : (i 0).val = r / 2048) (h1 : (i 1).val = r % 2048)
    (h2 : (i 2).val = k) : a i = ((f r k : ℝ) : EReal) := by
  rw [eq_ix3 i]
  refine (h (i 0) (i 1) (i 2)).trans ?_
  rw [h0, h1, h2, Nat.div_add_mod]

abbrev Args (m : (ℓ : Loc nD τ sig) → Buf (Elt Ideal) ℓ) (c : Dev nD) (D X R W : ℕ → ℕ → ℝ) (G : ℕ → ℝ) : Prop :=
  ArgReals (m ((c : Thread nD τ).loc main_arg0)) (m ((c : Thread nD τ).loc main_arg1))
    (m ((c : Thread nD τ).loc main_arg2)) (m ((c : Thread nD τ).loc main_arg3)) (m ((c : Thread nD τ).loc main_arg4)) D X R W G

theorem block_reals (H : Args m c D X R W G) (t : Fin cfg0.N) :
    Reals m c t (fun s => D (1024 * t.val + s)) (fun s => X (1024 * t.val + s)) (fun s => R (1024 * t.val + s)) W G where
  hq s j := by
    have ht := pt t
    have hs := s.isLt
    have h1 : (iblk m c 0 t : FVec Ideal S1024x768 .bf16) (ix2 s j) = (V m c main_v2 : FVec Ideal S8192x768 .bf16)
        (ix2 (⟨1024 * t.val + s.val, by omega⟩ : Fin 8192) j) := by
      blk_point [iblk, idx0 t]
    rw [h1]
    entry_read
    pointwise
    exact at_row H.hd _ _ _ rfl rfl rfl
  hu s j := by
    have ht := pt t
    have hs := s.isLt
    have h1 : (iblk m c 1 t : FVec Ideal S1024x512 .bf16) (ix2 s j) = (V m c main_v3 : FVec Ideal S8192x512 .bf16)
        (ix2 (⟨1024 * t.val + s.val, by omega⟩ : Fin 8192) j) := by
      blk_point [iblk, idx1 t]
    rw [h1]
    entry_read
    pointwise
    exact at_row H.hd _ _ _ rfl rfl rfl
  hx s k := by
    have ht := pt t
    have hs := s.isLt
    have h1 : (iblk m c 2 t : FVec Ideal S1024x1024 .f32) (ix2 s k) = (V m c main_v4 : FVec Ideal S8192x1024 .f32)
        (ix2 (⟨1024 * t.val + s.val, by omega⟩ : Fin 8192) k) := by
      blk_point [iblk, idx2 t]
    rw [h1]
    entry_read
    pointwise
    exact at_row H.hx _ _ _ rfl rfl rfl
  hr s k := by
    have ht := pt t
    have hs := s.isLt
    have h1 : (iblk m c 3 t : FVec Ideal S1024x1024 .f32) (ix2 s k) = (V m c main_v5 : FVec Ideal S8192x1024 .f32)
        (ix2 (⟨1024 * t.val + s.val, by omega⟩ : Fin 8192) k) := by
      blk_point [iblk, idx3 t]
    rw [h1]
    entry_read
    pointwise
    exact at_row H.hr _ _ _ rfl rfl rfl
  hw j k := by
    have h1 : (iblk m c 4 t : FVec Ideal S1280x1024 .bf16) (ix2 j k) = (V m c main_v7 : FVec Ideal S1280x1024 .bf16)
        (ix2 j k) := by
      blk_point [iblk, idx4 t]
    rw [h1, ← H.hw k j]
    entry_read
    pointwise
  hg k := by
    rw [← H.hg k]
    have h1 : (iblk m c 5 t : FVec Ideal S1x1024 .f32) (ix2 0 k) = (V m c main_arg1 : FVec Ideal S1x1024 .f32)
        (ix2 0 k) := by
      blk_point [iblk, idx5 t]
    rw [h1]
    entry_read
    rfl

/-- The gradient of the weights, over all rows. -/
def outGw (D X : ℕ → ℕ → ℝ) (G : ℕ → ℝ) (j k : ℕ) : ℝ := ∑ r ∈ Finset.range 8192, D r j * (xn (X r) k * G k)

/-- The gradient of the scale, over all rows. -/
def outDg (D X W : ℕ → ℕ → ℝ) (k : ℕ) : ℝ := ∑ r ∈ Finset.range 8192, dh (D r) W k * xn (X r) k

/-- A sum over blocks and the rows in them is the sum over the rows counted through. -/
theorem sum_blocks (a b n : ℕ) (hn : n = a * b) (f : ℕ → ℝ) :
    ∑ t : Fin a, ∑ s : Fin b, f (b * t.val + s.val) = ∑ r ∈ Finset.range n, f r := by
  subst hn
  rw [← Fin.sum_univ_eq_sum_range f (a * b), ← finProdFinEquiv.sum_comp, Fintype.sum_prod_type]
  refine Finset.sum_congr rfl fun t _ => Finset.sum_congr rfl fun s _ => ?_
  rw [finProdFinEquiv_apply_val, add_comm]

theorem sum_points (f : ℕ → ℝ) : ∑ p : Fin cfg0.N, ((f p.val : ℝ) : EReal) = ((∑ b : Fin 8, f b.val : ℝ) : EReal) := by
  rw [coe_sum]
  exact Fin.sum_congr' (fun b : Fin 8 => ((f b.val : ℝ) : EReal)) N_0

theorem final_gx (H : Args m c D X R W G) :
    (dats m 0 c).arrAt 6 cfg0.N = ((fun i => ((gx (D (i 0).val) (X (i 0).val) (R (i 0).val) G W (i 1).val : ℝ) : EReal)) :
      FVec Ideal S8192x1024 .f32) := by
  refine (dats m 0 c).arrAt_eq_of_covers 6 _ (by decide +kernel) fun t hf y => ?_
  blk_simp
  rw [after0_6]
  refine (congrArg _ (eq_ix2 y)).trans ((outs_gx (block_reals H t) (y 0) (y 1)).trans ?_)
  rw [idx6 t]
  show _ = ((gx (D (t.val * 1024 + (y 0).val)) (X (t.val * 1024 + (y 0).val)) (R (t.val * 1024 + (y 0).val)) G W
    (0 * 1024 + (y 1).val) : ℝ) : EReal)
  rw [Nat.zero_mul, Nat.zero_add, Nat.mul_comm t.val]

theorem final_gw (H : Args m c D X R W G) :
    (dats m 0 c).arrAt 7 cfg0.N = ((fun i => ((outGw D X G (i 0).val (i 1).val : ℝ) : EReal)) : FVec Ideal S1280x1024 .f32) := by
  refine (dats m 0 c).arrAt_eq_of_after_last 7 t0_7 (by decide +kernel) _ fun j => ?_
  blk_simp
  rw [after0_7, eq_ix2 j]
  rw [Pipeline.eq_sum_fin_of_reset_step_apply_last
    (fun n h (j : Fin 1280 × Fin 1024) => (outsAt0 m c n h).2.1 (ix2 j.1 j.2)) 8 (fun _ => 0)
    (fun t j => ((gwR (fun s => D (1024 * t.val + s)) (fun s => X (1024 * t.val + s)) G j.1.val j.2.val : ℝ) : EReal))
    (fun t h j => outs_gw_A (block_reals H t) h j.1 j.2)
    (fun t h j => outs_gw_B (block_reals H t) h j.1 j.2) (le_of_eq N_0) t0_7 rfl (j 0, j 1), zero_add]
  refine (sum_points fun t => gwR (fun s => D (1024 * t + s)) (fun s => X (1024 * t + s)) G (j 0).val (j 1).val).trans ?_
  exact congrArg _ (sum_blocks 8 1024 8192 rfl fun r => D r (j 0).val * (xn (X r) (j 1).val * G (j 1).val))

theorem final_dg (H : Args m c D X R W G) :
    (dats m 0 c).arrAt 8 cfg0.N = ((fun i => ((outDg D X W (i 1).val : ℝ) : EReal)) : FVec Ideal S1x1024 .f32) := by
  refine (dats m 0 c).arrAt_eq_of_after_last 8 t0_7 (by decide +kernel) _ fun j => ?_
  blk_simp
  rw [after0_8]
  have e : j = ix2 (0 : Fin 1) (j 1 : Fin 1024) :=
    (eq_ix2 j).trans (congrArg (fun z : Fin 1 => ix2 z _) (Subsingleton.elim (α := Fin 1) _ _))
  have h := Pipeline.eq_sum_fin_of_reset_step_apply_last
    (fun n h (k : Fin 1024) => (outsAt0 m c n h).2.2 (ix2 0 k)) 8 (fun _ => 0)
    (fun t k => ((dgR (fun s => D (1024 * t.val + s)) (fun s => X (1024 * t.val + s)) W k.val : ℝ) : EReal))
    (fun t h k => outs_dg_A (block_reals H t) h k)
    (fun t h k => outs_dg_B (block_reals H t) h k) (le_of_eq N_0) t0_7 rfl (j 1)
  refine (congrArg _ e).trans (h.trans ?_)
  rw [zero_add]
  refine (sum_points fun t => dgR (fun s => D (1024 * t + s)) (fun s => X (1024 * t + s)) W (j 1).val).trans ?_
  exact congrArg _ (sum_blocks 8 1024 8192 rfl fun r => dh (D r) W (j 1).val * xn (X r) (j 1).val)

end Cert.NormProof
end
-- ==== Proof.NormRef.lean ====
/-
  The reference of the first projection's gradient read at an index: the normalised rows, the gradients of weights and
  scale, and the gradient of the rows.
-/
module

public import proofs.«01_k».proof.Proof.NormValue
public import proofs.«01_k».proof.Proof.HostSum
public import proofs.«01_k».proof.Proof.Gen.Reference2Ideal.Read

@[expose] public section

set_option maxRecDepth 16384

noncomputable section

namespace Cert.NormProof

open Idealize.ShloMosaic Idealize.ShloMosaic.TcCoe Cert.Reference2Ideal Cert.Reference2Ideal.Gen Cert.Reference2Ideal.Read
open Idealize.SL.Sem
open Cert.Proof (coe_sum sum_two_axes)

variable {x0 : FVec Ideal S4x2048x1024 .f32} {x1 : FVec Ideal S1x1024 .f32} {x2 : FVec Ideal S1024x1280 .f32}
  {x3 : FVec Ideal S4x2048x1280 .f32} {x4 : FVec Ideal S4x2048x1024 .f32} {D X R W : ℕ → ℕ → ℝ} {G : ℕ → ℝ}

theorem ref_ms (H : ArgReals x0 x1 x2 x3 x4 D X R W G) (b : Fin 4) (s : Fin 2048) (z : Fin 1) :
    val_main_v7 (F := Ideal) x0 (ix3 b s z) = ((ms (X (2048 * b.val + s.val)) : ℝ) : EReal) := by
  have h : val_main_v7 (F := Ideal) x0 (ix3 b s z)
      = Ideal.div (∑ k : Fin 1024, x0 (ix3 b s k) * x0 (ix3 b s k)) (Ideal.ofBits .f32 0x44800000#32)
        + Ideal.ofBits .f32 0x358637BD#32 := by
    pointwise [val_main_v7, val_main_v6, val_main_v5, val_main_v4, val_main_v3, val_main_v2, val_main_v1, val_main_cst,
      val_main_cst_0, val_main_cst_1]
  rw [h, width_coe, eps_coe, Ideal.div_coe (by norm_num)]
  unfold ms
  simp only [coe_sum, EReal.coe_mul, EReal.coe_add, H.hx _ _ _]

theorem ref_rs (H : ArgReals x0 x1 x2 x3 x4 D X R W G) (b : Fin 4) (s : Fin 2048) (z : Fin 1) :
    val_main_v8 (F := Ideal) x0 (ix3 b s z) = ((rs (X (2048 * b.val + s.val)) : ℝ) : EReal) := by
  rw [val_main_v8_apply, ref_ms H, ← rsqrt_ms]
  rfl

theorem ref_rs_cube (H : ArgReals x0 x1 x2 x3 x4 D X R W G) (b : Fin 4) (s : Fin 2048) (z : Fin 1) :
    val_main_v11 (F := Ideal) x0 (ix3 b s z) = ((-(1 / 2) * (rs (X (2048 * b.val + s.val))
      * (1 / ms (X (2048 * b.val + s.val)))) : ℝ) : EReal) := by
  have h : val_main_v11 (F := Ideal) x0 (ix3 b s z) = Ideal.ofBits .f32 0xBF000000#32
      * Ideal.div (val_main_v8 (F := Ideal) x0 (ix3 b s z)) (val_main_v7 (F := Ideal) x0 (ix3 b s z)) := by
    pointwise [val_main_v11, val_main_v10, val_main_v9, val_main_cst_2]
  rw [h, ref_rs H, ref_ms H, Ideal.div_coe (ms_pos _).ne', minus_half_coe, EReal.coe_mul, EReal.coe_mul]

theorem ref_xn (H : ArgReals x0 x1 x2 x3 x4 D X R W G) (b : Fin 4) (s : Fin 2048) (k : Fin 1024) :
    val_main_v13 (F := Ideal) x0 (ix3 b s k) = ((xn (X (2048 * b.val + s.val)) k.val : ℝ) : EReal) := by
  have h : val_main_v13 (F := Ideal) x0 (ix3 b s k) = x0 (ix3 b s k) * val_main_v8 (F := Ideal) x0 (ix3 b s 0) := by
    pointwise [val_main_v13, val_main_v12]
  rw [h, ref_rs H, H.hx, ← EReal.coe_mul]
  rfl

theorem ref_h (H : ArgReals x0 x1 x2 x3 x4 D X R W G) (b : Fin 4) (s : Fin 2048) (k : Fin 1024) :
    val_main_v16 (F := Ideal) x0 x1 (ix3 b s k) = ((xn (X (2048 * b.val + s.val)) k.val * G k.val : ℝ) : EReal) := by
  have h : val_main_v16 (F := Ideal) x0 x1 (ix3 b s k) = val_main_v13 (F := Ideal) x0 (ix3 b s k) * x1 (ix2 0 k) := by
    pointwise [val_main_v16, val_main_v15, val_main_v14, val_main_v0]
  rw [h, ref_xn H, H.hg, ← EReal.coe_mul]

theorem ref_gw (H : ArgReals x0 x1 x2 x3 x4 D X R W G) (j : Fin 1280) (k : Fin 1024) :
    val_main_v44 (F := Ideal) x0 x1 x3 (ix2 j k) = ((outGw D X G j.val k.val : ℝ) : EReal) := by
  have h : val_main_v44 (F := Ideal) x0 x1 x3 (ix2 j k)
      = ∑ b : Fin 4, ∑ s : Fin 2048, x3 (ix3 b s j) * val_main_v16 (F := Ideal) x0 x1 (ix3 b s k) := by
    pointwise [val_main_v44, val_main_v19, val_main_v18]
  rw [h]
  unfold outGw
  rw [← sum_blocks 4 2048 8192 rfl]
  simp only [coe_sum, EReal.coe_mul, H.hd _ _ _, ref_h H _ _ _]

theorem ref_dh (H : ArgReals x0 x1 x2 x3 x4 D X R W G) (b : Fin 4) (s : Fin 2048) (k : Fin 1024) :
    val_main_v20 (F := Ideal) x2 x3 (ix3 b s k) = ((dh (D (2048 * b.val + s.val)) W k.val : ℝ) : EReal) := by
  have h : val_main_v20 (F := Ideal) x2 x3 (ix3 b s k) = ∑ j : Fin 1280, x3 (ix3 b s j) * x2 (ix2 k j) := by
    pointwise [val_main_v20]
  rw [h]
  unfold dh
  simp only [coe_sum, EReal.coe_mul, H.hd _ _ _, H.hw _ _]

theorem ref_dg (H : ArgReals x0 x1 x2 x3 x4 D X R W G) (z : Fin 1) (k : Fin 1024) :
    val_main_v42 (F := Ideal) x0 x2 x3 (ix2 z k) = ((outDg D X W k.val : ℝ) : EReal) := by
  have h : val_main_v22 (F := Ideal) x0 x2 x3 (ix1 k)
      = ∑ b : Fin 4, ∑ s : Fin 2048, val_main_v13 (F := Ideal) x0 (ix3 b s k) * val_main_v20 (F := Ideal) x2 x3 (ix3 b s k) := by
    unfold val_main_v22
    pointwise [val_main_cst_3]
    rw [sum_two_axes, zero_add]
    rfl
  have e : val_main_v42 (F := Ideal) x0 x2 x3 (ix2 z k) = val_main_v22 (F := Ideal) x0 x2 x3 (ix1 k) := by
    unfold val_main_v42 val_main_v26 val_main_v23
    generalize val_main_v22 (F := Ideal) x0 x2 x3 = y
    pointwise [val_main_cst_4]
    rw [sum_two_axes, zero_add]
    simp only [Fin.sum_univ_one]
    pointwise
  rw [e, h]
  unfold outDg
  rw [← sum_blocks 4 2048 8192 rfl]
  simp only [coe_sum, EReal.coe_mul, ref_xn H _ _ _, ref_dh H _ _ _]
  exact Finset.sum_congr rfl fun b _ => Finset.sum_congr rfl fun s _ => mul_comm _ _

theorem ref_dhg (H : ArgReals x0 x1 x2 x3 x4 D X R W G) (b : Fin 4) (s : Fin 2048) (k : Fin 1024) :
    val_main_v25 (F := Ideal) x1 x2 x3 (ix3 b s k) = ((dh (D (2048 * b.val + s.val)) W k.val * G k.val : ℝ) : EReal) := by
  have h : val_main_v25 (F := Ideal) x1 x2 x3 (ix3 b s k) = val_main_v20 (F := Ideal) x2 x3 (ix3 b s k) * x1 (ix2 0 k) := by
    pointwise [val_main_v25, val_main_v24, val_main_v14, val_main_v0]
  rw [h, ref_dh H, H.hg, ← EReal.coe_mul]

/-- The part of the row's gradient that comes through the root, once. -/
theorem ref_root (H : ArgReals x0 x1 x2 x3 x4 D X R W G) (b : Fin 4) (s : Fin 2048) (k : Fin 1024) :
    val_main_v37 (F := Ideal) x0 x1 x2 x3 (ix3 b s k)
      = (((∑ i : Fin 1024, X (2048 * b.val + s.val) i.val * (dh (D (2048 * b.val + s.val)) W i.val * G i.val))
        * (-(1 / 2) * (rs (X (2048 * b.val + s.val)) * (1 / ms (X (2048 * b.val + s.val))))) * (1 / 1024) : ℝ) : EReal) := by
  have h : val_main_v37 (F := Ideal) x0 x1 x2 x3 (ix3 b s k)
      = Ideal.div ((∑ i : Fin 1024, x0 (ix3 b s i) * val_main_v25 (F := Ideal) x1 x2 x3 (ix3 b s i))
          * val_main_v11 (F := Ideal) x0 (ix3 b s 0)) (Ideal.ofBits .f32 0x44800000#32) := by
    pointwise [val_main_v37, val_main_v36, val_main_v35, val_main_v34, val_main_v33, val_main_v29, val_main_v28, val_main_v27,
      val_main_cst_5, val_main_cst_6, val_main_cst_7]
    simp only [Fin.sum_univ_one]
  rw [h, width_coe, Ideal.div_coe (by norm_num), ref_rs_cube H]
  simp only [coe_sum, EReal.coe_mul, H.hx _ _ _, ref_dhg H _ _ _]

theorem ref_gx (H : ArgReals x0 x1 x2 x3 x4 D X R W G) (r : Fin 8192) (k : Fin 1024) :
    val_main_v43 (F := Ideal) x0 x1 x2 x3 x4 (ix2 r k)
      = ((gx (D r.val) (X r.val) (R r.val) G W k.val : ℝ) : EReal) := by
  have hr := r.isLt
  have e : 2048 * (r.val / 2048) + r.val % 2048 = r.val := Nat.div_add_mod _ _
  have h : val_main_v43 (F := Ideal) x0 x1 x2 x3 x4 (ix2 r k)
      = val_main_v41 (F := Ideal) x0 x1 x2 x3 x4
        (ix3 (⟨r.val / 2048, by omega⟩ : Fin 4) (⟨r.val % 2048, Nat.mod_lt _ (by decide)⟩ : Fin 2048) k) := by
    unfold val_main_v43
    generalize val_main_v41 (F := Ideal) x0 x1 x2 x3 x4 = y
    pointwise
  have h41 : ∀ (b : Fin 4) (s : Fin 2048), val_main_v41 (F := Ideal) x0 x1 x2 x3 x4 (ix3 b s k)
      = x4 (ix3 b s k) + val_main_v25 (F := Ideal) x1 x2 x3 (ix3 b s k) * val_main_v8 (F := Ideal) x0 (ix3 b s 0)
        + x0 (ix3 b s k) * val_main_v37 (F := Ideal) x0 x1 x2 x3 (ix3 b s k)
        + val_main_v37 (F := Ideal) x0 x1 x2 x3 (ix3 b s k) * x0 (ix3 b s k) := fun b s => by
    pointwise [val_main_v41, val_main_v40, val_main_v39, val_main_v38, val_main_v32, val_main_v31, val_main_v30]
  rw [h, h41, H.hr, ref_dhg H, ref_rs H, H.hx, ref_root H, gx_eq]
  dsimp only
  rw [e]
  simp only [EReal.coe_mul, EReal.coe_add]

end Cert.NormProof
end
-- ==== Proof.NormFinite.lean ====
/-
  The precondition on the first projection's gradient read back: every entry of every argument is a real number.
-/
module

public import proofs.«01_k».proof.Proof.Finite
public import proofs.«01_k».proof.Proof.NormValue

@[expose] public section

noncomputable section

namespace Cert.NormProof

open Idealize.ShloMosaic Idealize.SL.Sem
open Cert.Proof (real_of_abs_lt)

/-- The side conditions the precondition's operations take. -/
theorem preFacts : Cert.Pre_finite2.Facts := by constructor <;> decide

instance : Subsingleton (Cert.Pre_finite2.S_).Idx := ⟨fun _ _ => funext fun a => Fin.elim0 a⟩

attribute [local instance] preFacts

/-- A stack of sequences of real entries, its rows counted through. -/
theorem reals_of_rows {n : ℕ} [NeZero n] (a : FVec Ideal (⟨3, ![4, 2048, n]⟩ : Shape) .f32) (h : ∀ i, a i = ((EReal.toReal (a i) : ℝ) : EReal)) :
    ∃ f : ℕ → ℕ → ℝ, ∀ (b : Fin 4) (s : Fin 2048) (k : Fin n), a (ix3 b s k) = ((f (2048 * b.val + s.val) k.val : ℝ) : EReal) := by
  refine ⟨fun r k => EReal.toReal (a (ix3 (Fin.ofNat 4 (r / 2048)) (Fin.ofNat 2048 r) (Fin.ofNat n k))), fun b s k => ?_⟩
  have e0 : Fin.ofNat 4 ((2048 * b.val + s.val) / 2048) = b := Fin.ext (by
    show (2048 * b.val + s.val) / 2048 % 4 = b.val; omega)
  have e1 : Fin.ofNat 2048 (2048 * b.val + s.val) = s := Fin.ext (by
    show (2048 * b.val + s.val) % 2048 = s.val; omega)
  have e2 : Fin.ofNat n k.val = k := Fin.ext (Nat.mod_eq_of_lt k.isLt)
  dsimp only
  rw [e0, e1, e2]
  exact h _

/-- Arguments the precondition accepts hold real numbers. -/
theorem argReals_of_finite (a0 : FVec Ideal Cert.Kernel2Ideal.S4x2048x1024 .f32) (a1 : FVec Ideal Cert.Kernel2Ideal.S1x1024 .f32)
    (a2 : FVec Ideal Cert.Kernel2Ideal.S1024x1280 .f32) (a3 : FVec Ideal Cert.Kernel2Ideal.S4x2048x1280 .f32)
    (a4 : FVec Ideal Cert.Kernel2Ideal.S4x2048x1024 .f32)
    (h : Cert.Pre_finite2.fn (F := Ideal) a0 a1 a2 a3 a4 = fun _ => 1#1) :
    ∃ D X R W G, ArgReals a0 a1 a2 a3 a4 D X R W G := by
  have hj := congrFun h (fun a : Fin 0 => Fin.elim0 a)
  obtain ⟨h0123, h4⟩ := IntOp.andi_eq_one.1 hj
  obtain ⟨h012, h3⟩ := IntOp.andi_eq_one.1 h0123
  obtain ⟨h01, h2⟩ := IntOp.andi_eq_one.1 h012
  obtain ⟨h0, h1⟩ := IntOp.andi_eq_one.1 h01
  obtain ⟨X, hX⟩ := reals_of_rows a0 fun i => real_of_abs_lt (Host.reduce_andi_all _ _ _ _ _ h0 i)
  obtain ⟨D, hD⟩ := reals_of_rows a3 fun i => real_of_abs_lt (Host.reduce_andi_all _ _ _ _ _ h3 i)
  obtain ⟨R, hR⟩ := reals_of_rows a4 fun i => real_of_abs_lt (Host.reduce_andi_all _ _ _ _ _ h4 i)
  refine ⟨D, X, R, fun k j => EReal.toReal (a2 (ix2 (Fin.ofNat 1024 k) (Fin.ofNat 1280 j))),
    fun k => EReal.toReal (a1 (ix2 0 (Fin.ofNat 1024 k))), hX, fun k => ?_, fun k j => ?_, hD, hR⟩
  · have e := real_of_abs_lt (Host.reduce_andi_all _ _ _ _ _ h1 (ix2 0 k))
    simpa using e
  · have e := real_of_abs_lt (Host.reduce_andi_all _ _ _ _ _ h2 (ix2 k j))
    simpa using e

end Cert.NormProof
end
-- ==== Proof.NormClaim.lean ====
/-
  The claims of the first projection's gradient: its reference runs, and the idealized kernel and the reference give the
  same gradients of rows, weights and scale.
-/
module

public import proofs.«01_k».proof.Defs
public import proofs.«01_k».proof.Proof.NormRef
public import proofs.«01_k».proof.Proof.NormFinite
public import proofs.«01_k».proof.Proof.Gen.Reference2Ideal.Run
public import Idealize.ShloMosaic.Adequacy
public import Idealize.ShloMosaic.Init

@[expose] public section

noncomputable section

namespace Cert.NormProof

open Idealize.ShloMosaic Idealize.ShloMosaic.TcCoe Idealize.SL.Sem

attribute [local instance] preFacts

/-- The reference runs, leaves its arguments as they were, and it has no semaphore. -/
theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The idealized kernel and the reference give the same three gradients. -/
theorem values : Cert.algebraic_Kernel2Ideal_Reference2Ideal_pre_finite2 := by
  intro m ρ m' ρ' hpre hargs
  refine ⟨_, _, _, Cert.Kernel2Ideal.Value.run_blocks m ρ,
    (θ_run Cert.Reference2Ideal.defs _ _).mono (fun r h c => ?_) (Cert.Reference2Ideal.Value.run (F := Ideal) m' ρ')⟩
  obtain ⟨h43, h44, h42, hkeep⟩ := h c
  obtain ⟨e0, e1, e2, e3, e4⟩ := hargs c
  obtain ⟨D, X, R, W, G, H⟩ := argReals_of_finite _ _ _ _ _ (hpre c)
  have H' := H
  rw [← e0, ← e1, ← e2, ← e3, ← e4] at H'
  refine ⟨h43.trans ?_, h44.trans ?_, h42.trans ?_, hkeep⟩
  · refine (Cert.Reference2Ideal.Read.val_main_v43_eq _ _).trans (Eq.trans (funext fun i => ?_) (final_gx H).symm)
    obtain ⟨r, k, rfl⟩ : ∃ r k, i = ix2 r k := ⟨i 0, i 1, (ix2_eta i).symm⟩
    exact ref_gx H' r k
  · refine (Cert.Reference2Ideal.Read.val_main_v44_eq _ _ _).trans (Eq.trans (funext fun i => ?_) (final_gw H).symm)
    obtain ⟨j, k, rfl⟩ : ∃ j k, i = ix2 j k := ⟨i 0, i 1, (ix2_eta i).symm⟩
    exact ref_gw H' j k
  · refine (Cert.Reference2Ideal.Read.val_main_v42_eq _ _ _).trans (Eq.trans (funext fun i => ?_) (final_dg H).symm)
    obtain ⟨z, k, rfl⟩ : ∃ z k, i = ix2 z k := ⟨i 0, i 1, (ix2_eta i).symm⟩
    exact ref_dg H' z k

end Cert.NormProof
end
-- ==== Proof.MlpReal.lean ====
/-
  The feed-forward half of the step in real numbers: what one row becomes on the way to the loss, and the gradients of the
  loss at the places the kernel hands on.
-/
module

public import proofs.«01_k».proof.Proof.NormReal
public import Mathlib.Data.EReal.Basic

@[expose] public section

noncomputable section

namespace Cert.MlpProof

open Idealize.ShloMosaic
open Cert.NormProof

/-- The weights: of the projection out, of the two feed-forward products, and the two scales. -/
structure Wts where
  wo : ℕ → ℕ → ℝ
  wu : ℕ → ℕ → ℝ
  wd : ℕ → ℕ → ℝ
  g2 : ℕ → ℝ
  gf : ℕ → ℝ

/-- One token's row: the input, the two mixers' output, and the target. -/
structure Row where
  x : ℕ → ℝ
  m : ℕ → ℝ
  t : ℕ → ℝ

/-- The gradient of a row through its normalisation, from the gradient `d` reaching the normalised row. -/
def rb (x d : ℕ → ℝ) (k : ℕ) : ℝ :=
  rs x * (d k - xn x k * ((∑ i : Fin 1024, d i.val * xn x i.val) * (1 / 1024)))

/-- The same as differentiating the normalisation writes it, added to what the row carries past it. -/
theorem rb_eq (x d : ℕ → ℝ) (p : ℝ) (k : ℕ) :
    p + rb x d k = p + d k * rs x
      + x k * ((∑ i : Fin 1024, x i.val * d i.val) * (-(1 / 2) * (rs x * (1 / ms x))) * (1 / 1024))
      + (∑ i : Fin 1024, x i.val * d i.val) * (-(1 / 2) * (rs x * (1 / ms x))) * (1 / 1024) * x k := by
  have e : ∑ i : Fin 1024, d i.val * xn x i.val = (∑ i : Fin 1024, x i.val * d i.val) * rs x := by
    rw [Finset.sum_mul]
    exact Finset.sum_congr rfl fun i _ => by unfold xn; ring
  unfold rb
  rw [e, ← rs_sq]
  unfold xn
  ring

variable (P : Wts) (r : Row)

/-- The row after the projection out. -/
def x1 (k : ℕ) : ℝ := r.x k + ∑ i : Fin 1024, r.m i.val * P.wo i.val k

/-- The normalised row the first product takes. -/
def hh (k : ℕ) : ℝ := xn (x1 P r) k * P.g2 k

/-- The first product. -/
def aa (j : ℕ) : ℝ := ∑ k : Fin 1024, hh P r k.val * P.wu k.val j

/-- Its square where it is above zero. -/
def sq (j : ℕ) : ℝ := max (aa P r j) 0 * max (aa P r j) 0

/-- The row after the second product. -/
def x2 (k : ℕ) : ℝ := x1 P r k + ∑ j : Fin 4096, sq P r j.val * P.wd j.val k

/-- What the prediction misses the target by. -/
def err (k : ℕ) : ℝ := xn (x2 P r) k * P.gf k - r.t k

/-- The row's part of the loss. -/
def lossR : ℝ := (∑ k : Fin 1024, err P r k.val * err P r k.val) * (1 / 2048)

/-- The gradient of the loss at the prediction. -/
def dy (k : ℕ) : ℝ := err P r k * (1 / 1024)

/-- The gradient at the row after the second product. -/
def dx2 (k : ℕ) : ℝ := rb (x2 P r) (fun i => dy P r i * P.gf i) k

/-- The gradient at the first product. -/
def da (j : ℕ) : ℝ := (∑ k : Fin 1024, dx2 P r k.val * P.wd j k.val) * (2 * max (aa P r j) 0)

/-- The gradient at the normalised row. -/
def dh2 (k : ℕ) : ℝ := ∑ j : Fin 4096, da P r j.val * P.wu k j.val

/-- The gradient at the row after the projection out. -/
def dx1 (k : ℕ) : ℝ := dx2 P r k + rb (x1 P r) (fun i => dh2 P r i * P.g2 i) k

/-- A sum over four thousand columns in its four quarters. -/
theorem quarters (f : ℕ → ℝ) : ∑ j : Fin 4096, f j.val
    = (∑ c : Fin 1024, f (1024 * 0 + c.val)) + (∑ c : Fin 1024, f (1024 * 1 + c.val)) + (∑ c : Fin 1024, f (1024 * 2 + c.val))
      + ∑ c : Fin 1024, f (1024 * 3 + c.val) := by
  have h : ∑ q : Fin 4, ∑ c : Fin 1024, f (1024 * q.val + c.val) = ∑ j : Fin 4096, f j.val := by
    rw [Fin.sum_univ_eq_sum_range f 4096, ← Fin.sum_univ_eq_sum_range f (4 * 1024), ← finProdFinEquiv.sum_comp,
      Fintype.sum_prod_type]
    refine Finset.sum_congr rfl fun t _ => Finset.sum_congr rfl fun s _ => ?_
    rw [finProdFinEquiv_apply_val, add_comm]
  rw [← h, Fin.sum_univ_four]
  rfl

/-- The greater of two real numbers. -/
theorem coe_max (a b : ℝ) : max ((a : ℝ) : EReal) ((b : ℝ) : EReal) = ((max a b : ℝ) : EReal) :=
  (Monotone.map_max fun _ _ h => EReal.coe_le_coe_iff.mpr h).symm

theorem inv_width_coe : Ideal.ofBits .f32 0x3A800000#32 = ((1 / 1024 : ℝ) : EReal) := by
  simp [Ideal.ofBits, Ideal.ieee, -EReal.coe_mul]
  norm_num

theorem half_inv_width_coe : Ideal.ofBits .f32 0x3A000000#32 = ((1 / 2048 : ℝ) : EReal) := by
  simp [Ideal.ofBits, Ideal.ieee, -EReal.coe_mul]
  norm_num

theorem two_coe : Ideal.ofBits .f32 0x40000000#32 = ((2 : ℝ) : EReal) := by
  simp [Ideal.ofBits, Ideal.ieee, -EReal.coe_mul]
  norm_num

theorem half_coe : Ideal.ofBits .f32 0x3F000000#32 = ((1 / 2 : ℝ) : EReal) := by
  simp [Ideal.ofBits, Ideal.ieee, -EReal.coe_mul]
  norm_num

theorem one_coe : Ideal.ofBits .f32 0x3F800000#32 = ((1 : ℝ) : EReal) := by
  simp [Ideal.ofBits, Ideal.ieee, -EReal.coe_mul]
  norm_num

theorem zero_coe : Ideal.ofBits .f32 0x00000000#32 = ((0 : ℝ) : EReal) := by
  simp [Ideal.ofBits, Ideal.ieee, -EReal.coe_mul]

end Cert.MlpProof
end
-- ==== Proof.MlpPayload.lean ====
/-
  What one step of the feed-forward kernel computes, forward and back, with its block of rows held by real numbers.
-/
module

public import proofs.«01_k».proof.Proof.MlpReal
public import proofs.«01_k».proof.Proof.NormPayload
public import proofs.«01_k».proof.Proof.Gen.Kernel3Ideal.Skeleton
public import Idealize.ShloMosaic.Lib.Pointwise
public import Idealize.ShloMosaic.Lib.KernelVsHost

@[expose] public section

set_option maxRecDepth 16384

noncomputable section

namespace Cert.MlpProof

open Idealize.ShloMosaic Idealize.ShloMosaic.TcCoe Cert.Kernel3Ideal Cert.Kernel3Ideal.Gen Idealize.SL.Sem
open Cert.Proof (coe_sum)
open Cert.NormProof (Holds ms rs xn rsqrt_ms width_coe eps_coe)

/-- The slab of a stack of matrices holds the real numbers `f`. -/
def Holds3 (w : FVec Ideal S1x1024x1024 .bf16) (f : ℕ → ℕ → ℝ) : Prop :=
  ∀ (i j : Fin 1024), w (ix3 0 i j) = ((f i.val j.val : ℝ) : EReal)

variable {P : Wts} {R : ℕ → Row}

section Norm

variable {v3 : FVec Ideal S256x1024 .f32} {v5 v10 : FVec Ideal S256x512 .bf16} {v7 v12 : FVec Ideal S512x1024 .bf16}
  {g : FVec Ideal S1x1024 .f32}

/-- The block's rows, the mixers' output in its two halves, and the projection out in its two halves. -/
structure Ins (P : Wts) (R : ℕ → Row) (v3 : FVec Ideal S256x1024 .f32) (v5 v10 : FVec Ideal S256x512 .bf16)
    (v7 v12 : FVec Ideal S512x1024 .bf16) : Prop where
  hx : Holds v3 fun t k => (R t).x k
  ha : Holds v5 fun t k => (R t).m k
  hp : Holds v10 fun t k => (R t).m (512 + k)
  hwa : Holds v7 P.wo
  hwp : Holds v12 fun i k => P.wo (512 + i) k

theorem x1_holds (H : Ins P R v3 v5 v10 v7 v12) : Holds (k0_pay4 (F := Ideal) v3 v5 v7 v10 v12) fun t k => x1 P (R t) k := by
  intro t k
  have h : k0_pay4 (F := Ideal) v3 v5 v7 v10 v12 (ix2 t k)
      = v3 (ix2 t k) + ((∑ i : Fin 512, v5 (ix2 t i) * v7 (ix2 i k)) + ∑ i : Fin 512, v10 (ix2 t i) * v12 (ix2 i k)) := by
    pointwise [k0_pay4]
  have e : x1 P (R t) k = (R t).x k + ((∑ i : Fin 512, (R t).m i.val * P.wo i.val k)
      + ∑ i : Fin 512, (R t).m (512 + i.val) * P.wo (512 + i.val) k) :=
    congrArg ((R t).x k + ·) (Fin.sum_univ_add (a := 512) (b := 512) fun i => (R t).m i.val * P.wo i.val k)
  show _ = ((x1 P (R t) k : ℝ) : EReal)
  rw [h, e]
  simp only [coe_sum, EReal.coe_mul, EReal.coe_add, H.hx _ _, H.ha _ _, H.hp _ _, H.hwa _ _, H.hwp _ _]

theorem r2_holds (H : Ins P R v3 v5 v10 v7 v12) :
    Holds (k0_pay5 (F := Ideal) v3 v5 v7 v10 v12) fun t _ => rs (x1 P (R t)) := by
  intro t z
  have h : k0_pay5 (F := Ideal) v3 v5 v7 v10 v12 (ix2 t z)
      = Ideal.rsqrt (Ideal.div (∑ k : Fin 1024, k0_pay4 (F := Ideal) v3 v5 v7 v10 v12 (ix2 t k)
          * k0_pay4 (F := Ideal) v3 v5 v7 v10 v12 (ix2 t k)) (Ideal.ofBits .f32 0x44800000#32)
        + Ideal.ofBits .f32 0x358637BD#32) := by pointwise [k0_pay5]
  rw [h, width_coe, eps_coe, Ideal.div_coe (by norm_num), ← rsqrt_ms]
  unfold ms
  simp only [coe_sum, EReal.coe_mul, EReal.coe_add, x1_holds H _ _]

theorem xn1_holds (H : Ins P R v3 v5 v10 v7 v12) :
    Holds (k0_pay6 (F := Ideal) v3 v5 v7 v10 v12) fun t k => xn (x1 P (R t)) k := by
  intro t k
  have h : k0_pay6 (F := Ideal) v3 v5 v7 v10 v12 (ix2 t k) = k0_pay4 (F := Ideal) v3 v5 v7 v10 v12 (ix2 t k)
      * k0_pay5 (F := Ideal) v3 v5 v7 v10 v12 (ix2 t 0) := by pointwise [k0_pay6]
  rw [h, r2_holds H t 0, x1_holds H t k, ← EReal.coe_mul]
  rfl

theorem h2_holds (H : Ins P R v3 v5 v10 v7 v12) (hg : ∀ k : Fin 1024, g (ix2 0 k) = ((P.g2 k.val : ℝ) : EReal)) :
    Holds (k0_pay7 (F := Ideal) v3 v5 v7 v10 v12 g) fun t k => hh P (R t) k := by
  intro t k
  have h : k0_pay7 (F := Ideal) v3 v5 v7 v10 v12 g (ix2 t k)
      = k0_pay6 (F := Ideal) v3 v5 v7 v10 v12 (ix2 t k) * g (ix2 0 k) := by pointwise [k0_pay7]
  rw [h, xn1_holds H t k, hg k, ← EReal.coe_mul]
  rfl

end Norm

section Forward

variable {v30 : FVec Ideal S256x1024 .bf16} {wa wb da db : FVec Ideal S1x1024x1024 .bf16} {q p : ℕ}

/-- One quarter of the first product. -/
theorem a_holds (hv : Holds v30 fun t k => hh P (R t) k) (hw : Holds3 wa fun k c => P.wu k (1024 * q + c)) :
    Holds (k0_pay9 (F := Ideal) v30 wa) fun t c => aa P (R t) (1024 * q + c) := by
  intro t c
  have h : k0_pay9 (F := Ideal) v30 wa (ix2 t c) = ∑ k : Fin 1024, v30 (ix2 t k) * wa (ix3 0 k c) := by pointwise [k0_pay9]
  rw [h]
  unfold aa
  simp only [coe_sum, EReal.coe_mul, hv _ _, hw _ _]

/-- One quarter's share of the second product. -/
def part (P : Wts) (r : Row) (q k : ℕ) : ℝ := ∑ c : Fin 1024, sq P r (1024 * q + c.val) * P.wd (1024 * q + c.val) k

theorem sq_sum {a : FVec Ideal S256x1024 .f32} (ha : Holds a fun t c => aa P (R t) (1024 * q + c))
    (hd : Holds3 da fun c k => P.wd (1024 * q + c) k) (t : Fin 256) (k : Fin 1024) :
    ∑ c : Fin 1024, max (a (ix2 t c)) (Ideal.ofBits .f32 0x00000000#32) * max (a (ix2 t c)) (Ideal.ofBits .f32 0x00000000#32)
      * da (ix3 0 c k) = ((part P (R t) q k : ℝ) : EReal) := by
  unfold part sq
  simp only [coe_sum, EReal.coe_mul, ha _ _, hd _ _, zero_coe, coe_max]

theorem lower_holds {z : FVec Ideal S256x1024 .f32} (hz : ∀ i, z i = 0) (hv : Holds v30 fun t k => hh P (R t) k)
    (hw : Holds3 wa fun k c => P.wu k (1024 * q + c)) (hd : Holds3 da fun c k => P.wd (1024 * q + c) k)
    (hw' : Holds3 wb fun k c => P.wu k (1024 * p + c)) (hd' : Holds3 db fun c k => P.wd (1024 * p + c) k) :
    Holds (k0_pay13 (F := Ideal) v30 z wa da wb db) fun t k => part P (R t) q k + part P (R t) p k := by
  intro t k
  have h : k0_pay13 (F := Ideal) v30 z wa da wb db (ix2 t k) = z (ix2 t k)
      + (∑ c : Fin 1024, max (k0_pay9 (F := Ideal) v30 wa (ix2 t c)) (Ideal.ofBits .f32 0x00000000#32)
        * max (k0_pay9 (F := Ideal) v30 wa (ix2 t c)) (Ideal.ofBits .f32 0x00000000#32) * da (ix3 0 c k))
      + ∑ c : Fin 1024, max (k0_pay11 (F := Ideal) v30 wb (ix2 t c)) (Ideal.ofBits .f32 0x00000000#32)
        * max (k0_pay11 (F := Ideal) v30 wb (ix2 t c)) (Ideal.ofBits .f32 0x00000000#32) * db (ix3 0 c k) := by
    pointwise [k0_pay13]
  rw [h, hz, zero_add, sq_sum (a_holds hv hw) hd, sq_sum (a := k0_pay11 (F := Ideal) v30 wb) (a_holds hv hw') hd',
    ← EReal.coe_add]

end Forward

end Cert.MlpProof
end
-- ==== Proof.MlpLoss.lean ====
/-
  The same step on: the row after the second product, its loss, and the gradient there.
-/
module

public import proofs.«01_k».proof.Proof.MlpPayload

@[expose] public section

set_option maxRecDepth 16384

noncomputable section

namespace Cert.MlpProof

open Idealize.ShloMosaic Idealize.ShloMosaic.TcCoe Cert.Kernel3Ideal Cert.Kernel3Ideal.Gen Idealize.SL.Sem
open Cert.Proof (coe_sum)
open Cert.NormProof (Holds ms rs xn rsqrt_ms width_coe eps_coe)

variable {P : Wts} {R : ℕ → Row}
variable {v16 v58 v61 v95 v98 v99 v140 : FVec Ideal S256x1024 .f32} {v30 : FVec Ideal S256x1024 .bf16}
  {d2 w3 d3 : FVec Ideal S1x1024x1024 .bf16} {v93 : FVec Ideal S256x1 .f32} {v96 : FVec Ideal S1x1024 .f32}

/-- The row after the first product's lower half, and what the upper half is computed from. -/
structure Mid (P : Wts) (R : ℕ → Row) (v16 : FVec Ideal S256x1024 .f32) (v30 : FVec Ideal S256x1024 .bf16)
    (v58 v61 : FVec Ideal S256x1024 .f32) (d2 w3 d3 : FVec Ideal S1x1024x1024 .bf16) : Prop where
  hx : Holds v16 fun t k => x1 P (R t) k
  hv : Holds v30 fun t k => hh P (R t) k
  hl : Holds v58 fun t k => part P (R t) 0 k + part P (R t) 1 k
  ha : Holds v61 fun t c => aa P (R t) (1024 * 2 + c)
  hd2 : Holds3 d2 fun c k => P.wd (1024 * 2 + c) k
  hw3 : Holds3 w3 fun k c => P.wu k (1024 * 3 + c)
  hd3 : Holds3 d3 fun c k => P.wd (1024 * 3 + c) k

theorem x2_holds (H : Mid P R v16 v30 v58 v61 d2 w3 d3) :
    Holds (k0_pay18 (F := Ideal) v16 v30 v58 v61 d2 w3 d3) fun t k => x2 P (R t) k := by
  intro t k
  have h : k0_pay18 (F := Ideal) v16 v30 v58 v61 d2 w3 d3 (ix2 t k) = v16 (ix2 t k) + (v58 (ix2 t k)
      + (∑ c : Fin 1024, max (v61 (ix2 t c)) (Ideal.ofBits .f32 0x00000000#32)
        * max (v61 (ix2 t c)) (Ideal.ofBits .f32 0x00000000#32) * d2 (ix3 0 c k))
      + ∑ c : Fin 1024, max (k0_pay16 (F := Ideal) v30 w3 (ix2 t c)) (Ideal.ofBits .f32 0x00000000#32)
        * max (k0_pay16 (F := Ideal) v30 w3 (ix2 t c)) (Ideal.ofBits .f32 0x00000000#32) * d3 (ix3 0 c k)) := by
    pointwise [k0_pay18]
  have e : x2 P (R t) k = x1 P (R t) k + (part P (R t) 0 k + part P (R t) 1 k + part P (R t) 2 k + part P (R t) 3 k) := by
    unfold x2
    rw [quarters fun j => sq P (R t) j * P.wd j k]
    rfl
  show _ = ((x2 P (R t) k : ℝ) : EReal)
  rw [h, e, sq_sum H.ha H.hd2, sq_sum (a := k0_pay16 (F := Ideal) v30 w3) (a_holds H.hv H.hw3) H.hd3, H.hl, H.hx]
  simp only [EReal.coe_add]

theorem r3_holds (H : Mid P R v16 v30 v58 v61 d2 w3 d3) :
    Holds (k0_pay19 (F := Ideal) v16 v30 v58 v61 d2 w3 d3) fun t _ => rs (x2 P (R t)) := by
  intro t z
  have h : k0_pay19 (F := Ideal) v16 v30 v58 v61 d2 w3 d3 (ix2 t z)
      = Ideal.rsqrt (Ideal.div (∑ k : Fin 1024, k0_pay18 (F := Ideal) v16 v30 v58 v61 d2 w3 d3 (ix2 t k)
          * k0_pay18 (F := Ideal) v16 v30 v58 v61 d2 w3 d3 (ix2 t k)) (Ideal.ofBits .f32 0x44800000#32)
        + Ideal.ofBits .f32 0x358637BD#32) := by pointwise [k0_pay19]
  rw [h, width_coe, eps_coe, Ideal.div_coe (by norm_num), ← rsqrt_ms]
  unfold ms
  simp only [coe_sum, EReal.coe_mul, EReal.coe_add, x2_holds H _ _]

theorem xn2_holds (H : Mid P R v16 v30 v58 v61 d2 w3 d3) :
    Holds (k0_pay20 (F := Ideal) v16 v30 v58 v61 d2 w3 d3) fun t k => xn (x2 P (R t)) k := by
  intro t k
  have h : k0_pay20 (F := Ideal) v16 v30 v58 v61 d2 w3 d3 (ix2 t k)
      = k0_pay18 (F := Ideal) v16 v30 v58 v61 d2 w3 d3 (ix2 t k)
        * k0_pay19 (F := Ideal) v16 v30 v58 v61 d2 w3 d3 (ix2 t 0) := by pointwise [k0_pay20]
  rw [h, r3_holds H t 0, x2_holds H t k, ← EReal.coe_mul]
  rfl

theorem pred_holds (H : Mid P R v16 v30 v58 v61 d2 w3 d3) (hg : ∀ k : Fin 1024, v96 (ix2 0 k) = ((P.gf k.val : ℝ) : EReal)) :
    Holds (k0_pay21 (F := Ideal) v16 v30 v58 v61 d2 w3 d3 v96) fun t k => xn (x2 P (R t)) k * P.gf k := by
  intro t k
  have h : k0_pay21 (F := Ideal) v16 v30 v58 v61 d2 w3 d3 v96 (ix2 t k)
      = k0_pay20 (F := Ideal) v16 v30 v58 v61 d2 w3 d3 (ix2 t k) * v96 (ix2 0 k) := by pointwise [k0_pay21]
  rw [h, xn2_holds H t k, hg k, ← EReal.coe_mul]

/-- The prediction and its target. -/
structure Out (P : Wts) (R : ℕ → Row) (v95 v98 v99 : FVec Ideal S256x1024 .f32) : Prop where
  hn : Holds v95 fun t k => xn (x2 P (R t)) k
  hy : Holds v98 fun t k => xn (x2 P (R t)) k * P.gf k
  ht : Holds v99 fun t k => (R t).t k

theorem err_holds (H : Out P R v95 v98 v99) : Holds (k0_pay22 (F := Ideal) v98 v99) fun t k => err P (R t) k := by
  intro t k
  have h : k0_pay22 (F := Ideal) v98 v99 (ix2 t k) = v98 (ix2 t k) - v99 (ix2 t k) := by pointwise [k0_pay22]
  rw [h, H.hy t k, H.ht t k, ← EReal.coe_sub]
  rfl

theorem dy_holds (H : Out P R v95 v98 v99) : Holds (k0_pay24 (F := Ideal) v98 v99) fun t k => dy P (R t) k := by
  intro t k
  have h : k0_pay24 (F := Ideal) v98 v99 (ix2 t k)
      = k0_pay22 (F := Ideal) v98 v99 (ix2 t k) * Ideal.ofBits .f32 0x3A800000#32 := by pointwise [k0_pay24]
  rw [h, err_holds H t k, inv_width_coe, ← EReal.coe_mul]
  rfl

/-- The mask of the one place the loss is kept at. -/
theorem corner (i : Fin 8) (j : Fin 128) :
    IntOp.andi (IntOp.cmpi CmpIPredicate.eq (BitVec.ofNat 32 i.val) 0#32)
      (IntOp.cmpi CmpIPredicate.eq (BitVec.ofNat 32 j.val) 0#32) = if i.val = 0 ∧ j.val = 0 then 1#1 else 0#1 :=
  (by decide +kernel : ∀ (i : Fin 8) (j : Fin 128),
    IntOp.andi (IntOp.cmpi CmpIPredicate.eq (BitVec.ofNat 32 i.val) 0#32)
      (IntOp.cmpi CmpIPredicate.eq (BitVec.ofNat 32 j.val) 0#32) = if i.val = 0 ∧ j.val = 0 then 1#1 else 0#1) i j

theorem loss_at (H : Out P R v95 v98 v99) (acc : FVec Ideal S8x128 .f32) (i : Fin 8) (j : Fin 128) :
    k0_pay23 (F := Ideal) v98 v99 acc (ix2 i j)
      = acc (ix2 i j) + (if i.val = 0 ∧ j.val = 0 then ((∑ t : Fin 256, lossR P (R t.val) : ℝ) : EReal) else 0) := by
  have h : k0_pay23 (F := Ideal) v98 v99 acc (ix2 i j)
      = acc (ix2 i j) + (if i.val = 0 ∧ j.val = 0 then (∑ t : Fin 256, ∑ k : Fin 1024, k0_pay22 (F := Ideal) v98 v99 (ix2 t k)
        * k0_pay22 (F := Ideal) v98 v99 (ix2 t k)) * Ideal.ofBits .f32 0x3A000000#32 else 0) := by
    pointwise [k0_pay23]
    rw [corner i j]
    split_ifs <;> rfl
  have e : ∑ t : Fin 256, lossR P (R t.val)
      = (∑ t : Fin 256, ∑ k : Fin 1024, err P (R t.val) k.val * err P (R t.val) k.val) * (1 / 2048) := by
    rw [Finset.sum_mul]
    rfl
  rw [h, half_inv_width_coe, e]
  simp only [coe_sum, EReal.coe_mul, err_holds H _ _]

theorem dgf_at (H : Out P R v95 v98 v99) (acc : FVec Ideal S1x1024 .f32) (k : Fin 1024) :
    k0_pay25 (F := Ideal) v95 v98 v99 acc (ix2 0 k)
      = acc (ix2 0 k) + ((∑ t : Fin 256, dy P (R t.val) k.val * xn (x2 P (R t.val)) k.val : ℝ) : EReal) := by
  have h : k0_pay25 (F := Ideal) v95 v98 v99 acc (ix2 0 k)
      = acc (ix2 0 k) + ∑ t : Fin 256, k0_pay24 (F := Ideal) v98 v99 (ix2 t k) * v95 (ix2 t k) := by
    pointwise [k0_pay25]
  rw [h]
  simp only [coe_sum, EReal.coe_mul, dy_holds H _ _, H.hn _ _]

theorem inner_holds (H : Out P R v95 v98 v99) (hg : ∀ k : Fin 1024, v96 (ix2 0 k) = ((P.gf k.val : ℝ) : EReal)) :
    Holds (k0_pay26 (F := Ideal) v95 v96 v98 v99) fun t k => dy P (R t) k * P.gf k
      - xn (x2 P (R t)) k * ((∑ i : Fin 1024, dy P (R t) i.val * P.gf i.val * xn (x2 P (R t)) i.val) * (1 / 1024)) := by
  intro t k
  have h : k0_pay26 (F := Ideal) v95 v96 v98 v99 (ix2 t k)
      = k0_pay24 (F := Ideal) v98 v99 (ix2 t k) * v96 (ix2 0 k) - v95 (ix2 t k)
        * Ideal.div (∑ i : Fin 1024, k0_pay24 (F := Ideal) v98 v99 (ix2 t i) * v96 (ix2 0 i) * v95 (ix2 t i))
          (Ideal.ofBits .f32 0x44800000#32) := by
    pointwise [k0_pay26]
  rw [h, width_coe, Ideal.div_coe (by norm_num)]
  simp only [coe_sum, EReal.coe_mul, EReal.coe_sub, dy_holds H _ _, H.hn _ _, hg _]

theorem dx2_holds (hr : Holds v93 fun t _ => rs (x2 P (R t)))
    (hi : Holds v140 fun t k => dy P (R t) k * P.gf k
      - xn (x2 P (R t)) k * ((∑ i : Fin 1024, dy P (R t) i.val * P.gf i.val * xn (x2 P (R t)) i.val) * (1 / 1024))) :
    Holds (k0_pay27 (F := Ideal) v93 v140) fun t k => dx2 P (R t) k := by
  intro t k
  have h : k0_pay27 (F := Ideal) v93 v140 (ix2 t k) = v93 (ix2 t 0) * v140 (ix2 t k) := by pointwise [k0_pay27]
  rw [h, hr t 0, hi t k, ← EReal.coe_mul]
  rfl

theorem dx2b_holds (hr : Holds v93 fun t _ => rs (x2 P (R t)))
    (hi : Holds v140 fun t k => dy P (R t) k * P.gf k
      - xn (x2 P (R t)) k * ((∑ i : Fin 1024, dy P (R t) i.val * P.gf i.val * xn (x2 P (R t)) i.val) * (1 / 1024))) :
    Holds (k0_pay28 (F := Ideal) v93 v140) fun t k => dx2 P (R t) k := by
  intro t k
  refine Eq.trans ?_ (dx2_holds hr hi t k)
  pointwise [k0_pay28]

end Cert.MlpProof
end
-- ==== Proof.MlpBack.lean ====
/-
  The same step back: the gradients at the first product, at the normalised row and at the row itself.
-/
module

public import proofs.«01_k».proof.Proof.MlpLoss

@[expose] public section

set_option maxRecDepth 16384

noncomputable section

namespace Cert.MlpProof

open Idealize.ShloMosaic Idealize.ShloMosaic.TcCoe Cert.Kernel3Ideal Cert.Kernel3Ideal.Gen Idealize.SL.Sem
open Cert.Proof (coe_sum)
open Cert.NormProof (Holds ms rs xn rsqrt_ms width_coe eps_coe)

variable {P : Wts} {R : ℕ → Row} {q : ℕ}

/-- The gradient at one quarter of the first product, from that quarter's weights and values. -/
theorem da_at {v : FVec Ideal S256x1024 .bf16} {w : FVec Ideal S1x1024x1024 .bf16} {a : FVec Ideal S256x1024 .bf16}
    (hv : Holds v fun t k => dx2 P (R t) k) (hw : Holds3 w fun c k => P.wd (1024 * q + c) k)
    (ha : Holds a fun t c => aa P (R t) (1024 * q + c)) (t : Fin 256) (c : Fin 1024) :
    (∑ k : Fin 1024, v (ix2 t k) * w (ix3 0 c k))
        * (Ideal.ofBits .f32 0x40000000#32 * max (a (ix2 t c)) (Ideal.ofBits .f32 0x00000000#32))
      = ((da P (R t) (1024 * q + c) : ℝ) : EReal) := by
  unfold da
  simp only [coe_sum, EReal.coe_mul, hv _ _, hw _ _, ha _ _, zero_coe, two_coe, coe_max]

section Quarters

variable {v93 : FVec Ideal S256x1 .f32} {v140 : FVec Ideal S256x1024 .f32} {v : FVec Ideal S256x1024 .bf16}
  {w : FVec Ideal S1x1024x1024 .bf16} {a : FVec Ideal S256x1024 .bf16}

theorem da0_holds (hv : Holds (k0_pay28 (F := Ideal) v93 v140) fun t k => dx2 P (R t) k)
    (hw : Holds3 w fun c k => P.wd (1024 * q + c) k) (ha : Holds a fun t c => aa P (R t) (1024 * q + c)) :
    Holds (k0_pay29 (F := Ideal) v93 v140 w a) fun t c => da P (R t) (1024 * q + c) := by
  intro t c
  refine Eq.trans ?_ (da_at hv hw ha t c)
  pointwise [k0_pay29]

theorem da1_holds (hv : Holds (k0_pay28 (F := Ideal) v93 v140) fun t k => dx2 P (R t) k)
    (hw : Holds3 w fun c k => P.wd (1024 * q + c) k) (ha : Holds a fun t c => aa P (R t) (1024 * q + c)) :
    Holds (k0_pay31 (F := Ideal) v93 v140 w a) fun t c => da P (R t) (1024 * q + c) := by
  intro t c
  refine Eq.trans ?_ (da_at hv hw ha t c)
  pointwise [k0_pay31]

theorem da1b_holds {x : FVec Ideal S256x1024 .f32} (hx : Holds x fun t c => da P (R t) (1024 * q + c)) :
    Holds (k0_pay32 (F := Ideal) x) fun t c => da P (R t) (1024 * q + c) := by
  intro t c
  refine Eq.trans ?_ (hx t c)
  pointwise [k0_pay32]

theorem da2_holds (hv : Holds v fun t k => dx2 P (R t) k) (hw : Holds3 w fun c k => P.wd (1024 * q + c) k)
    (ha : Holds a fun t c => aa P (R t) (1024 * q + c)) :
    Holds (k0_pay33 (F := Ideal) v w a) fun t c => da P (R t) (1024 * q + c) := by
  intro t c
  refine Eq.trans ?_ (da_at hv hw ha t c)
  pointwise [k0_pay33]

theorem da3_holds (hv : Holds v fun t k => dx2 P (R t) k) (hw : Holds3 w fun c k => P.wd (1024 * q + c) k)
    (ha : Holds a fun t c => aa P (R t) (1024 * q + c)) :
    Holds (k0_pay37 (F := Ideal) (k0_pay35 v w) (k0_pay36 a)) fun t c => da P (R t) (1024 * q + c) := by
  intro t c
  refine Eq.trans ?_ (da_at hv hw ha t c)
  pointwise [k0_pay37, k0_pay35, k0_pay36]

end Quarters

/-- One quarter's share of the gradient at the normalised row. -/
def back (P : Wts) (r : Row) (q k : ℕ) : ℝ := ∑ c : Fin 1024, da P r (1024 * q + c.val) * P.wu k (1024 * q + c.val)

theorem back_sum {d : FVec Ideal S256x1024 .bf16} {w : FVec Ideal S1x1024x1024 .bf16}
    (hd : Holds d fun t c => da P (R t) (1024 * q + c)) (hw : Holds3 w fun k c => P.wu k (1024 * q + c)) (t : Fin 256)
    (k : Fin 1024) : ∑ c : Fin 1024, d (ix2 t c) * w (ix3 0 k c) = ((back P (R t) q k : ℝ) : EReal) := by
  unfold back
  simp only [coe_sum, EReal.coe_mul, hd _ _, hw _ _]

section Sums

variable {v93 : FVec Ideal S256x1 .f32} {v140 v162 v173 v196 v199 v204 : FVec Ideal S256x1024 .f32}
  {v143 a0 a2 : FVec Ideal S256x1024 .bf16} {d0 d2 w0 w1 w2 w3 : FVec Ideal S1x1024x1024 .bf16}

theorem back0_holds (hd : Holds (k0_pay29 (F := Ideal) v93 v140 d0 a0) fun t c => da P (R t) (1024 * 0 + c))
    (hw : Holds3 w0 fun k c => P.wu k (1024 * 0 + c)) :
    Holds (k0_pay30 (F := Ideal) v93 v140 d0 a0 w0) fun t k => back P (R t) 0 k := by
  intro t k
  refine Eq.trans ?_ (back_sum hd hw t k)
  pointwise [k0_pay30]

theorem back2_holds (h0 : Holds v162 fun t k => back P (R t) 0 k)
    (hd1 : Holds (k0_pay32 (F := Ideal) v173) fun t c => da P (R t) (1024 * 1 + c))
    (hw1 : Holds3 w1 fun k c => P.wu k (1024 * 1 + c))
    (hd2 : Holds (k0_pay33 (F := Ideal) v143 d2 a2) fun t c => da P (R t) (1024 * 2 + c))
    (hw2 : Holds3 w2 fun k c => P.wu k (1024 * 2 + c)) :
    Holds (k0_pay34 (F := Ideal) v143 v162 v173 w1 d2 a2 w2) fun t k =>
      back P (R t) 0 k + back P (R t) 1 k + back P (R t) 2 k := by
  intro t k
  have h : k0_pay34 (F := Ideal) v143 v162 v173 w1 d2 a2 w2 (ix2 t k)
      = v162 (ix2 t k) + (∑ c : Fin 1024, k0_pay32 (F := Ideal) v173 (ix2 t c) * w1 (ix3 0 k c))
        + ∑ c : Fin 1024, k0_pay33 (F := Ideal) v143 d2 a2 (ix2 t c) * w2 (ix3 0 k c) := by pointwise [k0_pay34]
  rw [h, back_sum hd1 hw1, back_sum hd2 hw2, h0 t k, ← EReal.coe_add, ← EReal.coe_add]

theorem dh2_holds (h2 : Holds v196 fun t k => back P (R t) 0 k + back P (R t) 1 k + back P (R t) 2 k)
    (hd : Holds (k0_pay37 (F := Ideal) v199 v204) fun t c => da P (R t) (1024 * 3 + c))
    (hw : Holds3 w3 fun k c => P.wu k (1024 * 3 + c)) :
    Holds (k0_pay38 (F := Ideal) v196 v199 v204 w3) fun t k => dh2 P (R t) k := by
  intro t k
  have h : k0_pay38 (F := Ideal) v196 v199 v204 w3 (ix2 t k)
      = v196 (ix2 t k) + ∑ c : Fin 1024, k0_pay37 (F := Ideal) v199 v204 (ix2 t c) * w3 (ix3 0 k c) := by
    pointwise [k0_pay38]
  have e : dh2 P (R t) k = back P (R t) 0 k + back P (R t) 1 k + back P (R t) 2 k + back P (R t) 3 k :=
    quarters fun j => da P (R t) j * P.wu k j
  show _ = ((dh2 P (R t) k : ℝ) : EReal)
  rw [h, e, back_sum hd hw, h2 t k, ← EReal.coe_add]

variable {v24 : FVec Ideal S256x1 .f32} {v26 v142 : FVec Ideal S256x1024 .f32} {g : FVec Ideal S1x1024 .f32}

theorem dg2_at (hh : Holds (k0_pay38 (F := Ideal) v196 v199 v204 w3) fun t k => dh2 P (R t) k)
    (hn : Holds v26 fun t k => xn (x1 P (R t)) k) (acc : FVec Ideal S1x1024 .f32) (k : Fin 1024) :
    k0_pay39 (F := Ideal) v26 v196 v199 v204 w3 acc (ix2 0 k)
      = acc (ix2 0 k) + ((∑ t : Fin 256, dh2 P (R t.val) k.val * xn (x1 P (R t.val)) k.val : ℝ) : EReal) := by
  have h : k0_pay39 (F := Ideal) v26 v196 v199 v204 w3 acc (ix2 0 k)
      = acc (ix2 0 k) + ∑ t : Fin 256, k0_pay38 (F := Ideal) v196 v199 v204 w3 (ix2 t k) * v26 (ix2 t k) := by
    pointwise [k0_pay39]
  rw [h]
  simp only [coe_sum, EReal.coe_mul, hh _ _, hn _ _]

theorem dx1_holds (hh : Holds (k0_pay38 (F := Ideal) v196 v199 v204 w3) fun t k => dh2 P (R t) k)
    (hn : Holds v26 fun t k => xn (x1 P (R t)) k) (hr : Holds v24 fun t _ => rs (x1 P (R t)))
    (hg : ∀ k : Fin 1024, g (ix2 0 k) = ((P.g2 k.val : ℝ) : EReal)) (hd : Holds v142 fun t k => dx2 P (R t) k) :
    Holds (k0_pay40 (F := Ideal) v24 v26 g v142 v196 v199 v204 w3) fun t k => dx1 P (R t) k := by
  intro t k
  have h : k0_pay40 (F := Ideal) v24 v26 g v142 v196 v199 v204 w3 (ix2 t k)
      = v142 (ix2 t k) + v24 (ix2 t 0) * (k0_pay38 (F := Ideal) v196 v199 v204 w3 (ix2 t k) * g (ix2 0 k) - v26 (ix2 t k)
        * Ideal.div (∑ i : Fin 1024, k0_pay38 (F := Ideal) v196 v199 v204 w3 (ix2 t i) * g (ix2 0 i) * v26 (ix2 t i))
          (Ideal.ofBits .f32 0x44800000#32)) := by
    pointwise [k0_pay40]
  rw [h, width_coe, Ideal.div_coe (by norm_num)]
  unfold dx1 rb
  simp only [coe_sum, EReal.coe_mul, EReal.coe_add, EReal.coe_sub, hh _ _, hn _ _, hr _ _, hg _, hd _ _]

theorem dx1b_holds (hh : Holds (k0_pay38 (F := Ideal) v196 v199 v204 w3) fun t k => dh2 P (R t) k)
    (hn : Holds v26 fun t k => xn (x1 P (R t)) k) (hr : Holds v24 fun t _ => rs (x1 P (R t)))
    (hg : ∀ k : Fin 1024, g (ix2 0 k) = ((P.g2 k.val : ℝ) : EReal)) (hd : Holds v142 fun t k => dx2 P (R t) k) :
    Holds (k0_pay41 (F := Ideal) v24 v26 g v142 v196 v199 v204 w3) fun t k => dx1 P (R t) k := by
  intro t k
  refine Eq.trans ?_ (dx1_holds hh hn hr hg hd t k)
  pointwise [k0_pay41]

end Sums

end Cert.MlpProof
end
-- ==== Proof.MlpBlocks.lean ====
/-
  What the feed-forward kernel leaves in its blocks at one grid point.
-/
module

public import proofs.«01_k».proof.Proof.MlpBack
public import proofs.«01_k».proof.Proof.NormBlocks
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.MlpProof

open Idealize.ShloMosaic Idealize.ShloMosaic.TcCoe Cert.Kernel3Ideal Cert.Kernel3Ideal.Gen Idealize.SL.Sem
open Cert.Proof (coe_sum)
open Cert.NormProof (Holds ms rs xn ld_row)

section Columns

variable {Val : EltTy → Type} [∀ e, Nonempty (Val e)] {e : EltTy} {a b n : ℕ}

/-- A store to columns that do not hold this one is passed over. -/
theorem canon_col_miss (o : ℕ) (inb) (w : (⟨2, ![a, b]⟩ : Shape).Idx → Val e)
    (L : List (View.Piece Val (⟨2, ![a, n]⟩ : Shape) e)) (x : Fin a) (k : Fin n) (h : k.val < o ∨ o + b ≤ k.val) :
    View.canon (⟨Rect.unit (s := (⟨2, ![a, n]⟩ : Shape)) ![0, o] ![a, b] inb, w⟩ :: L) (ix2 x k) = View.canon L (ix2 x k) :=
  View.canon_cons_of_not_mem _ L (Rect.not_mem_set_of_axis _ _ 1 o b rfl rfl rfl h)

/-- A store to columns that hold this one is read. -/
theorem canon_col_hit (o : ℕ) (inb) (w : (⟨2, ![a, b]⟩ : Shape).Idx → Val e)
    (L : List (View.Piece Val (⟨2, ![a, n]⟩ : Shape) e)) (x : Fin a) (k : Fin n) (y : Fin b) (h : k.val = o + y.val) :
    View.canon (⟨Rect.unit (s := (⟨2, ![a, n]⟩ : Shape)) ![0, o] ![a, b] inb, w⟩ :: L) (ix2 x k) = w (ix2 x y) := by
  have he : (Rect.unit (s := (⟨2, ![a, n]⟩ : Shape)) ![0, o] ![a, b] inb).emb (ix2 x y) = ix2 x k :=
    Rect.emb_eq_of_coords _ _ _ fun i => by
      match i with
      | ⟨0, _⟩ => show x.val = 0 + 1 * x.val; omega
      | ⟨1, _⟩ => show k.val = o + 1 * y.val; omega
  rw [← he]
  exact View.canon_cons_emb _ _ _ _

/-- Four stores of a quarter of the columns each, every one of them a quarter of `f`, leave `f`. -/
theorem quarter_stores (G : ℕ → ℕ → Val e) (i3 i2 i1 i0)
    (w3 w2 w1 w0 : (⟨2, ![256, 1024]⟩ : Shape).Idx → Val e) (L : List (View.Piece Val (⟨2, ![256, 4096]⟩ : Shape) e))
    (h3 : ∀ (t : Fin 256) (c : Fin 1024), w3 (ix2 t c) = G t.val (1024 * 3 + c.val))
    (h2 : ∀ (t : Fin 256) (c : Fin 1024), w2 (ix2 t c) = G t.val (1024 * 2 + c.val))
    (h1 : ∀ (t : Fin 256) (c : Fin 1024), w1 (ix2 t c) = G t.val (1024 * 1 + c.val))
    (h0 : ∀ (t : Fin 256) (c : Fin 1024), w0 (ix2 t c) = G t.val (1024 * 0 + c.val)) (t : Fin 256) (j : Fin 4096) :
    View.canon (⟨Rect.unit (s := (⟨2, ![256, 4096]⟩ : Shape)) ![0, 3072] ![256, 1024] i3, w3⟩
      :: ⟨Rect.unit (s := (⟨2, ![256, 4096]⟩ : Shape)) ![0, 2048] ![256, 1024] i2, w2⟩
      :: ⟨Rect.unit (s := (⟨2, ![256, 4096]⟩ : Shape)) ![0, 1024] ![256, 1024] i1, w1⟩
      :: ⟨Rect.unit (s := (⟨2, ![256, 4096]⟩ : Shape)) ![0, 0] ![256, 1024] i0, w0⟩ :: L) (ix2 t j) = G t.val j.val := by
  have hj := j.isLt
  by_cases c3 : 3072 ≤ j.val
  · rw [canon_col_hit 3072 _ _ _ t j ⟨j.val - 3072, by omega⟩ (by dsimp only; omega), h3]
    exact congrArg (G t.val) (by dsimp only; omega)
  rw [canon_col_miss 3072 _ _ _ _ _ (by omega)]
  by_cases c2 : 2048 ≤ j.val
  · rw [canon_col_hit 2048 _ _ _ t j ⟨j.val - 2048, by omega⟩ (by dsimp only; omega), h2]
    exact congrArg (G t.val) (by dsimp only; omega)
  rw [canon_col_miss 2048 _ _ _ _ _ (by omega)]
  by_cases c1 : 1024 ≤ j.val
  · rw [canon_col_hit 1024 _ _ _ t j ⟨j.val - 1024, by omega⟩ (by dsimp only; omega), h1]
    exact congrArg (G t.val) (by dsimp only; omega)
  rw [canon_col_miss 1024 _ _ _ _ _ (by omega), canon_col_hit 0 _ _ _ t j ⟨j.val, by omega⟩ (by dsimp only; omega), h0]
  exact congrArg (G t.val) (by dsimp only; omega)

end Columns

variable (m : (ℓ : Loc nD τ sig) → Buf (Elt Ideal) ℓ)

/-- The point's blocks hold these real numbers. -/
structure Reals (c : Dev nD) (t : Fin cfg0.N) (P : Wts) (R : ℕ → Row) : Prop where
  hx : Holds (iblk m c 0 t : FVec Ideal S256x1024 .f32) fun s k => (R s).x k
  ha : Holds (iblk m c 1 t : FVec Ideal S256x512 .bf16) fun s k => (R s).m k
  hp : Holds (iblk m c 2 t : FVec Ideal S256x512 .bf16) fun s k => (R s).m (512 + k)
  ht : Holds (iblk m c 3 t : FVec Ideal S256x1024 .f32) fun s k => (R s).t k
  hwo : Holds (iblk m c 4 t : FVec Ideal S1024x1024 .bf16) P.wo
  hwu : ∀ (q : Fin 4) (k c' : Fin 1024), (iblk m c 5 t : FVec Ideal S4x1024x1024 .bf16) (ix3 q k c')
    = ((P.wu k.val (1024 * q.val + c'.val) : ℝ) : EReal)
  hwd : ∀ (q : Fin 4) (c' k : Fin 1024), (iblk m c 6 t : FVec Ideal S4x1024x1024 .bf16) (ix3 q c' k)
    = ((P.wd (1024 * q.val + c'.val) k.val : ℝ) : EReal)
  hg2 : ∀ k : Fin 1024, (iblk m c 7 t : FVec Ideal S1x1024 .f32) (ix2 0 k) = ((P.g2 k.val : ℝ) : EReal)
  hgf : ∀ k : Fin 1024, (iblk m c 8 t : FVec Ideal S1x1024 .f32) (ix2 0 k) = ((P.gf k.val : ℝ) : EReal)

variable {m}
variable {c : Dev nD} {t : Fin cfg0.N} {P : Wts} {R : ℕ → Row}

/-- A load of the place just stored reads the store. -/
theorem readCov_same {Val : EltTy → Type} [∀ e, Nonempty (Val e)] {κ : Kind} {sp : Space} {s : Shape} {e : EltTy}
    (v : View sig κ sp s e) (r : Rect s) (w : r.shape.Idx → Val e) (L : List (View.Piece Val s e)) :
    v.readCov (⟨r, w⟩ :: L) r.toLoadRect = w := by
  rw [View.readCov_eq_canon']
  exact funext fun j => View.canon_cons_emb r w L j

/-- A load of one matrix of a stack. -/
theorem ld_stack {Val : EltTy → Type} [∀ e, Nonempty (Val e)] {e : EltTy} {n a b : ℕ} (X : (⟨3, ![n, a, b]⟩ : Shape).Idx → Val e)
    (q : ℕ) (hq : q < n) (inb) (i : Fin a) (j : Fin b) :
    View.ld X (Rect.unit (s := (⟨3, ![n, a, b]⟩ : Shape)) ![q, 0, 0] ![1, a, b] inb) (ix3 (0 : Fin 1) i j) = X (ix3 ⟨q, hq⟩ i j) :=
  View.ld_unit_apply_of X _ _ inb _ _ fun x => by
    match x with
    | ⟨0, _⟩ => rfl
    | ⟨1, _⟩ => show i.val = 0 + i.val; omega
    | ⟨2, _⟩ => show j.val = 0 + j.val; omega

theorem ld_slab {w : FVec Ideal S4x1024x1024 .bf16} {f : ℕ → ℕ → ℝ} (q : ℕ) (hq : q < 4) (inb)
    (h : ∀ i j : Fin 1024, w (ix3 (⟨q, hq⟩ : Fin 4) i j) = ((f i.val j.val : ℝ) : EReal)) :
    Holds3 (View.ld (Val := Elt Ideal) (e' := .bf16) w (Rect.unit (s := S4x1024x1024) ![q, 0, 0] ![1, 1024, 1024] inb)) f :=
  fun i j => (ld_stack (Val := Elt Ideal) (e := .bf16) w q hq inb i j).trans (h i j)

section Facts

variable (H : Reals m c t P R)
include H

theorem wu_slab (q : ℕ) (hq : q < 4) (inb) :
    Holds3 (View.ld (Val := Elt Ideal) (e' := .bf16) (iblk m c 5 t)
      (Rect.unit (s := S4x1024x1024) ![q, 0, 0] ![1, 1024, 1024] inb)) fun k c => P.wu k (1024 * q + c) :=
  ld_slab q hq inb (H.hwu ⟨q, hq⟩)

theorem wd_slab (q : ℕ) (hq : q < 4) (inb) :
    Holds3 (View.ld (Val := Elt Ideal) (e' := .bf16) (iblk m c 6 t)
      (Rect.unit (s := S4x1024x1024) ![q, 0, 0] ![1, 1024, 1024] inb)) fun c k => P.wd (1024 * q + c) k :=
  ld_slab q hq inb (H.hwd ⟨q, hq⟩)

theorem ins (i0 i1) : Ins P R (iblk m c 0 t) (iblk m c 1 t) (iblk m c 2 t)
    (View.ld (Val := Elt Ideal) (e' := .bf16) (iblk m c 4 t) (Rect.unit (s := S1024x1024) ![0, 0] ![512, 1024] i0))
    (View.ld (Val := Elt Ideal) (e' := .bf16) (iblk m c 4 t) (Rect.unit (s := S1024x1024) ![512, 0] ![512, 1024] i1)) where
  hx := H.hx
  ha := H.ha
  hp := H.hp
  hwa i k := (ld_row (Val := Elt Ideal) (e := .bf16) (iblk m c 4 t) 0 i0 ⟨i.val, by omega⟩ i k (Nat.zero_add _).symm).trans
    (H.hwo _ _)
  hwp i k := (ld_row (Val := Elt Ideal) (e := .bf16) (iblk m c 4 t) 512 i1 ⟨512 + i.val, by omega⟩ i k rfl).trans
    (H.hwo _ _)

end Facts

/-- The row after the projection out, at this point. -/
abbrev b4 (m : (ℓ : Loc nD τ sig) → Buf (Elt Ideal) ℓ) (c : Dev nD) (t : Fin cfg0.N) : FVec Ideal S256x1024 .f32 :=
  k0_pay4 (F := Ideal) (iblk m c 0 t) (iblk m c 1 t) (View.ld (Val := Elt Ideal) (e' := .bf16) (iblk m c 4 t) (Rect.unit (s := S1024x1024) ![0, 0] ![512, 1024] (by decide)))
    (iblk m c 2 t) (View.ld (Val := Elt Ideal) (e' := .bf16) (iblk m c 4 t) (Rect.unit (s := S1024x1024) ![512, 0] ![512, 1024] (by decide)))

/-- One over its root. -/
abbrev b5 (m : (ℓ : Loc nD τ sig) → Buf (Elt Ideal) ℓ) (c : Dev nD) (t : Fin cfg0.N) : FVec Ideal S256x1 .f32 :=
  k0_pay5 (F := Ideal) (iblk m c 0 t) (iblk m c 1 t) (View.ld (Val := Elt Ideal) (e' := .bf16) (iblk m c 4 t) (Rect.unit (s := S1024x1024) ![0, 0] ![512, 1024] (by decide)))
    (iblk m c 2 t) (View.ld (Val := Elt Ideal) (e' := .bf16) (iblk m c 4 t) (Rect.unit (s := S1024x1024) ![512, 0] ![512, 1024] (by decide)))

/-- The row normalised. -/
abbrev b6 (m : (ℓ : Loc nD τ sig) → Buf (Elt Ideal) ℓ) (c : Dev nD) (t : Fin cfg0.N) : FVec Ideal S256x1024 .f32 :=
  k0_pay6 (F := Ideal) (iblk m c 0 t) (iblk m c 1 t) (View.ld (Val := Elt Ideal) (e' := .bf16) (iblk m c 4 t) (Rect.unit (s := S1024x1024) ![0, 0] ![512, 1024] (by decide)))
    (iblk m c 2 t) (View.ld (Val := Elt Ideal) (e' := .bf16) (iblk m c 4 t) (Rect.unit (s := S1024x1024) ![512, 0] ![512, 1024] (by decide)))

/-- What the first product takes. -/
abbrev b7 (m : (ℓ : Loc nD τ sig) → Buf (Elt Ideal) ℓ) (c : Dev nD) (t : Fin cfg0.N) : FVec Ideal S256x1024 .bf16 :=
  k0_pay7 (F := Ideal) (iblk m c 0 t) (iblk m c 1 t) (View.ld (Val := Elt Ideal) (e' := .bf16) (iblk m c 4 t) (Rect.unit (s := S1024x1024) ![0, 0] ![512, 1024] (by decide)))
    (iblk m c 2 t) (View.ld (Val := Elt Ideal) (e' := .bf16) (iblk m c 4 t) (Rect.unit (s := S1024x1024) ![512, 0] ![512, 1024] (by decide)))
    (iblk m c 7 t)

/-- A slab of the first product's weights. -/
abbrev up (m : (ℓ : Loc nD τ sig) → Buf (Elt Ideal) ℓ) (c : Dev nD) (t : Fin cfg0.N) (q : ℕ)
    (h : ∀ a, (![q, 0, 0] : Fin 3 → ℕ) a + (![1, 1024, 1024] : Fin 3 → ℕ) a ≤ S4x1024x1024.size a := by decide) : FVec Ideal S1x1024x1024 .bf16 :=
  View.ld (Val := Elt Ideal) (e' := .bf16) (iblk m c 5 t) (Rect.unit (s := S4x1024x1024) ![q, 0, 0] ![1, 1024, 1024] h)

/-- A slab of the second product's weights. -/
abbrev down (m : (ℓ : Loc nD τ sig) → Buf (Elt Ideal) ℓ) (c : Dev nD) (t : Fin cfg0.N) (q : ℕ)
    (h : ∀ a, (![q, 0, 0] : Fin 3 → ℕ) a + (![1, 1024, 1024] : Fin 3 → ℕ) a ≤ S4x1024x1024.size a := by decide) : FVec Ideal S1x1024x1024 .bf16 :=
  View.ld (Val := Elt Ideal) (e' := .bf16) (iblk m c 6 t) (Rect.unit (s := S4x1024x1024) ![q, 0, 0] ![1, 1024, 1024] h)

abbrev b13 (m : (ℓ : Loc nD τ sig) → Buf (Elt Ideal) ℓ) (c : Dev nD) (t : Fin cfg0.N) : FVec Ideal S256x1024 .f32 :=
  k0_pay13 (F := Ideal) (b7 m c t) k0_pay8 (up m c t 0) (down m c t 0) (up m c t 1) (down m c t 1)

section Composed

variable (H : Reals m c t P R)
include H

theorem h2_block : Holds (b7 m c t) fun t k => hh P (R t) k := h2_holds (ins H _ _) H.hg2

theorem mid : Mid P R (b4 m c t) (b7 m c t) (b13 m c t) (k0_pay14 (F := Ideal) (b7 m c t) (up m c t 2)) (down m c t 2)
    (up m c t 3) (down m c t 3) where
  hx := x1_holds (ins H _ _)
  hv := h2_block H
  hl := lower_holds (fun i => by rw [eq_ix2 i]; pointwise [k0_pay8]) (h2_block H) (wu_slab H 0 (by omega) _)
    (wd_slab H 0 (by omega) _) (wu_slab H 1 (by omega) _) (wd_slab H 1 (by omega) _)
  ha := a_holds (h2_block H) (wu_slab H 2 (by omega) _)
  hd2 := wd_slab H 2 (by omega) _
  hw3 := wu_slab H 3 (by omega) _
  hd3 := wd_slab H 3 (by omega) _

end Composed

/-- One over the root of the row after the second product. -/
abbrev b19 (m : (ℓ : Loc nD τ sig) → Buf (Elt Ideal) ℓ) (c : Dev nD) (t : Fin cfg0.N) : FVec Ideal S256x1 .f32 :=
  k0_pay19 (F := Ideal) (b4 m c t) (b7 m c t) (b13 m c t) (k0_pay14 (F := Ideal) (b7 m c t) (up m c t 2)) (down m c t 2)
    (up m c t 3) (down m c t 3)

/-- That row normalised. -/
abbrev b20 (m : (ℓ : Loc nD τ sig) → Buf (Elt Ideal) ℓ) (c : Dev nD) (t : Fin cfg0.N) : FVec Ideal S256x1024 .f32 :=
  k0_pay20 (F := Ideal) (b4 m c t) (b7 m c t) (b13 m c t) (k0_pay14 (F := Ideal) (b7 m c t) (up m c t 2)) (down m c t 2)
    (up m c t 3) (down m c t 3)

/-- The prediction. -/
abbrev b21 (m : (ℓ : Loc nD τ sig) → Buf (Elt Ideal) ℓ) (c : Dev nD) (t : Fin cfg0.N) : FVec Ideal S256x1024 .f32 :=
  k0_pay21 (F := Ideal) (b4 m c t) (b7 m c t) (b13 m c t) (k0_pay14 (F := Ideal) (b7 m c t) (up m c t 2)) (down m c t 2)
    (up m c t 3) (down m c t 3) (iblk m c 8 t)

/-- The inner part of the gradient of that row. -/
abbrev b26 (m : (ℓ : Loc nD τ sig) → Buf (Elt Ideal) ℓ) (c : Dev nD) (t : Fin cfg0.N) : FVec Ideal S256x1024 .f32 :=
  k0_pay26 (F := Ideal) (b20 m c t) (iblk m c 8 t) (b21 m c t) (iblk m c 3 t)

/-- The gradient of that row. -/
abbrev b28 (m : (ℓ : Loc nD τ sig) → Buf (Elt Ideal) ℓ) (c : Dev nD) (t : Fin cfg0.N) : FVec Ideal S256x1024 .bf16 :=
  k0_pay28 (F := Ideal) (b19 m c t) (b26 m c t)

/-- The gradient at the normalised row, without its last quarter. -/
abbrev b34 (m : (ℓ : Loc nD τ sig) → Buf (Elt Ideal) ℓ) (c : Dev nD) (t : Fin cfg0.N) : FVec Ideal S256x1024 .f32 :=
  k0_pay34 (F := Ideal) (b28 m c t)
    (k0_pay30 (F := Ideal) (b19 m c t) (b26 m c t) (down m c t 0) (k0_pay10 (F := Ideal) (b7 m c t) (up m c t 0)) (up m c t 0))
    (k0_pay31 (F := Ideal) (b19 m c t) (b26 m c t) (down m c t 1) (k0_pay12 (F := Ideal) (b7 m c t) (up m c t 1)))
    (up m c t 1) (down m c t 2) (k0_pay15 (F := Ideal) (b7 m c t) (up m c t 2)) (up m c t 2)

section Composed

variable (H : Reals m c t P R)
include H

theorem out_block : Out P R (b20 m c t) (b21 m c t) (iblk m c 3 t) where
  hn := xn2_holds (mid H)
  hy := pred_holds (mid H) H.hgf
  ht := H.ht

theorem dx2_block : Holds (b28 m c t) fun t k => dx2 P (R t) k :=
  dx2b_holds (r3_holds (mid H)) (inner_holds (out_block H) H.hgf)

/-- A quarter of the first product, at this point. -/
theorem a_block (q : ℕ) (hq : q < 4) (inb) :
    Holds (k0_pay10 (F := Ideal) (b7 m c t) (up m c t q inb)) fun t c => aa P (R t) (1024 * q + c) := fun s j => by
  refine Eq.trans ?_ (a_holds (h2_block H) (wu_slab H q hq inb) s j)
  pointwise [k0_pay10]

theorem dh2_block : Holds (k0_pay38 (F := Ideal) (b34 m c t) (k0_pay35 (F := Ideal) (b28 m c t) (down m c t 3))
    (k0_pay36 (F := Ideal) (k0_pay17 (F := Ideal) (b7 m c t) (up m c t 3))) (up m c t 3)) fun t k => dh2 P (R t) k :=
  dh2_holds (back2_holds (back0_holds (da0_holds (dx2_block H) (wd_slab H 0 (by omega) _) (a_block H 0 (by omega) _)) (wu_slab H 0 (by omega) _))
      (da1b_holds (da1_holds (dx2_block H) (wd_slab H 1 (by omega) _) (a_block H 1 (by omega) _))) (wu_slab H 1 (by omega) _)
      (da2_holds (dx2_block H) (wd_slab H 2 (by omega) _) (a_block H 2 (by omega) _)) (wu_slab H 2 (by omega) _))
    (da3_holds (dx2_block H) (wd_slab H 3 (by omega) _) (a_block H 3 (by omega) _)) (wu_slab H 3 (by omega) _)

theorem outs_h2 (s : Fin 256) (k : Fin 1024) :
    (outsAt0 m c t.val t.isLt).1 (ix2 s k) = ((hh P (R s.val) k.val : ℝ) : EReal) := by
  by_cases h : t.val % 32 = 0
  · rw [outsAt0_A m c t h]; frame_out
    exact h2_block H s k
  · rw [outsAt0_B m c t h]; frame_out
    exact h2_block H s k

theorem outs_a (s : Fin 256) (j : Fin 4096) :
    (outsAt0 m c t.val t.isLt).2.1 (ix2 s j) = ((aa P (R s.val) j.val : ℝ) : EReal) := by
  have key := fun i3 i2 i1 i0 => quarter_stores (Val := Elt Ideal) (e := .bf16) (fun s j => ((aa P (R s) j : ℝ) : EReal)) i3 i2 i1 i0
    _ _ _ _ [] (a_block H 3 (by omega) (by decide)) (a_block H 2 (by omega) (by decide)) (a_block H 1 (by omega) (by decide))
    (a_block H 0 (by omega) (by decide)) s j
  by_cases h : t.val % 32 = 0
  · rw [outsAt0_A m c t h]; frame_out
    exact key _ _ _ _
  · rw [outsAt0_B m c t h]; frame_out
    exact key _ _ _ _

theorem outs_da (s : Fin 256) (j : Fin 4096) :
    (outsAt0 m c t.val t.isLt).2.2.1 (ix2 s j) = ((da P (R s.val) j.val : ℝ) : EReal) := by
  have key := fun i3 i2 i1 i0 => quarter_stores (Val := Elt Ideal) (e := .bf16) (fun s j => ((da P (R s) j : ℝ) : EReal)) i3 i2 i1 i0
    _ _ _ _ [] (da3_holds (dx2_block H) (wd_slab H 3 (by omega) (by decide)) (a_block H 3 (by omega) (by decide)))
    (da2_holds (dx2_block H) (wd_slab H 2 (by omega) (by decide)) (a_block H 2 (by omega) (by decide)))
    (da1b_holds (da1_holds (dx2_block H) (wd_slab H 1 (by omega) (by decide)) (a_block H 1 (by omega) (by decide))))
    (da0_holds (dx2_block H) (wd_slab H 0 (by omega) (by decide)) (a_block H 0 (by omega) (by decide))) s j
  by_cases h : t.val % 32 = 0
  · rw [outsAt0_A m c t h]; frame_out
    simp (discharger := decide) only [↓View.readCov_skip, readCov_same]
    exact key _ _ _ _
  · rw [outsAt0_B m c t h]; frame_out
    simp (discharger := decide) only [↓View.readCov_skip, readCov_same]
    exact key _ _ _ _

theorem outs_dx2 (s : Fin 256) (k : Fin 1024) :
    (outsAt0 m c t.val t.isLt).2.2.2.1 (ix2 s k) = ((dx2 P (R s.val) k.val : ℝ) : EReal) := by
  by_cases h : t.val % 32 = 0
  · rw [outsAt0_A m c t h]; frame_out
    exact dx2_block H s k
  · rw [outsAt0_B m c t h]; frame_out
    exact dx2_block H s k

theorem outs_dx1 (s : Fin 256) (k : Fin 1024) :
    (outsAt0 m c t.val t.isLt).2.2.2.2.1 (ix2 s k) = ((dx1 P (R s.val) k.val : ℝ) : EReal) := by
  have key := dx1_holds (dh2_block H) (xn1_holds (ins H (by decide) (by decide))) (r2_holds (ins H (by decide) (by decide))) H.hg2
    (dx2_holds (r3_holds (mid H)) (inner_holds (out_block H) H.hgf)) s k
  by_cases h : t.val % 32 = 0
  · rw [outsAt0_A m c t h]; frame_out
    simp (discharger := decide) only [↓View.readCov_skip, readCov_same]
    exact key
  · rw [outsAt0_B m c t h]; frame_out
    simp (discharger := decide) only [↓View.readCov_skip, readCov_same]
    exact key

theorem outs_dx1b (s : Fin 256) (k : Fin 1024) :
    (outsAt0 m c t.val t.isLt).2.2.2.2.2.1 (ix2 s k) = ((dx1 P (R s.val) k.val : ℝ) : EReal) := by
  have key := dx1b_holds (dh2_block H) (xn1_holds (ins H (by decide) (by decide))) (r2_holds (ins H (by decide) (by decide))) H.hg2
    (dx2_holds (r3_holds (mid H)) (inner_holds (out_block H) H.hgf)) s k
  by_cases h : t.val % 32 = 0
  · rw [outsAt0_A m c t h]; frame_out
    simp (discharger := decide) only [↓View.readCov_skip, readCov_same]
    exact key
  · rw [outsAt0_B m c t h]; frame_out
    simp (discharger := decide) only [↓View.readCov_skip, readCov_same]
    exact key

/-- One block's part of the loss, at the one place it is kept. -/
def lossB (R : ℕ → Row) (P : Wts) (i j : ℕ) : ℝ := if i = 0 ∧ j = 0 then ∑ t : Fin 256, lossR P (R t.val) else 0

omit H in
theorem lossB_coe (i : Fin 8) (j : Fin 128) :
    (if i.val = 0 ∧ j.val = 0 then ((∑ t : Fin 256, lossR P (R t.val) : ℝ) : EReal) else 0) = ((lossB R P i.val j.val : ℝ) : EReal) := by
  unfold lossB
  split_ifs <;> rfl

theorem outs_loss_B (h : ¬t.val % 32 = 0) (i : Fin 8) (j : Fin 128) :
    (outsAt0 m c t.val t.isLt).2.2.2.2.2.2.1 (ix2 i j)
      = (outsAt0 m c (t.val - 1) (Nat.lt_of_le_of_lt (Nat.sub_le _ _) t.isLt)).2.2.2.2.2.2.1 (ix2 i j)
        + ((lossB R P i.val j.val : ℝ) : EReal) := by
  have key := loss_at (out_block H)
    (outsAt0 m c (t.val - 1) (Nat.lt_of_le_of_lt (Nat.sub_le _ _) t.isLt)).2.2.2.2.2.2.1 i j
  rw [lossB_coe] at key
  rw [outsAt0_B m c t h]; frame_out
  exact key

theorem outs_loss_A (h : t.val % 32 = 0) (i : Fin 8) (j : Fin 128) :
    (outsAt0 m c t.val t.isLt).2.2.2.2.2.2.1 (ix2 i j) = 0 + ((lossB R P i.val j.val : ℝ) : EReal) := by
  have hz : (k0_pay1 (F := Ideal)) (ix2 i j) = 0 := by pointwise [k0_pay1]
  have key := loss_at (out_block H) (k0_pay1 (F := Ideal)) i j
  rw [lossB_coe, hz] at key
  rw [outsAt0_A m c t h]; frame_out
  exact key

/-- One block's part of the gradient of the last scale. -/
def dgfB (R : ℕ → Row) (P : Wts) (k : ℕ) : ℝ := ∑ t : Fin 256, dy P (R t.val) k * xn (x2 P (R t.val)) k

theorem outs_dgf_B (h : ¬t.val % 32 = 0) (k : Fin 1024) :
    (outsAt0 m c t.val t.isLt).2.2.2.2.2.2.2.1 (ix2 0 k)
      = (outsAt0 m c (t.val - 1) (Nat.lt_of_le_of_lt (Nat.sub_le _ _) t.isLt)).2.2.2.2.2.2.2.1 (ix2 0 k)
        + ((dgfB R P k.val : ℝ) : EReal) := by
  have key := dgf_at (out_block H)
    (outsAt0 m c (t.val - 1) (Nat.lt_of_le_of_lt (Nat.sub_le _ _) t.isLt)).2.2.2.2.2.2.2.1 k
  rw [outsAt0_B m c t h]; frame_out
  exact key

theorem outs_dgf_A (h : t.val % 32 = 0) (k : Fin 1024) :
    (outsAt0 m c t.val t.isLt).2.2.2.2.2.2.2.1 (ix2 0 k) = 0 + ((dgfB R P k.val : ℝ) : EReal) := by
  have hz : (k0_pay2 (F := Ideal)) (ix2 0 k) = 0 := by pointwise [k0_pay2]
  have key := dgf_at (out_block H) (k0_pay2 (F := Ideal)) k
  rw [hz] at key
  rw [outsAt0_A m c t h]; frame_out
  exact key

/-- One block's part of the gradient of the second scale. -/
def dg2B (R : ℕ → Row) (P : Wts) (k : ℕ) : ℝ := ∑ t : Fin 256, dh2 P (R t.val) k * xn (x1 P (R t.val)) k

theorem outs_dg2_B (h : ¬t.val % 32 = 0) (k : Fin 1024) :
    (outsAt0 m c t.val t.isLt).2.2.2.2.2.2.2.2 (ix2 0 k)
      = (outsAt0 m c (t.val - 1) (Nat.lt_of_le_of_lt (Nat.sub_le _ _) t.isLt)).2.2.2.2.2.2.2.2 (ix2 0 k)
        + ((dg2B R P k.val : ℝ) : EReal) := by
  have key := dg2_at (dh2_block H) (xn1_holds (ins H (by decide) (by decide)))
    (outsAt0 m c (t.val - 1) (Nat.lt_of_le_of_lt (Nat.sub_le _ _) t.isLt)).2.2.2.2.2.2.2.2 k
  rw [outsAt0_B m c t h]; frame_out
  simp (discharger := decide) only [↓View.readCov_skip, readCov_same]
  exact key

theorem outs_dg2_A (h : t.val % 32 = 0) (k : Fin 1024) :
    (outsAt0 m c t.val t.isLt).2.2.2.2.2.2.2.2 (ix2 0 k) = 0 + ((dg2B R P k.val : ℝ) : EReal) := by
  have hz : (k0_pay3 (F := Ideal)) (ix2 0 k) = 0 := by pointwise [k0_pay3]
  have key := dg2_at (dh2_block H) (xn1_holds (ins H (by decide) (by decide))) (k0_pay3 (F := Ideal)) k
  rw [hz] at key
  rw [outsAt0_A m c t h]; frame_out
  simp (discharger := decide) only [↓View.readCov_skip, readCov_same]
  exact key

end Composed

end Cert.MlpProof
end
-- ==== Proof.MlpValue.lean ====
/-
  The nine result arrays of the feed-forward kernel, as real numbers: what it hands on row by row, and the loss and the
  scales' gradients summed over all rows.
-/
module

public import proofs.«01_k».proof.Proof.MlpBlocks
public import proofs.«01_k».proof.Proof.NormValue
public import Idealize.ShloMosaic.Lib.Claim

@[expose] public section

set_option maxRecDepth 16384

noncomputable section

namespace Cert.MlpProof

open Idealize.ShloMosaic Idealize.ShloMosaic.TcCoe Cert.Kernel3Ideal Cert.Kernel3Ideal.Gen Idealize.SL.Sem
open Idealize.ShloMosaic.Pipeline (Dat)
open Cert.Proof (coe_sum)
open Cert.NormProof (Holds ms rs xn at_row sum_blocks)

/-- The arguments hold these real numbers; the rows of all sequences are counted through. -/
structure ArgReals (a0 a1 a2 : FVec Ideal S4x2048x1024 .f32) (a3 : FVec Ideal S1024x1024 .f32) (a4 : FVec Ideal S1024x4096 .f32)
    (a5 : FVec Ideal S4096x1024 .f32) (a6 a7 : FVec Ideal S1x1024 .f32) (P : Wts) (R : ℕ → Row) : Prop where
  hx : ∀ (b : Fin 4) (s : Fin 2048) (k : Fin 1024), a0 (ix3 b s k) = (((R (2048 * b.val + s.val)).x k.val : ℝ) : EReal)
  hm : ∀ (b : Fin 4) (s : Fin 2048) (k : Fin 1024), a1 (ix3 b s k) = (((R (2048 * b.val + s.val)).m k.val : ℝ) : EReal)
  ht : ∀ (b : Fin 4) (s : Fin 2048) (k : Fin 1024), a2 (ix3 b s k) = (((R (2048 * b.val + s.val)).t k.val : ℝ) : EReal)
  hwo : Holds a3 P.wo
  hwu : Holds a4 P.wu
  hwd : Holds a5 P.wd
  hg2 : ∀ k : Fin 1024, a6 (ix2 0 k) = ((P.g2 k.val : ℝ) : EReal)
  hgf : ∀ k : Fin 1024, a7 (ix2 0 k) = ((P.gf k.val : ℝ) : EReal)

variable {m : (ℓ : Loc nD τ sig) → Buf (Elt Ideal) ℓ} {c : Dev nD} {P : Wts} {R : ℕ → Row}

/-- The last grid point. -/
def tLast : Fin cfg0.N := ⟨31, lt_of_lt_of_eq (by decide) N_0.symm⟩

theorem pt (t : Fin cfg0.N) : t.val < 32 := lt_of_lt_of_eq t.isLt N_0

theorem idx0 (t : Fin cfg0.N) : win0_0.index t = ![t.val, 0] :=
  (by decide +kernel : ∀ t : Fin grid0.N, win0_0.index t = ![t.val, 0]) t

theorem idx1 (t : Fin cfg0.N) : win0_1.index t = ![t.val, 0] :=
  (by decide +kernel : ∀ t : Fin grid0.N, win0_1.index t = ![t.val, 0]) t

theorem idx2 (t : Fin cfg0.N) : win0_2.index t = ![t.val, 0] :=
  (by decide +kernel : ∀ t : Fin grid0.N, win0_2.index t = ![t.val, 0]) t

theorem idx3 (t : Fin cfg0.N) : win0_3.index t = ![t.val, 0] :=
  (by decide +kernel : ∀ t : Fin grid0.N, win0_3.index t = ![t.val, 0]) t

theorem idx9 (t : Fin cfg0.N) : win0_9.index t = ![t.val, 0] :=
  (by decide +kernel : ∀ t : Fin grid0.N, win0_9.index t = ![t.val, 0]) t

theorem idx10 (t : Fin cfg0.N) : win0_10.index t = ![t.val, 0] :=
  (by decide +kernel : ∀ t : Fin grid0.N, win0_10.index t = ![t.val, 0]) t

theorem idx11 (t : Fin cfg0.N) : win0_11.index t = ![t.val, 0] :=
  (by decide +kernel : ∀ t : Fin grid0.N, win0_11.index t = ![t.val, 0]) t

theorem idx12 (t : Fin cfg0.N) : win0_12.index t = ![t.val, 0] :=
  (by decide +kernel : ∀ t : Fin grid0.N, win0_12.index t = ![t.val, 0]) t

theorem idx13 (t : Fin cfg0.N) : win0_13.index t = ![t.val, 0] :=
  (by decide +kernel : ∀ t : Fin grid0.N, win0_13.index t = ![t.val, 0]) t

theorem idx14 (t : Fin cfg0.N) : win0_14.index t = ![t.val, 0] :=
  (by decide +kernel : ∀ t : Fin grid0.N, win0_14.index t = ![t.val, 0]) t

theorem idx4 (t : Fin cfg0.N) : win0_4.index t = ![0, 0] :=
  (by decide +kernel : ∀ t : Fin grid0.N, win0_4.index t = ![0, 0]) t

theorem idx5 (t : Fin cfg0.N) : win0_5.index t = ![0, 0, 0] :=
  (by decide +kernel : ∀ t : Fin grid0.N, win0_5.index t = ![0, 0, 0]) t

theorem idx6 (t : Fin cfg0.N) : win0_6.index t = ![0, 0, 0] :=
  (by decide +kernel : ∀ t : Fin grid0.N, win0_6.index t = ![0, 0, 0]) t

theorem idx7 (t : Fin cfg0.N) : win0_7.index t = ![0, 0] :=
  (by decide +kernel : ∀ t : Fin grid0.N, win0_7.index t = ![0, 0]) t

theorem idx8 (t : Fin cfg0.N) : win0_8.index t = ![0, 0] :=
  (by decide +kernel : ∀ t : Fin grid0.N, win0_8.index t = ![0, 0]) t

abbrev Args (m : (ℓ : Loc nD τ sig) → Buf (Elt Ideal) ℓ) (c : Dev nD) (P : Wts) (R : ℕ → Row) : Prop :=
  ArgReals (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) P R

theorem block_reals (H : Args m c P R) (t : Fin cfg0.N) : Reals m c t P (fun s => R (256 * t.val + s)) where
  hx s k := by
    have ht := pt t
    have hs := s.isLt
    have h1 : (iblk m c 0 t : FVec Ideal S256x1024 .f32) (ix2 s k) = (V m c main_v7 : FVec Ideal S8192x1024 .f32)
        (ix2 (⟨256 * t.val + s.val, by omega⟩ : Fin 8192) k) := by
      blk_point [iblk, idx0 t]
    rw [h1]
    entry_read
    pointwise
    exact at_row (f := fun r k => (R r).x k) H.hx _ _ _ rfl rfl rfl
  ha s k := by
    have ht := pt t
    have hs := s.isLt
    have h1 : (iblk m c 1 t : FVec Ideal S256x512 .bf16) (ix2 s k) = (V m c main_v8 : FVec Ideal S8192x512 .bf16)
        (ix2 (⟨256 * t.val + s.val, by omega⟩ : Fin 8192) k) := by
      blk_point [iblk, idx1 t]
    rw [h1]
    entry_read
    pointwise
    exact at_row (f := fun r k => (R r).m k) H.hm _ _ _ rfl rfl rfl
  hp s k := by
    have ht := pt t
    have hs := s.isLt
    have h1 : (iblk m c 2 t : FVec Ideal S256x512 .bf16) (ix2 s k) = (V m c main_v9 : FVec Ideal S8192x512 .bf16)
        (ix2 (⟨256 * t.val + s.val, by omega⟩ : Fin 8192) k) := by
      blk_point [iblk, idx2 t]
    rw [h1]
    entry_read
    pointwise
    exact at_row (f := fun r k => (R r).m k) H.hm _ _ _ rfl rfl rfl
  ht s k := by
    have ht := pt t
    have hs := s.isLt
    have h1 : (iblk m c 3 t : FVec Ideal S256x1024 .f32) (ix2 s k) = (V m c main_v10 : FVec Ideal S8192x1024 .f32)
        (ix2 (⟨256 * t.val + s.val, by omega⟩ : Fin 8192) k) := by
      blk_point [iblk, idx3 t]
    rw [h1]
    entry_read
    pointwise
    exact at_row (f := fun r k => (R r).t k) H.ht _ _ _ rfl rfl rfl
  hwo i k := by
    have h1 : (iblk m c 4 t : FVec Ideal S1024x1024 .bf16) (ix2 i k) = (V m c main_v11 : FVec Ideal S1024x1024 .bf16)
        (ix2 i k) := by
      blk_point [iblk, idx4 t]
    rw [h1, ← H.hwo i k]
    entry_read
    pointwise
  hwu q k j := by
    have hq := q.isLt
    have hj := j.isLt
    have h1 : (iblk m c 5 t : FVec Ideal S4x1024x1024 .bf16) (ix3 q k j) = (V m c main_v4 : FVec Ideal S4x1024x1024 .bf16)
        (ix3 q k j) := by
      blk_point [iblk, idx5 t]
    rw [h1]
    refine Eq.trans ?_ (H.hwu k (⟨1024 * q.val + j.val, by omega⟩ : Fin 4096))
    entry_read
    pointwise
    exact congrArg (fun z => m ((c : Thread nD τ).loc main_arg4) (ix2 k z)) (Fin.ext (by dsimp only; omega))
  hwd q j k := by
    have hq := q.isLt
    have hj := j.isLt
    have h1 : (iblk m c 6 t : FVec Ideal S4x1024x1024 .bf16) (ix3 q j k) = (V m c main_v6 : FVec Ideal S4x1024x1024 .bf16)
        (ix3 q j k) := by
      blk_point [iblk, idx6 t]
    rw [h1]
    refine Eq.trans ?_ (H.hwd (⟨1024 * q.val + j.val, by omega⟩ : Fin 4096) k)
    entry_read
    pointwise
    exact congrArg (fun z => m ((c : Thread nD τ).loc main_arg5) (ix2 z k)) (Fin.ext (by dsimp only; omega))
  hg2 k := by
    rw [← H.hg2 k]
    have h1 : (iblk m c 7 t : FVec Ideal S1x1024 .f32) (ix2 0 k) = (V m c main_arg6 : FVec Ideal S1x1024 .f32)
        (ix2 0 k) := by
      blk_point [iblk, idx7 t]
    rw [h1]
    entry_read
    rfl
  hgf k := by
    rw [← H.hgf k]
    have h1 : (iblk m c 8 t : FVec Ideal S1x1024 .f32) (ix2 0 k) = (V m c main_arg7 : FVec Ideal S1x1024 .f32)
        (ix2 0 k) := by
      blk_point [iblk, idx8 t]
    rw [h1]
    entry_read
    rfl

theorem sum_points (f : ℕ → ℝ) : ∑ p : Fin cfg0.N, ((f p.val : ℝ) : EReal) = ((∑ b : Fin 32, f b.val : ℝ) : EReal) := by
  rw [coe_sum]
  exact Fin.sum_congr' (fun b : Fin 32 => ((f b.val : ℝ) : EReal)) N_0

theorem final_h2 (H : Args m c P R) :
    (dats m 0 c).arrAt 9 cfg0.N = ((fun i => ((hh P (R (i 0).val) (i 1).val : ℝ) : EReal)) : FVec Ideal S8192x1024 .bf16) := by
  refine (dats m 0 c).arrAt_eq_of_covers 9 _ (by decide +kernel) fun t hf y => ?_
  blk_simp
  rw [after0_9]
  refine (congrArg _ (eq_ix2 y)).trans ((outs_h2 (block_reals H t) (y 0) (y 1)).trans ?_)
  rw [idx9 t]
  show _ = ((hh P (R (t.val * 256 + (y 0).val)) (0 * 1024 + (y 1).val) : ℝ) : EReal)
  rw [Nat.zero_mul, Nat.zero_add, Nat.mul_comm t.val]

theorem final_a (H : Args m c P R) :
    (dats m 0 c).arrAt 10 cfg0.N = ((fun i => ((aa P (R (i 0).val) (i 1).val : ℝ) : EReal)) : FVec Ideal S8192x4096 .bf16) := by
  refine (dats m 0 c).arrAt_eq_of_covers 10 _ (by decide +kernel) fun t hf y => ?_
  blk_simp
  rw [after0_10]
  refine (congrArg _ (eq_ix2 y)).trans ((outs_a (block_reals H t) (y 0) (y 1)).trans ?_)
  rw [idx10 t]
  show _ = ((aa P (R (t.val * 256 + (y 0).val)) (0 * 4096 + (y 1).val) : ℝ) : EReal)
  rw [Nat.zero_mul, Nat.zero_add, Nat.mul_comm t.val]

theorem final_da (H : Args m c P R) :
    (dats m 0 c).arrAt 11 cfg0.N = ((fun i => ((da P (R (i 0).val) (i 1).val : ℝ) : EReal)) : FVec Ideal S8192x4096 .bf16) := by
  refine (dats m 0 c).arrAt_eq_of_covers 11 _ (by decide +kernel) fun t hf y => ?_
  blk_simp
  rw [after0_11]
  refine (congrArg _ (eq_ix2 y)).trans ((outs_da (block_reals H t) (y 0) (y 1)).trans ?_)
  rw [idx11 t]
  show _ = ((da P (R (t.val * 256 + (y 0).val)) (0 * 4096 + (y 1).val) : ℝ) : EReal)
  rw [Nat.zero_mul, Nat.zero_add, Nat.mul_comm t.val]

theorem final_dx2 (H : Args m c P R) :
    (dats m 0 c).arrAt 12 cfg0.N = ((fun i => ((dx2 P (R (i 0).val) (i 1).val : ℝ) : EReal)) : FVec Ideal S8192x1024 .bf16) := by
  refine (dats m 0 c).arrAt_eq_of_covers 12 _ (by decide +kernel) fun t hf y => ?_
  blk_simp
  rw [after0_12]
  refine (congrArg _ (eq_ix2 y)).trans ((outs_dx2 (block_reals H t) (y 0) (y 1)).trans ?_)
  rw [idx12 t]
  show _ = ((dx2 P (R (t.val * 256 + (y 0).val)) (0 * 1024 + (y 1).val) : ℝ) : EReal)
  rw [Nat.zero_mul, Nat.zero_add, Nat.mul_comm t.val]

theorem final_dx1 (H : Args m c P R) :
    (dats m 0 c).arrAt 13 cfg0.N = ((fun i => ((dx1 P (R (i 0).val) (i 1).val : ℝ) : EReal)) : FVec Ideal S8192x1024 .f32) := by
  refine (dats m 0 c).arrAt_eq_of_covers 13 _ (by decide +kernel) fun t hf y => ?_
  blk_simp
  rw [after0_13]
  refine (congrArg _ (eq_ix2 y)).trans ((outs_dx1 (block_reals H t) (y 0) (y 1)).trans ?_)
  rw [idx13 t]
  show _ = ((dx1 P (R (t.val * 256 + (y 0).val)) (0 * 1024 + (y 1).val) : ℝ) : EReal)
  rw [Nat.zero_mul, Nat.zero_add, Nat.mul_comm t.val]

theorem final_dx1b (H : Args m c P R) :
    (dats m 0 c).arrAt 14 cfg0.N = ((fun i => ((dx1 P (R (i 0).val) (i 1).val : ℝ) : EReal)) : FVec Ideal S8192x1024 .bf16) := by
  refine (dats m 0 c).arrAt_eq_of_covers 14 _ (by decide +kernel) fun t hf y => ?_
  blk_simp
  rw [after0_14]
  refine (congrArg _ (eq_ix2 y)).trans ((outs_dx1b (block_reals H t) (y 0) (y 1)).trans ?_)
  rw [idx14 t]
  show _ = ((dx1 P (R (t.val * 256 + (y 0).val)) (0 * 1024 + (y 1).val) : ℝ) : EReal)
  rw [Nat.zero_mul, Nat.zero_add, Nat.mul_comm t.val]

/-- The loss over all rows, at the one place it is kept. -/
def outLoss (P : Wts) (R : ℕ → Row) (i j : ℕ) : ℝ := if i = 0 ∧ j = 0 then ∑ r ∈ Finset.range 8192, lossR P (R r) else 0

theorem final_loss (H : Args m c P R) :
    (dats m 0 c).arrAt 15 cfg0.N = ((fun i => ((outLoss P R (i 0).val (i 1).val : ℝ) : EReal)) : FVec Ideal S8x128 .f32) := by
  refine (dats m 0 c).arrAt_eq_of_after_last 15 tLast (by decide +kernel) _ fun j => ?_
  blk_simp
  rw [after0_15, eq_ix2 j]
  rw [Pipeline.eq_sum_fin_of_reset_step_apply_last
    (fun n h (j : Fin 8 × Fin 128) => (outsAt0 m c n h).2.2.2.2.2.2.1 (ix2 j.1 j.2)) 32 (fun _ => 0)
    (fun t j => ((lossB (fun s => R (256 * t.val + s)) P j.1.val j.2.val : ℝ) : EReal))
    (fun t h j => outs_loss_A (block_reals H t) h j.1 j.2)
    (fun t h j => outs_loss_B (block_reals H t) h j.1 j.2) (le_of_eq N_0) tLast rfl (j 0, j 1), zero_add]
  refine (sum_points fun t => lossB (fun s => R (256 * t + s)) P (j 0).val (j 1).val).trans (congrArg _ ?_)
  unfold lossB outLoss
  by_cases h : (j 0).val = 0 ∧ (j 1).val = 0
  · refine (Finset.sum_congr rfl fun b _ => if_pos h).trans (Eq.trans ?_ (if_pos h).symm)
    exact sum_blocks 32 256 8192 rfl fun r => lossR P (R r)
  · exact (Finset.sum_congr rfl fun b _ => if_neg h).trans (Finset.sum_const_zero.trans (if_neg h).symm)

/-- The gradient of the last scale, over all rows. -/
def out_dgf (P : Wts) (R : ℕ → Row) (k : ℕ) : ℝ := ∑ r ∈ Finset.range 8192, dy P (R r) k * xn (x2 P (R r)) k

theorem final_dgf (H : Args m c P R) :
    (dats m 0 c).arrAt 16 cfg0.N = ((fun i => ((out_dgf P R (i 1).val : ℝ) : EReal)) : FVec Ideal S1x1024 .f32) := by
  refine (dats m 0 c).arrAt_eq_of_after_last 16 tLast (by decide +kernel) _ fun j => ?_
  blk_simp
  rw [after0_16]
  have e : j = ix2 (0 : Fin 1) (j 1 : Fin 1024) :=
    (eq_ix2 j).trans (congrArg (fun z : Fin 1 => ix2 z _) (Subsingleton.elim (α := Fin 1) _ _))
  have h := Pipeline.eq_sum_fin_of_reset_step_apply_last
    (fun n h (k : Fin 1024) => (outsAt0 m c n h).2.2.2.2.2.2.2.1 (ix2 0 k)) 32 (fun _ => 0)
    (fun t k => ((dgfB (fun s => R (256 * t.val + s)) P k.val : ℝ) : EReal))
    (fun t h k => outs_dgf_A (block_reals H t) h k)
    (fun t h k => outs_dgf_B (block_reals H t) h k) (le_of_eq N_0) tLast rfl (j 1)
  refine (congrArg _ e).trans (h.trans ?_)
  rw [zero_add]
  refine (sum_points fun t => dgfB (fun s => R (256 * t + s)) P (j 1).val).trans ?_
  exact congrArg _ (sum_blocks 32 256 8192 rfl fun r => dy P (R r) (j 1).val * xn (x2 P (R r)) (j 1).val)

/-- The gradient of the second scale, over all rows. -/
def out_dg2 (P : Wts) (R : ℕ → Row) (k : ℕ) : ℝ := ∑ r ∈ Finset.range 8192, dh2 P (R r) k * xn (x1 P (R r)) k

theorem final_dg2 (H : Args m c P R) :
    (dats m 0 c).arrAt 17 cfg0.N = ((fun i => ((out_dg2 P R (i 1).val : ℝ) : EReal)) : FVec Ideal S1x1024 .f32) := by
  refine (dats m 0 c).arrAt_eq_of_after_last 17 tLast (by decide +kernel) _ fun j => ?_
  blk_simp
  rw [after0_17]
  have e : j = ix2 (0 : Fin 1) (j 1 : Fin 1024) :=
    (eq_ix2 j).trans (congrArg (fun z : Fin 1 => ix2 z _) (Subsingleton.elim (α := Fin 1) _ _))
  have h := Pipeline.eq_sum_fin_of_reset_step_apply_last
    (fun n h (k : Fin 1024) => (outsAt0 m c n h).2.2.2.2.2.2.2.2 (ix2 0 k)) 32 (fun _ => 0)
    (fun t k => ((dg2B (fun s => R (256 * t.val + s)) P k.val : ℝ) : EReal))
    (fun t h k => outs_dg2_A (block_reals H t) h k)
    (fun t h k => outs_dg2_B (block_reals H t) h k) (le_of_eq N_0) tLast rfl (j 1)
  refine (congrArg _ e).trans (h.trans ?_)
  rw [zero_add]
  refine (sum_points fun t => dg2B (fun s => R (256 * t + s)) P (j 1).val).trans ?_
  exact congrArg _ (sum_blocks 32 256 8192 rfl fun r => dh2 P (R r) (j 1).val * xn (x1 P (R r)) (j 1).val)

end Cert.MlpProof
end
-- ==== Proof.MlpRef.lean ====
/-
  The reference of the feed-forward half read at an index, up to the loss.
-/
module

public import proofs.«01_k».proof.Proof.MlpValue
public import proofs.«01_k».proof.Proof.HostSum
public import proofs.«01_k».proof.Proof.Gen.Reference3Ideal.Read

@[expose] public section

set_option maxRecDepth 16384

noncomputable section

namespace Cert.MlpProof

open Idealize.ShloMosaic Idealize.ShloMosaic.TcCoe Cert.Reference3Ideal Cert.Reference3Ideal.Gen Cert.Reference3Ideal.Read
open Idealize.SL.Sem
open Cert.Proof (coe_sum sum_two_axes)
open Cert.NormProof (Holds ms rs xn ms_pos rsqrt_ms width_coe eps_coe minus_half_coe sum_blocks)

variable {a0 a1 a2 : FVec Ideal S4x2048x1024 .f32} {a3 : FVec Ideal S1024x1024 .f32} {a4 : FVec Ideal S1024x4096 .f32}
  {a5 : FVec Ideal S4096x1024 .f32} {a6 a7 : FVec Ideal S1x1024 .f32} {P : Wts} {R : ℕ → Row}

theorem ref_x1 (H : ArgReals a0 a1 a2 a3 a4 a5 a6 a7 P R) (b : Fin 4) (s : Fin 2048) (k : Fin 1024) :
    val_main_v1 (F := Ideal) a0 a1 a3 (ix3 b s k) = ((x1 P (R (2048 * b.val + s.val)) k.val : ℝ) : EReal) := by
  have h : val_main_v1 (F := Ideal) a0 a1 a3 (ix3 b s k) = a0 (ix3 b s k) + ∑ i : Fin 1024, a1 (ix3 b s i) * a3 (ix2 i k) := by
    pointwise [val_main_v1, val_main_v0]
  rw [h]
  unfold x1
  simp only [coe_sum, EReal.coe_mul, EReal.coe_add, H.hx _ _ _, H.hm _ _ _, H.hwo _ _]

theorem ref_ms1 (H : ArgReals a0 a1 a2 a3 a4 a5 a6 a7 P R) (b : Fin 4) (s : Fin 2048) (z : Fin 1) :
    val_main_v11 (F := Ideal) a0 a1 a3 (ix3 b s z) = ((ms (x1 P (R (2048 * b.val + s.val))) : ℝ) : EReal) := by
  have h : val_main_v11 (F := Ideal) a0 a1 a3 (ix3 b s z)
      = Ideal.div (∑ k : Fin 1024, val_main_v1 (F := Ideal) a0 a1 a3 (ix3 b s k) * val_main_v1 (F := Ideal) a0 a1 a3 (ix3 b s k))
          (Ideal.ofBits .f32 0x44800000#32) + Ideal.ofBits .f32 0x358637BD#32 := by
    pointwise [val_main_v11, val_main_v10, val_main_v9, val_main_v8, val_main_v7, val_main_v6, val_main_v5, val_main_cst_1, val_main_cst_2, val_main_cst_3]
  rw [h, width_coe, eps_coe, Ideal.div_coe (by norm_num)]
  unfold ms
  simp only [coe_sum, EReal.coe_mul, EReal.coe_add, ref_x1 H _ _ _]

theorem ref_rs1 (H : ArgReals a0 a1 a2 a3 a4 a5 a6 a7 P R) (b : Fin 4) (s : Fin 2048) (z : Fin 1) :
    val_main_v12 (F := Ideal) a0 a1 a3 (ix3 b s z) = ((rs (x1 P (R (2048 * b.val + s.val))) : ℝ) : EReal) := by
  rw [val_main_v12_apply, ref_ms1 H, ← rsqrt_ms]
  rfl

theorem ref_cube1 (H : ArgReals a0 a1 a2 a3 a4 a5 a6 a7 P R) (b : Fin 4) (s : Fin 2048) (z : Fin 1) :
    val_main_v15 (F := Ideal) a0 a1 a3 (ix3 b s z) = ((-(1 / 2) * (rs (x1 P (R (2048 * b.val + s.val)))
      * (1 / ms (x1 P (R (2048 * b.val + s.val))))) : ℝ) : EReal) := by
  have h : val_main_v15 (F := Ideal) a0 a1 a3 (ix3 b s z) = Ideal.ofBits .f32 0xBF000000#32
      * Ideal.div (val_main_v12 (F := Ideal) a0 a1 a3 (ix3 b s z)) (val_main_v11 (F := Ideal) a0 a1 a3 (ix3 b s z)) := by
    pointwise [val_main_v15, val_main_v14, val_main_v13, val_main_cst_4]
  rw [h, ref_rs1 H, ref_ms1 H, Ideal.div_coe (ms_pos _).ne', minus_half_coe, EReal.coe_mul, EReal.coe_mul]

theorem ref_xn1 (H : ArgReals a0 a1 a2 a3 a4 a5 a6 a7 P R) (b : Fin 4) (s : Fin 2048) (k : Fin 1024) :
    val_main_v17 (F := Ideal) a0 a1 a3 (ix3 b s k) = ((xn (x1 P (R (2048 * b.val + s.val))) k.val : ℝ) : EReal) := by
  have h : val_main_v17 (F := Ideal) a0 a1 a3 (ix3 b s k)
      = val_main_v1 (F := Ideal) a0 a1 a3 (ix3 b s k) * val_main_v12 (F := Ideal) a0 a1 a3 (ix3 b s 0) := by
    pointwise [val_main_v17, val_main_v16]
  rw [h, ref_rs1 H, ref_x1 H, ← EReal.coe_mul]
  rfl

theorem ref_h (H : ArgReals a0 a1 a2 a3 a4 a5 a6 a7 P R) (b : Fin 4) (s : Fin 2048) (k : Fin 1024) :
    val_main_v20 (F := Ideal) a0 a1 a3 a6 (ix3 b s k) = ((hh P (R (2048 * b.val + s.val)) k.val : ℝ) : EReal) := by
  have h : val_main_v20 (F := Ideal) a0 a1 a3 a6 (ix3 b s k) = val_main_v17 (F := Ideal) a0 a1 a3 (ix3 b s k) * a6 (ix2 0 k) := by
    pointwise [val_main_v20, val_main_v19, val_main_v18, val_main_v4]
  rw [h, ref_xn1 H, H.hg2, ← EReal.coe_mul]
  rfl

theorem ref_a (H : ArgReals a0 a1 a2 a3 a4 a5 a6 a7 P R) (b : Fin 4) (s : Fin 2048) (j : Fin 4096) :
    val_main_v22 (F := Ideal) a0 a1 a3 a4 a6 (ix3 b s j) = ((aa P (R (2048 * b.val + s.val)) j.val : ℝ) : EReal) := by
  have h : val_main_v22 (F := Ideal) a0 a1 a3 a4 a6 (ix3 b s j)
      = ∑ k : Fin 1024, val_main_v20 (F := Ideal) a0 a1 a3 a6 (ix3 b s k) * a4 (ix2 k j) := by
    pointwise [val_main_v22, val_main_v21, val_main_v2, val_main_cst]
  rw [h]
  unfold aa
  simp only [coe_sum, EReal.coe_mul, ref_h H _ _ _, H.hwu _ _]

theorem ref_relu (H : ArgReals a0 a1 a2 a3 a4 a5 a6 a7 P R) (b : Fin 4) (s : Fin 2048) (j : Fin 4096) :
    val_main_v23 (F := Ideal) a0 a1 a3 a4 a6 (ix3 b s j) = ((max (aa P (R (2048 * b.val + s.val)) j.val) 0 : ℝ) : EReal) := by
  have h : val_main_v23 (F := Ideal) a0 a1 a3 a4 a6 (ix3 b s j)
      = max (val_main_v22 (F := Ideal) a0 a1 a3 a4 a6 (ix3 b s j)) (Ideal.ofBits .f32 0x00000000#32) := by
    pointwise [val_main_v23, val_main_call0_v0, val_main_call0_cst]
  rw [h, ref_a H, zero_coe, coe_max]

theorem ref_x2 (H : ArgReals a0 a1 a2 a3 a4 a5 a6 a7 P R) (b : Fin 4) (s : Fin 2048) (k : Fin 1024) :
    val_main_v32 (F := Ideal) a0 a1 a3 a4 a5 a6 (ix3 b s k) = ((x2 P (R (2048 * b.val + s.val)) k.val : ℝ) : EReal) := by
  have h : val_main_v32 (F := Ideal) a0 a1 a3 a4 a5 a6 (ix3 b s k) = val_main_v1 (F := Ideal) a0 a1 a3 (ix3 b s k)
      + ∑ j : Fin 4096, val_main_v23 (F := Ideal) a0 a1 a3 a4 a6 (ix3 b s j) * val_main_v23 (F := Ideal) a0 a1 a3 a4 a6 (ix3 b s j) * a5 (ix2 j k) := by
    pointwise [val_main_v32, val_main_v31, val_main_v30, val_main_v27, val_main_v3, val_main_cst_0]
  rw [h]
  unfold x2 sq
  simp only [coe_sum, EReal.coe_mul, EReal.coe_add, ref_x1 H _ _ _, ref_relu H _ _ _, H.hwd _ _]

theorem ref_ms2 (H : ArgReals a0 a1 a2 a3 a4 a5 a6 a7 P R) (b : Fin 4) (s : Fin 2048) (z : Fin 1) :
    val_main_v40 (F := Ideal) a0 a1 a3 a4 a5 a6 (ix3 b s z) = ((ms (x2 P (R (2048 * b.val + s.val))) : ℝ) : EReal) := by
  have h : val_main_v40 (F := Ideal) a0 a1 a3 a4 a5 a6 (ix3 b s z)
      = Ideal.div (∑ k : Fin 1024, val_main_v32 (F := Ideal) a0 a1 a3 a4 a5 a6 (ix3 b s k) * val_main_v32 (F := Ideal) a0 a1 a3 a4 a5 a6 (ix3 b s k))
          (Ideal.ofBits .f32 0x44800000#32) + Ideal.ofBits .f32 0x358637BD#32 := by
    pointwise [val_main_v40, val_main_v39, val_main_v38, val_main_v37, val_main_v36, val_main_v35, val_main_v34, val_main_cst_8, val_main_cst_9, val_main_cst_10]
  rw [h, width_coe, eps_coe, Ideal.div_coe (by norm_num)]
  unfold ms
  simp only [coe_sum, EReal.coe_mul, EReal.coe_add, ref_x2 H _ _ _]

theorem ref_rs2 (H : ArgReals a0 a1 a2 a3 a4 a5 a6 a7 P R) (b : Fin 4) (s : Fin 2048) (z : Fin 1) :
    val_main_v41 (F := Ideal) a0 a1 a3 a4 a5 a6 (ix3 b s z) = ((rs (x2 P (R (2048 * b.val + s.val))) : ℝ) : EReal) := by
  rw [val_main_v41_apply, ref_ms2 H, ← rsqrt_ms]
  rfl

theorem ref_cube2 (H : ArgReals a0 a1 a2 a3 a4 a5 a6 a7 P R) (b : Fin 4) (s : Fin 2048) (z : Fin 1) :
    val_main_v44 (F := Ideal) a0 a1 a3 a4 a5 a6 (ix3 b s z) = ((-(1 / 2) * (rs (x2 P (R (2048 * b.val + s.val)))
      * (1 / ms (x2 P (R (2048 * b.val + s.val))))) : ℝ) : EReal) := by
  have h : val_main_v44 (F := Ideal) a0 a1 a3 a4 a5 a6 (ix3 b s z) = Ideal.ofBits .f32 0xBF000000#32
      * Ideal.div (val_main_v41 (F := Ideal) a0 a1 a3 a4 a5 a6 (ix3 b s z)) (val_main_v40 (F := Ideal) a0 a1 a3 a4 a5 a6 (ix3 b s z)) := by
    pointwise [val_main_v44, val_main_v43, val_main_v42, val_main_cst_11]
  rw [h, ref_rs2 H, ref_ms2 H, Ideal.div_coe (ms_pos _).ne', minus_half_coe, EReal.coe_mul, EReal.coe_mul]

theorem ref_xn2 (H : ArgReals a0 a1 a2 a3 a4 a5 a6 a7 P R) (b : Fin 4) (s : Fin 2048) (k : Fin 1024) :
    val_main_v46 (F := Ideal) a0 a1 a3 a4 a5 a6 (ix3 b s k) = ((xn (x2 P (R (2048 * b.val + s.val))) k.val : ℝ) : EReal) := by
  have h : val_main_v46 (F := Ideal) a0 a1 a3 a4 a5 a6 (ix3 b s k)
      = val_main_v32 (F := Ideal) a0 a1 a3 a4 a5 a6 (ix3 b s k) * val_main_v41 (F := Ideal) a0 a1 a3 a4 a5 a6 (ix3 b s 0) := by
    pointwise [val_main_v46, val_main_v45]
  rw [h, ref_rs2 H, ref_x2 H, ← EReal.coe_mul]
  rfl

theorem ref_err (H : ArgReals a0 a1 a2 a3 a4 a5 a6 a7 P R) (b : Fin 4) (s : Fin 2048) (k : Fin 1024) :
    val_main_v50 (F := Ideal) a0 a1 a2 a3 a4 a5 a6 a7 (ix3 b s k) = ((err P (R (2048 * b.val + s.val)) k.val : ℝ) : EReal) := by
  have h : val_main_v50 (F := Ideal) a0 a1 a2 a3 a4 a5 a6 a7 (ix3 b s k)
      = val_main_v46 (F := Ideal) a0 a1 a3 a4 a5 a6 (ix3 b s k) * a7 (ix2 0 k) - a2 (ix3 b s k) := by
    pointwise [val_main_v50, val_main_v49, val_main_v48, val_main_v47, val_main_v33]
  rw [h, ref_xn2 H, H.hgf, H.ht, ← EReal.coe_mul, ← EReal.coe_sub]
  rfl

theorem ref_loss (H : ArgReals a0 a1 a2 a3 a4 a5 a6 a7 P R) (i : Fin 8) (j : Fin 128) :
    val_main_v114 (F := Ideal) a0 a1 a2 a3 a4 a5 a6 a7 (ix2 i j) = ((outLoss P R i.val j.val : ℝ) : EReal) := by
  have h54 : ∀ (b : Fin 4) (s : Fin 2048), val_main_v56 (F := Ideal) a0 a1 a2 a3 a4 a5 a6 a7 (ix2 b s)
      = (((∑ k : Fin 1024, err P (R (2048 * b.val + s.val)) k.val * err P (R (2048 * b.val + s.val)) k.val) * (1 / 1024) : ℝ) : EReal) := fun b s => by
    have h : val_main_v56 (F := Ideal) a0 a1 a2 a3 a4 a5 a6 a7 (ix2 b s) = Ideal.div (∑ k : Fin 1024, val_main_v50 (F := Ideal) a0 a1 a2 a3 a4 a5 a6 a7 (ix3 b s k) * val_main_v50 (F := Ideal) a0 a1 a2 a3 a4 a5 a6 a7 (ix3 b s k))
        (Ideal.ofBits .f32 0x44800000#32) := by
      pointwise [val_main_v56, val_main_v55, val_main_v54, val_main_v51, val_main_cst_13, val_main_cst_14]
    rw [h, width_coe, Ideal.div_coe (by norm_num)]
    simp only [coe_sum, EReal.coe_mul, ref_err H _ _ _]
  have h57 : ∀ z : S_.Idx, val_main_v57 (F := Ideal) a0 a1 a2 a3 a4 a5 a6 a7 z = ∑ b : Fin 4, ∑ s : Fin 2048, val_main_v56 (F := Ideal) a0 a1 a2 a3 a4 a5 a6 a7 (ix2 b s) := fun z => by
    rw [val_main_v57_apply]
    generalize val_main_v56 (F := Ideal) a0 a1 a2 a3 a4 a5 a6 a7 = y
    rw [show val_main_cst_15 (F := Ideal) (Shape.Idx.first h_S_) = 0 from zero_coe.trans EReal.coe_zero, zero_add, sum_idx2]
  have h : val_main_v114 (F := Ideal) a0 a1 a2 a3 a4 a5 a6 a7 (ix2 i j) = if i.val = 0 ∧ j.val = 0 then Ideal.ofBits .f32 0x3F000000#32
      * val_main_v57 (F := Ideal) a0 a1 a2 a3 a4 a5 a6 a7 (fun a : Fin 0 => Fin.elim0 a) else 0 := by
    pointwise [val_main_v114, val_main_v113, val_main_v58, val_main_call1_v0, val_main_c, val_main_cst_16]
    by_cases c : i.val = 0 ∧ j.val = 0
    · rw [if_pos c, dif_pos (by omega)]
      exact congrArg (_ * ·) (congrArg _ (funext fun a => Fin.elim0 a))
    · rw [if_neg c, dif_neg (by omega)]
      exact show ((((0#32 : BitVec 32).toInt : ℤ) : ℝ) : EReal) = 0 from by simp
  rw [h, h57]
  unfold outLoss
  by_cases c : i.val = 0 ∧ j.val = 0
  · rw [if_pos c, if_pos c, half_coe, ← sum_blocks 4 2048 8192 rfl]
    simp only [h54, ← coe_sum, ← EReal.coe_mul]
    refine congrArg _ ?_
    unfold lossR
    simp only [Finset.mul_sum, Finset.sum_mul]
    refine Finset.sum_congr rfl fun b _ => Finset.sum_congr rfl fun s _ => Finset.sum_congr rfl fun k _ => ?_
    ring
  · rw [if_neg c, if_neg c, EReal.coe_zero]

theorem ref_dy (H : ArgReals a0 a1 a2 a3 a4 a5 a6 a7 P R) (b : Fin 4) (s : Fin 2048) (k : Fin 1024) :
    val_main_v64 (F := Ideal) a0 a1 a2 a3 a4 a5 a6 a7 (ix3 b s k) = ((dy P (R (2048 * b.val + s.val)) k.val : ℝ) : EReal) := by
  have h : val_main_v64 (F := Ideal) a0 a1 a2 a3 a4 a5 a6 a7 (ix3 b s k)
      = Ideal.div (Ideal.ofBits .f32 0x3F000000#32 * Ideal.ofBits .f32 0x3F800000#32) (Ideal.ofBits .f32 0x44800000#32)
        * (Ideal.ofBits .f32 0x40000000#32 * val_main_v50 (F := Ideal) a0 a1 a2 a3 a4 a5 a6 a7 (ix3 b s k)) := by
    pointwise [val_main_v64, val_main_v63, val_main_v62, val_main_v61, val_main_v60, val_main_v59, val_main_v53, val_main_v52,
      val_main_cst_12, val_main_cst_17, val_main_cst_18, val_main_cst_19]
  rw [h, ref_err H, width_coe, Ideal.div_coe (by norm_num), half_coe, one_coe, two_coe]
  simp only [← EReal.coe_mul]
  refine congrArg _ ?_
  unfold dy
  ring

theorem ref_dgf (H : ArgReals a0 a1 a2 a3 a4 a5 a6 a7 P R) (z : Fin 1) (k : Fin 1024) :
    val_main_v85 (F := Ideal) a0 a1 a2 a3 a4 a5 a6 a7 (ix2 z k) = ((out_dgf P R k.val : ℝ) : EReal) := by
  have h : val_main_v66 (F := Ideal) a0 a1 a2 a3 a4 a5 a6 a7 (ix1 k)
      = ∑ b : Fin 4, ∑ s : Fin 2048, val_main_v46 (F := Ideal) a0 a1 a3 a4 a5 a6 (ix3 b s k) * val_main_v64 (F := Ideal) a0 a1 a2 a3 a4 a5 a6 a7 (ix3 b s k) := by
    unfold val_main_v66
    pointwise [val_main_cst_20]
    rw [sum_two_axes, zero_add]
    rfl
  have e : val_main_v85 (F := Ideal) a0 a1 a2 a3 a4 a5 a6 a7 (ix2 z k) = val_main_v66 (F := Ideal) a0 a1 a2 a3 a4 a5 a6 a7 (ix1 k) := by
    unfold val_main_v85 val_main_v70 val_main_v67
    generalize val_main_v66 (F := Ideal) a0 a1 a2 a3 a4 a5 a6 a7 = y
    pointwise [val_main_cst_21]
    rw [sum_two_axes, zero_add]
    simp only [Fin.sum_univ_one]
    pointwise
  rw [e, h]
  unfold out_dgf
  rw [← sum_blocks 4 2048 8192 rfl]
  simp only [coe_sum, EReal.coe_mul, ref_xn2 H _ _ _, ref_dy H _ _ _]
  exact Finset.sum_congr rfl fun b _ => Finset.sum_congr rfl fun s _ => mul_comm _ _

end Cert.MlpProof
end
-- ==== Proof.MlpRefBack.lean ====
/-
  The reference of the feed-forward half read at an index: what goes backward from the loss.
-/
module

public import proofs.«01_k».proof.Proof.MlpRef

@[expose] public section

set_option maxRecDepth 16384

noncomputable section

namespace Cert.MlpProof

open Idealize.ShloMosaic Idealize.ShloMosaic.TcCoe Cert.Reference3Ideal Cert.Reference3Ideal.Gen Cert.Reference3Ideal.Read
open Idealize.SL.Sem
open Cert.Proof (coe_sum sum_two_axes)
open Cert.NormProof (Holds ms rs xn ms_pos rsqrt_ms width_coe eps_coe minus_half_coe sum_blocks)

variable {a0 a1 a2 : FVec Ideal S4x2048x1024 .f32} {a3 : FVec Ideal S1024x1024 .f32} {a4 : FVec Ideal S1024x4096 .f32}
  {a5 : FVec Ideal S4096x1024 .f32} {a6 a7 : FVec Ideal S1x1024 .f32} {P : Wts} {R : ℕ → Row}

theorem ref_dygf (H : ArgReals a0 a1 a2 a3 a4 a5 a6 a7 P R) (b : Fin 4) (s : Fin 2048) (k : Fin 1024) :
    val_main_v69 (F := Ideal) a0 a1 a2 a3 a4 a5 a6 a7 (ix3 b s k) = ((dy P (R (2048 * b.val + s.val)) k.val * P.gf k.val : ℝ) : EReal) := by
  have h : val_main_v69 (F := Ideal) a0 a1 a2 a3 a4 a5 a6 a7 (ix3 b s k) = val_main_v64 (F := Ideal) a0 a1 a2 a3 a4 a5 a6 a7 (ix3 b s k) * a7 (ix2 0 k) := by
    pointwise [val_main_v69, val_main_v68, val_main_v47, val_main_v33]
  rw [h, ref_dy H, H.hgf, ← EReal.coe_mul]

/-- What the norm's mean sends back to every channel of a row. -/
theorem ref_root2 (H : ArgReals a0 a1 a2 a3 a4 a5 a6 a7 P R) (b : Fin 4) (s : Fin 2048) (k : Fin 1024) :
    val_main_v80 (F := Ideal) a0 a1 a2 a3 a4 a5 a6 a7 (ix3 b s k) = (((∑ i : Fin 1024, x2 P (R (2048 * b.val + s.val)) i.val
        * (dy P (R (2048 * b.val + s.val)) i.val * P.gf i.val))
      * (-(1 / 2) * (rs (x2 P (R (2048 * b.val + s.val))) * (1 / ms (x2 P (R (2048 * b.val + s.val))))))
      * (1 / 1024) : ℝ) : EReal) := by
  have h : val_main_v80 (F := Ideal) a0 a1 a2 a3 a4 a5 a6 a7 (ix3 b s k) = Ideal.div ((∑ i : Fin 1024, val_main_v32 (F := Ideal) a0 a1 a3 a4 a5 a6 (ix3 b s i)
      * val_main_v69 (F := Ideal) a0 a1 a2 a3 a4 a5 a6 a7 (ix3 b s i)) * val_main_v44 (F := Ideal) a0 a1 a3 a4 a5 a6 (ix3 b s 0)) (Ideal.ofBits .f32 0x44800000#32) := by
    pointwise [val_main_v80, val_main_v79, val_main_v78, val_main_v77, val_main_v76, val_main_v73, val_main_v72, val_main_v71, val_main_cst_22, val_main_cst_23, val_main_cst_24]
    simp only [Fin.sum_univ_one]
  rw [h, ref_cube2 H, width_coe, Ideal.div_coe (by norm_num)]
  simp only [coe_sum, EReal.coe_mul, ref_x2 H _ _ _, ref_dygf H _ _ _]

theorem ref_dx2 (H : ArgReals a0 a1 a2 a3 a4 a5 a6 a7 P R) (b : Fin 4) (s : Fin 2048) (k : Fin 1024) :
    val_main_v84 (F := Ideal) a0 a1 a2 a3 a4 a5 a6 a7 (ix3 b s k) = ((dx2 P (R (2048 * b.val + s.val)) k.val : ℝ) : EReal) := by
  have h : val_main_v84 (F := Ideal) a0 a1 a2 a3 a4 a5 a6 a7 (ix3 b s k) = val_main_v69 (F := Ideal) a0 a1 a2 a3 a4 a5 a6 a7 (ix3 b s k) * val_main_v41 (F := Ideal) a0 a1 a3 a4 a5 a6 (ix3 b s 0)
      + val_main_v32 (F := Ideal) a0 a1 a3 a4 a5 a6 (ix3 b s k) * val_main_v80 (F := Ideal) a0 a1 a2 a3 a4 a5 a6 a7 (ix3 b s k)
      + val_main_v80 (F := Ideal) a0 a1 a2 a3 a4 a5 a6 a7 (ix3 b s k) * val_main_v32 (F := Ideal) a0 a1 a3 a4 a5 a6 (ix3 b s k) := by
    pointwise [val_main_v84, val_main_v83, val_main_v82, val_main_v81, val_main_v75, val_main_v74]
  rw [h, ref_dygf H, ref_rs2 H, ref_x2 H, ref_root2 H]
  unfold dx2
  rw [← zero_add (rb _ _ _), rb_eq, zero_add]
  simp only [EReal.coe_mul, EReal.coe_add]

/-- The gradient of the hidden layer before its activation: where the activation is off, the kernel's product is zero too. -/
theorem ref_da (H : ArgReals a0 a1 a2 a3 a4 a5 a6 a7 P R) (b : Fin 4) (s : Fin 2048) (j : Fin 4096) :
    val_main_v89 (F := Ideal) a0 a1 a2 a3 a4 a5 a6 a7 (ix3 b s j) = ((da P (R (2048 * b.val + s.val)) j.val : ℝ) : EReal) := by
  have h : val_main_v89 (F := Ideal) a0 a1 a2 a3 a4 a5 a6 a7 (ix3 b s j) = bif decide (Ideal.ofBits .f32 0x00000000#32 < val_main_v22 (F := Ideal) a0 a1 a3 a4 a6 (ix3 b s j))
      then (∑ k : Fin 1024, val_main_v84 (F := Ideal) a0 a1 a2 a3 a4 a5 a6 a7 (ix3 b s k) * a5 (ix2 j k))
        * (Ideal.ofBits .f32 0x40000000#32 * val_main_v23 (F := Ideal) a0 a1 a3 a4 a6 (ix3 b s j))
      else Ideal.ofBits .f32 0x00000000#32 := by
    pointwise [val_main_v89, val_main_v88, val_main_v87, val_main_v86, val_main_v29, val_main_v28, val_main_v25, val_main_v24,
      val_main_cst_5, val_main_cst_7, val_main_cst_25]
    by_cases c : 0 < val_main_v22 (F := Ideal) a0 a1 a3 a4 a6 (ix3 b s j)
    · rw [if_pos c, decide_eq_true c, cond_true]
    · rw [if_neg c, decide_eq_false c, cond_false]
  rw [h, ref_a H, ref_relu H, zero_coe, two_coe]
  unfold da
  simp only [ref_dx2 H _ _ _, H.hwd _ _]
  by_cases c : aa P (R (2048 * b.val + s.val)) j.val ≤ 0
  · rw [max_eq_right c, mul_zero, mul_zero, decide_eq_false (by simpa using c)]
    rfl
  · rw [decide_eq_true (by simpa using c)]
    simp only [coe_sum, EReal.coe_mul, cond_true]

theorem ref_dh2 (H : ArgReals a0 a1 a2 a3 a4 a5 a6 a7 P R) (b : Fin 4) (s : Fin 2048) (k : Fin 1024) :
    val_main_v90 (F := Ideal) a0 a1 a2 a3 a4 a5 a6 a7 (ix3 b s k) = ((dh2 P (R (2048 * b.val + s.val)) k.val : ℝ) : EReal) := by
  have h : val_main_v90 (F := Ideal) a0 a1 a2 a3 a4 a5 a6 a7 (ix3 b s k) = ∑ j : Fin 4096, val_main_v89 (F := Ideal) a0 a1 a2 a3 a4 a5 a6 a7 (ix3 b s j) * a4 (ix2 k j) := by
    pointwise [val_main_v90]
  rw [h]
  unfold dh2
  simp only [coe_sum, EReal.coe_mul, ref_da H _ _ _, H.hwu _ _]

theorem ref_dg2 (H : ArgReals a0 a1 a2 a3 a4 a5 a6 a7 P R) (z : Fin 1) (k : Fin 1024) :
    val_main_v112 (F := Ideal) a0 a1 a2 a3 a4 a5 a6 a7 (ix2 z k) = ((out_dg2 P R k.val : ℝ) : EReal) := by
  have h : val_main_v92 (F := Ideal) a0 a1 a2 a3 a4 a5 a6 a7 (ix1 k)
      = ∑ b : Fin 4, ∑ s : Fin 2048, val_main_v17 (F := Ideal) a0 a1 a3 (ix3 b s k) * val_main_v90 (F := Ideal) a0 a1 a2 a3 a4 a5 a6 a7 (ix3 b s k) := by
    unfold val_main_v92
    pointwise [val_main_cst_26]
    rw [sum_two_axes, zero_add]
    rfl
  have e : val_main_v112 (F := Ideal) a0 a1 a2 a3 a4 a5 a6 a7 (ix2 z k) = val_main_v92 (F := Ideal) a0 a1 a2 a3 a4 a5 a6 a7 (ix1 k) := by
    unfold val_main_v112 val_main_v96 val_main_v93
    generalize val_main_v92 (F := Ideal) a0 a1 a2 a3 a4 a5 a6 a7 = y
    pointwise [val_main_cst_27]
    rw [sum_two_axes, zero_add]
    simp only [Fin.sum_univ_one]
    pointwise
  rw [e, h]
  unfold out_dg2
  rw [← sum_blocks 4 2048 8192 rfl]
  simp only [coe_sum, EReal.coe_mul, ref_xn1 H _ _ _, ref_dh2 H _ _ _]
  exact Finset.sum_congr rfl fun b _ => Finset.sum_congr rfl fun s _ => mul_comm _ _

theorem ref_dhg2 (H : ArgReals a0 a1 a2 a3 a4 a5 a6 a7 P R) (b : Fin 4) (s : Fin 2048) (k : Fin 1024) :
    val_main_v95 (F := Ideal) a0 a1 a2 a3 a4 a5 a6 a7 (ix3 b s k) = ((dh2 P (R (2048 * b.val + s.val)) k.val * P.g2 k.val : ℝ) : EReal) := by
  have h : val_main_v95 (F := Ideal) a0 a1 a2 a3 a4 a5 a6 a7 (ix3 b s k) = val_main_v90 (F := Ideal) a0 a1 a2 a3 a4 a5 a6 a7 (ix3 b s k) * a6 (ix2 0 k) := by
    pointwise [val_main_v95, val_main_v94, val_main_v18, val_main_v4]
  rw [h, ref_dh2 H, H.hg2, ← EReal.coe_mul]

/-- What the norm's mean sends back to every channel of a row. -/
theorem ref_root1 (H : ArgReals a0 a1 a2 a3 a4 a5 a6 a7 P R) (b : Fin 4) (s : Fin 2048) (k : Fin 1024) :
    val_main_v107 (F := Ideal) a0 a1 a2 a3 a4 a5 a6 a7 (ix3 b s k) = (((∑ i : Fin 1024, x1 P (R (2048 * b.val + s.val)) i.val
        * (dh2 P (R (2048 * b.val + s.val)) i.val * P.g2 i.val))
      * (-(1 / 2) * (rs (x1 P (R (2048 * b.val + s.val))) * (1 / ms (x1 P (R (2048 * b.val + s.val))))))
      * (1 / 1024) : ℝ) : EReal) := by
  have h : val_main_v107 (F := Ideal) a0 a1 a2 a3 a4 a5 a6 a7 (ix3 b s k) = Ideal.div ((∑ i : Fin 1024, val_main_v1 (F := Ideal) a0 a1 a3 (ix3 b s i)
      * val_main_v95 (F := Ideal) a0 a1 a2 a3 a4 a5 a6 a7 (ix3 b s i)) * val_main_v15 (F := Ideal) a0 a1 a3 (ix3 b s 0)) (Ideal.ofBits .f32 0x44800000#32) := by
    pointwise [val_main_v107, val_main_v106, val_main_v105, val_main_v104, val_main_v103, val_main_v99, val_main_v98, val_main_v97, val_main_cst_28, val_main_cst_29, val_main_cst_30]
    simp only [Fin.sum_univ_one]
  rw [h, ref_cube1 H, width_coe, Ideal.div_coe (by norm_num)]
  simp only [coe_sum, EReal.coe_mul, ref_x1 H _ _ _, ref_dhg2 H _ _ _]

theorem ref_dx1 (H : ArgReals a0 a1 a2 a3 a4 a5 a6 a7 P R) (b : Fin 4) (s : Fin 2048) (k : Fin 1024) :
    val_main_v111 (F := Ideal) a0 a1 a2 a3 a4 a5 a6 a7 (ix3 b s k) = ((dx1 P (R (2048 * b.val + s.val)) k.val : ℝ) : EReal) := by
  have h : val_main_v111 (F := Ideal) a0 a1 a2 a3 a4 a5 a6 a7 (ix3 b s k) = val_main_v84 (F := Ideal) a0 a1 a2 a3 a4 a5 a6 a7 (ix3 b s k) + val_main_v95 (F := Ideal) a0 a1 a2 a3 a4 a5 a6 a7 (ix3 b s k) * val_main_v12 (F := Ideal) a0 a1 a3 (ix3 b s 0)
      + val_main_v1 (F := Ideal) a0 a1 a3 (ix3 b s k) * val_main_v107 (F := Ideal) a0 a1 a2 a3 a4 a5 a6 a7 (ix3 b s k)
      + val_main_v107 (F := Ideal) a0 a1 a2 a3 a4 a5 a6 a7 (ix3 b s k) * val_main_v1 (F := Ideal) a0 a1 a3 (ix3 b s k) := by
    pointwise [val_main_v111, val_main_v110, val_main_v109, val_main_v108, val_main_v102, val_main_v101, val_main_v100]
  rw [h, ref_dx2 H, ref_dhg2 H, ref_rs1 H, ref_x1 H, ref_root1 H]
  unfold dx1
  rw [rb_eq]
  simp only [EReal.coe_mul, EReal.coe_add]

/-- Rows of real entries, read flat. -/
theorem of_rows {n : ℕ} {y : FVec Ideal (⟨3, ![4, 2048, n]⟩ : Shape) .f32} {v : FVec Ideal (⟨2, ![8192, n]⟩ : Shape) .f32} (f : ℕ → ℕ → ℝ)
    (q : ∀ (r : Fin 8192) (k : Fin n), v (ix2 r k)
      = y (ix3 (⟨r.val / 2048, by have := r.isLt; omega⟩ : Fin 4) (⟨r.val % 2048, Nat.mod_lt _ (by decide)⟩ : Fin 2048) k))
    (hy : ∀ (b : Fin 4) (s : Fin 2048) (k : Fin n), y (ix3 b s k) = ((f (2048 * b.val + s.val) k.val : ℝ) : EReal)) :
    v = fun i => ((f (i 0).val (i 1).val : ℝ) : EReal) := funext fun i => by
  obtain ⟨r, k, rfl⟩ : ∃ r k, i = ix2 r k := ⟨i 0, i 1, (ix2_eta i).symm⟩
  have e : 2048 * (r.val / 2048) + r.val % 2048 = r.val := Nat.div_add_mod _ _
  rw [q, hy]
  dsimp only
  rw [e]
  rfl

/-- The stack of model rows laid out flat. -/
theorem flat_narrow (y : FVec Ideal S4x2048x1024 .f32) (r : Fin 8192) (k : Fin 1024) :
    (shapeCast S8192x1024 y shapeCasts_S4x2048x1024_S8192x1024) (ix2 r k)
      = y (ix3 (⟨r.val / 2048, by have := r.isLt; omega⟩ : Fin 4) (⟨r.val % 2048, Nat.mod_lt _ (by decide)⟩ : Fin 2048) k) := by
  have hr := r.isLt
  pointwise

/-- The stack of hidden rows laid out flat. -/
theorem flat_wide (y : FVec Ideal S4x2048x4096 .f32) (r : Fin 8192) (k : Fin 4096) :
    (shapeCast S8192x4096 y shapeCasts_S4x2048x4096_S8192x4096) (ix2 r k)
      = y (ix3 (⟨r.val / 2048, by have := r.isLt; omega⟩ : Fin 4) (⟨r.val % 2048, Nat.mod_lt _ (by decide)⟩ : Fin 2048) k) := by
  have hr := r.isLt
  pointwise

end Cert.MlpProof
end
-- ==== Proof.MlpFinite.lean ====
/-
  The arguments of the feed-forward half hold real numbers where the precondition says so.
-/
module

public import proofs.«01_k».proof.Proof.NormFinite
public import proofs.«01_k».proof.Proof.MlpValue
public import proofs.«01_k».proof.Pre_finite3

@[expose] public section

noncomputable section

namespace Cert.MlpProof

open Idealize.ShloMosaic Idealize.ShloMosaic.TcCoe
open Cert.Proof (real_of_abs_lt)
open Cert.NormProof (Holds reals_of_rows)

/-- The side conditions the precondition's operations take. -/
theorem preFacts : Cert.Pre_finite3.Facts := by constructor <;> decide

instance : Subsingleton (Cert.Pre_finite3.S_).Idx := ⟨fun _ _ => funext fun a => Fin.elim0 a⟩

attribute [local instance] preFacts

/-- A matrix of real entries. -/
theorem holds_of_reals {m n : ℕ} [NeZero m] [NeZero n] (a : FVec Ideal (⟨2, ![m, n]⟩ : Shape) .f32)
    (h : ∀ i, a i = ((EReal.toReal (a i) : ℝ) : EReal)) : ∃ f : ℕ → ℕ → ℝ, Holds a f := by
  refine ⟨fun i j => EReal.toReal (a (ix2 (Fin.ofNat m i) (Fin.ofNat n j))), fun i j => ?_⟩
  have e0 : Fin.ofNat m i.val = i := Fin.ext (Nat.mod_eq_of_lt i.isLt)
  have e1 : Fin.ofNat n j.val = j := Fin.ext (Nat.mod_eq_of_lt j.isLt)
  dsimp only
  rw [e0, e1]
  exact h _

/-- Arguments the precondition accepts hold real numbers. -/
theorem argReals_of_finite (a0 a1 a2 : FVec Ideal Cert.Kernel3Ideal.S4x2048x1024 .f32) (a3 : FVec Ideal Cert.Kernel3Ideal.S1024x1024 .f32)
    (a4 : FVec Ideal Cert.Kernel3Ideal.S1024x4096 .f32) (a5 : FVec Ideal Cert.Kernel3Ideal.S4096x1024 .f32)
    (a6 a7 : FVec Ideal Cert.Kernel3Ideal.S1x1024 .f32)
    (h : Cert.Pre_finite3.fn (F := Ideal) a0 a1 a2 a3 a4 a5 a6 a7 = fun _ => 1#1) :
    ∃ P R, ArgReals a0 a1 a2 a3 a4 a5 a6 a7 P R := by
  have hj := congrFun h (fun a : Fin 0 => Fin.elim0 a)
  obtain ⟨hj, h7⟩ := IntOp.andi_eq_one.1 hj
  obtain ⟨hj, h6⟩ := IntOp.andi_eq_one.1 hj
  obtain ⟨hj, h5⟩ := IntOp.andi_eq_one.1 hj
  obtain ⟨hj, h4⟩ := IntOp.andi_eq_one.1 hj
  obtain ⟨hj, h3⟩ := IntOp.andi_eq_one.1 hj
  obtain ⟨hj, h2⟩ := IntOp.andi_eq_one.1 hj
  obtain ⟨h0, h1⟩ := IntOp.andi_eq_one.1 hj
  obtain ⟨X, hX⟩ := reals_of_rows a0 fun i => real_of_abs_lt (Host.reduce_andi_all _ _ _ _ _ h0 i)
  obtain ⟨M, hM⟩ := reals_of_rows a1 fun i => real_of_abs_lt (Host.reduce_andi_all _ _ _ _ _ h1 i)
  obtain ⟨T, hT⟩ := reals_of_rows a2 fun i => real_of_abs_lt (Host.reduce_andi_all _ _ _ _ _ h2 i)
  obtain ⟨wo, hwo⟩ := holds_of_reals a3 fun i => real_of_abs_lt (Host.reduce_andi_all _ _ _ _ _ h3 i)
  obtain ⟨wu, hwu⟩ := holds_of_reals a4 fun i => real_of_abs_lt (Host.reduce_andi_all _ _ _ _ _ h4 i)
  obtain ⟨wd, hwd⟩ := holds_of_reals a5 fun i => real_of_abs_lt (Host.reduce_andi_all _ _ _ _ _ h5 i)
  obtain ⟨g2, hg2⟩ := holds_of_reals a6 fun i => real_of_abs_lt (Host.reduce_andi_all _ _ _ _ _ h6 i)
  obtain ⟨gf, hgf⟩ := holds_of_reals a7 fun i => real_of_abs_lt (Host.reduce_andi_all _ _ _ _ _ h7 i)
  exact ⟨⟨wo, wu, wd, g2 0, gf 0⟩, fun r => ⟨X r, M r, T r⟩, hX, hM, hT, hwo, hwu, hwd, fun k => hg2 0 k, fun k => hgf 0 k⟩

end Cert.MlpProof
end
-- ==== Proof.MlpClaim.lean ====
/-
  The claims of the feed-forward half's gradient: its reference runs, and the idealized kernel and the reference give the
  same loss, gradients and rows.
-/
module

public import proofs.«01_k».proof.Defs
public import proofs.«01_k».proof.Proof.MlpRefBack
public import proofs.«01_k».proof.Proof.MlpFinite
public import proofs.«01_k».proof.Proof.Gen.Reference3Ideal.Run
public import Idealize.ShloMosaic.Adequacy
public import Idealize.ShloMosaic.Init

@[expose] public section

noncomputable section

namespace Cert.MlpProof

open Idealize.ShloMosaic Idealize.ShloMosaic.TcCoe Idealize.SL.Sem

attribute [local instance] preFacts

/-- The reference runs, leaves its arguments as they were, and it has no semaphore. -/
theorem frame_reference : Cert.quiescent_Reference3Ideal := fun m ρ _ =>
  (θ_run Cert.Reference3Ideal.defs _ _).mono
    (fun r h => ⟨fun c => (h c).2.2.2.2.2.2.2.2.2, sem_eq_zero_of_no_sems (by decide) r.2⟩)
    (Cert.Reference3Ideal.Value.run (F := Ideal) m ρ)

/-- The idealized kernel and the reference give the same nine results. -/
theorem values : Cert.algebraic_Kernel3Ideal_Reference3Ideal_pre_finite3 := by
  intro m ρ m' ρ' hpre hargs
  refine ⟨_, _, _, _, _, _, _, _, _, Cert.Kernel3Ideal.Value.run_blocks m ρ,
    (θ_run Cert.Reference3Ideal.defs _ _).mono (fun r h c => ?_) (Cert.Reference3Ideal.Value.run (F := Ideal) m' ρ')⟩
  obtain ⟨h116, h118, h120, h122, h123, h125, h114, h85, h112, hkeep⟩ := h c
  obtain ⟨e0, e1, e2, e3, e4, e5, e6, e7⟩ := hargs c
  obtain ⟨P, R, H⟩ := argReals_of_finite _ _ _ _ _ _ _ _ (hpre c)
  have H' := H
  rw [← e0, ← e1, ← e2, ← e3, ← e4, ← e5, ← e6, ← e7] at H'
  refine ⟨h116.trans ?_, h118.trans ?_, h120.trans ?_, h122.trans ?_, h123.trans ?_, h125.trans ?_, h114.trans ?_, h85.trans ?_, h112.trans ?_, hkeep⟩
  · exact (Cert.Reference3Ideal.Read.val_main_v116_eq _).trans ((of_rows (fun r k => hh P (R r) k) (flat_narrow _) (ref_h H')).trans (final_h2 H).symm)
  · exact (Cert.Reference3Ideal.Read.val_main_v118_eq _).trans ((of_rows (fun r k => aa P (R r) k) (flat_wide _) (ref_a H')).trans (final_a H).symm)
  · exact (Cert.Reference3Ideal.Read.val_main_v120_eq _).trans ((of_rows (fun r k => da P (R r) k) (flat_wide _) (ref_da H')).trans (final_da H).symm)
  · exact (Cert.Reference3Ideal.Read.val_main_v122_eq _).trans ((of_rows (fun r k => dx2 P (R r) k) (flat_narrow _) (ref_dx2 H')).trans (final_dx2 H).symm)
  · exact (Cert.Reference3Ideal.Read.val_main_v123_eq _).trans ((of_rows (fun r k => dx1 P (R r) k) (flat_narrow _) (ref_dx1 H')).trans (final_dx1 H).symm)
  · exact (Cert.Reference3Ideal.Read.val_main_v125_eq _).trans ((of_rows (fun r k => dx1 P (R r) k) (flat_narrow _) (ref_dx1 H')).trans (final_dx1b H).symm)
  · refine (Cert.Reference3Ideal.Read.val_main_v114_eq _).trans (Eq.trans (funext fun i => ?_) (final_loss H).symm)
    obtain ⟨j, k, rfl⟩ : ∃ j k, i = ix2 j k := ⟨i 0, i 1, (ix2_eta i).symm⟩
    exact ref_loss H' j k
  · refine (Cert.Reference3Ideal.Read.val_main_v85_eq _).trans (Eq.trans (funext fun i => ?_) (final_dgf H).symm)
    obtain ⟨j, k, rfl⟩ : ∃ j k, i = ix2 j k := ⟨i 0, i 1, (ix2_eta i).symm⟩
    exact ref_dgf H' j k
  · refine (Cert.Reference3Ideal.Read.val_main_v112_eq _).trans (Eq.trans (funext fun i => ?_) (final_dg2 H).symm)
    obtain ⟨j, k, rfl⟩ : ∃ j k, i = ix2 j k := ⟨i 0, i 1, (ix2_eta i).symm⟩
    exact ref_dg2 H' j k

end Cert.MlpProof
end
-- ==== Proof.OutBlocks.lean ====
/-
  What one grid point of the output projection's gradient kernel leaves in each output's block, when the blocks it reads
  hold real numbers.
-/
module

public import proofs.«01_k».proof.Proof.NormValue
public import proofs.«01_k».proof.Proof.Gen.Kernel4Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutProof

open Idealize.ShloMosaic Idealize.ShloMosaic.TcCoe Cert.Kernel4Ideal Cert.Kernel4Ideal.Gen Idealize.SL.Sem
open Cert.Proof (coe_sum)
open Cert.NormProof (Holds ld_row canon_row_miss canon_row_hit)

/-- The gradient of one row entering the projection. -/
def back (D : ℕ → ℝ) (W : ℕ → ℕ → ℝ) (j : ℕ) : ℝ := ∑ k : Fin 1024, D k.val * W j k.val

/-- A head's sum of the gradient times the attention's output, of one row. -/
def delta (D : ℕ → ℝ) (A : ℕ → ℝ) (W : ℕ → ℕ → ℝ) (h : ℕ) : ℝ := ∑ d : Fin 64, back D W (64 * h + d.val) * A (64 * h + d.val)

/-- The row entering the projection: the attention's output and the pooled one after it. -/
def entering (A P : ℕ → ℝ) (j : ℕ) : ℝ := if j < 512 then A j else P (j - 512)

variable (m : (ℓ : Loc nD τ sig) → Buf (Elt Ideal) ℓ)

/-- The blocks a point reads hold these real numbers; the selector marks the entries of each head. -/
structure Reals (c : Dev nD) (t : Fin cfg0.N) (D A P W : ℕ → ℕ → ℝ) : Prop where
  hd : Holds (iblk m c 0 t : FVec Ideal S1024x1024 .bf16) D
  ha : Holds (iblk m c 1 t : FVec Ideal S1024x512 .bf16) A
  hp : Holds (iblk m c 2 t : FVec Ideal S1024x512 .bf16) P
  hw : Holds (iblk m c 3 t : FVec Ideal S1024x1024 .bf16) W
  hs : Holds (iblk m c 4 t : FVec Ideal S512x128 .bf16) fun j h => if j / 64 = h then 1 else 0

variable {m}
variable {c : Dev nD} {t : Fin cfg0.N} {D A P W : ℕ → ℕ → ℝ}

theorem ld_lo {w : FVec Ideal S1024x1024 .bf16} (hw : Holds w W) (inb) :
    Holds (View.ld (Val := Elt Ideal) (e' := .bf16) w (Rect.unit (s := S1024x1024) ![0, 0] ![512, 1024] inb)) W := fun j k =>
  (ld_row (Val := Elt Ideal) (e := .bf16) w 0 inb ⟨j.val, by omega⟩ j k (Nat.zero_add _).symm).trans (hw _ _)

theorem ld_hi {w : FVec Ideal S1024x1024 .bf16} (hw : Holds w W) (inb) :
    Holds (View.ld (Val := Elt Ideal) (e' := .bf16) w (Rect.unit (s := S1024x1024) ![512, 0] ![512, 1024] inb))
      fun j => W (512 + j) := fun j k =>
  (ld_row (Val := Elt Ideal) (e := .bf16) w 512 inb ⟨512 + j.val, by omega⟩ j k rfl).trans (hw _ _)

theorem back_holds {x : FVec Ideal S1024x1024 .bf16} {w : FVec Ideal S512x1024 .bf16} (hx : Holds x D) (hw : Holds w W) :
    Holds (k0_pay6 (F := Ideal) x w) fun s => back (D s) W := fun s j => by
  have h : k0_pay6 (F := Ideal) x w (ix2 s j) = ∑ k : Fin 1024, x (ix2 s k) * w (ix2 j k) := by
    pointwise [k0_pay6, k0_pay4]
  rw [h]
  unfold back
  simp only [coe_sum, EReal.coe_mul, hx _ _, hw _ _]

theorem attn_holds {x : FVec Ideal S1024x1024 .bf16} {w : FVec Ideal S512x1024 .bf16} (hx : Holds x D) (hw : Holds w W) :
    Holds (k0_pay7 (F := Ideal) x w) fun s => back (D s) W := fun s j => by
  rw [← back_holds hx hw s j]
  pointwise [k0_pay7]

theorem pool_holds {x : FVec Ideal S1024x1024 .bf16} {w : FVec Ideal S512x1024 .bf16} (hx : Holds x D) (hw : Holds w W) :
    Holds (k0_pay8 (F := Ideal) x w) fun s => back (D s) W := fun s j => by
  have h : k0_pay8 (F := Ideal) x w (ix2 s j) = ∑ k : Fin 1024, x (ix2 s k) * w (ix2 j k) := by
    pointwise [k0_pay8, k0_pay4]
  rw [h]
  unfold back
  simp only [coe_sum, EReal.coe_mul, hx _ _, hw _ _]

/-- A sum over all entries of a row that keeps one head's is the sum over the head. -/
theorem sum_head (f : ℕ → ℝ) (h : Fin 8) :
    ∑ j : Fin 512, f j.val * (if j.val / 64 = h.val then 1 else 0) = ∑ d : Fin 64, f (64 * h.val + d.val) := by
  have e : ∑ j : Fin 512, f j.val * (if j.val / 64 = h.val then 1 else 0)
      = ∑ g : Fin 8, ∑ d : Fin 64, f (64 * g.val + d.val) * (if (64 * g.val + d.val) / 64 = h.val then 1 else 0) := by
    rw [Cert.NormProof.sum_blocks 8 64 512 rfl fun j => f j * (if j / 64 = h.val then 1 else 0)]
    exact Fin.sum_univ_eq_sum_range (fun j => f j * (if j / 64 = h.val then (1 : ℝ) else 0)) 512
  rw [e, Finset.sum_eq_single h]
  · refine Finset.sum_congr rfl fun d _ => ?_
    rw [if_pos (by omega), mul_one]
  · intro g _ hg
    refine Finset.sum_eq_zero fun d _ => ?_
    rw [if_neg (fun q => hg (Fin.ext (by omega))), mul_zero]
  · exact fun q => absurd (Finset.mem_univ h) q

theorem delta_at {x : FVec Ideal S1024x1024 .bf16} {a : FVec Ideal S1024x512 .bf16} {w : FVec Ideal S512x1024 .bf16}
    {s : FVec Ideal S512x128 .bf16} (hx : Holds x D) (ha : Holds a A) (hw : Holds w W)
    (hs : Holds s fun j h => if j / 64 = h then 1 else 0) (h : Fin 8) (r : Fin 1024) :
    k0_pay9 (F := Ideal) x a w s s (ix2 h r) = ((delta (D r.val) (A r.val) W h.val : ℝ) : EReal) := by
  have e : k0_pay9 (F := Ideal) x a w s s (ix2 h r)
      = (∑ j : Fin 512, k0_pay6 (F := Ideal) x w (ix2 r j) * a (ix2 r j) * s (ix2 j (⟨h.val, by omega⟩ : Fin 128)))
        + ∑ j : Fin 512, (k0_pay6 (F := Ideal) x w (ix2 r j) * a (ix2 r j) - k0_pay6 (F := Ideal) x w (ix2 r j) * a (ix2 r j))
          * s (ix2 j (⟨h.val, by omega⟩ : Fin 128)) := by
    unfold k0_pay9
    generalize k0_pay6 (F := Ideal) x w = y
    pointwise [k0_pay5]
  have e0 : ∀ j : Fin 512, k0_pay6 (F := Ideal) x w (ix2 r j) * a (ix2 r j) - k0_pay6 (F := Ideal) x w (ix2 r j) * a (ix2 r j) = 0 := fun j => by
    rw [back_holds hx hw, ha, ← EReal.coe_mul, ← EReal.coe_sub, sub_self, EReal.coe_zero]
  rw [e, Finset.sum_eq_zero (s := Finset.univ) (f := fun j : Fin 512 =>
    (k0_pay6 (F := Ideal) x w (ix2 r j) * a (ix2 r j) - k0_pay6 (F := Ideal) x w (ix2 r j) * a (ix2 r j))
      * s (ix2 j (⟨h.val, by omega⟩ : Fin 128))) fun j _ => by rw [e0 j, zero_mul], add_zero]
  unfold delta
  rw [← sum_head (fun j => back (D r.val) W j * A r.val j) h]
  simp only [coe_sum, EReal.coe_mul, back_holds hx hw _ _, ha _ _, hs _ _]

theorem outs_attn (H : Reals m c t D A P W) (s : Fin 1024) (j : Fin 512) :
    (outsAt0 m c t.val t.isLt).1 (ix2 s j) = ((back (D s.val) W j.val : ℝ) : EReal) := by
  rw [← attn_holds H.hd (ld_lo H.hw (by decide)) s j]
  by_cases h : t.val % 8 = 0
  · rw [outsAt0_A m c t h]; frame_out
  · rw [outsAt0_B m c t h]; frame_out

theorem outs_pool (H : Reals m c t D A P W) (s : Fin 1024) (j : Fin 512) :
    (outsAt0 m c t.val t.isLt).2.1 (ix2 s j) = ((back (D s.val) (fun j => W (512 + j)) j.val : ℝ) : EReal) := by
  rw [← pool_holds H.hd (ld_hi H.hw (by decide)) s j]
  by_cases h : t.val % 8 = 0
  · rw [outsAt0_A m c t h]; frame_out
  · rw [outsAt0_B m c t h]; frame_out

theorem outs_delta (H : Reals m c t D A P W) (h : Fin 8) (s : Fin 1024) :
    (outsAt0 m c t.val t.isLt).2.2.1 (ix2 h s) = ((delta (D s.val) (A s.val) W h.val : ℝ) : EReal) := by
  rw [← delta_at H.hd H.ha (ld_lo H.hw (by decide)) H.hs h s]
  by_cases h : t.val % 8 = 0
  · rw [outsAt0_A m c t h]; frame_out
  · rw [outsAt0_B m c t h]; frame_out

/-- One block's part of the gradient of the weights. -/
def gwR (D A P : ℕ → ℕ → ℝ) (j k : ℕ) : ℝ := ∑ s : Fin 1024, entering (A s.val) (P s.val) j * D s.val k

theorem gw_lo_at {x : FVec Ideal S1024x1024 .bf16} {a : FVec Ideal S1024x512 .bf16} (hx : Holds x D) (ha : Holds a A)
    (acc : FVec Ideal S512x1024 .f32) (j : Fin 512) (k : Fin 1024) :
    k0_pay1 (F := Ideal) (k0_pay4 x) (k0_pay5 a) acc (ix2 j k) = acc (ix2 j k) + ((∑ s : Fin 1024, A s.val j.val * D s.val k.val : ℝ) : EReal) := by
  have h : k0_pay1 (F := Ideal) (k0_pay4 x) (k0_pay5 a) acc (ix2 j k) = acc (ix2 j k) + ∑ s : Fin 1024, a (ix2 s j) * x (ix2 s k) := by
    pointwise [k0_pay1, k0_pay4, k0_pay5]
  rw [h]
  simp only [coe_sum, EReal.coe_mul, hx _ _, ha _ _]

theorem gw_hi_at {x : FVec Ideal S1024x1024 .bf16} {a : FVec Ideal S1024x512 .bf16} (hx : Holds x D) (ha : Holds a A)
    (acc : FVec Ideal S512x1024 .f32) (j : Fin 512) (k : Fin 1024) :
    k0_pay2 (F := Ideal) (k0_pay4 x) acc a (ix2 j k) = acc (ix2 j k) + ((∑ s : Fin 1024, A s.val j.val * D s.val k.val : ℝ) : EReal) := by
  have h : k0_pay2 (F := Ideal) (k0_pay4 x) acc a (ix2 j k) = acc (ix2 j k) + ∑ s : Fin 1024, a (ix2 s j) * x (ix2 s k) := by
    pointwise [k0_pay2, k0_pay4]
  rw [h]
  simp only [coe_sum, EReal.coe_mul, hx _ _, ha _ _]

/-- The two stores of the weights' gradient, read back. -/
theorem gw_rows (H : Reals m c t D A P W) (prev : FVec Ideal S1024x1024 .f32) (i1 i0 l1 l0)
    (L : List (View.Piece (Elt Ideal) S1024x1024 .f32)) (j : Fin 1024) (k : Fin 1024) :
    View.canon (⟨Rect.unit (s := S1024x1024) ![512, 0] ![512, 1024] i1,
        k0_pay2 (F := Ideal) (k0_pay4 (iblk m c 0 t))
          (View.ld (Val := Elt Ideal) (e' := .f32) prev (Rect.unit (s := S1024x1024) ![512, 0] ![512, 1024] l1)) (iblk m c 2 t)⟩
      :: ⟨Rect.unit (s := S1024x1024) ![0, 0] ![512, 1024] i0,
        k0_pay1 (F := Ideal) (k0_pay4 (iblk m c 0 t)) (k0_pay5 (iblk m c 1 t))
          (View.ld (Val := Elt Ideal) (e' := .f32) prev (Rect.unit (s := S1024x1024) ![0, 0] ![512, 1024] l0))⟩ :: L) (ix2 j k)
      = prev (ix2 j k) + ((gwR D A P j.val k.val : ℝ) : EReal) := by
  unfold gwR entering
  by_cases hj : j.val < 512
  · rw [canon_row_miss (Val := Elt Ideal) 512 _ _ _ _ _ (Or.inl hj),
      canon_row_hit (Val := Elt Ideal) 0 _ _ _ j ⟨j.val, hj⟩ k (Nat.zero_add _).symm, gw_lo_at H.hd H.ha]
    simp only [if_pos hj]
    exact congrArg (· + _) (ld_row (Val := Elt Ideal) (e := .f32) prev 0 _ j ⟨j.val, hj⟩ k (Nat.zero_add _).symm)
  · have hl := j.isLt
    have e : j.val = 512 + (j.val - 512) := by omega
    rw [canon_row_hit (Val := Elt Ideal) 512 _ _ _ j ⟨j.val - 512, by omega⟩ k e, gw_hi_at H.hd H.hp]
    simp only [if_neg hj]
    exact congrArg (· + _) (ld_row (Val := Elt Ideal) (e := .f32) prev 512 _ j ⟨j.val - 512, by omega⟩ k e)

theorem outs_gw_B (H : Reals m c t D A P W) (h : ¬t.val % 8 = 0) (j k : Fin 1024) :
    (outsAt0 m c t.val t.isLt).2.2.2 (ix2 j k)
      = (outsAt0 m c (t.val - 1) (Nat.lt_of_le_of_lt (Nat.sub_le _ _) t.isLt)).2.2.2 (ix2 j k)
        + ((gwR D A P j.val k.val : ℝ) : EReal) := by
  rw [outsAt0_B m c t h]; frame_out
  exact gw_rows H _ _ _ _ _ _ j k

theorem outs_gw_A (H : Reals m c t D A P W) (h : t.val % 8 = 0) (j k : Fin 1024) :
    (outsAt0 m c t.val t.isLt).2.2.2 (ix2 j k) = 0 + ((gwR D A P j.val k.val : ℝ) : EReal) := by
  have hz : (k0_pay3 (F := Ideal)) (ix2 j k) = 0 := by pointwise [k0_pay3]
  rw [outsAt0_A m c t h, ← hz]; frame_out
  simp (discharger := decide) only [↓View.readCov_skip, View.readCov_fill]
  exact gw_rows H _ _ _ _ _ _ j k

end Cert.OutProof
end
-- ==== Proof.OutSelector.lean ====
/-
  The selector of the heads that the host makes for the output projection's gradient kernel: row j, column h holds one
  where j is an entry of head h, and zero elsewhere.
-/
module

public import proofs.«01_k».proof.Proof.OutBlocks

@[expose] public section

set_option maxRecDepth 16384

noncomputable section

namespace Cert.OutProof

open Idealize.ShloMosaic Idealize.ShloMosaic.TcCoe Cert.Kernel4Ideal Cert.Kernel4Ideal.Gen Idealize.SL.Sem
open Cert.NormProof (Holds)

variable {m : (ℓ : Loc nD τ sig) → Buf (Elt Ideal) ℓ} {c : Dev nD}

/-- A row's number divided by 64 and rounded down, as the host computes it. -/
def quot : IVec S512x128 32 :=
  select (andi (cmpi .ne (signi (iotaInDim S512x128 32 0)) (broadcastInDim S512x128 ![] bcast_S_S512x128 (signi (constantI S_ 32 64#32))))
      (cmpi .ne (Host.remsi (iotaInDim S512x128 32 0) (broadcastInDim S512x128 ![] bcast_S_S512x128 (constantI S_ 32 64#32)))
        (broadcastInDim S512x128 ![] bcast_S_S512x128 (constantI S_ 32 0#32))))
    (subi (Host.divsi (iotaInDim S512x128 32 0) (broadcastInDim S512x128 ![] bcast_S_S512x128 (constantI S_ 32 64#32)))
      (broadcastInDim S512x128 ![] bcast_S_S512x128 (constantI S_ 32 1#32)))
    (Host.divsi (iotaInDim S512x128 32 0) (broadcastInDim S512x128 ![] bcast_S_S512x128 (constantI S_ 32 64#32)))

theorem quot_at (j : Fin 512) (h : Fin 128) : quot (ix2 j h) = BitVec.ofNat 32 (j.val / 64) :=
  (rfl : quot (ix2 j h) = quot (ix2 j 0)).trans
    ((by decide +kernel : ∀ j : Fin 512, quot (ix2 j 0) = BitVec.ofNat 32 (j.val / 64)) j)

theorem selector_eq : (V m c main_v11 : FVec Ideal S512x128 .bf16)
    = (uitofp .bf16 (cmpi .eq quot (iotaInDim S512x128 32 1)) : FVec Ideal S512x128 .bf16) := by
  entry_read
  rfl

theorem selector : Holds (V m c main_v11 : FVec Ideal S512x128 .bf16) fun j h => if j / 64 = h then 1 else 0 := fun j h => by
  rw [selector_eq]
  show (((IntOp.cmpi .eq (quot (ix2 j h)) (BitVec.ofNat 32 h.val)).toNat : ℝ) : EReal) = _
  rw [quot_at]
  have hj := j.isLt
  have hh := h.isLt
  have hi : (BitVec.ofNat 32 (j.val / 64) == BitVec.ofNat 32 h.val) = decide (j.val / 64 = h.val) := by
    rw [beq_eq_decide]
    refine decide_eq_decide.2 ⟨fun q => ?_, fun q => by rw [q]⟩
    have q' := congrArg BitVec.toNat q
    rw [BitVec.toNat_ofNat, BitVec.toNat_ofNat, Nat.mod_eq_of_lt (by omega), Nat.mod_eq_of_lt (by omega)] at q'
    exact q'
  show (((BitVec.ofBool (BitVec.ofNat 32 (j.val / 64) == BitVec.ofNat 32 h.val)).toNat : ℝ) : EReal) = _
  rw [hi]
  by_cases e : j.val / 64 = h.val
  · simp [e]
  · simp [e]

end Cert.OutProof
end
-- ==== Proof.OutValue.lean ====
/-
  The four result arrays of the output projection's gradient kernel, as real numbers.
-/
module

public import proofs.«01_k».proof.Proof.OutSelector
public import Idealize.ShloMosaic.Lib.Claim

@[expose] public section

set_option maxRecDepth 16384

noncomputable section

namespace Cert.OutProof

open Idealize.ShloMosaic Idealize.ShloMosaic.TcCoe Cert.Kernel4Ideal Cert.Kernel4Ideal.Gen Idealize.SL.Sem
open Idealize.ShloMosaic.Pipeline (Dat)
open Cert.Proof (coe_sum)
open Cert.NormProof (Holds at_row sum_blocks sum_points)

/-- The arguments hold these real numbers; the rows of all sequences are counted through. -/
structure ArgReals (a0 a1 : FVec Ideal S4x2048x512 .f32) (a2 : FVec Ideal S1024x1024 .f32)
    (a3 : FVec Ideal S4x2048x1024 .f32) (D A P W : ℕ → ℕ → ℝ) : Prop where
  ha : ∀ (b : Fin 4) (s : Fin 2048) (k : Fin 512), a0 (ix3 b s k) = ((A (2048 * b.val + s.val) k.val : ℝ) : EReal)
  hp : ∀ (b : Fin 4) (s : Fin 2048) (k : Fin 512), a1 (ix3 b s k) = ((P (2048 * b.val + s.val) k.val : ℝ) : EReal)
  hw : Holds a2 W
  hd : ∀ (b : Fin 4) (s : Fin 2048) (k : Fin 1024), a3 (ix3 b s k) = ((D (2048 * b.val + s.val) k.val : ℝ) : EReal)

variable {m : (ℓ : Loc nD τ sig) → Buf (Elt Ideal) ℓ} {c : Dev nD} {D A P W : ℕ → ℕ → ℝ}

theorem pt (t : Fin cfg0.N) : t.val < 8 := lt_of_lt_of_eq t.isLt N_0

theorem idx0 (t : Fin cfg0.N) : win0_0.index t = ![t.val, 0] :=
  (by decide +kernel : ∀ t : Fin grid0.N, win0_0.index t = ![t.val, 0]) t

theorem idx1 (t : Fin cfg0.N) : win0_1.index t = ![t.val, 0] :=
  (by decide +kernel : ∀ t : Fin grid0.N, win0_1.index t = ![t.val, 0]) t

theorem idx2 (t : Fin cfg0.N) : win0_2.index t = ![t.val, 0] :=
  (by decide +kernel : ∀ t : Fin grid0.N, win0_2.index t = ![t.val, 0]) t

theorem idx3 (t : Fin cfg0.N) : win0_3.index t = ![0, 0] :=
  (by decide +kernel : ∀ t : Fin grid0.N, win0_3.index t = ![0, 0]) t

theorem idx4 (t : Fin cfg0.N) : win0_4.index t = ![0, 0] :=
  (by decide +kernel : ∀ t : Fin grid0.N, win0_4.index t = ![0, 0]) t

theorem idx5 (t : Fin cfg0.N) : win0_5.index t = ![t.val, 0] :=
  (by decide +kernel : ∀ t : Fin grid0.N, win0_5.index t = ![t.val, 0]) t

theorem idx6 (t : Fin cfg0.N) : win0_6.index t = ![t.val, 0] :=
  (by decide +kernel : ∀ t : Fin grid0.N, win0_6.index t = ![t.val, 0]) t

theorem idx7 (t : Fin cfg0.N) : win0_7.index t = ![0, t.val] :=
  (by decide +kernel : ∀ t : Fin grid0.N, win0_7.index t = ![0, t.val]) t

abbrev Args (m : (ℓ : Loc nD τ sig) → Buf (Elt Ideal) ℓ) (c : Dev nD) (D A P W : ℕ → ℕ → ℝ) : Prop :=
  ArgReals (m ((c : Thread nD τ).loc main_arg0)) (m ((c : Thread nD τ).loc main_arg1))
    (m ((c : Thread nD τ).loc main_arg2)) (m ((c : Thread nD τ).loc main_arg3)) D A P W

theorem entry_dx : (V m c main_v1 : FVec Ideal S8192x1024 .bf16)
    = (truncf .bf16 (shapeCast S8192x1024 (m ((c : Thread nD τ).loc main_arg3) : FVec Ideal S4x2048x1024 .f32)
      shapeCasts_S4x2048x1024_S8192x1024) bitsLt_bf16_f32 : FVec Ideal S8192x1024 .bf16) := by
  entry_read
  rfl

theorem entry_attn : (V m c main_v3 : FVec Ideal S8192x512 .bf16)
    = (truncf .bf16 (shapeCast S8192x512 (m ((c : Thread nD τ).loc main_arg0) : FVec Ideal S4x2048x512 .f32)
      shapeCasts_S4x2048x512_S8192x512) bitsLt_bf16_f32 : FVec Ideal S8192x512 .bf16) := by
  entry_read
  rfl

theorem entry_pool : (V m c main_v5 : FVec Ideal S8192x512 .bf16)
    = (truncf .bf16 (shapeCast S8192x512 (m ((c : Thread nD τ).loc main_arg1) : FVec Ideal S4x2048x512 .f32)
      shapeCasts_S4x2048x512_S8192x512) bitsLt_bf16_f32 : FVec Ideal S8192x512 .bf16) := by
  entry_read
  rfl

theorem entry_weights : (V m c main_v6 : FVec Ideal S1024x1024 .bf16)
    = (truncf .bf16 (m ((c : Thread nD τ).loc main_arg2) : FVec Ideal S1024x1024 .f32) bitsLt_bf16_f32 : FVec Ideal S1024x1024 .bf16) := by
  entry_read
  rfl

theorem flat_row {y : FVec Ideal S4x2048x512 .f32} {f : ℕ → ℕ → ℝ}
    (hy : ∀ (b : Fin 4) (s : Fin 2048) (k : Fin 512), y (ix3 b s k) = ((f (2048 * b.val + s.val) k.val : ℝ) : EReal))
    (r : Fin 8192) (k : Fin 512) :
    (truncf .bf16 (shapeCast S8192x512 y shapeCasts_S4x2048x512_S8192x512) bitsLt_bf16_f32 : FVec Ideal S8192x512 .bf16) (ix2 r k)
      = ((f r.val k.val : ℝ) : EReal) := by
  have hr := r.isLt
  pointwise
  exact at_row hy _ _ _ rfl rfl rfl

theorem flat_row_wide {y : FVec Ideal S4x2048x1024 .f32} {f : ℕ → ℕ → ℝ}
    (hy : ∀ (b : Fin 4) (s : Fin 2048) (k : Fin 1024), y (ix3 b s k) = ((f (2048 * b.val + s.val) k.val : ℝ) : EReal))
    (r : Fin 8192) (k : Fin 1024) :
    (truncf .bf16 (shapeCast S8192x1024 y shapeCasts_S4x2048x1024_S8192x1024) bitsLt_bf16_f32 : FVec Ideal S8192x1024 .bf16) (ix2 r k)
      = ((f r.val k.val : ℝ) : EReal) := by
  have hr := r.isLt
  pointwise
  exact at_row hy _ _ _ rfl rfl rfl

theorem block_reals (H : Args m c D A P W) (t : Fin cfg0.N) :
    Reals m c t (fun s => D (1024 * t.val + s)) (fun s => A (1024 * t.val + s)) (fun s => P (1024 * t.val + s)) W where
  hd s j := by
    have ht := pt t
    have hs := s.isLt
    have h1 : (iblk m c 0 t : FVec Ideal S1024x1024 .bf16) (ix2 s j) = (V m c main_v1 : FVec Ideal S8192x1024 .bf16)
        (ix2 (⟨1024 * t.val + s.val, by omega⟩ : Fin 8192) j) := by
      blk_point [iblk, idx0 t]
    rw [h1, entry_dx]
    exact flat_row_wide H.hd _ _
  ha s j := by
    have ht := pt t
    have hs := s.isLt
    have h1 : (iblk m c 1 t : FVec Ideal S1024x512 .bf16) (ix2 s j) = (V m c main_v3 : FVec Ideal S8192x512 .bf16)
        (ix2 (⟨1024 * t.val + s.val, by omega⟩ : Fin 8192) j) := by
      blk_point [iblk, idx1 t]
    rw [h1, entry_attn]
    exact flat_row H.ha _ _
  hp s j := by
    have ht := pt t
    have hs := s.isLt
    have h1 : (iblk m c 2 t : FVec Ideal S1024x512 .bf16) (ix2 s j) = (V m c main_v5 : FVec Ideal S8192x512 .bf16)
        (ix2 (⟨1024 * t.val + s.val, by omega⟩ : Fin 8192) j) := by
      blk_point [iblk, idx2 t]
    rw [h1, entry_pool]
    exact flat_row H.hp _ _
  hw j k := by
    have h1 : (iblk m c 3 t : FVec Ideal S1024x1024 .bf16) (ix2 j k) = (V m c main_v6 : FVec Ideal S1024x1024 .bf16)
        (ix2 j k) := by
      blk_point [iblk, idx3 t]
    rw [h1, entry_weights]
    exact H.hw j k
  hs j k := by
    have h1 : (iblk m c 4 t : FVec Ideal S512x128 .bf16) (ix2 j k) = (V m c main_v11 : FVec Ideal S512x128 .bf16)
        (ix2 j k) := by
      blk_point [iblk, idx4 t]
    rw [h1]
    exact selector j k

theorem final_attn (H : Args m c D A P W) :
    (dats m 0 c).arrAt 5 cfg0.N = ((fun i => ((back (D (i 0).val) W (i 1).val : ℝ) : EReal)) : FVec Ideal S8192x512 .bf16) := by
  refine (dats m 0 c).arrAt_eq_of_covers 5 _ (by decide +kernel) fun t hf y => ?_
  blk_simp
  rw [after0_5]
  refine (congrArg _ (eq_ix2 y)).trans ((outs_attn (block_reals H t) (y 0) (y 1)).trans ?_)
  rw [idx5 t]
  show _ = ((back (D (t.val * 1024 + (y 0).val)) W (0 * 512 + (y 1).val) : ℝ) : EReal)
  rw [Nat.zero_mul, Nat.zero_add, Nat.mul_comm t.val]

theorem final_pool (H : Args m c D A P W) :
    (dats m 0 c).arrAt 6 cfg0.N
      = ((fun i => ((back (D (i 0).val) (fun j => W (512 + j)) (i 1).val : ℝ) : EReal)) : FVec Ideal S8192x512 .bf16) := by
  refine (dats m 0 c).arrAt_eq_of_covers 6 _ (by decide +kernel) fun t hf y => ?_
  blk_simp
  rw [after0_6]
  refine (congrArg _ (eq_ix2 y)).trans ((outs_pool (block_reals H t) (y 0) (y 1)).trans ?_)
  rw [idx6 t]
  show _ = ((back (D (t.val * 1024 + (y 0).val)) (fun j => W (512 + j)) (0 * 512 + (y 1).val) : ℝ) : EReal)
  rw [Nat.zero_mul, Nat.zero_add, Nat.mul_comm t.val]

theorem final_delta (H : Args m c D A P W) :
    (dats m 0 c).arrAt 7 cfg0.N
      = ((fun i => ((delta (D (i 1).val) (A (i 1).val) W (i 0).val : ℝ) : EReal)) : FVec Ideal S8x8192 .f32) := by
  refine (dats m 0 c).arrAt_eq_of_covers 7 _ (by decide +kernel) fun t hf y => ?_
  blk_simp
  rw [after0_7]
  refine (congrArg _ (eq_ix2 y)).trans ((outs_delta (block_reals H t) (y 0) (y 1)).trans ?_)
  rw [idx7 t]
  show _ = ((delta (D (t.val * 1024 + (y 1).val)) (A (t.val * 1024 + (y 1).val)) W (0 * 8 + (y 0).val) : ℝ) : EReal)
  rw [Nat.zero_mul, Nat.zero_add, Nat.mul_comm t.val]

/-- The gradient of the weights, over all rows. -/
def outGw (D A P : ℕ → ℕ → ℝ) (j k : ℕ) : ℝ := ∑ r ∈ Finset.range 8192, entering (A r) (P r) j * D r k

theorem final_gw (H : Args m c D A P W) :
    (dats m 0 c).arrAt 8 cfg0.N = ((fun i => ((outGw D A P (i 0).val (i 1).val : ℝ) : EReal)) : FVec Ideal S1024x1024 .f32) := by
  refine (dats m 0 c).arrAt_eq_of_after_last 8 t0_7 (by decide +kernel) _ fun j => ?_
  blk_simp
  rw [after0_8, eq_ix2 j]
  rw [Pipeline.eq_sum_fin_of_reset_step_apply_last
    (fun n h (j : Fin 1024 × Fin 1024) => (outsAt0 m c n h).2.2.2 (ix2 j.1 j.2)) 8 (fun _ => 0)
    (fun t j => ((gwR (fun s => D (1024 * t.val + s)) (fun s => A (1024 * t.val + s)) (fun s => P (1024 * t.val + s))
      j.1.val j.2.val : ℝ) : EReal))
    (fun t h j => outs_gw_A (block_reals H t) h j.1 j.2)
    (fun t h j => outs_gw_B (block_reals H t) h j.1 j.2) (le_of_eq N_0) t0_7 rfl (j 0, j 1), zero_add]
  refine (sum_points fun t => gwR (fun s => D (1024 * t + s)) (fun s => A (1024 * t + s)) (fun s => P (1024 * t + s))
    (j 0).val (j 1).val).trans ?_
  exact congrArg _ (sum_blocks 8 1024 8192 rfl fun r => entering (A r) (P r) (j 0).val * D r (j 1).val)

end Cert.OutProof
end
-- ==== Proof.OutRef.lean ====
/-
  The reference of the output projection's gradient read at an index.
-/
module

public import proofs.«01_k».proof.Proof.OutValue
public import proofs.«01_k».proof.Proof.Gen.Reference4Ideal.Read

@[expose] public section

set_option maxRecDepth 16384

noncomputable section

namespace Cert.OutProof

open Idealize.ShloMosaic Idealize.ShloMosaic.TcCoe Cert.Reference4Ideal Cert.Reference4Ideal.Gen Cert.Reference4Ideal.Read
open Idealize.SL.Sem
open Cert.Proof (coe_sum)
open Cert.NormProof (Holds sum_blocks)

variable {x0 x1 : FVec Ideal S4x2048x512 .f32} {x2 : FVec Ideal S1024x1024 .f32} {x3 : FVec Ideal S4x2048x1024 .f32}
  {D A P W : ℕ → ℕ → ℝ}

/-- The gradient of the rows entering the projection. -/
theorem ref_back (H : ArgReals x0 x1 x2 x3 D A P W) (b : Fin 4) (s : Fin 2048) (j : Fin 1024) :
    val_main_v4 (F := Ideal) x2 x3 (ix3 b s j) = ((back (D (2048 * b.val + s.val)) W j.val : ℝ) : EReal) := by
  have h : val_main_v4 (F := Ideal) x2 x3 (ix3 b s j) = ∑ k : Fin 1024, x3 (ix3 b s k) * x2 (ix2 j k) := by
    pointwise [val_main_v4]
  rw [h]
  unfold back
  simp only [coe_sum, EReal.coe_mul, H.hd _ _ _, H.hw _ _]

theorem ref_attn (H : ArgReals x0 x1 x2 x3 D A P W) (b : Fin 4) (s : Fin 2048) (j : Fin 512) :
    val_main_v5 (F := Ideal) x2 x3 (ix3 b s j) = ((back (D (2048 * b.val + s.val)) W j.val : ℝ) : EReal) := by
  have h : val_main_v5 (F := Ideal) x2 x3 (ix3 b s j) = val_main_v4 (F := Ideal) x2 x3 (ix3 b s (⟨j.val, by omega⟩ : Fin 1024)) := by
    unfold val_main_v5
    generalize val_main_v4 (F := Ideal) x2 x3 = y
    pointwise
  rw [h, ref_back H]

theorem ref_pool (H : ArgReals x0 x1 x2 x3 D A P W) (b : Fin 4) (s : Fin 2048) (j : Fin 512) :
    val_main_v6 (F := Ideal) x2 x3 (ix3 b s j)
      = ((back (D (2048 * b.val + s.val)) (fun j => W (512 + j)) j.val : ℝ) : EReal) := by
  have h : val_main_v6 (F := Ideal) x2 x3 (ix3 b s j) = val_main_v4 (F := Ideal) x2 x3 (ix3 b s (⟨512 + j.val, by omega⟩ : Fin 1024)) := by
    unfold val_main_v6
    generalize val_main_v4 (F := Ideal) x2 x3 = y
    pointwise
  rw [h, ref_back H]
  rfl

theorem ref_attn_flat (H : ArgReals x0 x1 x2 x3 D A P W) (r : Fin 8192) (j : Fin 512) :
    val_main_v13 (F := Ideal) x2 x3 (ix2 r j) = ((back (D r.val) W j.val : ℝ) : EReal) := by
  unfold val_main_v13 val_main_v12
  exact flat_row (f := fun r j => back (D r) W j) (ref_attn H) r j

theorem ref_pool_flat (H : ArgReals x0 x1 x2 x3 D A P W) (r : Fin 8192) (j : Fin 512) :
    val_main_v15 (F := Ideal) x2 x3 (ix2 r j) = ((back (D r.val) (fun j => W (512 + j)) j.val : ℝ) : EReal) := by
  unfold val_main_v15 val_main_v14
  exact flat_row (f := fun r j => back (D r) (fun j => W (512 + j)) j) (ref_pool H) r j

/-- The products whose sums the heads take. -/
theorem ref_prod (H : ArgReals x0 x1 x2 x3 D A P W) (r : Fin 8192) (j : Fin 512) :
    val_main_v8 (F := Ideal) x0 x2 x3 (ix2 r j) = ((back (D r.val) W j.val * A r.val j.val : ℝ) : EReal) := by
  have h : ∀ (b : Fin 4) (s : Fin 2048) (k : Fin 512), val_main_v7 (F := Ideal) x0 x2 x3 (ix3 b s k)
      = (((fun r j => back (D r) W j * A r j) (2048 * b.val + s.val) k.val : ℝ) : EReal) := fun b s k => by
    rw [EReal.coe_mul, ← ref_attn H, ← H.ha]
    pointwise [val_main_v7]
  exact flat_row (f := fun r j => back (D r) W j * A r j) h r j

theorem ref_delta (H : ArgReals x0 x1 x2 x3 D A P W) (h : Fin 8) (r : Fin 8192) :
    val_main_v11 (F := Ideal) x0 x2 x3 (ix2 h r) = ((delta (D r.val) (A r.val) W h.val : ℝ) : EReal) := by
  have e : val_main_v11 (F := Ideal) x0 x2 x3 (ix2 h r)
      = ∑ d : Fin 64, val_main_v8 (F := Ideal) x0 x2 x3 (ix2 r (⟨64 * h.val + d.val, by omega⟩ : Fin 512)) := by
    unfold val_main_v11 val_main_v10 val_main_v9
    generalize val_main_v8 (F := Ideal) x0 x2 x3 = y
    pointwise [val_main_cst]
    exact Finset.sum_congr rfl fun d _ => congrArg y (congrArg (ix2 r)
      (Fin.ext (congrArg (· + d.val) (Nat.mul_comm _ _))))
  rw [e]
  unfold delta
  simp only [coe_sum, ref_prod H _ _]

/-- The rows entering the projection. -/
theorem ref_entering (H : ArgReals x0 x1 x2 x3 D A P W) (b : Fin 4) (s : Fin 2048) (j : Fin 1024) :
    val_main_v0 (F := Ideal) x0 x1 (ix3 b s j)
      = ((entering (A (2048 * b.val + s.val)) (P (2048 * b.val + s.val)) j.val : ℝ) : EReal) := by
  have e : val_main_v0 (F := Ideal) x0 x1 (ix3 b s j)
      = if h : j.val < 512 then x0 (ix3 b s (⟨j.val, h⟩ : Fin 512)) else x1 (ix3 b s (⟨j.val - 512, by omega⟩ : Fin 512)) := by
    pointwise [val_main_v0]
  rw [e]
  unfold entering
  by_cases h : j.val < 512
  · rw [dif_pos h, if_pos h, H.ha]
  · rw [dif_neg h, if_neg h, H.hp]

theorem ref_gw (H : ArgReals x0 x1 x2 x3 D A P W) (j k : Fin 1024) :
    val_main_v3 (F := Ideal) x0 x1 x3 (ix2 j k) = ((outGw D A P j.val k.val : ℝ) : EReal) := by
  have h : val_main_v3 (F := Ideal) x0 x1 x3 (ix2 j k)
      = ∑ b : Fin 4, ∑ s : Fin 2048, x3 (ix3 b s k) * val_main_v0 (F := Ideal) x0 x1 (ix3 b s j) := by
    unfold val_main_v3 val_main_v2
    generalize val_main_v0 (F := Ideal) x0 x1 = y
    pointwise
  rw [h]
  unfold outGw
  rw [← sum_blocks 4 2048 8192 rfl]
  simp only [coe_sum, EReal.coe_mul, H.hd _ _ _, ref_entering H _ _ _]
  exact Finset.sum_congr rfl fun b _ => Finset.sum_congr rfl fun s _ => mul_comm _ _

end Cert.OutProof
end
-- ==== Proof.OutClaim.lean ====
/-
  The claims of the output projection's gradient: its arguments hold real numbers where the precondition says so, its
  reference runs, and the idealized kernel and the reference give the same four results.
-/
module

public import proofs.«01_k».proof.Defs
public import proofs.«01_k».proof.Proof.OutRef
public import proofs.«01_k».proof.Proof.MlpFinite
public import proofs.«01_k».proof.Proof.Gen.Reference4Ideal.Run
public import proofs.«01_k».proof.Pre_finite4
public import Idealize.ShloMosaic.Adequacy
public import Idealize.ShloMosaic.Init

@[expose] public section

noncomputable section

namespace Cert.OutProof

open Idealize.ShloMosaic Idealize.ShloMosaic.TcCoe Idealize.SL.Sem
open Cert.Proof (real_of_abs_lt)
open Cert.NormProof (reals_of_rows)
open Cert.MlpProof (holds_of_reals)

/-- The side conditions the precondition's operations take. -/
theorem preFacts : Cert.Pre_finite4.Facts := by constructor <;> decide

instance : Subsingleton (Cert.Pre_finite4.S_).Idx := ⟨fun _ _ => funext fun a => Fin.elim0 a⟩

attribute [local instance] preFacts

/-- Arguments the precondition accepts hold real numbers. -/
theorem argReals_of_finite (a0 a1 : FVec Ideal Cert.Kernel4Ideal.S4x2048x512 .f32)
    (a2 : FVec Ideal Cert.Kernel4Ideal.S1024x1024 .f32) (a3 : FVec Ideal Cert.Kernel4Ideal.S4x2048x1024 .f32)
    (h : Cert.Pre_finite4.fn (F := Ideal) a0 a1 a2 a3 = fun _ => 1#1) : ∃ D A P W, ArgReals a0 a1 a2 a3 D A P W := by
  have hj := congrFun h (fun a : Fin 0 => Fin.elim0 a)
  obtain ⟨hj, h3⟩ := IntOp.andi_eq_one.1 hj
  obtain ⟨hj, h2⟩ := IntOp.andi_eq_one.1 hj
  obtain ⟨h0, h1⟩ := IntOp.andi_eq_one.1 hj
  obtain ⟨A, hA⟩ := reals_of_rows a0 fun i => real_of_abs_lt (Host.reduce_andi_all _ _ _ _ _ h0 i)
  obtain ⟨P, hP⟩ := reals_of_rows a1 fun i => real_of_abs_lt (Host.reduce_andi_all _ _ _ _ _ h1 i)
  obtain ⟨W, hW⟩ := holds_of_reals a2 fun i => real_of_abs_lt (Host.reduce_andi_all _ _ _ _ _ h2 i)
  obtain ⟨D, hD⟩ := reals_of_rows a3 fun i => real_of_abs_lt (Host.reduce_andi_all _ _ _ _ _ h3 i)
  exact ⟨D, A, P, W, hA, hP, hW, hD⟩

/-- The reference runs, leaves its arguments as they were, and it has no semaphore. -/
theorem frame_reference : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

/-- The idealized kernel and the reference give the same four results. -/
theorem values : Cert.algebraic_Kernel4Ideal_Reference4Ideal_pre_finite4 := by
  intro m ρ m' ρ' hpre hargs
  refine ⟨_, _, _, _, Cert.Kernel4Ideal.Value.run_blocks m ρ,
    (θ_run Cert.Reference4Ideal.defs _ _).mono (fun r h c => ?_) (Cert.Reference4Ideal.Value.run (F := Ideal) m' ρ')⟩
  obtain ⟨h13, h15, h11, h3, hkeep⟩ := h c
  obtain ⟨e0, e1, e2, e3⟩ := hargs c
  obtain ⟨D, A, P, W, H⟩ := argReals_of_finite _ _ _ _ (hpre c)
  have H' := H
  rw [← e0, ← e1, ← e2, ← e3] at H'
  refine ⟨h13.trans ?_, h15.trans ?_, h11.trans ?_, h3.trans ?_, hkeep⟩
  · refine (Cert.Reference4Ideal.Read.val_main_v13_eq _ _).trans (Eq.trans (funext fun i => ?_) (final_attn H).symm)
    obtain ⟨j, k, rfl⟩ : ∃ j k, i = ix2 j k := ⟨i 0, i 1, (ix2_eta i).symm⟩
    exact ref_attn_flat H' j k
  · refine (Cert.Reference4Ideal.Read.val_main_v15_eq _ _).trans (Eq.trans (funext fun i => ?_) (final_pool H).symm)
    obtain ⟨j, k, rfl⟩ : ∃ j k, i = ix2 j k := ⟨i 0, i 1, (ix2_eta i).symm⟩
    exact ref_pool_flat H' j k
  · refine (Cert.Reference4Ideal.Read.val_main_v11_eq _ _ _).trans (Eq.trans (funext fun i => ?_) (final_delta H).symm)
    obtain ⟨j, k, rfl⟩ : ∃ j k, i = ix2 j k := ⟨i 0, i 1, (ix2_eta i).symm⟩
    exact ref_delta H' j k
  · refine (Cert.Reference4Ideal.Read.val_main_v3_eq _ _ _).trans (Eq.trans (funext fun i => ?_) (final_gw H).symm)
    obtain ⟨j, k, rfl⟩ : ∃ j k, i = ix2 j k := ⟨i 0, i 1, (ix2_eta i).symm⟩
    exact ref_gw H' j k

end Cert.OutProof
end
-- ==== Proof.WgrValue.lean ====
/-
  The two result arrays of the feed-forward weights' gradient kernel: each entry is the sum, over all rows of all
  sequences, of a product of two entries of the row. The sums are over the extended reals, so nothing is asked of the
  arguments.
-/
module

public import proofs.«01_k».proof.Proof.Gen.Kernel5Ideal.Value
public import proofs.«01_k».proof.Proof.Gen.Reference5Ideal.Read
public import Idealize.ShloMosaic.Lib.Claim
public import Idealize.ShloMosaic.Lib.Pipeline.ValueKit
public import Idealize.ShloMosaic.Lib.Pipeline.ReadBack

@[expose] public section

set_option maxRecDepth 16384

noncomputable section

namespace Cert.WgrProof

open Idealize.ShloMosaic Idealize.ShloMosaic.TcCoe Cert.Kernel5Ideal Cert.Kernel5Ideal.Gen Cert.Kernel5Ideal.Value Idealize.SL.Sem

/-- A row counted through all sequences, in its sequence. -/
def row {n : ℕ} (y : (⟨3, ![4, 2048, n]⟩ : Shape).Idx → EReal) (r : ℕ) (k : Fin n) : EReal :=
  y (ix3 (⟨r / 2048 % 4, Nat.mod_lt _ (by decide)⟩ : Fin 4) (⟨r % 2048, Nat.mod_lt _ (by decide)⟩ : Fin 2048) k)

theorem row_eq {n : ℕ} (y : (⟨3, ![4, 2048, n]⟩ : Shape).Idx → EReal) (r : ℕ) (hr : r < 8192) (k : Fin n)
    (i : (⟨3, ![4, 2048, n]⟩ : Shape).Idx) (h0 : (i 0).val = r / 2048) (h1 : (i 1).val = r % 2048) (h2 : (i 2).val = k.val) :
    y i = row y r k := by
  unfold row
  refine congrArg y ((eq_ix3 i).trans ?_)
  have e0 : (i 0 : Fin 4) = ⟨r / 2048 % 4, Nat.mod_lt _ (by decide)⟩ := Fin.ext (h0.trans (Nat.mod_eq_of_lt (by omega)).symm)
  have e1 : (i 1 : Fin 2048) = ⟨r % 2048, Nat.mod_lt _ (by decide)⟩ := Fin.ext h1
  have e2 : (i 2 : Fin n) = k := Fin.ext h2
  exact congr (congr (congrArg ix3 e0) e1) e2

/-- A sum over blocks and the rows in them is the sum over the rows counted through. -/
theorem sum_blocks (a b n : ℕ) (hn : n = a * b) (f : ℕ → EReal) :
    ∑ t : Fin a, ∑ s : Fin b, f (b * t.val + s.val) = ∑ r ∈ Finset.range n, f r := by
  subst hn
  rw [← Fin.sum_univ_eq_sum_range f (a * b), ← finProdFinEquiv.sum_comp, Fintype.sum_prod_type]
  refine Finset.sum_congr rfl fun t _ => Finset.sum_congr rfl fun s _ => ?_
  exact congrArg f (by rw [finProdFinEquiv_apply_val, Nat.add_comm])

variable {m : (ℓ : Loc nD τ sig) → Buf (Elt Ideal) ℓ} {c : Dev nD}

theorem pt (t : Fin cfg0.N) : t.val < 32 := lt_of_lt_of_eq t.isLt N_0

theorem idx0 (t : Fin cfg0.N) : win0_0.index t = ![t.val % 8, 0] :=
  (by decide +kernel : ∀ t : Fin grid0.N, win0_0.index t = ![t.val % 8, 0]) t

theorem idx1 (t : Fin cfg0.N) : win0_1.index t = ![t.val % 8, t.val / 8] :=
  (by decide +kernel : ∀ t : Fin grid0.N, win0_1.index t = ![t.val % 8, t.val / 8]) t

theorem idx2 (t : Fin cfg0.N) : win0_2.index t = ![t.val % 8, t.val / 8] :=
  (by decide +kernel : ∀ t : Fin grid0.N, win0_2.index t = ![t.val % 8, t.val / 8]) t

theorem idx3 (t : Fin cfg0.N) : win0_3.index t = ![t.val % 8, 0] :=
  (by decide +kernel : ∀ t : Fin grid0.N, win0_3.index t = ![t.val % 8, 0]) t

/-- The rows that enter the feed-forward half. -/
abbrev h2 (m : (ℓ : Loc nD τ sig) → Buf (Elt Ideal) ℓ) (c : Dev nD) : FVec Ideal S4x2048x1024 .f32 :=
  m ((c : Thread nD τ).loc main_arg0)

/-- The gradient of the rows that leave it. -/
abbrev dy (m : (ℓ : Loc nD τ sig) → Buf (Elt Ideal) ℓ) (c : Dev nD) : FVec Ideal S4x2048x1024 .f32 :=
  m ((c : Thread nD τ).loc main_arg3)

/-- The hidden rows. -/
abbrev hid (m : (ℓ : Loc nD τ sig) → Buf (Elt Ideal) ℓ) (c : Dev nD) : FVec Ideal S4x2048x4096 .f32 :=
  Cert.Reference5Ideal.Read.val_main_v0 (F := Ideal) (m ((c : Thread nD τ).loc main_arg0)) (m ((c : Thread nD τ).loc main_arg1))

/-- The gradient of the hidden rows. -/
abbrev dhid (m : (ℓ : Loc nD τ sig) → Buf (Elt Ideal) ℓ) (c : Dev nD) : FVec Ideal S4x2048x4096 .f32 :=
  Cert.Reference5Ideal.Read.val_main_v14 (F := Ideal) (m ((c : Thread nD τ).loc main_arg0)) (m ((c : Thread nD τ).loc main_arg1))
    (m ((c : Thread nD τ).loc main_arg2)) (m ((c : Thread nD τ).loc main_arg3))

theorem entry_hid : (V m c main_v18 : FVec Ideal S8192x4096 .bf16)
    = truncf .bf16 (shapeCast S8192x4096 (hid m c) shapeCasts_S4x2048x4096_S8192x4096) bitsLt_bf16_f32 := by
  entry_read
  rfl

theorem entry_dhid : (V m c main_v16 : FVec Ideal S8192x4096 .bf16)
    = truncf .bf16 (shapeCast S8192x4096 (dhid m c) shapeCasts_S4x2048x4096_S8192x4096) bitsLt_bf16_f32 := by
  entry_read
  rfl

theorem flat_row_narrow (y : FVec Ideal S4x2048x1024 .f32) (r : Fin 8192) (k : Fin 1024) :
    (truncf .bf16 (shapeCast S8192x1024 y shapeCasts_S4x2048x1024_S8192x1024) bitsLt_bf16_f32 : FVec Ideal S8192x1024 .bf16) (ix2 r k)
      = row y r.val k := by
  have hr := r.isLt
  pointwise
  exact row_eq y _ hr k _ rfl rfl rfl

theorem blk0 (t : Fin cfg0.N) (s k : Fin 1024) :
    (iblk m c 0 t : FVec Ideal S1024x1024 .bf16) (ix2 s k) = row (h2 m c) (1024 * (t.val % 8) + s.val) k := by
  have hs := s.isLt
  have hl : t.val % 8 < 8 := Nat.mod_lt _ (by decide)
  have h1 : (iblk m c 0 t : FVec Ideal S1024x1024 .bf16) (ix2 s k) = (V m c main_v14 : FVec Ideal S8192x1024 .bf16)
      (ix2 (⟨1024 * (t.val % 8) + s.val, by omega⟩ : Fin 8192) k) := by
    blk_point [iblk, idx0 t]
  have h3 : (V m c main_v14 : FVec Ideal S8192x1024 .bf16)
      = truncf .bf16 (shapeCast S8192x1024 (h2 m c) shapeCasts_S4x2048x1024_S8192x1024) bitsLt_bf16_f32 := by
    entry_read
    rfl
  rw [h1, h3, flat_row_narrow]

theorem blk3 (t : Fin cfg0.N) (s k : Fin 1024) :
    (iblk m c 3 t : FVec Ideal S1024x1024 .bf16) (ix2 s k) = row (dy m c) (1024 * (t.val % 8) + s.val) k := by
  have hs := s.isLt
  have hl : t.val % 8 < 8 := Nat.mod_lt _ (by decide)
  have h1 : (iblk m c 3 t : FVec Ideal S1024x1024 .bf16) (ix2 s k) = (V m c main_v20 : FVec Ideal S8192x1024 .bf16)
      (ix2 (⟨1024 * (t.val % 8) + s.val, by omega⟩ : Fin 8192) k) := by
    blk_point [iblk, idx3 t]
  have h3 : (V m c main_v20 : FVec Ideal S8192x1024 .bf16)
      = truncf .bf16 (shapeCast S8192x1024 (dy m c) shapeCasts_S4x2048x1024_S8192x1024) bitsLt_bf16_f32 := by
    entry_read
    rfl
  rw [h1, h3, flat_row_narrow]

theorem flat_row (y : FVec Ideal S4x2048x4096 .f32) (r : Fin 8192) (k : Fin 4096) :
    (truncf .bf16 (shapeCast S8192x4096 y shapeCasts_S4x2048x4096_S8192x4096) bitsLt_bf16_f32 : FVec Ideal S8192x4096 .bf16) (ix2 r k)
      = row y r.val k := by
  have hr := r.isLt
  pointwise
  exact row_eq y _ hr k _ rfl rfl rfl

theorem blk1 (t : Fin cfg0.N) (s k : Fin 1024) (j : Fin 4096) (hj : j.val = 1024 * (t.val / 8) + k.val) :
    (iblk m c 1 t : FVec Ideal S1024x1024 .bf16) (ix2 s k) = row (dhid m c) (1024 * (t.val % 8) + s.val) j := by
  have hs := s.isLt
  have hl : t.val % 8 < 8 := Nat.mod_lt _ (by decide)
  have h1 : (iblk m c 1 t : FVec Ideal S1024x1024 .bf16) (ix2 s k) = (V m c main_v16 : FVec Ideal S8192x4096 .bf16)
      (ix2 (⟨1024 * (t.val % 8) + s.val, by omega⟩ : Fin 8192) j) := by
    blk_point [iblk, idx1 t]
  rw [h1, entry_dhid, flat_row]

theorem blk2 (t : Fin cfg0.N) (s k : Fin 1024) (j : Fin 4096) (hj : j.val = 1024 * (t.val / 8) + k.val) :
    (iblk m c 2 t : FVec Ideal S1024x1024 .bf16) (ix2 s k) = row (hid m c) (1024 * (t.val % 8) + s.val) j := by
  have hs := s.isLt
  have hl : t.val % 8 < 8 := Nat.mod_lt _ (by decide)
  have h1 : (iblk m c 2 t : FVec Ideal S1024x1024 .bf16) (ix2 s k) = (V m c main_v18 : FVec Ideal S8192x4096 .bf16)
      (ix2 (⟨1024 * (t.val % 8) + s.val, by omega⟩ : Fin 8192) j) := by
    blk_point [iblk, idx2 t]
  rw [h1, entry_hid, flat_row]

/-- The square of the positive part. -/
def relu2 (x : EReal) : EReal := max x 0 * max x 0

/-- One entry of the gradient of the first weights, row by row. -/
def upTerm (m : (ℓ : Loc nD τ sig) → Buf (Elt Ideal) ℓ) (c : Dev nD) (k : Fin 1024) (j : Fin 4096) (r : ℕ) : EReal :=
  row (h2 m c) r k * row (dhid m c) r j

/-- One entry of the gradient of the second weights, row by row. -/
def downTerm (m : (ℓ : Loc nD τ sig) → Buf (Elt Ideal) ℓ) (c : Dev nD) (j : Fin 4096) (k : Fin 1024) (r : ℕ) : EReal :=
  relu2 (row (hid m c) r j) * row (dy m c) r k

theorem pay_up (acc : FVec Ideal S1x1024x1024 .f32) (x y : FVec Ideal S1024x1024 .bf16) (k n : Fin 1024) :
    k0_pay3 (F := Ideal) acc x y (ix3 0 k n) = acc (ix3 0 k n) + ∑ s : Fin 1024, x (ix2 s k) * y (ix2 s n) := by
  pointwise [k0_pay3]

theorem pay_down (acc : FVec Ideal S1x1024x1024 .f32) (x y : FVec Ideal S1024x1024 .bf16) (k n : Fin 1024) :
    k0_pay4 (F := Ideal) x acc y (ix3 0 k n) = acc (ix3 0 k n) + ∑ s : Fin 1024, relu2 (x (ix2 s k)) * y (ix2 s n) := by
  unfold relu2
  pointwise [k0_pay4]

theorem zero_up (k n : Fin 1024) : (k0_pay1 (F := Ideal)) (ix3 0 k n) = 0 := by pointwise [k0_pay1]

theorem zero_down (k n : Fin 1024) : (k0_pay2 (F := Ideal)) (ix3 0 k n) = 0 := by pointwise [k0_pay2]

/-- The column of the whole weights that column `n` of block `q` is. -/
def col (q : Fin 4) (n : Fin 1024) : Fin 4096 := ⟨1024 * q.val + n.val, by omega⟩

/-- Sums over the eight blocks of rows, block by block, are sums over the rows. -/
theorem sum_rows (f : ℕ → EReal) (q : ℕ) :
    (∑ s ∈ Finset.range 8, ∑ t : Fin 1024, f (1024 * ((8 * q + s) % 8) + t.val)) = ∑ r ∈ Finset.range 8192, f r := by
  rw [← sum_blocks 8 1024 8192 rfl f, ← Fin.sum_univ_eq_sum_range (fun s => ∑ t : Fin 1024, f (1024 * ((8 * q + s) % 8) + t.val)) 8]
  refine Finset.sum_congr rfl fun s _ => ?_
  rw [Nat.mul_add_mod, Nat.mod_eq_of_lt s.isLt]

/-- An index of a one-block stack. -/
theorem unit_ix3 (i : S1x1024x1024.Idx) : ∃ a b : Fin 1024, i = ix3 (0 : Fin 1) a b :=
  ⟨i 1, i 2, (eq_ix3 i).trans (congrArg (fun z : Fin 1 => ix3 z _ _) (Subsingleton.elim (α := Fin 1) _ _))⟩

theorem run_eq (q : Fin 4) (k n : Fin 1024) : run4Of (ix3 q k n) = q.val := by
  have h1 := k.isLt
  have h2 := n.isLt
  show 1 * (q.val / 1 - 0) + 1 * (k.val / 1024 - 0) + 1 * (n.val / 1024 - 0) = q.val
  omega

theorem loc_eq (q : Fin 4) (k n : Fin 1024) : loc4Of (ix3 q k n) = ix3 (0 : Fin 1) k n := by
  funext a
  match a with
  | ⟨0, _⟩ => exact Fin.ext (Nat.mod_one _)
  | ⟨1, _⟩ => exact Fin.ext (Nat.mod_eq_of_lt k.isLt)
  | ⟨2, _⟩ => exact Fin.ext (Nat.mod_eq_of_lt n.isLt)

theorem up_at (q : Fin 4) (k n : Fin 1024) :
    G4 m c (ix3 q k n) = ∑ r ∈ Finset.range 8192, upTerm m c k (col q n) r := by
  have hq := q.isLt
  have hN : cfg0.N = 32 := N_0
  have e : run4Of (ix3 q k n) = q.val := run_eq q k n
  have el : loc4Of (ix3 q k n) = ix3 (0 : Fin 1) k n := loc_eq q k n
  unfold G4
  rw [dif_pos (by rw [e]; omega), el]
  generalize_proofs hb
  revert hb
  rw [e]
  intro hb
  refine (Pipeline.accAt_add_apply (β := EReal) (reset4 m c) (step4 m c) (fun _ => 0)
    (fun p i => ∑ s : Fin 1024, upTerm m c (i 1) (col q (i 2)) (1024 * (p % 8) + s.val)) (8 * q.val) 7
    (fun h i => ?_) (fun p h acc i h1 h2 => ?_) 7 le_rfl (by omega) (ix3 0 k n)).trans ?_
  · obtain ⟨a, b, rfl⟩ := unit_ix3 i
    refine (pay_up _ _ _ _ _).trans ?_
    rw [zero_up]
    refine congrArg (_ + ·) (Finset.sum_congr rfl fun s _ => ?_)
    rw [blk0, blk1 _ _ _ (col q b) (congrArg (1024 * · + b.val) (Nat.mul_div_cancel_left q.val (by decide)).symm)]
    rfl
  · obtain ⟨a, b, rfl⟩ := unit_ix3 i
    refine (pay_up _ _ _ _ _).trans (congrArg (_ + ·) (Finset.sum_congr rfl fun s _ => ?_))
    rw [blk0, blk1 _ _ _ (col q b) (congrArg (1024 * · + b.val) (show q.val = p / 8 by omega))]
    rfl
  · rw [zero_add]
    exact sum_rows (upTerm m c k (col q n)) q.val

theorem down_at (q : Fin 4) (k n : Fin 1024) :
    G5 m c (ix3 q k n) = ∑ r ∈ Finset.range 8192, downTerm m c (col q k) n r := by
  have hq := q.isLt
  have hN : cfg0.N = 32 := N_0
  have e : run5Of (ix3 q k n) = q.val := run_eq q k n
  have el : loc5Of (ix3 q k n) = ix3 (0 : Fin 1) k n := loc_eq q k n
  unfold G5
  rw [dif_pos (by rw [e]; omega), el]
  generalize_proofs hb
  revert hb
  rw [e]
  intro hb
  refine (Pipeline.accAt_add_apply (β := EReal) (reset5 m c) (step5 m c) (fun _ => 0)
    (fun p i => ∑ s : Fin 1024, downTerm m c (col q (i 1)) (i 2) (1024 * (p % 8) + s.val)) (8 * q.val) 7
    (fun h i => ?_) (fun p h acc i h1 h2 => ?_) 7 le_rfl (by omega) (ix3 0 k n)).trans ?_
  · obtain ⟨a, b, rfl⟩ := unit_ix3 i
    refine (pay_down _ _ _ _ _).trans ?_
    rw [zero_down]
    refine congrArg (_ + ·) (Finset.sum_congr rfl fun s _ => ?_)
    rw [blk3, blk2 _ _ _ (col q a) (congrArg (1024 * · + a.val) (Nat.mul_div_cancel_left q.val (by decide)).symm)]
    rfl
  · obtain ⟨a, b, rfl⟩ := unit_ix3 i
    refine (pay_down _ _ _ _ _).trans (congrArg (_ + ·) (Finset.sum_congr rfl fun s _ => ?_))
    rw [blk3, blk2 _ _ _ (col q a) (congrArg (1024 * · + a.val) (show q.val = p / 8 by omega))]
    rfl
  · rw [zero_add]
    exact sum_rows (downTerm m c (col q k) n) q.val

end Cert.WgrProof
end
-- ==== Proof.WgrClaim.lean ====
/-
  The claims of the feed-forward weights' gradient: its reference runs, and the idealized kernel and the reference give
  the same two gradients.
-/
module

public import proofs.«01_k».proof.Defs
public import proofs.«01_k».proof.Proof.WgrValue
public import proofs.«01_k».proof.Proof.Gen.Reference5Ideal.Run
public import Idealize.ShloMosaic.Adequacy
public import Idealize.ShloMosaic.Init
public import Idealize.ShloMosaic.Lib.Pointwise

@[expose] public section

set_option maxRecDepth 16384

noncomputable section

namespace Cert.WgrProof

open Idealize.ShloMosaic Idealize.ShloMosaic.TcCoe Idealize.SL.Sem Cert.Reference5Ideal Cert.Reference5Ideal.Gen Cert.Reference5Ideal.Read

variable {x0 : FVec Ideal S4x2048x1024 .f32} {x1 : FVec Ideal S1024x4096 .f32} {x2 : FVec Ideal S4096x1024 .f32}
  {x3 : FVec Ideal S4x2048x1024 .f32}

/-- An entry of a stack, as an entry of the rows counted through. -/
theorem row_at {n : ℕ} (y : (⟨3, ![4, 2048, n]⟩ : Shape).Idx → EReal) (b : Fin 4) (s : Fin 2048) (k : Fin n) :
    y (ix3 b s k) = row y (2048 * b.val + s.val) k :=
  row_eq y _ (by omega) k _ (show b.val = _ by omega) (show s.val = _ by omega) rfl

/-- The reference's gradient of the first weights. -/
theorem ref_up (q : Fin 4) (k n : Fin 1024) :
    val_main_v18 (F := Ideal) x0 x1 x2 x3 (ix3 q k n)
      = ∑ r ∈ Finset.range 8192, row x0 r k * row (val_main_v14 (F := Ideal) x0 x1 x2 x3) r (col q n) := by
  have hq := q.isLt
  have h : val_main_v18 (F := Ideal) x0 x1 x2 x3 (ix3 q k n) = val_main_v15 (F := Ideal) x0 x1 x2 x3 (ix2 (col q n) k) := by
    unfold val_main_v18 val_main_v17 val_main_v16 col
    generalize val_main_v15 (F := Ideal) x0 x1 x2 x3 = y
    pointwise
    exact congrArg (fun z => y (ix2 z k)) (Fin.ext (congrArg (· + n.val) (Nat.mul_comm _ _)))
  have h15 : val_main_v15 (F := Ideal) x0 x1 x2 x3 (ix2 (col q n) k)
      = ∑ b : Fin 4, ∑ s : Fin 2048, val_main_v14 (F := Ideal) x0 x1 x2 x3 (ix3 b s (col q n)) * x0 (ix3 b s k) := by
    unfold val_main_v15
    generalize val_main_v14 (F := Ideal) x0 x1 x2 x3 = y
    pointwise
  rw [h, h15, ← sum_blocks 4 2048 8192 rfl]
  refine Finset.sum_congr rfl fun b _ => Finset.sum_congr rfl fun s _ => ?_
  rw [row_at (val_main_v14 (F := Ideal) x0 x1 x2 x3), row_at x0, mul_comm]

/-- The reference's gradient of the second weights. -/
theorem ref_down (q : Fin 4) (k n : Fin 1024) :
    val_main_v19 (F := Ideal) x0 x1 x3 (ix3 q k n)
      = ∑ r ∈ Finset.range 8192, relu2 (row (val_main_v0 (F := Ideal) x0 x1) r (col q k)) * row x3 r n := by
  have hq := q.isLt
  have h : val_main_v19 (F := Ideal) x0 x1 x3 (ix3 q k n) = val_main_v9 (F := Ideal) x0 x1 x3 (ix2 n (col q k)) := by
    unfold val_main_v19 val_main_v10 col
    generalize val_main_v9 (F := Ideal) x0 x1 x3 = y
    pointwise
    exact congrArg (fun z => y (ix2 n z)) (Fin.ext (congrArg (· + k.val) (Nat.mul_comm _ _)))
  have h9 : val_main_v9 (F := Ideal) x0 x1 x3 (ix2 n (col q k))
      = ∑ b : Fin 4, ∑ s : Fin 2048, x3 (ix3 b s n) * relu2 (val_main_v0 (F := Ideal) x0 x1 (ix3 b s (col q k))) := by
    unfold val_main_v9 val_main_v5 val_main_v1 relu2
    generalize val_main_v0 (F := Ideal) x0 x1 = y
    pointwise [val_main_call0_v0, val_main_call0_cst]
  rw [h, h9, ← sum_blocks 4 2048 8192 rfl]
  refine Finset.sum_congr rfl fun b _ => Finset.sum_congr rfl fun s _ => ?_
  rw [row_at (val_main_v0 (F := Ideal) x0 x1), row_at x3, mul_comm]

/-- The reference runs, leaves its arguments as they were, and it has no semaphore. -/
theorem frame_reference : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- The idealized kernel and the reference give the same two gradients. -/
theorem values : Cert.algebraic_Kernel5Ideal_Reference5Ideal := by
  intro m ρ m' ρ' _ hargs
  refine ⟨_, _, Cert.Kernel5Ideal.Value.run m ρ,
    (θ_run Cert.Reference5Ideal.defs _ _).mono (fun r h c => ?_) (Cert.Reference5Ideal.Value.run (F := Ideal) m' ρ')⟩
  obtain ⟨h18, h19, hkeep⟩ := h c
  obtain ⟨e0, e1, e2, e3⟩ := hargs c
  refine ⟨h18.trans ?_, h19.trans ?_, hkeep⟩
  · refine (val_main_v18_eq _ _ _ _).trans (funext fun i => ?_)
    obtain ⟨q, k, n, rfl⟩ : ∃ q k n, i = ix3 q k n := ⟨i 0, i 1, i 2, eq_ix3 i⟩
    rw [e0, e1, e2, e3]
    exact (ref_up q k n).trans (up_at q k n).symm
  · refine (val_main_v19_eq _ _ _).trans (funext fun i => ?_)
    obtain ⟨q, k, n, rfl⟩ : ∃ q k n, i = ix3 q k n := ⟨i 0, i 1, i 2, eq_ix3 i⟩
    rw [e0, e1, e3]
    exact (ref_down q k n).trans (down_at q k n).symm

end Cert.WgrProof
end
-- ==== Proof.AttnTripIdeal.lean ====
/- The counted loop of the attention gradient kernel: where a trip's accesses lie, and the invariant by which the
   loop is gone through. -/
module

public import proofs.«01_k».proof.Proof.Gen.Kernel6Ideal.Frame
public import proofs.«01_k».proof.Proof.Gen.Kernel6Ideal.Loops

@[expose] public section

set_option maxRecDepth 16384

noncomputable section

namespace Cert.Kernel6Ideal.Hand

open Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The machine the logic speaks of. -/
abbrev Mach (F : FTy → Type) [FloatOps F] := MT nD τ sig Unit (Elt F) ℕ (UR sig nD τ) ℕ

/-! ## Where a trip's accesses lie

A trip handles four blocks of 128 positions; block `4 k + r` also reads and adds to the block before it, and the first
block of all to itself. -/

/-- The row of the block before block `4 k + r`, for each of the four blocks of a trip. -/
theorem k0_off25_eq : ∀ k : Fin k0_t1_loop.trips, ∀ r : Fin 4,
    k0_off25 k (BitVec.ofNat 32 r.val) = ![0, 512 * k.val + 128 * r.val - 128, 0] := by decide +kernel
theorem k0_off29_eq : ∀ k : Fin k0_t1_loop.trips, ∀ r : Fin 4,
    k0_off29 k (BitVec.ofNat 32 r.val) = ![1, 512 * k.val + 128 * r.val - 128, 0] := by decide +kernel

instance closedOff_k0_off25_0 (k : Fin k0_t1_loop.trips) : ClosedOff (k0_off25 k (BitVec.ofNat 32 0)) := ⟨_, k0_off25_eq k ⟨0, by decide⟩⟩
instance closedOff_k0_off25_1 (k : Fin k0_t1_loop.trips) : ClosedOff (k0_off25 k (BitVec.ofNat 32 1)) := ⟨_, k0_off25_eq k ⟨1, by decide⟩⟩
instance closedOff_k0_off25_2 (k : Fin k0_t1_loop.trips) : ClosedOff (k0_off25 k (BitVec.ofNat 32 2)) := ⟨_, k0_off25_eq k ⟨2, by decide⟩⟩
instance closedOff_k0_off25_3 (k : Fin k0_t1_loop.trips) : ClosedOff (k0_off25 k (BitVec.ofNat 32 3)) := ⟨_, k0_off25_eq k ⟨3, by decide⟩⟩
instance closedOff_k0_off29_0 (k : Fin k0_t1_loop.trips) : ClosedOff (k0_off29 k (BitVec.ofNat 32 0)) := ⟨_, k0_off29_eq k ⟨0, by decide⟩⟩
instance closedOff_k0_off29_1 (k : Fin k0_t1_loop.trips) : ClosedOff (k0_off29 k (BitVec.ofNat 32 1)) := ⟨_, k0_off29_eq k ⟨1, by decide⟩⟩
instance closedOff_k0_off29_2 (k : Fin k0_t1_loop.trips) : ClosedOff (k0_off29 k (BitVec.ofNat 32 2)) := ⟨_, k0_off29_eq k ⟨2, by decide⟩⟩
instance closedOff_k0_off29_3 (k : Fin k0_t1_loop.trips) : ClosedOff (k0_off29 k (BitVec.ofNat 32 3)) := ⟨_, k0_off29_eq k ⟨3, by decide⟩⟩

/-! ## What a trip adds to the sinks' running rows

For each group of four heads a row of four times 128 lanes runs along: lane `128 h + p` is head `h` at the position `p`
of a block. A trip takes off, block by block, the sink's share of the position's weights times the position's row sum. -/

/-- One head's 128 positions of a block. -/
def seg (x : Vec F S8x2048 .f32) (o : Fin 2 → ℕ) (h : ∀ a, o a + S1x128.size a ≤ S8x2048.size a) : FVec F S1x128 .f32 :=
  shapeCast S1x128 (View.ld x (Rect.unit (s := S8x2048) o S1x128.size h)) shapeCasts_S1x128_S1x128

/-- The four heads of the first group, and of the second, at block `4 k + r`, side by side. -/
def low (x : Vec F S8x2048 .f32) (k : Fin k0_t1_loop.trips) (r : Fin 4) : FVec F S1x512 .f32 :=
  concatenate S1x512 1 [⟨S1x128, seg x (k0_off14 k (BitVec.ofNat 32 r.val)) (k0_off14_inb k r)⟩,
    ⟨S1x128, seg x (k0_off15 k (BitVec.ofNat 32 r.val)) (k0_off15_inb k r)⟩,
    ⟨S1x128, seg x (k0_off16 k (BitVec.ofNat 32 r.val)) (k0_off16_inb k r)⟩,
    ⟨S1x128, seg x (k0_off17 k (BitVec.ofNat 32 r.val)) (k0_off17_inb k r)⟩] concatenates_S1x128_S1x128_S1x128_S1x128_S1x512_d1
def high (x : Vec F S8x2048 .f32) (k : Fin k0_t1_loop.trips) (r : Fin 4) : FVec F S1x512 .f32 :=
  concatenate S1x512 1 [⟨S1x128, seg x (k0_off18 k (BitVec.ofNat 32 r.val)) (k0_off18_inb k r)⟩,
    ⟨S1x128, seg x (k0_off19 k (BitVec.ofNat 32 r.val)) (k0_off19_inb k r)⟩,
    ⟨S1x128, seg x (k0_off20 k (BitVec.ofNat 32 r.val)) (k0_off20_inb k r)⟩,
    ⟨S1x128, seg x (k0_off21 k (BitVec.ofNat 32 r.val)) (k0_off21_inb k r)⟩] concatenates_S1x128_S1x128_S1x128_S1x128_S1x512_d1

/-- The sinks of a group, each along its 128 lanes. -/
def sinks (x : Vec F S2x1x512 .f32) (o : Fin 3 → ℕ) (h : ∀ a, o a + S1x1x512.size a ≤ S2x1x512.size a) : FVec F S1x512 .f32 :=
  shapeCast S1x512 (View.ld x (Rect.unit (s := S2x1x512) o S1x1x512.size h)) shapeCasts_S1x1x512_S1x512

/-- One block taken off a running row. -/
def takeOff (snk lse del acc : FVec F S1x512 .f32) : FVec F S1x512 .f32 := subf acc (mulf (exp (subf snk lse)) del)

/-- A whole trip, for both groups. -/
def tripAcc (x5 x6 : Vec F S8x2048 .f32) (x7 : Vec F S2x1x512 .f32) (k : Fin k0_t1_loop.trips)
    (acc : FVec F S1x512 .f32 × FVec F S1x512 .f32) : FVec F S1x512 .f32 × FVec F S1x512 .f32 :=
  let s0 := sinks x7 ![0, 0, 0] inb_S2x1x512_S1x1x512_0_0_0
  let s1 := sinks x7 ![1, 0, 0] inb_S2x1x512_S1x1x512_1_0_0
  (takeOff s0 (low x5 k 3) (low x6 k 3) (takeOff s0 (low x5 k 2) (low x6 k 2)
      (takeOff s0 (low x5 k 1) (low x6 k 1) (takeOff s0 (low x5 k 0) (low x6 k 0) acc.1))),
    takeOff s1 (high x5 k 3) (high x6 k 3) (takeOff s1 (high x5 k 2) (high x6 k 2)
      (takeOff s1 (high x5 k 1) (high x6 k 1) (takeOff s1 (high x5 k 0) (high x6 k 0) acc.2))))

/-- The running rows before trip `k`. -/
def accAt (x5 x6 : Vec F S8x2048 .f32) (x7 : Vec F S2x1x512 .f32) : ℕ → FVec F S1x512 .f32 × FVec F S1x512 .f32
  | 0 => (k0_pay218, k0_pay218)
  | k + 1 => if h : k < k0_t1_loop.trips then tripAcc x5 x6 x7 ⟨k, h⟩ (accAt x5 x6 x7 k) else accAt x5 x6 x7 k

theorem accAt_succ (x5 x6 : Vec F S8x2048 .f32) (x7 : Vec F S2x1x512 .f32) (k : Fin k0_t1_loop.trips) :
    accAt x5 x6 x7 (k.val + 1) = tripAcc x5 x6 x7 k (accAt x5 x6 x7 k.val) := dif_pos k.isLt

/-! ## The loop -/

set_option maxHeartbeats 4000000 in
/-- What the kernel holds before trip `k`: the ten inputs at their contents; the gradient's block and the two running
    sums at some contents; the sinks' running rows. -/
@[sl_loop] def loopInv (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x512 .bf16) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2x1x512 .f32) (harg7 : arg7.IsWhole) (arg8 : Memref sig .tc .vmem S2x256x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x768 .bf16) (harg11 : arg11.IsWhole) (arg12 : Memref sig .tc .vmem S8x128 .f32) (harg12 : arg12.IsWhole) (arg13 : Memref sig .tc .vmem S2x2048x64 .f32) (harg13 : arg13.IsWhole) (arg14 : Memref sig .tc .vmem S2x2048x64 .f32) (harg14 : arg14.IsWhole)
    (init : FVec F S1x512 .f32 × FVec F S1x512 .f32) (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 init where
  inv k acc := iprop(⌜acc = accAt (arg5.view.read (Elt F) f5) (arg6.view.read (Elt F) f6) (arg7.view.read (Elt F) f7) k⌝ ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (∃ f : arg11.view.ty.Contents (Elt F), arg11.view.loc (c : Thread nD τ) ↦[arg11.view.set]{fullShare} f) ∗ (∃ f : arg13.view.ty.Contents (Elt F), arg13.view.loc (c : Thread nD τ) ↦[arg13.view.set]{fullShare} f) ∗ (∃ f : arg14.view.ty.Contents (Elt F), arg14.view.loc (c : Thread nD τ) ↦[arg14.view.set]{fullShare} f))
  step k acc := by
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    iintro ⟨%hacc, H1, H2, H3, H4, H5, H6, H7, H8, H9, H10, ⟨%g11, H11⟩, ⟨%g13, H13⟩, ⟨%g14, H14⟩⟩
    sl_exec
    sl_step
    isplitr
    · ipureintro
      subst hacc
      rw [accAt_succ]
      rfl
    sl_close

end Cert.Kernel6Ideal.Hand

end
-- ==== Proof.AttnFrameIdeal.lean ====
/- The attention gradient kernel runs and leaves its arguments alone: the body once through the loop's invariant, then the
   launch. Of the two outputs the sinks' gradient is described; what
   the other and the two scratch sums hold is not. -/
module

public import proofs.«01_k».proof.Proof.AttnTripIdeal
public import Idealize.ShloMosaic.Lib.VecWindow
public import Idealize.ShloMosaic.Lib.Pipeline.Value

@[expose] public section

set_option maxRecDepth 16384

noncomputable section

namespace Cert.Kernel6Ideal.Hand

open Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The sinks' tile after the loop: each head's running row summed into its lane of row 0, on top of what was there. -/
def addTile (acc : FVec F S1x512 .f32 × FVec F S1x512 .f32) (old : FVec F S8x128 .f32) : FVec F S8x128 .f32 :=
  let lanes : IVec S8x128 32 := iota .tc S8x128 32 [1] iota_S8x128_d1_w32
  let rows : IVec S8x128 32 := iota .tc S8x128 32 [0] iota_S8x128_d0_w32
  k0_pay228 (k0_pay226 acc.2 lanes rows (k0_pay222 acc.1 lanes rows (k0_pay220 acc.1) (k0_pay221 acc.1)) (k0_pay223 acc.2)
    (k0_pay224 rows) k0_pay225) (k0_pay227 acc.2 lanes rows) old

/-- The body clears the tile first, at the first point. -/
abbrev clears (i : grid0.Coords) : Prop :=
  Scalar.cmpi .ne (Scalar.extui (Scalar.cmpi .eq (BitVec.ofNat 32 (i 0).val) 0#32) : BitVec 32) 0#32 = 1#1

/-- The tile after the body at a point, from what was there before. -/
def tileOut (i : grid0.Coords) (x4 x5 : Vec F S8x2048 .f32) (x6 : Vec F S2x1x512 .f32) (old : FVec F S8x128 .f32) :
    FVec F S8x128 .f32 :=
  addTile (accAt x4 x5 x6 (Scf.trips k0_t1_loop.lb k0_t1_loop.ub k0_t1_loop.st)) (if clears i then k0_pay215 else old)

theorem accAt_zero (x4 x5 : Vec F S8x2048 .f32) (x6 : Vec F S2x1x512 .f32) : (k0_pay218, k0_pay218) = accAt x4 x5 x6 0 := rfl

attribute [local irreducible] accAt

set_option maxHeartbeats 4000000 in
/-- The body on whole buffers: the inputs at their contents, the two outputs and the two scratch sums at anything; it
    hands the inputs back as they were, the sinks' tile as described and the others at something. -/
theorem kernelRun (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x512 .bf16) (harg4 : arg4.IsWhole) (arg5 : Memref sig .tc .vmem S8x2048 .f32) (harg5 : arg5.IsWhole) (arg6 : Memref sig .tc .vmem S8x2048 .f32) (harg6 : arg6.IsWhole) (arg7 : Memref sig .tc .vmem S2x1x512 .f32) (harg7 : arg7.IsWhole) (arg8 : Memref sig .tc .vmem S2x256x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x768 .bf16) (harg11 : arg11.IsWhole) (arg12 : Memref sig .tc .vmem S8x128 .f32) (harg12 : arg12.IsWhole) (arg13 : Memref sig .tc .vmem S2x2048x64 .f32) (harg13 : arg13.IsWhole) (arg14 : Memref sig .tc .vmem S2x2048x64 .f32) (harg14 : arg14.IsWhole)
    (x0 : Vec F S2048x512 .bf16) (x1 : Vec F S2048x128 .bf16) (x2 : Vec F S2048x128 .bf16) (x3 : Vec F S2048x512 .bf16) (x4 : Vec F S8x2048 .f32) (x5 : Vec F S8x2048 .f32) (x6 : Vec F S2x1x512 .f32) (x7 : Vec F S2x256x128 .f32) (x8 : Vec F S2048x128 .f32) (x9 : Vec F S2048x128 .f32) (old : Vec F S8x128 .f32) (K : PUnit → sProp (Mach F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare old ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare (tileOut i x4 x5 x6 old) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0_bwd_attn i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_bwd_attn_eq_skeleton]; unfold cc0_bwd_attn_skel
  simp only [k0_part34_eq_skeleton, k0_part35_eq_skeleton, k0_part36_eq_skeleton, k0_part37_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11
  have hz := accAt_zero (arg5.view.read (Elt F) (harg5.unread x4)) (arg6.view.read (Elt F) (harg6.unread x5)) (arg7.view.read (Elt F) (harg7.unread x6))
  by_cases hc0 : clears i
  all_goals
    sl_exec (disch := first | sl_exact hc0)
    sl_step
    iapply Hk
    isplitl [H0]
    · iexists _; isplitr; swap; · iexact H0
      ipureintro; exact harg1.read_unread _
    isplitl [H1]
    · iexists _; isplitr; swap; · iexact H1
      ipureintro; exact harg2.read_unread _
    isplitl [H2]
    · iexists _; isplitr; swap; · iexact H2
      ipureintro; exact harg3.read_unread _
    isplitl [H3]
    · iexists _; isplitr; swap; · iexact H3
      ipureintro; exact harg4.read_unread _
    isplitl [H4]
    · iexists _; isplitr; swap; · iexact H4
      ipureintro; exact harg5.read_unread _
    isplitl [H5]
    · iexists _; isplitr; swap; · iexact H5
      ipureintro; exact harg6.read_unread _
    isplitl [H6]
    · iexists _; isplitr; swap; · iexact H6
      ipureintro; exact harg7.read_unread _
    isplitl [H7]
    · iexists _; isplitr; swap; · iexact H7
      ipureintro; exact harg8.read_unread _
    isplitl [H8]
    · iexists _; isplitr; swap; · iexact H8
      ipureintro; exact harg9.read_unread _
    isplitl [H9]
    · iexists _; isplitr; swap; · iexact H9
      ipureintro; exact harg10.read_unread _
    isplitl [H10]
    · iexists _, _; isplitr; swap; · iexact H10
      ipureintro; rfl
    isplitl [H11]
    · iexists _; isplitr; swap; · iexact H11
      ipureintro
      refine (View.read_writes_full arg12.view _ inb_S8x128_S8x128_0_0 _ _).trans ?_
      unfold tileOut
      first | rw [if_pos hc0] | rw [if_neg hc0]
      unfold addTile
      try sl_unfold_words
      rw [harg5.read_unread, harg6.read_unread, harg7.read_unread]
      first
        | rw [View.readCov_full]
        | rw [View.readAt_full, harg12.read_unread]
    isplitl [H12]
    · iexists _, _; isplitr; swap; · iexact H12
      ipureintro; rfl
    iexists _, _; isplitr; swap; · iexact H13
    ipureintro; rfl

/-! ## The proof data and the body obligation -/

variable (m : (ℓ : Loc nD τ sig) → Buf (Elt F) ℓ) (ρ : Dev nD → PrngReg)

/-- The window whose contents are not described: the gradients of q, k and v. -/
def forgets : Fin 12 → Bool := fun w => match w with | ⟨10, _⟩ => true | _ => false

/-- The sinks' tile after the body at a point: cleared at the first, carried on from point to point. -/
def tileAt (c : Dev nD) : (n : ℕ) → n < cfg0.N → FVec F S8x128 .f32
  | 0, h => addTile (accAt (iblk m c 4 ⟨0, h⟩) (iblk m c 5 ⟨0, h⟩) (iblk m c 6 ⟨0, h⟩) (Scf.trips k0_t1_loop.lb k0_t1_loop.ub k0_t1_loop.st)) k0_pay215
  | n + 1, h => addTile (accAt (iblk m c 4 ⟨n + 1, h⟩) (iblk m c 5 ⟨n + 1, h⟩) (iblk m c 6 ⟨n + 1, h⟩) (Scf.trips k0_t1_loop.lb k0_t1_loop.ub k0_t1_loop.st))
      (tileAt c n (by omega))

/-- The arrays as the call finds them; each input's buffer at its block after the body; the
    sinks' tile as described, the other output unnamed; the
    scratch buffers and the generator register held throughout; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
    | ⟨11, _⟩ => tileAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem after0_11 (c : Dev nD) (t : Fin cfg0.N) : (dats m 0 c).after 11 t = tileAt m c t.val t.isLt := by dsimp only [dats]

theorem before0_11 (c : Dev nD) (t : Fin cfg0.N) (ht : t.val ≠ 0) (d) :
    (dats m 0 c).before 11 t d = tileAt m c (t.val - 1) (by omega) := by
  rw [Dat.before_out_kept _ 11 rfl t (by omega)
    (Bool.eq_false_iff.mpr fun h => by have h4 := (flush0_11 _).mp h; have hN : cfg0.N = 4 := N_0; have := t.isLt; dsimp only at h4; omega)
    (fun _ => rfl) (fun _ _ => rfl)]
  dsimp only [dats]

theorem clears_iff : ∀ t : Fin cfg0.N, clears (grid0.coords t) ↔ t.val = 0 :=
  (by decide +kernel : ∀ t : Fin grid0.N, _)

/-- The body's tile is the one described. -/
theorem tileOut_eq (c : Dev nD) (t : Fin cfg0.N) (d) :
    tileOut (grid0.coords t) (iblk m c 4 t) (iblk m c 5 t) (iblk m c 6 t) ((dats m 0 c).before 11 t d) = tileAt m c t.val t.isLt := by
  obtain ⟨n, hn⟩ := t
  unfold tileOut
  cases n with
  | zero => rw [if_pos ((clears_iff _).mpr rfl)]; rfl
  | succ n => rw [if_neg fun h => by have := (clears_iff _).mp h; simp at this, before0_11 m c _ (by simp)]; rfl

/-- What the body is called with at point `t`, and what it returns, the windows one by one. -/
def bodyPre (c : Dev nD) (t : Fin cfg0.N) : sProp (Mach F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d)
    ∗ (∃ d, owns (c : Thread nD τ) (st0_11 t) fullShare ((dats m 0 c).before 11 t d)))
def bodyPost (c : Dev nD) (t : Fin cfg0.N) : sProp (Mach F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d)
    ∗ owns (c : Thread nD τ) (st0_11 t) fullShare ((dats m 0 c).after 11 t))

/-- A buffer owned whole at `d` is held at some contents. -/
theorem owns_some (c : Dev nD) (b : Ref sig .tc) (d) :
    (owns (c : Thread nD τ) (Memref.whole b) fullShare d : sProp (Mach F))
      ⊢ iprop(∃ f : Buf (Elt F) ((c : Thread nD τ).loc b), ((c : Thread nD τ).loc b) ↦{fullShare} f) := by
  rw [owns_whole_eq]
  iintro ⟨%f, -, H⟩
  iexists f; iexact H

set_option maxHeartbeats 4000000 in
/-- The body at any point: the scratch buffers taken out of the invariant, `kernelRun`, the scratch buffers put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7, after0_8, after0_9, after0_11]
  unfold Pipeline.ΦA
  rw [scopedRest0_eq]
  iintro ⟨⟨⟨⟨%g13, G13⟩, ⟨%g14, G14⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernelRun c (grid0.coords t) _ _ _ _ _ _ _ _ _ _ _ _ _ _ _ _ _ _ _ _ _ _ _ _ (Memref.whole cc0_scratch0) (Memref.isWhole_whole _)
    (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((dats m 0 c).before 11 t d11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [G13]; · iexists g13; rw [owns_whole_eq]; iexists g13; isplitr; · ipureintro; rfl
                   iexact G13
  isplitl [G14]; · iexists g14; rw [owns_whole_eq]; iexists g14; isplitr; · ipureintro; rfl
                   iexact G14
  iintro ⟨H0, H1, H2, H3, H4, H5, H6, H7, H8, H9, H10, H11, ⟨%e13, G13⟩, ⟨%e14, G14⟩⟩
  isplitl [G13 G14 Hg]
  · isplitr [Hg]
    · isplitl [G13]
      · iapply (owns_some c cc0_scratch0 e13); iexact G13
      iapply (owns_some c cc0_scratch1 e14); iexact G14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [tileOut_eq]; iexact H11

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

set_option backward.isDefEq.respectTransparency.types false in
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The block of the sinks' window is the whole tile. -/
theorem mem_blk11 (t : Fin cfg0.N) (i : S8x128.Idx) : i ∈ ((cfg0.win 11).blk t).view.set := by
  show i ∈ ((View.whole main_v246_1).slice (win0_11.rect t)).set
  rw [View.set_slice_whole, Rect.mem_set_unit]
  have e : ∀ t : Fin grid0.N, win0_11.index t = ![0, 0] := by decide +kernel
  intro a
  match a with
  | ⟨0, _⟩ => have := (i 0).isLt; show win0_11.index t 0 * 8 ≤ _ ∧ _ < win0_11.index t 0 * 8 + 8; rw [e t]; exact ⟨Nat.zero_le _, by simpa using this⟩
  | ⟨1, _⟩ => have := (i 1).isLt; show win0_11.index t 1 * 128 ≤ _ ∧ _ < win0_11.index t 1 * 128 + 128; rw [e t]; exact ⟨Nat.zero_le _, by simpa using this⟩

theorem flushed11_eq (c : Dev nD) (t : Fin cfg0.N) (hf : (cfg0.win 11).flush t = true) :
    (dats m 0 c).flushed 11 t = ((cfg0.win 11).blk t).view.read (Elt F) (tileAt m c 3 (by decide)) := by
  show (cfg0.win 11).cut (grid0.coords t) ((dats m 0 c).after 11 t) = _
  rw [after0_11]
  have hN : cfg0.N = 4 := N_0
  have h3 : t.val = 3 := by have := (flush0_11 t).mp hf; have := t.isLt; omega
  obtain ⟨n, hn⟩ := t
  obtain rfl : n = 3 := h3
  have e : ∀ t : Fin grid0.N, win0_11.index t = ![0, 0] := by decide +kernel
  funext y
  show tileAt m c 3 _ ((cfg0.win 11).xinj (grid0.coords ⟨3, hn⟩) y) = tileAt m c 3 _ (((cfg0.win 11).blk ⟨3, hn⟩).view.emb y)
  congr 1
  funext a; apply Fin.ext
  match a with
  | ⟨0, _⟩ => show (y 0).val = win0_11.index ⟨3, hn⟩ 0 * 8 + 1 * (y 0).val; rw [e]; simp
  | ⟨1, _⟩ => show (y 1).val = win0_11.index ⟨3, hn⟩ 1 * 128 + 1 * (y 1).val; rw [e]; simp

/-- The array of the sinks' gradient after the run: the last point's tile. -/
theorem final11 (c : Dev nD) : (dats m 0 c).arrAt 11 cfg0.N = tileAt m c 3 (by decide) :=
  (dats m 0 c).arrAt_eq_of_cover 11 _ (fun t hf => flushed11_eq m c t hf) fun i =>
    ⟨⟨3, by decide⟩, (flush0_11 _).mpr rfl, mem_blk11 _ i⟩

theorem sinks_final {r : PUnit × MemSt nD τ sig (Elt F)}
    (h : Pipeline.RDat.FramePost (cfgs 0) (fun c => (dats (F := F) m 0 c).toRForget forgets) (V m) r) (c : Dev nD) :
    r.2.mem ((c.tc : Thread nD τ).loc main_v246_1) = tileAt m c 3 (by decide) := by
  rw [← final11 m c]
  exact (Dat.toRForget_arrAt_iff (dats m 0 c) rfl cfg0.N _).mp ((h c).1 11)

/-- An argument array is no window's array: it ends as the call found it, which is as it was at launch. -/
theorem final_arg {r : PUnit × MemSt nD τ sig (Elt F)}
    (h : Pipeline.RDat.FramePost (cfgs 0) (fun c => (dats (F := F) m 0 c).toRForget forgets) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- Every run ends, no access faults, the arguments end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨final_arg m h.1, h.2⟩) (run_main m ρ)

end Cert.Kernel6Ideal.Hand

end
-- ==== Proof.HostLine.lean ====
/-
  A host program that only computes: a straight line of operations, none of which writes an argument. Such a program
  runs to its end and leaves its arguments as they were. That a program is such a line is put together from its
  statements, without a list of its operations.
-/
module

public import Idealize.ShloMosaic.Lib.StableHlo.Run
public import Idealize.ShloMosaic.Adequacy
public import Idealize.ShloMosaic.Init

@[expose] public section

noncomputable section

namespace Cert.AttnProof

open Idealize.ShloMosaic Idealize.ShloMosaic.TcCoe Idealize.SL.Sem Idealize.ShloMosaic.StableHlo

variable {nD : Nat} {τ : Topo} {sig : RefSig} {Val : EltTy → Type} {Λ : Labels}

/-- The program is a line of operations that write none of the references `A`. -/
def Keeps (A : List (Ref sig .tc)) (p : Prog (TpuEff nD τ sig Val Λ .tc) PUnit) : Prop :=
  ∃ ops : List (HloOp τ sig Val), p = seq ops ∧
    ∀ op ∈ ops, op.bufs ⊆ tcRefs τ sig ∧ op.fresh = ∅ ∧ ∀ r ∈ A, Proc.devRef .tc r ∉ op.writes

variable {A : List (Ref sig .tc)}

theorem Keeps.ret : Keeps A (pure ⟨⟩ : Prog (TpuEff nD τ sig Val Λ .tc) PUnit) := ⟨[], rfl, by simp⟩

/-- One operation, which writes one reference outside `A`. -/
theorem Keeps.op (op : HloOp τ sig Val) {y : Ref sig .tc} (hb : op.bufs ⊆ tcRefs τ sig) (hf : op.fresh = ∅)
    (hw : op.writes = {Proc.devRef .tc y}) (hy : y ∉ A) :
    Keeps A (hlo rfl op fun _ => .ret ⟨⟩ : Prog (TpuEff nD τ sig Val Λ .tc) PUnit) := by
  refine ⟨[op], ?_, ?_⟩
  · simp only [seq, bind_pure_unit]
  · simp only [List.mem_singleton, forall_eq]
    refine ⟨hb, hf, fun r hr h => hy ?_⟩
    rw [hw, Finset.mem_singleton] at h
    exact Proc.devRef_injective _ h ▸ hr

variable {a b c x y : Ref sig .tc}

theorem Keeps.nullary (v : y.ty.Contents Val) (hy) (h : y ∉ A) :
    Keeps A (hlo rfl (StableHlo.nullary (τ := τ) y v hy) fun _ => .ret ⟨⟩ : Prog (TpuEff nD τ sig Val Λ .tc) PUnit) :=
  .op _ (nullary_bufs_sub ..) rfl (nullary_writes ..) h

theorem Keeps.unary (f : x.ty.Contents Val → y.ty.Contents Val) (hx hy) (h : y ∉ A) :
    Keeps A (hlo rfl (StableHlo.unary (τ := τ) x y f hx hy) fun _ => .ret ⟨⟩ : Prog (TpuEff nD τ sig Val Λ .tc) PUnit) :=
  .op _ (unary_bufs_sub ..) rfl (unary_writes ..) h

theorem Keeps.reshape (he hn hx hy) (h : y ∉ A) :
    Keeps A (hlo rfl (StableHlo.reshape (τ := τ) (Val := Val) x y he hn hx hy) fun _ => .ret ⟨⟩
      : Prog (TpuEff nD τ sig Val Λ .tc) PUnit) :=
  .op _ (reshape_bufs_sub ..) rfl (reshape_writes ..) h

theorem Keeps.binary (f : a.ty.Contents Val → b.ty.Contents Val → y.ty.Contents Val) (ha hb hy) (h : y ∉ A) :
    Keeps A (hlo rfl (StableHlo.binary (τ := τ) a b y f ha hb hy) fun _ => .ret ⟨⟩ : Prog (TpuEff nD τ sig Val Λ .tc) PUnit) :=
  .op _ (binary_bufs_sub ..) rfl (binary_writes ..) h

theorem Keeps.ternary (f : c.ty.Contents Val → a.ty.Contents Val → b.ty.Contents Val → y.ty.Contents Val) (hc ha hb hy)
    (h : y ∉ A) :
    Keeps A (hlo rfl (StableHlo.ternary (τ := τ) c a b y f hc ha hb hy) fun _ => .ret ⟨⟩
      : Prog (TpuEff nD τ sig Val Λ .tc) PUnit) :=
  .op _ (ternary_bufs_sub ..) rfl (ternary_writes ..) h

theorem Keeps.nary {n : Nat} (xs : Fin n → Ref sig .tc) (f : (∀ i, (xs i).ty.Contents Val) → y.ty.Contents Val) (hx hy)
    (h : y ∉ A) :
    Keeps A (hlo rfl (StableHlo.nary (τ := τ) xs y f hx hy) fun _ => .ret ⟨⟩ : Prog (TpuEff nD τ sig Val Λ .tc) PUnit) :=
  .op _ (nary_bufs_sub ..) rfl (nary_writes ..) h

/-- One program after another. -/
theorem Keeps.bind {p q : Prog (TpuEff nD τ sig Val Λ .tc) PUnit} (hp : Keeps A p) (hq : Keeps A q) :
    Keeps A (p >>= fun _ => q) := by
  obtain ⟨l, rfl, hl⟩ := hp
  obtain ⟨l', rfl, hl'⟩ := hq
  exact ⟨l ++ l', (seq_append l l').symm, fun op h => (List.mem_append.mp h).elim (hl op) (hl' op)⟩

/-- A program that keeps the references `A` on every device runs to its end and leaves them as they were. -/
theorem Keeps.run (hR : (Finset.univ.filter fun b : Ref sig .tc => b.isScoped) = ∅)
    (hC : (Finset.univ.filter fun sm : SemLoc sig => sm.isScoped .tc) = ∅) (defs : Defs nD τ sig Val Λ)
    (main : Dev nD → Prog (TpuEff nD τ sig Val Λ .tc) PUnit) (h : ∀ d, Keeps A (main d))
    (m : (ℓ : Loc nD τ sig) → Buf Val ℓ) (ρ : Dev nD → PrngReg) :
    θ_run defs (onTc (τ := τ) main) ⟨m, fun _ => 0, ρ⟩ fun r =>
      ∀ (d : Dev nD), ∀ a ∈ A, r.2.mem ((d.tc : Thread nD τ).loc a) = m ((d.tc : Thread nD τ).loc a) := by
  choose ops hmain hops using h
  refine (θ_run defs _ _).mono (fun r hr d a ha => (hr d a).trans ?_)
    (run_seq hR hC defs main ops hmain (fun d => List.forall_iff_forall_mem.mpr fun op ho => (hops d op ho).1) m ρ
      fun d op ho => (hops d op ho).2.1)
  exact after_of_forall_not_mem (ops d) _ fun op ho => (hops d op ho).2.2 a ha

end Cert.AttnProof

end
-- ==== Proof.AttnRefRun.lean ====
/-
  The reference of the attention gradient runs to its end and keeps its arguments: it is a line of operations
  that write no argument.
-/
module

public import proofs.«01_k».proof.Proof.Gen.Reference6Ideal
public import proofs.«01_k».proof.Proof.HostLine

@[expose] public section

set_option maxRecDepth 16384
set_option maxHeartbeats 4000000

noncomputable section

namespace Cert.Reference6Ideal.Hand

open Cert.Reference6Ideal Cert.Reference6Ideal.Gen Cert.AttnProof
open Idealize.ShloMosaic Idealize.ShloMosaic.TcCoe Idealize.SL.Sem Idealize.ShloMosaic.StableHlo

variable {F : FTy → Type} [FloatOps F]

/-- The arguments. -/
abbrev args : List (Ref sig .tc) := [main_arg0, main_arg1, main_arg2, main_arg3, main_arg4]

theorem main_keeps (c : Dev nD) : Keeps args (main (F := F) c) := by
  unfold main main_part0 main_part1 main_part2 main_part3 main_part4 fn_where.body fn_where_0.body fn_pad.body
  repeat' first
    | with_reducible refine Keeps.bind ?_ ?_
    | with_reducible refine Keeps.unary _ _ _ ?_
    | with_reducible refine Keeps.binary _ _ _ _ ?_
    | with_reducible refine Keeps.nullary _ _ ?_
    | with_reducible refine Keeps.reshape _ _ _ _ ?_
    | with_reducible refine Keeps.ternary _ _ _ _ _ ?_
    | with_reducible refine Keeps.nary _ _ _ _ ?_
    | with_reducible exact Keeps.ret
  all_goals decide

/-- Every run of the reference ends with the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Keeps.run (by decide) (by decide) defs main main_keeps m ρ)
  exact ⟨h c _ (by simp), h c _ (by simp), h c _ (by simp), h c _ (by simp), h c _ (by simp)⟩

end Cert.Reference6Ideal.Hand

end
-- ==== Proof.AttnClaim.lean ====
/-
  The frames of the attention gradient: the idealized kernel's run serves for the rounded kernel too, because the two
  programs have one text; the reference is a line of operations that write no argument.
-/
module

public import proofs.«01_k».proof.Defs
public import proofs.«01_k».proof.Proof.AttnFrameIdeal
public import proofs.«01_k».proof.Proof.Gen.Kernel6
public import proofs.«01_k».proof.Proof.AttnRefRun
public import Idealize.ShloMosaic.Adequacy
public import Idealize.ShloMosaic.Init

@[expose] public section

set_option maxRecDepth 16384

noncomputable section

namespace Cert.AttnProof

open Idealize.ShloMosaic Idealize.ShloMosaic.TcCoe Idealize.SL.Sem

/-- What the rounded kernel's frame says. -/
def rounded : Prop :=
  ∀ (m : (ℓ : Loc Cert.Kernel6.nD Cert.Kernel6.τ Cert.Kernel6.sig) → Buf (Elt Bits) ℓ) (g : Dev Cert.Kernel6.nD → PrngReg),
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

/-- The same of the idealized kernel's text, read at the rounded numbers. -/
def idealized : Prop :=
  ∀ (m : (ℓ : Loc Cert.Kernel6Ideal.nD Cert.Kernel6Ideal.τ Cert.Kernel6Ideal.sig) → Buf (Elt Bits) ℓ) (g : Dev Cert.Kernel6Ideal.nD → PrngReg),
    θ_run (Cert.Kernel6Ideal.defs (F := Bits)) (onTc (τ := Cert.Kernel6Ideal.τ) (Cert.Kernel6Ideal.main (F := Bits))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

/-- The two programs have one text. -/
theorem one_text : idealized = rounded := by sl_kernel_rfl

theorem frame_kernel : Cert.quiescent_Kernel6 := fun m ρ _ =>
  one_text.mp (fun m ρ => Cert.Kernel6Ideal.Hand.frame (F := Bits) m ρ) m ρ

theorem frame_ideal : Cert.quiescent_Kernel6Ideal := fun m ρ _ => Cert.Kernel6Ideal.Hand.frame (F := Ideal) m ρ

theorem frame_reference : Cert.quiescent_Reference6Ideal := fun m ρ _ =>
  (θ_run Cert.Reference6Ideal.defs _ _).mono (fun r h => ⟨h, sem_eq_zero_of_no_sems (by decide) r.2⟩)
    (Cert.Reference6Ideal.Hand.run (F := Ideal) m ρ)

end Cert.AttnProof

end
-- ==== Proof.PoolTile.lean ====
/-
  What one grid point of the forward pooling kernel leaves in its block: each group's pooled difference times the
  group's weights, times the scale.
-/
module

public import proofs.«01_k».proof.Proof.Blocks
public import proofs.«01_k».proof.Proof.Gen.Kernel7Ideal.Value

@[expose] public section

set_option maxRecDepth 16384

noncomputable section

namespace Cert.PoolProof

open Idealize.ShloMosaic Idealize.ShloMosaic.TcCoe Cert.Kernel7Ideal Cert.Kernel7Ideal.Gen Idealize.SL.Sem
open Cert.Proof (P Holds pooled_holds chan canon_cols colU colS slabW ld_holds ld_col ld_slab sl gd)

/-- A group's result: the pooled difference times the weights, times the scale. -/
def gOut (d : FVec Ideal S2048x128 .f32) (wp : FVec Ideal S1x128x128 .f32) (sc : FVec Ideal S1x128 .f32) :
    FVec Ideal S2048x128 .bf16 :=
  truncf .bf16 (mulf (matmul dot_S2048x128_S128x128_S2048x128_1_0_0_1_n_n none (truncf .bf16 d bitsLt_bf16_f32)
    (truncf .bf16 (shapeCast S128x128 wp shapeCasts_S1x128x128_S128x128) bitsLt_bf16_f32)
    (constant S2048x128 .f32 0x00000000#32)) (broadcastTo S2048x128 sc broadcasts_S1x128_S2048x128)) bitsLt_bf16_f32

theorem gOut_at (d : FVec Ideal S2048x128 .f32) (wp : FVec Ideal S1x128x128 .f32) (sc : FVec Ideal S1x128 .f32)
    (t : Fin 2048) (e : Fin 128) :
    gOut d wp sc (ix2 t e) = (∑ c : Fin 128, d (ix2 t c) * wp (ix3 0 c e)) * sc (ix2 0 e) := by
  pointwise [gOut]

section
variable (u : FVec Ideal S2048x128 .bf16) (wp : FVec Ideal S1x128x128 .f32) (sc : FVec Ideal S1x128 .f32)

theorem out0 : k0_pay2 (F := Ideal) u wp sc = gOut (P 1 u) wp sc := by
  unfold k0_pay2; simp only [shapeCast_self]; rfl

theorem out1 : k0_pay6 (F := Ideal) (k0_pay3 u) k0_pay4 (k0_pay5 u) wp sc = gOut (P 2 u) wp sc := by
  unfold k0_pay6 k0_pay5 k0_pay4 k0_pay3; simp only [shapeCast_self]; rfl

theorem out2 : k0_pay11 (F := Ideal) (k0_pay7 u) k0_pay8 (k0_pay9 u) k0_pay10 wp sc = gOut (P 3 u) wp sc := by
  unfold k0_pay11 k0_pay10 k0_pay9 k0_pay8 k0_pay7; simp only [shapeCast_self]; rfl

theorem out3 : k0_pay1 (F := Ideal) (k0_pay13 wp) (k0_pay14 (k0_pay12 u)) sc = gOut (P 4 u) wp sc := by
  unfold k0_pay1 k0_pay14 k0_pay13 k0_pay12; simp only [shapeCast_self]; rfl

end

/-- One entry of the result of group `g`, for one sequence of real numbers. -/
def entry (a1 : FVec Ideal S4x128x128 .f32) (a2 : FVec Ideal S1x512 .f32) (U : ℕ → ℕ → ℝ) (g : Fin 4) (s : ℕ)
    (e : Fin 128) : EReal :=
  (∑ c : Fin 128, ((gd U g.val s c.val : ℝ) : EReal) * a1 (ix3 g c e)) * a2 (ix2 0 (chan g e))

theorem out_at {x0 : FVec Ideal S2048x512 .bf16} (x1 : FVec Ideal S4x128x128 .f32) (x2 : FVec Ideal S1x512 .f32)
    {U : ℕ → ℕ → ℝ} (hu : ∀ (s : Fin 2048) (k : Fin 512), x0 (ix2 s k) = ((U s.val k.val : ℝ) : EReal))
    (g : Fin 4) (s : Fin 2048) (e : Fin 128) :
    out0_3 (F := Ideal) x0 x1 x2 (ix2 s (chan g e)) = entry x1 x2 U g s.val e := by
  unfold out0_3
  refine (canon_cols (Val := Elt Ideal) (e := .bf16) _ _ _ _
    (fun g => gOut (P (g.val + 1) (colU x0 g)) (slabW x1 g) (colS x2 g)) _ _ _ _ _ g s e ?_ ?_ ?_ ?_).trans ?_
  · exact out3 _ _ _
  · exact out2 _ _ _
  · exact out1 _ _ _
  · exact out0 _ _ _
  · rw [gOut_at]
    unfold entry
    have hs : colS x2 g (ix2 0 e) = x2 (ix2 0 (chan g e)) := ld_col (Val := Elt Ideal) (e := .f32) x2 g _ _ rfl 0 e
    rw [hs]
    refine congrArg (· * _) (Finset.sum_congr rfl fun c _ => ?_)
    have hw : slabW x1 g (ix3 0 c e) = x1 (ix3 g c e) := ld_slab (Val := Elt Ideal) (e := .f32) x1 g _ _ rfl 0 c e
    rw [hw]
    exact congrArg (· * _) (pooled_holds (ld_holds hu g _ _ rfl) _ (by omega) s c)

end Cert.PoolProof
end
-- ==== Proof.PoolRef.lean ====
/-
  The reference of the forward pooling, read at an index: its pooled difference is the one the gradient's reference
  computes on the way.
-/
module

public import proofs.«01_k».proof.Proof.RefForward
public import proofs.«01_k».proof.Proof.PoolTile
public import proofs.«01_k».proof.Proof.Gen.Reference7Ideal.Read

@[expose] public section

set_option maxRecDepth 16384

noncomputable section

namespace Cert.PoolProof

open Idealize.ShloMosaic Idealize.ShloMosaic.TcCoe Cert.Reference7Ideal Cert.Reference7Ideal.Gen Cert.Reference7Ideal.Read Idealize.SL.Sem
open Cert.Proof (chan gd ref_v76)

/-- The two references take the same pooled difference. -/
theorem same_pooled (x0 : FVec Ideal S4x2048x512 .f32) :
    val_main_v71 (F := Ideal) x0 = Cert.ReferenceIdeal.Read.val_main_v76 (F := Ideal) x0 := rfl

variable {x0 : FVec Ideal S4x2048x512 .f32} {U : ℕ → ℕ → ℕ → ℝ}

theorem ref_at (hu : ∀ b (s : Fin 2048) (k : Fin 512), x0 (ix3 b s k) = ((U b.val s.val k.val : ℝ) : EReal))
    (x1 : FVec Ideal S4x128x128 .f32) (x2 : FVec Ideal S1x512 .f32) (b : Fin 4) (s : Fin 2048) (g : Fin 4) (e : Fin 128) :
    val_main_v77 (F := Ideal) x0 x1 x2 (ix3 b s (chan g e)) = entry x1 x2 (U b.val) g s.val e := by
  have hb := b.isLt; have hs := s.isLt; have hg := g.isLt; have he := e.isLt
  have h73 : val_main_v73 (F := Ideal) x0 x1 (ix4 b s g e)
      = ∑ c : Fin 128, ((gd (U b.val) g.val s.val c.val : ℝ) : EReal) * x1 (ix3 g c e) := by
    rw [val_main_v73_apply, val_main_v72_apply]
    refine Finset.sum_congr rfl fun c _ => ?_
    rw [mul_comm, same_pooled]
    refine congrArg₂ (· * ·) (Eq.trans (congrArg _ (funext fun a => ?_)) (ref_v76 hu b s g c))
      (congrArg x1 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  have h74 : val_main_v74 (F := Ideal) x0 x1 (ix3 b s (chan g e)) = val_main_v73 (F := Ideal) x0 x1 (ix4 b s g e) := by
    rw [val_main_v74_apply]
    refine congrArg _ (funext fun a => Fin.ext ?_)
    match a with
    | ⟨0, _⟩ => show ((b.val * 2048 + s.val) * 512 + (128 * g.val + e.val)) / 1048576 = b.val; omega
    | ⟨1, _⟩ => show ((b.val * 2048 + s.val) * 512 + (128 * g.val + e.val)) / 512 % 2048 = s.val; omega
    | ⟨2, _⟩ => show ((b.val * 2048 + s.val) * 512 + (128 * g.val + e.val)) / 128 % 4 = g.val; omega
    | ⟨3, _⟩ => show ((b.val * 2048 + s.val) * 512 + (128 * g.val + e.val)) % 128 = e.val; omega
  have h76 : val_main_v76 (F := Ideal) x2 (ix3 b s (chan g e)) = x2 (ix2 0 (chan g e)) := by
    rw [val_main_v76_apply, val_main_v75_apply, val_main_v0_apply]
    refine congrArg _ (funext fun a => Fin.ext ?_)
    match a with
    | ⟨0, _⟩ => rfl
    | ⟨1, _⟩ => show (128 * g.val + e.val) % 512 = 128 * g.val + e.val; omega
  rw [val_main_v77_apply, h74, h73, h76]
  rfl

/-- The reference's result, its rows counted through all sequences. -/
theorem ref_flat (hu : ∀ b (s : Fin 2048) (k : Fin 512), x0 (ix3 b s k) = ((U b.val s.val k.val : ℝ) : EReal))
    (x1 : FVec Ideal S4x128x128 .f32) (x2 : FVec Ideal S1x512 .f32) (r : Fin 8192) (g : Fin 4) (e : Fin 128) :
    val_main_v79 (F := Ideal) x0 x1 x2 (ix2 r (chan g e)) = entry x1 x2 (U (r.val / 2048)) g (r.val % 2048) e := by
  have hr := r.isLt; have hg := g.isLt; have he := e.isLt
  have hi : idx_main_v78 (ix2 r (chan g e))
      = ix3 (⟨r.val / 2048, by omega⟩ : Fin 4) (⟨r.val % 2048, Nat.mod_lt _ (by decide)⟩ : Fin 2048) (chan g e) := by
    refine funext fun a => Fin.ext ?_
    match a with
    | ⟨0, _⟩ => show (r.val * 512 + (128 * g.val + e.val)) / 1048576 = r.val / 2048; omega
    | ⟨1, _⟩ => show (r.val * 512 + (128 * g.val + e.val)) / 512 % 2048 = r.val % 2048; omega
    | ⟨2, _⟩ => show (r.val * 512 + (128 * g.val + e.val)) % 512 = 128 * g.val + e.val; omega
  have h78 := val_main_v78_apply (F := Ideal) x0 x1 x2 (ix2 r (chan g e))
  rw [hi, ref_at hu] at h78
  rw [val_main_v79_apply, h78]
  rfl

end Cert.PoolProof
end
-- ==== Proof.PoolClaim.lean ====
/-
  The claims of the forward pooling: the precondition says its input holds real numbers, its reference runs, and the
  idealized kernel and the reference give the same result, whatever the weights and the scale.
-/
module

public import proofs.«01_k».proof.Defs
public import proofs.«01_k».proof.Proof.PoolRef
public import proofs.«01_k».proof.Proof.Finite
public import proofs.«01_k».proof.Proof.Gen.Reference7Ideal.Run
public import proofs.«01_k».proof.Pre_finite7
public import Idealize.ShloMosaic.Adequacy
public import Idealize.ShloMosaic.Init

@[expose] public section

set_option maxRecDepth 16384

noncomputable section

namespace Cert.PoolProof

open Idealize.ShloMosaic Idealize.ShloMosaic.TcCoe Idealize.SL.Sem
open Cert.Proof (real_of_abs_lt chan)

/-- The side conditions the precondition's operations take. -/
theorem preFacts : Cert.Pre_finite7.Facts := by constructor <;> decide

instance : Subsingleton (Cert.Pre_finite7.S_).Idx := ⟨fun _ _ => funext fun a => Fin.elim0 a⟩

attribute [local instance] preFacts

/-- An input the precondition accepts holds real numbers. -/
theorem reals_of_finite (a0 : FVec Ideal Cert.Kernel7Ideal.S4x2048x512 .f32) (a1 : FVec Ideal Cert.Kernel7Ideal.S4x128x128 .f32)
    (a2 : FVec Ideal Cert.Kernel7Ideal.S1x512 .f32) (h : Cert.Pre_finite7.fn (F := Ideal) a0 a1 a2 = fun _ => 1#1) :
    ∃ U : ℕ → ℕ → ℕ → ℝ, ∀ (b : Fin 4) (s : Fin 2048) (k : Fin 512),
      a0 (ix3 b s k) = ((U b.val s.val k.val : ℝ) : EReal) := by
  have h0 := congrFun h (fun a : Fin 0 => Fin.elim0 a)
  refine ⟨fun b s k => EReal.toReal (a0 (ix3 (Fin.ofNat 4 b) (Fin.ofNat 2048 s) (Fin.ofNat 512 k))), fun b s k => ?_⟩
  have e := real_of_abs_lt (Host.reduce_andi_all _ _ _ _ _ h0 (ix3 b s k))
  simpa using e

/-- The reference runs, leaves its arguments as they were, and it has no semaphore. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

section
open Cert.Kernel7Ideal Cert.Kernel7Ideal.Gen

variable {m : (ℓ : Loc nD τ sig) → Buf (Elt Ideal) ℓ} {c : Dev nD} {U : ℕ → ℕ → ℕ → ℝ}

theorem pt (t : Fin cfg0.N) : t.val < 4 := lt_of_lt_of_eq t.isLt N_0

theorem idx0 (t : Fin cfg0.N) : win0_0.index t = ![t.val, 0] :=
  (by decide +kernel : ∀ t : Fin grid0.N, win0_0.index t = ![t.val, 0]) t

theorem idx1 (t : Fin cfg0.N) : win0_1.index t = ![0, 0, 0] :=
  (by decide +kernel : ∀ t : Fin grid0.N, win0_1.index t = ![0, 0, 0]) t

theorem idx2 (t : Fin cfg0.N) : win0_2.index t = ![0, 0] :=
  (by decide +kernel : ∀ t : Fin grid0.N, win0_2.index t = ![0, 0]) t

theorem idx3 (t : Fin cfg0.N) : win0_3.index t = ![t.val, 0] :=
  (by decide +kernel : ∀ t : Fin grid0.N, win0_3.index t = ![t.val, 0]) t

/-- The weights of the launch. -/
abbrev wArg (m : (ℓ : Loc nD τ sig) → Buf (Elt Ideal) ℓ) (c : Dev nD) : FVec Ideal S4x128x128 .f32 :=
  m ((c : Thread nD τ).loc main_arg1)

/-- The scale of the launch. -/
abbrev sArg (m : (ℓ : Loc nD τ sig) → Buf (Elt Ideal) ℓ) (c : Dev nD) : FVec Ideal S1x512 .f32 :=
  m ((c : Thread nD τ).loc main_arg2)

theorem block_u (hu : ∀ (b : Fin 4) (s : Fin 2048) (k : Fin 512),
      (m ((c : Thread nD τ).loc main_arg0) : FVec Ideal S4x2048x512 .f32) (ix3 b s k) = ((U b.val s.val k.val : ℝ) : EReal))
    (t : Fin cfg0.N) (s : Fin 2048) (k : Fin 512) :
    (iblk m c 0 t : FVec Ideal S2048x512 .bf16) (ix2 s k) = ((U t.val s.val k.val : ℝ) : EReal) := by
  have ht := pt t
  have hs := s.isLt
  have h1 : (iblk m c 0 t : FVec Ideal S2048x512 .bf16) (ix2 s k) = (V m c main_v1 : FVec Ideal S8192x512 .bf16)
      (ix2 (⟨2048 * t.val + s.val, by omega⟩ : Fin 8192) k) := by
    blk_point [iblk, idx0 t]
  rw [h1, ← hu ⟨t.val, ht⟩ s k]
  entry_read
  pointwise
  refine congrArg (m (c, Proc.tc.devRef main_arg0)) ?_
  exact (ix3_inj _ _ _ _ _ _).mpr ⟨Fin.ext (by show (2048 * t.val + s.val) / 2048 = t.val; omega),
    Fin.ext (by show (2048 * t.val + s.val) % 2048 = s.val; omega), rfl⟩

theorem block_w (t : Fin cfg0.N) (g : Fin 4) (x e : Fin 128) :
    (iblk m c 1 t : FVec Ideal S4x128x128 .f32) (ix3 g x e) = wArg m c (ix3 g x e) := by
  have h1 : (iblk m c 1 t : FVec Ideal S4x128x128 .f32) (ix3 g x e) = (V m c main_arg1 : FVec Ideal S4x128x128 .f32)
      (ix3 g x e) := by
    blk_point [iblk, idx1 t]
  rw [h1]
  entry_read
  rfl

theorem block_s (t : Fin cfg0.N) (k : Fin 512) :
    (iblk m c 2 t : FVec Ideal S1x512 .f32) (ix2 0 k) = sArg m c (ix2 0 k) := by
  have h1 : (iblk m c 2 t : FVec Ideal S1x512 .f32) (ix2 0 k) = (V m c main_arg2 : FVec Ideal S1x512 .f32)
      (ix2 0 k) := by
    blk_point [iblk, idx2 t]
  rw [h1]
  entry_read
  rfl

/-- The group of a channel. -/
def grp (k : ℕ) : Fin 4 := Fin.ofNat 4 (k / 128)

/-- A channel's place in its group. -/
def plc (k : ℕ) : Fin 128 := Fin.ofNat 128 k

theorem chan_split {k : ℕ} (h : k < 512) : (⟨k, h⟩ : Fin 512) = chan (grp k) (plc k) := by
  refine Fin.ext ?_
  show k = 128 * ((k / 128) % 4) + k % 128
  omega

/-- The kernel's result, its rows counted through all sequences. -/
theorem final (hu : ∀ (b : Fin 4) (s : Fin 2048) (k : Fin 512),
      (m ((c : Thread nD τ).loc main_arg0) : FVec Ideal S4x2048x512 .f32) (ix3 b s k) = ((U b.val s.val k.val : ℝ) : EReal)) :
    (dats m 0 c).arrAt 3 cfg0.N
      = ((fun i => entry (wArg m c) (sArg m c) (U ((i 0).val / 2048)) (grp (i 1).val) ((i 0).val % 2048) (plc (i 1).val))
        : FVec Ideal S8192x512 .bf16) := by
  refine (dats m 0 c).arrAt_eq_of_covers 3 _ (by decide +kernel) fun t hf y => ?_
  blk_simp
  rw [after0_3]
  have h0 : (y 0).val < 2048 := (y 0).isLt
  have e : y = ix2 (y 0) (chan (grp (y 1).val) (plc (y 1).val)) :=
    (eq_ix2 y).trans (congrArg (ix2 (y 0)) (chan_split (y 1).isLt))
  refine (congrArg _ e).trans ((out_at _ _ (block_u hu t) _ _ _).trans ?_)
  rw [idx3 t]
  show _ = entry (wArg m c) (sArg m c) (U ((t.val * 2048 + (y 0).val) / 2048)) (grp (0 * 512 + (y 1).val))
    ((t.val * 2048 + (y 0).val) % 2048) (plc (0 * 512 + (y 1).val))
  rw [Nat.zero_mul, Nat.zero_add, show (t.val * 2048 + (y 0).val) / 2048 = t.val by omega,
    show (t.val * 2048 + (y 0).val) % 2048 = (y 0).val by omega]
  unfold entry
  rw [block_s t]
  exact congrArg (· * _) (Finset.sum_congr rfl fun x _ => congrArg (_ * ·) (block_w t _ _ _))

end

/-- The idealized kernel and the reference give the same result. -/
theorem values : Cert.algebraic_Kernel7Ideal_Reference7Ideal_pre_finite7 := by
  intro m ρ m' ρ' hpre hargs
  refine ⟨_, Cert.Kernel7Ideal.Value.run_blocks m ρ,
    (θ_run Cert.Reference7Ideal.defs _ _).mono (fun r h c => ?_) (Cert.Reference7Ideal.Value.run (F := Ideal) m' ρ')⟩
  obtain ⟨h79, hkeep⟩ := h c
  obtain ⟨e0, e1, e2⟩ := hargs c
  obtain ⟨U, hu⟩ := reals_of_finite _ _ _ (hpre c)
  have hu' := hu
  rw [← e0] at hu'
  refine ⟨h79.trans ?_, hkeep⟩
  refine (Cert.Reference7Ideal.Read.val_main_v79_eq _ _).trans (Eq.trans (funext fun i => ?_) (final hu).symm)
  obtain ⟨r, k, rfl⟩ : ∃ r k, i = ix2 r k := ⟨i 0, i 1, (ix2_eta i).symm⟩
  have e : (ix2 r k : Cert.Kernel7Ideal.S8192x512.Idx) = ix2 r (chan (grp k.val) (plc k.val)) :=
    congrArg (ix2 r) (chan_split k.isLt)
  refine (congrArg _ e).trans ((ref_flat hu' _ _ r _ _).trans ?_)
  rw [e1, e2]
  rfl

end Cert.PoolProof
end
-- ==== Proof.ProjTile.lean ====
/-
  What one grid point of the forward projection leaves in its four blocks: the normalised rows times the weights, the
  first six hundred and forty columns turned by the rotary embedding.
-/
module

public import proofs.«01_k».proof.Proof.Stores
public import proofs.«01_k».proof.Proof.Gen.Kernel8Ideal.Value
public import Idealize.ShloMosaic.Lib.Pointwise
public import Idealize.ShloMosaic.Lib.KernelVsHost

@[expose] public section

set_option maxRecDepth 16384

noncomputable section

namespace Cert.ProjProof

open Idealize.ShloMosaic Idealize.ShloMosaic.TcCoe Cert.Kernel8Ideal Cert.Kernel8Ideal.Gen Idealize.SL.Sem
open Cert.Proof (chan canon_cols)

/-- One over the root of a row's mean square. -/
def rinv (X : Fin 1024 → EReal) : EReal :=
  Ideal.rsqrt (Ideal.div (∑ d : Fin 1024, X d * X d) (Ideal.ofBits .f32 0x44800000#32) + Ideal.ofBits .f32 0x358637BD#32)

/-- One column of the projection of a normalised and scaled row. -/
def prj (X G : Fin 1024 → EReal) (W : ℕ → Fin 1024 → EReal) (k : ℕ) : EReal :=
  ∑ d : Fin 1024, X d * rinv X * G d * W k d

/-- A column turned: the columns go in pairs, thirty-two apart. -/
def rot (p co si : ℕ → EReal) (k : ℕ) : EReal :=
  if k % 64 < 32 then p k * co (k % 32) - p (k + 32) * si (k % 32) else p k * co (k % 32) + p (k - 32) * si (k % 32)

theorem proj_at (x : FVec Ideal S1024x1024 .f32) (g : FVec Ideal S1x1024 .f32) (w : FVec Ideal S1280x1024 .bf16)
    (t : Fin 1024) (j : Fin 1280) :
    k0_pay5 (F := Ideal) x g w (ix2 t j)
      = ∑ d : Fin 1024, x (ix2 t d) * rinv (fun d => x (ix2 t d)) * g (ix2 0 d) * w (ix2 j d) := by
  unfold rinv
  pointwise [k0_pay5]

/-- The sign of a lane's partner. -/
def low : IVec S1024x128 1 :=
  cmpi .slt (andi (iota .tc S1024x128 32 [1] iota_S1024x128_d1_w32) (broadcast S1024x128 63#32)) (broadcast S1024x128 32#32)

/-- One block of columns turned. -/
def turn (v c s : FVec Ideal S1024x128 .f32) : FVec Ideal S1024x128 .f32 :=
  addf (mulf v c) (mulf (select low (dynamicRotate 1 96#32 none v rotates_S1024x128_d1)
    (dynamicRotate 1 32#32 none v rotates_S1024x128_d1)) s)

theorem low_word : ∀ l : Fin 128, IntOp.cmpi .slt (IntOp.andi (BitVec.ofNat 32 l.val) 63#32) 32#32
    = if l.val % 64 < 32 then 1#1 else 0#1 := by decide +kernel

theorem roll_at (k : ℕ) (hk : k < 128) (x : FVec Ideal S1024x128 .f32) (t : Fin 1024) (l : Fin 128) (h) :
    dynamicRotate 1 (BitVec.ofNat 32 k) none x h (ix2 t l)
      = x (ix2 t ⟨(l.val + 128 - k) % 128, Nat.mod_lt _ (by decide)⟩) := by
  refine dynamicRotate_apply 1 _ x h _ _ fun b => ?_
  match b with
  | ⟨0, _⟩ => rfl
  | ⟨1, _⟩ =>
    show (l.val + 128 - k) % 128 = (l.val + 128 - (BitVec.ofNat 32 k).toNat % 128) % 128
    rw [WordCmp.toNat_ofNat_of_lt (by omega), Nat.mod_eq_of_lt hk]

theorem turn_at {v c s : FVec Ideal S1024x128 .f32} {p co si : ℕ → EReal} {n : ℕ} (t : Fin 1024)
    (hv : ∀ l : Fin 128, v (ix2 t l) = p (128 * n + l.val))
    (hc : ∀ l : Fin 128, c (ix2 t l) = co (l.val % 32))
    (hs : ∀ l : Fin 128, s (ix2 t l) = if l.val % 64 < 32 then -si (l.val % 32) else si (l.val % 32)) (l : Fin 128) :
    turn v c s (ix2 t l) = rot p co si (128 * n + l.val) := by
  have hl := l.isLt
  have e : turn v c s (ix2 t l) = v (ix2 t l) * c (ix2 t l)
      + Scalar.select (IntOp.cmpi .slt (IntOp.andi (BitVec.ofNat 32 l.val) 63#32) 32#32)
          (dynamicRotate 1 (BitVec.ofNat 32 96) none v rotates_S1024x128_d1 (ix2 t l))
          (dynamicRotate 1 (BitVec.ofNat 32 32) none v rotates_S1024x128_d1 (ix2 t l)) * s (ix2 t l) := by
    pointwise [turn, low]
  rw [e, low_word, roll_at 96 (by decide), roll_at 32 (by decide), hv, hc, hs]
  unfold rot
  rw [show (128 * n + l.val) % 64 = l.val % 64 by omega, show (128 * n + l.val) % 32 = l.val % 32 by omega]
  by_cases h : l.val % 64 < 32
  · rw [if_pos h, if_pos h, if_pos h]
    show _ + v (ix2 t _) * _ = _
    rw [hv, mul_neg, sub_eq_add_neg,
      show 128 * n + (l.val + 128 - 96) % 128 = 128 * n + l.val + 32 by omega]
  · rw [if_neg h, if_neg h, if_neg h]
    show _ + v (ix2 t _) * _ = _
    rw [hv, show 128 * n + (l.val + 128 - 32) % 128 = 128 * n + l.val - 32 by omega]

end Cert.ProjProof
end
-- ==== Proof.ProjOut.lean ====
/-
  The projection kernel's four result blocks: a row's turned and scaled queries, its turned keys, its values and its
  pooling input, from the row's projection.
-/
module

public import proofs.«01_k».proof.Proof.ProjTile
public import Idealize.ShloMosaic.Lib.Pointwise

@[expose] public section

set_option maxRecDepth 16384

noncomputable section

namespace Cert.ProjProof

open Idealize.ShloMosaic Idealize.ShloMosaic.TcCoe Cert.Kernel8Ideal Cert.Kernel8Ideal.Gen Idealize.SL.Sem
open Cert.Proof (chan canon_cols chan_eta)

/-- The queries' scale. -/
def eighth : EReal := Ideal.ofBits .f32 0x3E000000#32

theorem slice_at {v : FVec Ideal S1024x1280 .f32} {p : ℕ → EReal} {t : Fin 1024} (hp : ∀ j : Fin 1280, v (ix2 t j) = p j.val)
    (o n : ℕ) (ho : o = 128 * n) (hn : n < 10) (sl : S1024x1280.Slices ![0, o] S1024x128) (l : Fin 128) :
    extractStridedSlice S1024x128 ![0, o] v sl (ix2 t l) = p (128 * n + l.val) := by
  have hl := l.isLt
  refine Eq.trans (congrArg v ?_) (hp ⟨128 * n + l.val, by omega⟩)
  refine funext fun a => Fin.ext ?_
  match a with
  | ⟨0, _⟩ => show 0 + t.val = t.val; omega
  | ⟨1, _⟩ => show o + l.val = 128 * n + l.val; omega

/-- One block of the queries. -/
def qBlock (y c s : FVec Ideal S1024x128 .f32) : FVec Ideal S1024x128 .bf16 :=
  truncf .bf16 (mulf (turn y c s) (broadcast S1024x128 (Scalar.ofBits .f32 0x3E000000#32 : Ideal .f32))) bitsLt_bf16_f32

/-- What the blocks hold at one row. -/
structure RowOf (x0 : FVec Ideal S1024x1024 .f32) (x1 : FVec Ideal S1x1024 .f32) (x2 : FVec Ideal S1280x1024 .bf16)
    (x3 x4 : FVec Ideal S1024x128 .f32) (t : Fin 1024) (p co si : ℕ → EReal) : Prop where
  hp : ∀ j : Fin 1280, k0_pay5 (F := Ideal) x0 x1 x2 (ix2 t j) = p j.val
  hc : ∀ l : Fin 128, x3 (ix2 t l) = co (l.val % 32)
  hs : ∀ l : Fin 128, x4 (ix2 t l) = if l.val % 64 < 32 then -si (l.val % 32) else si (l.val % 32)

variable {x0 : FVec Ideal S1024x1024 .f32} {x1 : FVec Ideal S1x1024 .f32} {x2 : FVec Ideal S1280x1024 .bf16}
  {x3 x4 : FVec Ideal S1024x128 .f32} {t : Fin 1024} {p co si : ℕ → EReal}

theorem qBlock_at (H : RowOf x0 x1 x2 x3 x4 t p co si) (o n : ℕ) (ho : o = 128 * n) (hn : n < 10)
    (sl : S1024x1280.Slices ![0, o] S1024x128) (l : Fin 128) :
    qBlock (extractStridedSlice S1024x128 ![0, o] (k0_pay5 (F := Ideal) x0 x1 x2) sl) x3 x4 (ix2 t l)
      = rot p co si (128 * n + l.val) * eighth := by
  rw [← turn_at (n := n) t (slice_at H.hp o n ho hn sl) H.hc H.hs l]
  rfl

theorem ld_x : View.ld (Val := Elt Ideal) (e' := .f32) x0 r0_0 = x0 := by unfold r0_0; exact View.ld_unit_zero (by decide) _ _

theorem ld_g : View.ld (Val := Elt Ideal) (e' := .f32) x1 r0_1 = x1 := by unfold r0_1; exact View.ld_unit_zero (by decide) _ _

theorem ld_w : View.ld (Val := Elt Ideal) (e' := .bf16) x2 r0_2 = x2 := by unfold r0_2; exact View.ld_unit_zero (by decide) _ _

theorem ld_t : View.ld (Val := Elt Ideal) (e' := .f32) x3 r0_3 = x3 := by unfold r0_3; exact View.ld_unit_zero (by decide) _ _

theorem proj_load : k0_pay14 (F := Ideal) x0 x1 x2 x3 x4 = k0_pay5 x0 x1 x2 := by
  unfold k0_pay14
  rw [ld_x, ld_g, ld_w]

theorem cos_load : k0_pay15 (F := Ideal) x0 x1 x2 x3 x4 = k0_pay6 x3 := by
  unfold k0_pay15
  rw [ld_t]

theorem sin_load : k0_pay16 (F := Ideal) x0 x1 x2 x3 x4 = k0_pay7 x4 := by
  unfold k0_pay16
  rw [ld_t]

theorem out5_at (H : RowOf x0 x1 x2 x3 x4 t p co si) (k : Fin 512) :
    out0_5 (F := Ideal) x0 x1 x2 x3 x4 (ix2 t k) = rot p co si k.val * eighth := by
  unfold out0_5
  rw [proj_load, cos_load, sin_load, ld_x, ld_g, ld_w, ld_t, ld_t, ← chan_eta k]
  generalize (⟨k.val / 128, _⟩ : Fin 4) = g
  generalize (⟨k.val % 128, _⟩ : Fin 128) = l
  refine (canon_cols (Val := Elt Ideal) (e := .bf16) _ _ _ _
    ![qBlock (extractStridedSlice S1024x128 ![0, 0] (k0_pay5 (F := Ideal) x0 x1 x2) slices_S1024x1280_o0_0_S1024x128) x3 x4,
      qBlock (extractStridedSlice S1024x128 ![0, 128] (k0_pay5 (F := Ideal) x0 x1 x2) slices_S1024x1280_o0_128_S1024x128) x3 x4,
      qBlock (extractStridedSlice S1024x128 ![0, 256] (k0_pay5 (F := Ideal) x0 x1 x2) slices_S1024x1280_o0_256_S1024x128) x3 x4,
      qBlock (extractStridedSlice S1024x128 ![0, 384] (k0_pay5 (F := Ideal) x0 x1 x2) slices_S1024x1280_o0_384_S1024x128) x3 x4]
    _ _ _ _ _ g t l ?_ ?_ ?_ ?_).trans ?_
  · unfold k0_pay1 k0_pay13 k0_pay12 k0_pay11 k0_pay7 k0_pay6; simp only [shapeCast_self]; rfl
  · unfold k0_pay10 k0_pay7 k0_pay6; simp only [shapeCast_self]; rfl
  · unfold k0_pay9 k0_pay7 k0_pay6; simp only [shapeCast_self]; rfl
  · unfold k0_pay8 k0_pay7 k0_pay6; simp only [shapeCast_self]; rfl
  · match g with
    | ⟨0, _⟩ => exact qBlock_at H 0 0 rfl (by decide) _ l
    | ⟨1, _⟩ => exact qBlock_at H 128 1 rfl (by decide) _ l
    | ⟨2, _⟩ => exact qBlock_at H 256 2 rfl (by decide) _ l
    | ⟨3, _⟩ => exact qBlock_at H 384 3 rfl (by decide) _ l

theorem out6_at (H : RowOf x0 x1 x2 x3 x4 t p co si) (l : Fin 128) :
    out0_6 (F := Ideal) x0 x1 x2 x3 x4 (ix2 t l) = rot p co si (512 + l.val) := by
  have e : out0_6 (F := Ideal) x0 x1 x2 x3 x4
      = k0_pay2 (F := Ideal) (k0_pay5 x0 x1 x2) (k0_pay6 x3) (k0_pay7 x4) := by
    frame_out
    rw [proj_load, cos_load, sin_load]
  have e' : k0_pay2 (F := Ideal) (k0_pay5 x0 x1 x2) (k0_pay6 x3) (k0_pay7 x4)
      = truncf .bf16 (turn (extractStridedSlice S1024x128 ![0, 512] (k0_pay5 (F := Ideal) x0 x1 x2)
        slices_S1024x1280_o0_512_S1024x128) x3 x4) bitsLt_bf16_f32 := by
    unfold k0_pay2 k0_pay7 k0_pay6; simp only [shapeCast_self]; rfl
  rw [e, e']
  exact turn_at (n := 4) t (slice_at H.hp 512 4 rfl (by decide) _) H.hc H.hs l

theorem out7_at (H : RowOf x0 x1 x2 x3 x4 t p co si) (l : Fin 128) :
    out0_7 (F := Ideal) x0 x1 x2 x3 x4 (ix2 t l) = p (640 + l.val) := by
  have e : out0_7 (F := Ideal) x0 x1 x2 x3 x4 = k0_pay3 (F := Ideal) (k0_pay5 x0 x1 x2) := by
    frame_out
    rw [proj_load]
  rw [e]
  exact slice_at H.hp 640 5 rfl (by decide) slices_S1024x1280_o0_640_S1024x128 l

theorem out8_at (H : RowOf x0 x1 x2 x3 x4 t p co si) (k : Fin 512) :
    out0_8 (F := Ideal) x0 x1 x2 x3 x4 (ix2 t k) = p (768 + k.val) := by
  have hk := k.isLt
  have e : out0_8 (F := Ideal) x0 x1 x2 x3 x4 = k0_pay4 (F := Ideal) (k0_pay5 x0 x1 x2) := by
    frame_out
    rw [proj_load]
  rw [e]
  refine Eq.trans (congrArg (k0_pay5 (F := Ideal) x0 x1 x2) ?_) (H.hp ⟨768 + k.val, by omega⟩)
  refine funext fun a => Fin.ext ?_
  match a with
  | ⟨0, _⟩ => show 0 + t.val = t.val; omega
  | ⟨1, _⟩ => rfl

end Cert.ProjProof
end
-- ==== Proof.ProjRef.lean ====
/-
  The projection's reference, entry by entry: the projection of a normalised row, its turned and scaled queries, its turned
  keys, its values and its pooling input.
-/
module

public import proofs.«01_k».proof.Proof.ProjOut
public import proofs.«01_k».proof.Proof.Gen.Reference8Ideal.Read
public import Idealize.ShloMosaic.Lib.Pipeline.Value
public import Idealize.ShloMosaic.Lib.Pointwise

@[expose] public section

set_option maxRecDepth 16384

noncomputable section

namespace Cert.ProjProof

open Idealize.ShloMosaic Idealize.ShloMosaic.TcCoe Cert.Reference8Ideal Cert.Reference8Ideal.Gen Cert.Reference8Ideal.Read
open Idealize.SL.Sem

variable (x0 : FVec Ideal S4x2048x1024 .f32) (x1 : FVec Ideal S1x1024 .f32) (x2 : FVec Ideal S1024x1280 .f32)

/-- One row's projection. -/
def pr (b : Fin 4) (s : Fin 2048) : ℕ → EReal :=
  prj (fun d => x0 (ix3 b s d)) (fun d => x1 (ix2 0 d)) (fun k d => x2 (ix2 d (Fin.ofNat 1280 k)))

/-- One position's cosines. -/
def co (s : Fin 2048) (l : ℕ) : EReal := val_main_v34 (F := Ideal) (ix2 s (Fin.ofNat 32 l))

/-- One position's sines. -/
def si (s : Fin 2048) (l : ℕ) : EReal := val_main_v36 (F := Ideal) (ix2 s (Fin.ofNat 32 l))

theorem ofNat_val {n : ℕ} [NeZero n] (j : Fin n) : Fin.ofNat n j.val = j := Fin.ext (Nat.mod_eq_of_lt j.isLt)

theorem ref_proj (b : Fin 4) (s : Fin 2048) (j : Fin 1280) :
    val_main_v14 (F := Ideal) x0 x1 x2 (ix3 b s j) = pr x0 x1 x2 b s j.val := by
  have h8 : val_main_v8 (F := Ideal) x0 (ix3 b s 0) = rinv (fun d => x0 (ix3 b s d)) := by
    unfold rinv
    pointwise [val_main_v8, val_main_v7, val_main_v6, val_main_v5, val_main_v4, val_main_v3, val_main_v2, val_main_v1, val_main_cst,
      val_main_cst_0, val_main_cst_1]
  have h13 (d : Fin 1024) : val_main_v13 (F := Ideal) x0 x1 (ix3 b s d)
      = x0 (ix3 b s d) * val_main_v8 (F := Ideal) x0 (ix3 b s 0) * x1 (ix2 0 d) := by
    unfold val_main_v13 val_main_v10 val_main_v9
    generalize val_main_v8 (F := Ideal) x0 = y
    pointwise [val_main_v12, val_main_v11, val_main_v0]
  have h14 : val_main_v14 (F := Ideal) x0 x1 x2 (ix3 b s j)
      = ∑ d : Fin 1024, val_main_v13 (F := Ideal) x0 x1 (ix3 b s d) * x2 (ix2 d j) := by
    unfold val_main_v14
    generalize val_main_v13 (F := Ideal) x0 x1 = y
    pointwise
  rw [h14]
  unfold pr prj
  simp only [h13, h8, ofNat_val]

theorem ref_q (b : Fin 4) (s : Fin 2048) (h : Fin 8) (e : Fin 64) :
    val_main_v16 (F := Ideal) x0 x1 x2 (ix4 b s h e) = pr x0 x1 x2 b s (64 * h.val + e.val) := by
  have hb := b.isLt
  have hs := s.isLt
  have hh := h.isLt
  have he := e.isLt
  rw [val_main_v16_apply, val_main_v15_apply]
  refine Eq.trans (congrArg _ ?_) (ref_proj x0 x1 x2 b s ⟨64 * h.val + e.val, by omega⟩)
  refine funext fun a => Fin.ext ?_
  match a with
  | ⟨0, _⟩ => show (((b.val * 2048 + s.val) * 8 + h.val) * 64 + e.val) / 1048576 = b.val; omega
  | ⟨1, _⟩ => show (((b.val * 2048 + s.val) * 8 + h.val) * 64 + e.val) / 512 % 2048 = s.val; omega
  | ⟨2, _⟩ => show (((b.val * 2048 + s.val) * 8 + h.val) * 64 + e.val) % 512 = 64 * h.val + e.val; omega

theorem ref_k (b : Fin 4) (s : Fin 2048) (h : Fin 2) (e : Fin 64) :
    val_main_v18 (F := Ideal) x0 x1 x2 (ix4 b s h e) = pr x0 x1 x2 b s (512 + (64 * h.val + e.val)) := by
  have hb := b.isLt
  have hs := s.isLt
  have hh := h.isLt
  have he := e.isLt
  rw [val_main_v18_apply, val_main_v17_apply]
  refine Eq.trans (congrArg _ ?_) (ref_proj x0 x1 x2 b s ⟨512 + (64 * h.val + e.val), by omega⟩)
  refine funext fun a => Fin.ext ?_
  match a with
  | ⟨0, _⟩ => show (((b.val * 2048 + s.val) * 2 + h.val) * 64 + e.val) / 262144 = b.val; omega
  | ⟨1, _⟩ => show (((b.val * 2048 + s.val) * 2 + h.val) * 64 + e.val) / 128 % 2048 = s.val; omega
  | ⟨2, _⟩ => show 512 + (((b.val * 2048 + s.val) * 2 + h.val) * 64 + e.val) % 128 = 512 + (64 * h.val + e.val); omega

theorem ix4_out {n₀ n₁ n₂ n₃ : ℕ} (f : (⟨4, ![n₀, n₁, n₂, n₃]⟩ : Shape).Idx) : f = ix4 (f 0) (f 1) (f 2) (f 3) := (ix4_eta f).symm

theorem ref_qlo (b : Fin 4) (s : Fin 2048) (h : Fin 8) (e : Fin 32) :
    val_main_v44 (F := Ideal) x0 x1 x2 (ix4 b s h e)
      = pr x0 x1 x2 b s (64 * h.val + e.val) * co s e.val - pr x0 x1 x2 b s (64 * h.val + (32 + e.val)) * si s e.val := by
  have he := e.isLt
  rw [val_main_v44_apply, val_main_v41_apply, val_main_v43_apply, val_main_v38_apply, val_main_v39_apply,
    val_main_v40_apply, val_main_v42_apply, val_main_v35_apply, val_main_v37_apply]
  have h1 : idx_main_v38 (ix4 b s h e) = ix4 b s h (⟨e.val, by omega⟩ : Fin 64) := ix4_out _
  have h2 : idx_main_v39 (ix4 b s h e) = ix4 b s h (⟨32 + e.val, by omega⟩ : Fin 64) := ix4_out _
  rw [h1, h2, ref_q, ref_q]
  unfold co si
  rw [ofNat_val]
  rw [show idx_main_v35 (idx_main_v40 (ix4 b s h e)) = ix2 s e from (ix2_eta _).symm,
    show idx_main_v37 (idx_main_v42 (ix4 b s h e)) = ix2 s e from (ix2_eta _).symm]
  rfl

theorem ref_qhi (b : Fin 4) (s : Fin 2048) (h : Fin 8) (e : Fin 32) :
    val_main_v49 (F := Ideal) x0 x1 x2 (ix4 b s h e)
      = pr x0 x1 x2 b s (64 * h.val + (32 + e.val)) * co s e.val + pr x0 x1 x2 b s (64 * h.val + e.val) * si s e.val := by
  have he := e.isLt
  rw [val_main_v49_apply, val_main_v46_apply, val_main_v48_apply, val_main_v38_apply, val_main_v39_apply,
    val_main_v45_apply, val_main_v47_apply, val_main_v35_apply, val_main_v37_apply]
  have h1 : idx_main_v38 (ix4 b s h e) = ix4 b s h (⟨e.val, by omega⟩ : Fin 64) := ix4_out _
  have h2 : idx_main_v39 (ix4 b s h e) = ix4 b s h (⟨32 + e.val, by omega⟩ : Fin 64) := ix4_out _
  rw [h1, h2, ref_q, ref_q]
  unfold co si
  rw [ofNat_val]
  rw [show idx_main_v35 (idx_main_v45 (ix4 b s h e)) = ix2 s e from (ix2_eta _).symm,
    show idx_main_v37 (idx_main_v47 (ix4 b s h e)) = ix2 s e from (ix2_eta _).symm]
  rfl

/-- The second pair of tables is the first. -/
theorem cos_again : val_main_v65 (F := Ideal) = val_main_v34 := rfl

theorem sin_again : val_main_v67 (F := Ideal) = val_main_v36 := rfl

theorem ref_klo (b : Fin 4) (s : Fin 2048) (h : Fin 2) (e : Fin 32) :
    val_main_v75 (F := Ideal) x0 x1 x2 (ix4 b s h e)
      = pr x0 x1 x2 b s (512 + (64 * h.val + e.val)) * co s e.val
        - pr x0 x1 x2 b s (512 + (64 * h.val + (32 + e.val))) * si s e.val := by
  have he := e.isLt
  rw [val_main_v75_apply, val_main_v72_apply, val_main_v74_apply, val_main_v69_apply, val_main_v70_apply,
    val_main_v71_apply, val_main_v73_apply, val_main_v66_apply, val_main_v68_apply]
  have h1 : idx_main_v69 (ix4 b s h e) = ix4 b s h (⟨e.val, by omega⟩ : Fin 64) := ix4_out _
  have h2 : idx_main_v70 (ix4 b s h e) = ix4 b s h (⟨32 + e.val, by omega⟩ : Fin 64) := ix4_out _
  rw [h1, h2, ref_k, ref_k, cos_again, sin_again]
  unfold co si
  rw [ofNat_val]
  rw [show idx_main_v66 (idx_main_v71 (ix4 b s h e)) = ix2 s e from (ix2_eta _).symm,
    show idx_main_v68 (idx_main_v73 (ix4 b s h e)) = ix2 s e from (ix2_eta _).symm]
  rfl

theorem ref_khi (b : Fin 4) (s : Fin 2048) (h : Fin 2) (e : Fin 32) :
    val_main_v80 (F := Ideal) x0 x1 x2 (ix4 b s h e)
      = pr x0 x1 x2 b s (512 + (64 * h.val + (32 + e.val))) * co s e.val
        + pr x0 x1 x2 b s (512 + (64 * h.val + e.val)) * si s e.val := by
  have he := e.isLt
  rw [val_main_v80_apply, val_main_v77_apply, val_main_v79_apply, val_main_v69_apply, val_main_v70_apply,
    val_main_v76_apply, val_main_v78_apply, val_main_v66_apply, val_main_v68_apply]
  have h1 : idx_main_v69 (ix4 b s h e) = ix4 b s h (⟨e.val, by omega⟩ : Fin 64) := ix4_out _
  have h2 : idx_main_v70 (ix4 b s h e) = ix4 b s h (⟨32 + e.val, by omega⟩ : Fin 64) := ix4_out _
  rw [h1, h2, ref_k, ref_k, cos_again, sin_again]
  unfold co si
  rw [ofNat_val]
  rw [show idx_main_v66 (idx_main_v76 (ix4 b s h e)) = ix2 s e from (ix2_eta _).symm,
    show idx_main_v68 (idx_main_v78 (ix4 b s h e)) = ix2 s e from (ix2_eta _).symm]
  rfl

theorem rot_lo {p c z : ℕ → EReal} {k e : ℕ} (h : k % 64 = e) (he : e < 32) :
    rot p c z k = p k * c e - p (k + 32) * z e := by
  unfold rot
  rw [if_pos (by omega), show k % 32 = e by omega]

theorem rot_hi {p c z : ℕ → EReal} {k e : ℕ} (h : k % 64 = 32 + e) (he : e < 32) :
    rot p c z k = p k * c e + p (k - 32) * z e := by
  unfold rot
  rw [if_neg (by omega), show k % 32 = e by omega]

theorem ref_turned_q (b : Fin 4) (s : Fin 2048) (h : Fin 8) (e : Fin 64) :
    val_main_v50 (F := Ideal) x0 x1 x2 (ix4 b s h e) = rot (pr x0 x1 x2 b s) (co s) (si s) (64 * h.val + e.val) := by
  have he := e.isLt
  unfold val_main_v50
  by_cases h1 : e.val < 32
  · refine (concatenate_pair_apply_left (t := S4x2048x8x64) (s₁ := S4x2048x8x32) (s₂ := S4x2048x8x32) 3 (val_main_v44 (F := Ideal) x0 x1 x2)
      (val_main_v49 (F := Ideal) x0 x1 x2) concatenates_S4x2048x8x32_S4x2048x8x32_S4x2048x8x64_d3 (ix4 b s h e) rfl (ix4 b s h (⟨e.val, h1⟩ : Fin 32)) fun a => ?_).trans ?_
    · match a with
      | ⟨0, _⟩ => rfl
      | ⟨1, _⟩ => rfl
      | ⟨2, _⟩ => rfl
      | ⟨3, _⟩ => rfl
    · rw [ref_qlo, rot_lo (e := e.val) (by omega) h1, show 64 * h.val + e.val + 32 = 64 * h.val + (32 + e.val) by omega]
  · obtain ⟨f, hf⟩ : ∃ f, e.val = 32 + f := ⟨e.val - 32, by omega⟩
    have hf' : f < 32 := by omega
    refine (concatenate_apply_piece (t := S4x2048x8x64) 3 [⟨S4x2048x8x32, val_main_v44 (F := Ideal) x0 x1 x2⟩, ⟨S4x2048x8x32, val_main_v49 (F := Ideal) x0 x1 x2⟩]
      concatenates_S4x2048x8x32_S4x2048x8x32_S4x2048x8x64_d3 (ix4 b s h e) 1 (show 1 < 2 by omega) S4x2048x8x32 (val_main_v49 (F := Ideal) x0 x1 x2) rfl rfl 32 rfl (ix4 b s h (⟨f, hf'⟩ : Fin 32))
      (fun a ha => ?_) hf.symm).trans ?_
    · match a with
      | ⟨0, _⟩ => rfl
      | ⟨1, _⟩ => rfl
      | ⟨2, _⟩ => rfl
      | ⟨3, _⟩ => exact absurd rfl ha
    · rw [ref_qhi, rot_hi (e := f) (by omega) hf', hf, show 64 * h.val + (32 + f) - 32 = 64 * h.val + f by omega]

theorem ref_turned_k (b : Fin 4) (s : Fin 2048) (h : Fin 2) (e : Fin 64) :
    val_main_v81 (F := Ideal) x0 x1 x2 (ix4 b s h e)
      = rot (pr x0 x1 x2 b s) (co s) (si s) (512 + (64 * h.val + e.val)) := by
  have he := e.isLt
  unfold val_main_v81
  by_cases h1 : e.val < 32
  · refine (concatenate_pair_apply_left (t := S4x2048x2x64) (s₁ := S4x2048x2x32) (s₂ := S4x2048x2x32) 3 (val_main_v75 (F := Ideal) x0 x1 x2)
      (val_main_v80 (F := Ideal) x0 x1 x2) concatenates_S4x2048x2x32_S4x2048x2x32_S4x2048x2x64_d3 (ix4 b s h e) rfl (ix4 b s h (⟨e.val, h1⟩ : Fin 32)) fun a => ?_).trans ?_
    · match a with
      | ⟨0, _⟩ => rfl
      | ⟨1, _⟩ => rfl
      | ⟨2, _⟩ => rfl
      | ⟨3, _⟩ => rfl
    · rw [ref_klo, rot_lo (e := e.val) (by omega) h1,
        show 512 + (64 * h.val + e.val) + 32 = 512 + (64 * h.val + (32 + e.val)) by omega]
  · obtain ⟨f, hf⟩ : ∃ f, e.val = 32 + f := ⟨e.val - 32, by omega⟩
    have hf' : f < 32 := by omega
    refine (concatenate_apply_piece (t := S4x2048x2x64) 3 [⟨S4x2048x2x32, val_main_v75 (F := Ideal) x0 x1 x2⟩, ⟨S4x2048x2x32, val_main_v80 (F := Ideal) x0 x1 x2⟩]
      concatenates_S4x2048x2x32_S4x2048x2x32_S4x2048x2x64_d3 (ix4 b s h e) 1 (show 1 < 2 by omega) S4x2048x2x32 (val_main_v80 (F := Ideal) x0 x1 x2) rfl rfl 32 rfl (ix4 b s h (⟨f, hf'⟩ : Fin 32))
      (fun a ha => ?_) hf.symm).trans ?_
    · match a with
      | ⟨0, _⟩ => rfl
      | ⟨1, _⟩ => rfl
      | ⟨2, _⟩ => rfl
      | ⟨3, _⟩ => exact absurd rfl ha
    · rw [ref_khi, rot_hi (e := f) (by omega) hf', hf,
        show 512 + (64 * h.val + (32 + f)) - 32 = 512 + (64 * h.val + f) by omega]

/-- The sequence of a row counted through. -/
def seqOf (r : Fin 8192) : Fin 4 := ⟨r.val / 2048, by have := r.isLt; omega⟩

/-- The position of a row counted through. -/
def posOf (r : Fin 8192) : Fin 2048 := ⟨r.val % 2048, by omega⟩

theorem ref_out_q (r : Fin 8192) (k : Fin 512) : val_main_v83 (F := Ideal) x0 x1 x2 (ix2 r k)
    = rot (pr x0 x1 x2 (seqOf r) (posOf r)) (co (posOf r)) (si (posOf r)) k.val * eighth := by
  have hr := r.isLt
  have hk := k.isLt
  rw [val_main_v83_apply, val_main_v82_apply, val_main_v52_apply, val_main_v51_apply, val_main_cst_4_apply]
  have hi : idx_main_v82 (ix2 r k) = ix4 (seqOf r) (posOf r) (⟨k.val / 64, by omega⟩ : Fin 8) (⟨k.val % 64, by omega⟩ : Fin 64) := by
    refine funext fun a => Fin.ext ?_
    match a with
    | ⟨0, _⟩ => show (r.val * 512 + k.val) / 1048576 = r.val / 2048; omega
    | ⟨1, _⟩ => show (r.val * 512 + k.val) / 512 % 2048 = r.val % 2048; omega
    | ⟨2, _⟩ => show (r.val * 512 + k.val) / 64 % 8 = k.val / 64; omega
    | ⟨3, _⟩ => show (r.val * 512 + k.val) % 64 = k.val % 64; omega
  rw [hi, ref_turned_q]
  show rot _ _ _ (64 * (k.val / 64) + k.val % 64) * _ = _
  rw [show 64 * (k.val / 64) + k.val % 64 = k.val by omega]
  rfl

theorem ref_out_k (r : Fin 8192) (k : Fin 128) : val_main_v85 (F := Ideal) x0 x1 x2 (ix2 r k)
    = rot (pr x0 x1 x2 (seqOf r) (posOf r)) (co (posOf r)) (si (posOf r)) (512 + k.val) := by
  have hr := r.isLt
  have hk := k.isLt
  rw [val_main_v85_apply, val_main_v84_apply]
  have hi : idx_main_v84 (ix2 r k) = ix4 (seqOf r) (posOf r) (⟨k.val / 64, by omega⟩ : Fin 2) (⟨k.val % 64, by omega⟩ : Fin 64) := by
    refine funext fun a => Fin.ext ?_
    match a with
    | ⟨0, _⟩ => show (r.val * 128 + k.val) / 262144 = r.val / 2048; omega
    | ⟨1, _⟩ => show (r.val * 128 + k.val) / 128 % 2048 = r.val % 2048; omega
    | ⟨2, _⟩ => show (r.val * 128 + k.val) / 64 % 2 = k.val / 64; omega
    | ⟨3, _⟩ => show (r.val * 128 + k.val) % 64 = k.val % 64; omega
  rw [hi, ref_turned_k]
  show rot _ _ _ (512 + (64 * (k.val / 64) + k.val % 64)) = _
  rw [show 64 * (k.val / 64) + k.val % 64 = k.val by omega]

theorem ref_out_v (r : Fin 8192) (k : Fin 128) : val_main_v87 (F := Ideal) x0 x1 x2 (ix2 r k)
    = pr x0 x1 x2 (seqOf r) (posOf r) (640 + k.val) := by
  have hr := r.isLt
  have hk := k.isLt
  rw [val_main_v87_apply, val_main_v86_apply, val_main_v19_apply]
  have hi : idx_main_v19 (idx_main_v86 (ix2 r k)) = ix3 (seqOf r) (posOf r) (⟨640 + k.val, by omega⟩ : Fin 1280) := by
    refine funext fun a => Fin.ext ?_
    match a with
    | ⟨0, _⟩ => show (r.val * 128 + k.val) / 262144 = r.val / 2048; omega
    | ⟨1, _⟩ => show (r.val * 128 + k.val) / 128 % 2048 = r.val % 2048; omega
    | ⟨2, _⟩ => show 640 + (r.val * 128 + k.val) % 128 = 640 + k.val; omega
  rw [hi, ref_proj]
  rfl

theorem ref_out_u (r : Fin 8192) (k : Fin 512) : val_main_v89 (F := Ideal) x0 x1 x2 (ix2 r k)
    = pr x0 x1 x2 (seqOf r) (posOf r) (768 + k.val) := by
  have hr := r.isLt
  have hk := k.isLt
  rw [val_main_v89_apply, val_main_v88_apply, val_main_v20_apply]
  have hi : idx_main_v20 (idx_main_v88 (ix2 r k)) = ix3 (seqOf r) (posOf r) (⟨768 + k.val, by omega⟩ : Fin 1280) := by
    refine funext fun a => Fin.ext ?_
    match a with
    | ⟨0, _⟩ => show (r.val * 512 + k.val) / 1048576 = r.val / 2048; omega
    | ⟨1, _⟩ => show (r.val * 512 + k.val) / 512 % 2048 = r.val % 2048; omega
    | ⟨2, _⟩ => show 768 + (r.val * 512 + k.val) % 512 = 768 + k.val; omega
  rw [hi, ref_proj]
  rfl

end Cert.ProjProof
end
-- ==== Proof.ProjEntry.lean ====
/-
  The two tables the projection kernel is given: the reference's cosines four times side by side, and its sines four times
  side by side, every other copy negated.
-/
module

public import proofs.«01_k».proof.Proof.ProjRef
public import Idealize.ShloMosaic.Lib.StableHlo.RunRead
public import Idealize.ShloMosaic.Lib.Claim

@[expose] public section

set_option maxRecDepth 16384

noncomputable section

namespace Cert.ProjProof

open Idealize.ShloMosaic Idealize.ShloMosaic.TcCoe Cert.Kernel8Ideal Cert.Kernel8Ideal.Gen Idealize.SL.Sem

variable {m : (ℓ : Loc nD τ sig) → Buf (Elt Ideal) ℓ} {c : Dev nD}

/-- The table of cosines: four copies side by side. -/
theorem entry_cos : (V m c main_v15 : FVec Ideal S2048x128 .f32)
    = concatenate S2048x128 1 [⟨S2048x32, Cert.Reference8Ideal.Read.val_main_v34 (F := Ideal)⟩,
      ⟨S2048x32, Cert.Reference8Ideal.Read.val_main_v34 (F := Ideal)⟩, ⟨S2048x32, Cert.Reference8Ideal.Read.val_main_v34 (F := Ideal)⟩,
      ⟨S2048x32, Cert.Reference8Ideal.Read.val_main_v34 (F := Ideal)⟩]
      concatenates_S2048x32_S2048x32_S2048x32_S2048x32_S2048x128_d1 := by
  after_reads_simp
  rfl

/-- The table of sines: four copies side by side, every other one negated. -/
theorem entry_sin : (V m c main_v18 : FVec Ideal S2048x128 .f32)
    = (concatenate S2048x128 1 [⟨S2048x32, (Host.negf (Cert.Reference8Ideal.Read.val_main_v36 (F := Ideal)) : FVec Ideal S2048x32 .f32)⟩,
      ⟨S2048x32, Cert.Reference8Ideal.Read.val_main_v36 (F := Ideal)⟩,
      ⟨S2048x32, (Host.negf (Cert.Reference8Ideal.Read.val_main_v36 (F := Ideal)) : FVec Ideal S2048x32 .f32)⟩,
      ⟨S2048x32, Cert.Reference8Ideal.Read.val_main_v36 (F := Ideal)⟩]
      concatenates_S2048x32_S2048x32_S2048x32_S2048x32_S2048x128_d1 : FVec Ideal S2048x128 .f32) := by
  after_reads_simp
  rfl

end Cert.ProjProof
end
-- ==== Proof.ProjValue.lean ====
/-
  The projection kernel's four result arrays: every row is turned and scaled as the reference's row is.
-/
module

public import proofs.«01_k».proof.Proof.ProjEntry
public import Idealize.ShloMosaic.Lib.Claim

@[expose] public section

set_option maxRecDepth 16384

noncomputable section

namespace Cert.ProjProof

open Idealize.ShloMosaic Idealize.ShloMosaic.TcCoe Cert.Kernel8Ideal Cert.Kernel8Ideal.Gen Idealize.SL.Sem

variable {m : (ℓ : Loc nD τ sig) → Buf (Elt Ideal) ℓ} {c : Dev nD}

theorem pt (t : Fin cfg0.N) : t.val < 8 := lt_of_lt_of_eq t.isLt N_0

theorem idx0 (t : Fin cfg0.N) : win0_0.index t = ![t.val, 0] :=
  (by decide +kernel : ∀ t : Fin grid0.N, win0_0.index t = ![t.val, 0]) t

theorem idx1 (t : Fin cfg0.N) : win0_1.index t = ![0, 0] :=
  (by decide +kernel : ∀ t : Fin grid0.N, win0_1.index t = ![0, 0]) t

theorem idx2 (t : Fin cfg0.N) : win0_2.index t = ![0, 0] :=
  (by decide +kernel : ∀ t : Fin grid0.N, win0_2.index t = ![0, 0]) t

theorem idx3 (t : Fin cfg0.N) : win0_3.index t = ![t.val % 2, 0] :=
  (by decide +kernel : ∀ t : Fin grid0.N, win0_3.index t = ![t.val % 2, 0]) t

theorem idx4 (t : Fin cfg0.N) : win0_4.index t = ![t.val % 2, 0] :=
  (by decide +kernel : ∀ t : Fin grid0.N, win0_4.index t = ![t.val % 2, 0]) t

theorem idx5 (t : Fin cfg0.N) : win0_5.index t = ![t.val, 0] :=
  (by decide +kernel : ∀ t : Fin grid0.N, win0_5.index t = ![t.val, 0]) t

theorem idx6 (t : Fin cfg0.N) : win0_6.index t = ![t.val, 0] :=
  (by decide +kernel : ∀ t : Fin grid0.N, win0_6.index t = ![t.val, 0]) t

theorem idx7 (t : Fin cfg0.N) : win0_7.index t = ![t.val, 0] :=
  (by decide +kernel : ∀ t : Fin grid0.N, win0_7.index t = ![t.val, 0]) t

theorem idx8 (t : Fin cfg0.N) : win0_8.index t = ![t.val, 0] :=
  (by decide +kernel : ∀ t : Fin grid0.N, win0_8.index t = ![t.val, 0]) t

/-- The rows of the launch. -/
abbrev xArg (m : (ℓ : Loc nD τ sig) → Buf (Elt Ideal) ℓ) (c : Dev nD) : FVec Ideal S4x2048x1024 .f32 :=
  m ((c : Thread nD τ).loc main_arg0)

/-- The scale of the launch. -/
abbrev gArg (m : (ℓ : Loc nD τ sig) → Buf (Elt Ideal) ℓ) (c : Dev nD) : FVec Ideal S1x1024 .f32 :=
  m ((c : Thread nD τ).loc main_arg1)

/-- The weights of the launch. -/
abbrev wArg (m : (ℓ : Loc nD τ sig) → Buf (Elt Ideal) ℓ) (c : Dev nD) : FVec Ideal S1024x1280 .f32 :=
  m ((c : Thread nD τ).loc main_arg2)

/-- The row of all sequences that a block's row is. -/
def rowOf (t : Fin cfg0.N) (y : Fin 1024) : Fin 8192 := ⟨1024 * t.val + y.val, by have := pt t; have := y.isLt; omega⟩

theorem block_x (t : Fin cfg0.N) (y d : Fin 1024) :
    (iblk m c 0 t : FVec Ideal S1024x1024 .f32) (ix2 y d) = xArg m c (ix3 (seqOf (rowOf t y)) (posOf (rowOf t y)) d) := by
  have ht := pt t
  have hy := y.isLt
  have h1 : (iblk m c 0 t : FVec Ideal S1024x1024 .f32) (ix2 y d) = (V m c main_v19 : FVec Ideal S8192x1024 .f32)
      (ix2 (rowOf t y) d) := by
    unfold rowOf
    blk_point [iblk, idx0 t]
  rw [h1]
  entry_read
  pointwise
  rfl

theorem block_g (t : Fin cfg0.N) (d : Fin 1024) :
    (iblk m c 1 t : FVec Ideal S1x1024 .f32) (ix2 0 d) = gArg m c (ix2 0 d) := by
  have h1 : (iblk m c 1 t : FVec Ideal S1x1024 .f32) (ix2 0 d) = (V m c main_arg1 : FVec Ideal S1x1024 .f32) (ix2 0 d) := by
    blk_point [iblk, idx1 t]
  rw [h1]
  entry_read
  rfl

theorem block_w (t : Fin cfg0.N) (j : Fin 1280) (d : Fin 1024) :
    (iblk m c 2 t : FVec Ideal S1280x1024 .bf16) (ix2 j d) = wArg m c (ix2 d j) := by
  have h1 : (iblk m c 2 t : FVec Ideal S1280x1024 .bf16) (ix2 j d) = (V m c main_v21 : FVec Ideal S1280x1024 .bf16)
      (ix2 j d) := by
    blk_point [iblk, idx2 t]
  rw [h1]
  entry_read
  pointwise

/-- Four tables side by side, read at one lane. -/
theorem four_at (z : Fin 4 → FVec Ideal S2048x32 .f32) (s : Fin 2048) (q : Fin 4) (e : Fin 32) (l : Fin 128)
    (hl : l.val = 32 * q.val + e.val) :
    concatenate S2048x128 1 [⟨S2048x32, z 0⟩, ⟨S2048x32, z 1⟩, ⟨S2048x32, z 2⟩, ⟨S2048x32, z 3⟩]
      concatenates_S2048x32_S2048x32_S2048x32_S2048x32_S2048x128_d1 (ix2 s l) = z q (ix2 s e) := by
  match q with
  | ⟨0, _⟩ =>
    exact concatenate_apply_piece (t := S2048x128) 1 [⟨S2048x32, z 0⟩, ⟨S2048x32, z 1⟩, ⟨S2048x32, z 2⟩, ⟨S2048x32, z 3⟩]
      concatenates_S2048x32_S2048x32_S2048x32_S2048x32_S2048x128_d1 (ix2 s l) 0 (show 0 < 4 by omega) S2048x32 (z 0) rfl rfl 0 rfl
      (ix2 s e) (fun a ha => by
        match a with
        | ⟨0, _⟩ => rfl
        | ⟨1, _⟩ => exact absurd rfl ha) hl.symm
  | ⟨1, _⟩ =>
    exact concatenate_apply_piece (t := S2048x128) 1 [⟨S2048x32, z 0⟩, ⟨S2048x32, z 1⟩, ⟨S2048x32, z 2⟩, ⟨S2048x32, z 3⟩]
      concatenates_S2048x32_S2048x32_S2048x32_S2048x32_S2048x128_d1 (ix2 s l) 1 (show 1 < 4 by omega) S2048x32 (z 1) rfl rfl 32 rfl
      (ix2 s e) (fun a ha => by
        match a with
        | ⟨0, _⟩ => rfl
        | ⟨1, _⟩ => exact absurd rfl ha) hl.symm
  | ⟨2, _⟩ =>
    exact concatenate_apply_piece (t := S2048x128) 1 [⟨S2048x32, z 0⟩, ⟨S2048x32, z 1⟩, ⟨S2048x32, z 2⟩, ⟨S2048x32, z 3⟩]
      concatenates_S2048x32_S2048x32_S2048x32_S2048x32_S2048x128_d1 (ix2 s l) 2 (show 2 < 4 by omega) S2048x32 (z 2) rfl rfl 64 rfl
      (ix2 s e) (fun a ha => by
        match a with
        | ⟨0, _⟩ => rfl
        | ⟨1, _⟩ => exact absurd rfl ha) hl.symm
  | ⟨3, _⟩ =>
    exact concatenate_apply_piece (t := S2048x128) 1 [⟨S2048x32, z 0⟩, ⟨S2048x32, z 1⟩, ⟨S2048x32, z 2⟩, ⟨S2048x32, z 3⟩]
      concatenates_S2048x32_S2048x32_S2048x32_S2048x32_S2048x128_d1 (ix2 s l) 3 (show 3 < 4 by omega) S2048x32 (z 3) rfl rfl 96 rfl
      (ix2 s e) (fun a ha => by
        match a with
        | ⟨0, _⟩ => rfl
        | ⟨1, _⟩ => exact absurd rfl ha) hl.symm

theorem cos_at (s : Fin 2048) (l : Fin 128) : (V m c main_v15 : FVec Ideal S2048x128 .f32) (ix2 s l) = co s (l.val % 32) := by
  have hl := l.isLt
  rw [entry_cos]
  refine (four_at (fun _ => Cert.Reference8Ideal.Read.val_main_v34 (F := Ideal)) s ⟨l.val / 32, by omega⟩ (Fin.ofNat 32 (l.val % 32)) l
    ?_).trans rfl
  show l.val = 32 * (l.val / 32) + l.val % 32 % 32
  omega

theorem sin_at (s : Fin 2048) (l : Fin 128) : (V m c main_v18 : FVec Ideal S2048x128 .f32) (ix2 s l)
    = if l.val % 64 < 32 then -si s (l.val % 32) else si s (l.val % 32) := by
  have hl := l.isLt
  rw [entry_sin]
  refine (four_at ![Host.negf (Cert.Reference8Ideal.Read.val_main_v36 (F := Ideal)), Cert.Reference8Ideal.Read.val_main_v36 (F := Ideal),
    Host.negf (Cert.Reference8Ideal.Read.val_main_v36 (F := Ideal)), Cert.Reference8Ideal.Read.val_main_v36 (F := Ideal)]
    s ⟨l.val / 32, by omega⟩ (Fin.ofNat 32 (l.val % 32)) l ?_).trans ?_
  · show l.val = 32 * (l.val / 32) + l.val % 32 % 32
    omega
  · have hq : l.val / 32 < 4 := by omega
    by_cases h : l.val % 64 < 32
    · rw [if_pos h]
      obtain h0 | h2 : l.val / 32 = 0 ∨ l.val / 32 = 2 := by omega
      · rw [show (⟨l.val / 32, hq⟩ : Fin 4) = 0 from Fin.ext h0]; rfl
      · rw [show (⟨l.val / 32, hq⟩ : Fin 4) = 2 from Fin.ext h2]; rfl
    · rw [if_neg h]
      obtain h1 | h3 : l.val / 32 = 1 ∨ l.val / 32 = 3 := by omega
      · rw [show (⟨l.val / 32, hq⟩ : Fin 4) = 1 from Fin.ext h1]; rfl
      · rw [show (⟨l.val / 32, hq⟩ : Fin 4) = 3 from Fin.ext h3]; rfl

theorem block_cos (t : Fin cfg0.N) (y : Fin 1024) (l : Fin 128) :
    (iblk m c 3 t : FVec Ideal S1024x128 .f32) (ix2 y l) = co (posOf (rowOf t y)) (l.val % 32) := by
  have ht := pt t
  have hy := y.isLt
  have h1 : (iblk m c 3 t : FVec Ideal S1024x128 .f32) (ix2 y l) = (V m c main_v15 : FVec Ideal S2048x128 .f32)
      (ix2 (⟨1024 * (t.val % 2) + y.val, by omega⟩ : Fin 2048) l) := by
    blk_point [iblk, idx3 t]
  rw [h1, cos_at]
  refine congrArg (co · _) (Fin.ext ?_)
  show 1024 * (t.val % 2) + y.val = (1024 * t.val + y.val) % 2048
  omega

theorem block_sin (t : Fin cfg0.N) (y : Fin 1024) (l : Fin 128) :
    (iblk m c 4 t : FVec Ideal S1024x128 .f32) (ix2 y l)
      = if l.val % 64 < 32 then -si (posOf (rowOf t y)) (l.val % 32) else si (posOf (rowOf t y)) (l.val % 32) := by
  have ht := pt t
  have hy := y.isLt
  have h1 : (iblk m c 4 t : FVec Ideal S1024x128 .f32) (ix2 y l) = (V m c main_v18 : FVec Ideal S2048x128 .f32)
      (ix2 (⟨1024 * (t.val % 2) + y.val, by omega⟩ : Fin 2048) l) := by
    blk_point [iblk, idx4 t]
  have e : (⟨1024 * (t.val % 2) + y.val, by omega⟩ : Fin 2048) = posOf (rowOf t y) := by
    refine Fin.ext ?_
    show 1024 * (t.val % 2) + y.val = (1024 * t.val + y.val) % 2048
    omega
  rw [h1, sin_at, e]

/-- One row of all sequences projected. -/
abbrev prRow (m : (ℓ : Loc nD τ sig) → Buf (Elt Ideal) ℓ) (c : Dev nD) (r : Fin 8192) : ℕ → EReal :=
  pr (xArg m c) (gArg m c) (wArg m c) (seqOf r) (posOf r)

theorem row_of (t : Fin cfg0.N) (y : Fin 1024) :
    RowOf (iblk m c 0 t) (iblk m c 1 t) (iblk m c 2 t) (iblk m c 3 t) (iblk m c 4 t) y (prRow m c (rowOf t y))
      (co (posOf (rowOf t y))) (si (posOf (rowOf t y))) where
  hp j := by
    refine (proj_at _ _ _ y j).trans ?_
    unfold prRow pr prj
    simp only [block_x, block_g, block_w, ofNat_val]
  hc l := block_cos t y l
  hs l := block_sin t y l

end Cert.ProjProof
end
-- ==== Proof.ProjFinal.lean ====
/-
  The four arrays the projection kernel leaves: the turned and scaled queries, the turned keys, and the two plain parts.
-/
module

public import proofs.«01_k».proof.Proof.ProjValue
public import Idealize.ShloMosaic.Lib.Claim

@[expose] public section

set_option maxRecDepth 16384

noncomputable section

namespace Cert.ProjProof

open Idealize.ShloMosaic Idealize.ShloMosaic.TcCoe Cert.Kernel8Ideal Cert.Kernel8Ideal.Gen Idealize.SL.Sem

variable {m : (ℓ : Loc nD τ sig) → Buf (Elt Ideal) ℓ} {c : Dev nD}

/-- The kernel's queries, turned and scaled. -/
theorem final_q : (dats m 0 c).arrAt 5 cfg0.N
    = ((fun i => rot (prRow m c (i 0)) (co (posOf (i 0))) (si (posOf (i 0))) (i 1).val * eighth) : FVec Ideal S8192x512 .bf16) := by
  refine (dats m 0 c).arrAt_eq_of_covers 5 _ (by decide +kernel) fun t hf y => ?_
  blk_simp
  rw [after0_5]
  have e0 : (win0_5.blk t).view.emb y 0 = rowOf t (y 0) := Fin.ext (by
    blk_simp
    rw [idx5 t]
    show t.val * 1024 + (y 0).val = 1024 * t.val + (y 0).val
    omega)
  have e1 : win0_5.index t 1 * 512 + (y 1).val = (y 1).val := by
    rw [idx5 t]
    show 0 * 512 + (y 1).val = (y 1).val
    rw [Nat.zero_mul, Nat.zero_add]
  rw [e0, e1, eq_ix2 y]
  rw [out5_at (row_of t (y 0)) (y 1)]
  rfl

/-- The kernel's keys, turned. -/
theorem final_k : (dats m 0 c).arrAt 6 cfg0.N
    = ((fun i => rot (prRow m c (i 0)) (co (posOf (i 0))) (si (posOf (i 0))) (512 + (i 1).val)) : FVec Ideal S8192x128 .bf16) := by
  refine (dats m 0 c).arrAt_eq_of_covers 6 _ (by decide +kernel) fun t hf y => ?_
  blk_simp
  rw [after0_6]
  have e0 : (win0_6.blk t).view.emb y 0 = rowOf t (y 0) := Fin.ext (by
    blk_simp
    rw [idx6 t]
    show t.val * 1024 + (y 0).val = 1024 * t.val + (y 0).val
    omega)
  have e1 : win0_6.index t 1 * 128 + (y 1).val = (y 1).val := by
    rw [idx6 t]
    show 0 * 128 + (y 1).val = (y 1).val
    rw [Nat.zero_mul, Nat.zero_add]
  rw [e0, e1, eq_ix2 y]
  rw [out6_at (row_of t (y 0)) (y 1)]
  rfl

/-- The kernel's values. -/
theorem final_v : (dats m 0 c).arrAt 7 cfg0.N
    = ((fun i => prRow m c (i 0) (640 + (i 1).val)) : FVec Ideal S8192x128 .bf16) := by
  refine (dats m 0 c).arrAt_eq_of_covers 7 _ (by decide +kernel) fun t hf y => ?_
  blk_simp
  rw [after0_7]
  have e0 : (win0_7.blk t).view.emb y 0 = rowOf t (y 0) := Fin.ext (by
    blk_simp
    rw [idx7 t]
    show t.val * 1024 + (y 0).val = 1024 * t.val + (y 0).val
    omega)
  have e1 : win0_7.index t 1 * 128 + (y 1).val = (y 1).val := by
    rw [idx7 t]
    show 0 * 128 + (y 1).val = (y 1).val
    rw [Nat.zero_mul, Nat.zero_add]
  rw [e0, e1, eq_ix2 y]
  rw [out7_at (row_of t (y 0)) (y 1)]
  rfl

/-- The kernel's pooled part. -/
theorem final_u : (dats m 0 c).arrAt 8 cfg0.N
    = ((fun i => prRow m c (i 0) (768 + (i 1).val)) : FVec Ideal S8192x512 .bf16) := by
  refine (dats m 0 c).arrAt_eq_of_covers 8 _ (by decide +kernel) fun t hf y => ?_
  blk_simp
  rw [after0_8]
  have e0 : (win0_8.blk t).view.emb y 0 = rowOf t (y 0) := Fin.ext (by
    blk_simp
    rw [idx8 t]
    show t.val * 1024 + (y 0).val = 1024 * t.val + (y 0).val
    omega)
  have e1 : win0_8.index t 1 * 512 + (y 1).val = (y 1).val := by
    rw [idx8 t]
    show 0 * 512 + (y 1).val = (y 1).val
    rw [Nat.zero_mul, Nat.zero_add]
  rw [e0, e1, eq_ix2 y]
  rw [out8_at (row_of t (y 0)) (y 1)]
  rfl

end Cert.ProjProof
end
-- ==== Proof.ProjClaim.lean ====
/-
  The claims of the attention block's first half: its reference runs, and the idealized kernel and the reference give the
  same queries, keys, values and pooled part.
-/
module

public import proofs.«01_k».proof.Defs
public import proofs.«01_k».proof.Proof.ProjFinal
public import proofs.«01_k».proof.Proof.Gen.Kernel8Ideal.Value
public import proofs.«01_k».proof.Proof.Gen.Reference8Ideal.Run
public import Idealize.ShloMosaic.Adequacy
public import Idealize.ShloMosaic.Init
public import Idealize.ShloMosaic.Lib.Pointwise

@[expose] public section

set_option maxRecDepth 16384

noncomputable section

namespace Cert.ProjProof

open Idealize.ShloMosaic Idealize.ShloMosaic.TcCoe Idealize.SL.Sem

/-- The reference runs, leaves its arguments as they were, and it has no semaphore. -/
theorem frame_reference : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

/-- The idealized kernel and the reference give the same four results. -/
theorem values : Cert.algebraic_Kernel8Ideal_Reference8Ideal := by
  intro m ρ m' ρ' _ hargs
  refine ⟨_, _, _, _, Cert.Kernel8Ideal.Value.run_blocks m ρ,
    (θ_run Cert.Reference8Ideal.defs _ _).mono (fun r h c => ?_) (Cert.Reference8Ideal.Value.run (F := Ideal) m' ρ')⟩
  obtain ⟨h83, h85, h87, h89, hkeep⟩ := h c
  obtain ⟨e0, e1, e2⟩ := hargs c
  refine ⟨h83.trans ?_, h85.trans ?_, h87.trans ?_, h89.trans ?_, hkeep⟩
  · refine (Cert.Reference8Ideal.Read.val_main_v83_eq _ _).trans (Eq.trans (funext fun i => ?_) (final_q (m := m) (c := c)).symm)
    obtain ⟨j, k, rfl⟩ : ∃ j k, i = ix2 j k := ⟨i 0, i 1, (ix2_eta i).symm⟩
    rw [e0, e1, e2]
    exact ref_out_q _ _ _ j k
  · refine (Cert.Reference8Ideal.Read.val_main_v85_eq _ _).trans (Eq.trans (funext fun i => ?_) (final_k (m := m) (c := c)).symm)
    obtain ⟨j, k, rfl⟩ : ∃ j k, i = ix2 j k := ⟨i 0, i 1, (ix2_eta i).symm⟩
    rw [e0, e1, e2]
    exact ref_out_k _ _ _ j k
  · refine (Cert.Reference8Ideal.Read.val_main_v87_eq _ _ _).trans (Eq.trans (funext fun i => ?_) (final_v (m := m) (c := c)).symm)
    obtain ⟨j, k, rfl⟩ : ∃ j k, i = ix2 j k := ⟨i 0, i 1, (ix2_eta i).symm⟩
    rw [e0, e1, e2]
    exact ref_out_v _ _ _ j k
  · refine (Cert.Reference8Ideal.Read.val_main_v89_eq _ _ _).trans (Eq.trans (funext fun i => ?_) (final_u (m := m) (c := c)).symm)
    obtain ⟨j, k, rfl⟩ : ∃ j k, i = ix2 j k := ⟨i 0, i 1, (ix2_eta i).symm⟩
    rw [e0, e1, e2]
    exact ref_out_u _ _ _ j k

end Cert.ProjProof
end
-- ==== Proof.lean ====
/-
  The certificate, for the gradients of the pooling, of the first projection, of the feed-forward half, of the output
  projection and of the feed-forward half's two matrices, for the attention's gradients and for the forward pooling: each
  kernel's program runs and leaves its arguments as they were, its idealization too, the reference too, and, but for the
  attention's gradients, of the idealized kernel and the reference, on arguments whose entries are real numbers, every
  result is the same; for the two matrices this is so on all arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.RefDu
public import proofs.«01_k».proof.Proof.Finite
public import proofs.«01_k».proof.Proof.NormClaim
public import proofs.«01_k».proof.Proof.MlpClaim
public import proofs.«01_k».proof.Proof.OutClaim
public import proofs.«01_k».proof.Proof.WgrClaim
public import proofs.«01_k».proof.Proof.AttnClaim
public import proofs.«01_k».proof.Proof.PoolClaim
public import proofs.«01_k».proof.Proof.ProjClaim
public import Idealize.ShloMosaic.Adequacy
public import Idealize.ShloMosaic.Init

@[expose] public section

noncomputable section

namespace Cert.Proof

open Idealize.ShloMosaic Idealize.ShloMosaic.TcCoe Idealize.SL.Sem

attribute [local instance] preFacts

/-- The reference runs, leaves its arguments as they were, and it has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The idealized kernel and the reference give the same three gradients. -/
theorem values : Cert.algebraic_KernelIdeal_ReferenceIdeal_pre_finite := by
  intro m ρ m' ρ' hpre hargs
  refine ⟨_, _, _, Cert.KernelIdeal.Value.run_blocks m ρ,
    (θ_run Cert.ReferenceIdeal.defs _ _).mono (fun r h c => ?_) (Cert.ReferenceIdeal.Value.run (F := Ideal) m' ρ')⟩
  obtain ⟨h154, h94, h152, hkeep⟩ := h c
  obtain ⟨e0, e1, e2, e3⟩ := hargs c
  obtain ⟨U, C, W, S, H⟩ := argReals_of_finite _ _ _ _ (hpre c)
  have H' := H
  rw [← e0, ← e1, ← e2, ← e3] at H'
  refine ⟨h154.trans ?_, h94.trans ?_, h152.trans ?_, hkeep⟩
  · refine (Cert.ReferenceIdeal.Read.val_main_v154_eq _).trans (Eq.trans (funext fun i => ?_) (final_du H).symm)
    obtain ⟨r, k, rfl⟩ : ∃ r k, i = ix2 r k := ⟨i 0, i 1, (ix2_eta i).symm⟩
    exact ref_v154 H' r k
  · refine (Cert.ReferenceIdeal.Read.val_main_v94_eq _).trans (Eq.trans (funext fun i => ?_) (final_dw H).symm)
    obtain ⟨g, x, e, rfl⟩ : ∃ g x e, i = ix3 g x e := ⟨i 0, i 1, i 2, (ix3_eta i).symm⟩
    exact ref_v94 H' g x e
  · refine (Cert.ReferenceIdeal.Read.val_main_v152_eq _).trans (Eq.trans (funext fun i => ?_) (final_dsc H).symm)
    obtain ⟨z, k, rfl⟩ : ∃ z k, i = ix2 z k := ⟨i 0, i 1, (ix2_eta i).symm⟩
    exact ref_v152 H' z k

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    preFacts, Cert.NormProof.preFacts, Cert.MlpProof.preFacts, Cert.OutProof.preFacts, Cert.PoolProof.preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    fun m ρ _ => Cert.Kernel2Ideal.Gen.frame m ρ,
    Cert.NormProof.frame_reference,
    fun m ρ _ => Cert.NormProof.frame_reference m ρ trivial,
    fun m ρ _ => Cert.Kernel3.Gen.frame m ρ,
    fun m ρ _ => Cert.Kernel3Ideal.Gen.frame m ρ,
    fun m ρ _ => Cert.Kernel3Ideal.Gen.frame m ρ,
    Cert.MlpProof.frame_reference,
    fun m ρ _ => Cert.MlpProof.frame_reference m ρ trivial,
    fun m ρ _ => Cert.Kernel4.Gen.frame m ρ,
    fun m ρ _ => Cert.Kernel4Ideal.Gen.frame m ρ,
    fun m ρ _ => Cert.Kernel4Ideal.Gen.frame m ρ,
    Cert.OutProof.frame_reference,
    fun m ρ _ => Cert.OutProof.frame_reference m ρ trivial,
    fun m ρ _ => Cert.Kernel5.Gen.frame m ρ,
    fun m ρ _ => Cert.Kernel5Ideal.Gen.frame m ρ,
    Cert.WgrProof.frame_reference,
    Cert.AttnProof.frame_kernel,
    Cert.AttnProof.frame_ideal,
    Cert.AttnProof.frame_reference,
    fun m ρ _ => Cert.Kernel7.Gen.frame m ρ,
    fun m ρ _ => Cert.Kernel7Ideal.Gen.frame m ρ,
    fun m ρ _ => Cert.Kernel7Ideal.Gen.frame m ρ,
    Cert.PoolProof.frame_reference,
    fun m ρ _ => Cert.PoolProof.frame_reference m ρ trivial,
    fun m ρ _ => Cert.Kernel8.Gen.frame m ρ,
    fun m ρ _ => Cert.Kernel8Ideal.Gen.frame m ρ,
    Cert.ProjProof.frame_reference,
    trivial,
    values,
    trivial,
    Cert.NormProof.values,
    trivial,
    Cert.MlpProof.values,
    trivial,
    Cert.OutProof.values,
    trivial,
    Cert.WgrProof.values,
    trivial,
    trivial,
    Cert.PoolProof.values,
    trivial,
    Cert.ProjProof.values⟩

end Cert.Proof

end
